-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_UpdateGlu (m : (ℓ : Loc Cert.UpdateGlu.nD Cert.UpdateGlu.τ Cert.UpdateGlu.sig) → Buf (Elt Bits) ℓ) : Prop :=
  True

def Pre_UpdateGluIdeal (m : (ℓ : Loc Cert.UpdateGluIdeal.nD Cert.UpdateGluIdeal.τ Cert.UpdateGluIdeal.sig) → Buf (Elt Ideal) ℓ) : Prop :=
  True

def Pre_UpdateGluReferenceIdeal (m : (ℓ : Loc Cert.UpdateGluReferenceIdeal.nD Cert.UpdateGluReferenceIdeal.τ Cert.UpdateGluReferenceIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_WeightIn (m : (ℓ : Loc Cert.WeightIn.nD Cert.WeightIn.τ Cert.WeightIn.sig) → Buf (Elt Bits) ℓ) : Prop :=
  True

def Pre_WeightInIdeal (m : (ℓ : Loc Cert.WeightInIdeal.nD Cert.WeightInIdeal.τ Cert.WeightInIdeal.sig) → Buf (Elt Ideal) ℓ) : Prop :=
  True

def Pre_WeightInReferenceIdeal (m : (ℓ : Loc Cert.WeightInReferenceIdeal.nD Cert.WeightInReferenceIdeal.τ Cert.WeightInReferenceIdeal.sig) → Buf (Elt Ideal) ℓ) : Prop :=
  True

def Pre_WeightOut (m : (ℓ : Loc Cert.WeightOut.nD Cert.WeightOut.τ Cert.WeightOut.sig) → Buf (Elt Bits) ℓ) : Prop :=
  True

def Pre_WeightOutIdeal (m : (ℓ : Loc Cert.WeightOutIdeal.nD Cert.WeightOutIdeal.τ Cert.WeightOutIdeal.sig) → Buf (Elt Ideal) ℓ) : Prop :=
  True

def Pre_WeightOutReferenceIdeal (m : (ℓ : Loc Cert.WeightOutReferenceIdeal.nD Cert.WeightOutReferenceIdeal.τ Cert.WeightOutReferenceIdeal.sig) → Buf (Elt Ideal) ℓ) : Prop :=
  True

def Pre_WeightGlu (m : (ℓ : Loc Cert.WeightGlu.nD Cert.WeightGlu.τ Cert.WeightGlu.sig) → Buf (Elt Bits) ℓ) : Prop :=
  True

def Pre_WeightGluIdeal (m : (ℓ : Loc Cert.WeightGluIdeal.nD Cert.WeightGluIdeal.τ Cert.WeightGluIdeal.sig) → Buf (Elt Ideal) ℓ) : Prop :=
  True

def Pre_WeightGluReferenceIdeal (m : (ℓ : Loc Cert.WeightGluReferenceIdeal.nD Cert.WeightGluReferenceIdeal.τ Cert.WeightGluReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackReferenceIdeal (m : (ℓ : Loc Cert.ConvBackReferenceIdeal.nD Cert.ConvBackReferenceIdeal.τ Cert.ConvBackReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3))
      ∧ r.2.sem = fun _ => 0)

def quiescent_UpdateGlu [hUpdateGlu : Cert.UpdateGlu.Facts] : Prop :=
  ∀ (m : (ℓ : Loc Cert.UpdateGlu.nD Cert.UpdateGlu.τ Cert.UpdateGlu.sig) → Buf (Elt Bits) ℓ) (g : Dev Cert.UpdateGlu.nD → PrngReg), Pre_UpdateGlu m →
    θ_run (Cert.UpdateGlu.defs (F := Bits)) (onTc (τ := Cert.UpdateGlu.τ) (Cert.UpdateGlu.main (F := Bits))) ⟨m, fun _ => 0, g⟩ (fun r => (∀ c : Dev Cert.UpdateGlu.nD,
      r.2.mem ((c.tc : Thread Cert.UpdateGlu.nD Cert.UpdateGlu.τ).loc Cert.UpdateGlu.main_arg0) = m ((c.tc : Thread Cert.UpdateGlu.nD Cert.UpdateGlu.τ).loc Cert.UpdateGlu.main_arg0)
      ∧ r.2.mem ((c.tc : Thread Cert.UpdateGlu.nD Cert.UpdateGlu.τ).loc Cert.UpdateGlu.main_arg1) = m ((c.tc : Thread Cert.UpdateGlu.nD Cert.UpdateGlu.τ).loc Cert.UpdateGlu.main_arg1)
      ∧ r.2.mem ((c.tc : Thread Cert.UpdateGlu.nD Cert.UpdateGlu.τ).loc Cert.UpdateGlu.main_arg2) = m ((c.tc : Thread Cert.UpdateGlu.nD Cert.UpdateGlu.τ).loc Cert.UpdateGlu.main_arg2)
      ∧ r.2.mem ((c.tc : Thread Cert.UpdateGlu.nD Cert.UpdateGlu.τ).loc Cert.UpdateGlu.main_arg3) = m ((c.tc : Thread Cert.UpdateGlu.nD Cert.UpdateGlu.τ).loc Cert.UpdateGlu.main_arg3))
      ∧ r.2.sem = fun _ => 0)

def quiescent_UpdateGluIdeal [hUpdateGluIdeal : Cert.UpdateGluIdeal.Facts] : Prop :=
  ∀ (m : (ℓ : Loc Cert.UpdateGluIdeal.nD Cert.UpdateGluIdeal.τ Cert.UpdateGluIdeal.sig) → Buf (Elt Ideal) ℓ) (g : Dev Cert.UpdateGluIdeal.nD → PrngReg), Pre_UpdateGluIdeal m →
    θ_run (Cert.UpdateGluIdeal.defs (F := Ideal)) (onTc (τ := Cert.UpdateGluIdeal.τ) (Cert.UpdateGluIdeal.main (F := Ideal))) ⟨m, fun _ => 0, g⟩ (fun r => (∀ c : Dev Cert.UpdateGluIdeal.nD,
      r.2.mem ((c.tc : Thread Cert.UpdateGluIdeal.nD Cert.UpdateGluIdeal.τ).loc Cert.UpdateGluIdeal.main_arg0) = m ((c.tc : Thread Cert.UpdateGluIdeal.nD Cert.UpdateGluIdeal.τ).loc Cert.UpdateGluIdeal.main_arg0)
      ∧ r.2.mem ((c.tc : Thread Cert.UpdateGluIdeal.nD Cert.UpdateGluIdeal.τ).loc Cert.UpdateGluIdeal.main_arg1) = m ((c.tc : Thread Cert.UpdateGluIdeal.nD Cert.UpdateGluIdeal.τ).loc Cert.UpdateGluIdeal.main_arg1)
      ∧ r.2.mem ((c.tc : Thread Cert.UpdateGluIdeal.nD Cert.UpdateGluIdeal.τ).loc Cert.UpdateGluIdeal.main_arg2) = m ((c.tc : Thread Cert.UpdateGluIdeal.nD Cert.UpdateGluIdeal.τ).loc Cert.UpdateGluIdeal.main_arg2)
      ∧ r.2.mem ((c.tc : Thread Cert.UpdateGluIdeal.nD Cert.UpdateGluIdeal.τ).loc Cert.UpdateGluIdeal.main_arg3) = m ((c.tc : Thread Cert.UpdateGluIdeal.nD Cert.UpdateGluIdeal.τ).loc Cert.UpdateGluIdeal.main_arg3))
      ∧ r.2.sem = fun _ => 0)

def quiescent_UpdateGluReferenceIdeal [hUpdateGluReferenceIdeal : Cert.UpdateGluReferenceIdeal.Facts] : Prop :=
  ∀ (m : (ℓ : Loc Cert.UpdateGluReferenceIdeal.nD Cert.UpdateGluReferenceIdeal.τ Cert.UpdateGluReferenceIdeal.sig) → Buf (Elt Ideal) ℓ) (g : Dev Cert.UpdateGluReferenceIdeal.nD → PrngReg), Pre_UpdateGluReferenceIdeal m →
    θ_run (Cert.UpdateGluReferenceIdeal.defs (F := Ideal)) (onTc (τ := Cert.UpdateGluReferenceIdeal.τ) (Cert.UpdateGluReferenceIdeal.main (F := Ideal))) ⟨m, fun _ => 0, g⟩ (fun r => (∀ c : Dev Cert.UpdateGluReferenceIdeal.nD,
      r.2.mem ((c.tc : Thread Cert.UpdateGluReferenceIdeal.nD Cert.UpdateGluReferenceIdeal.τ).loc Cert.UpdateGluReferenceIdeal.main_arg0) = m ((c.tc : Thread Cert.UpdateGluReferenceIdeal.nD Cert.UpdateGluReferenceIdeal.τ).loc Cert.UpdateGluReferenceIdeal.main_arg0)
      ∧ r.2.mem ((c.tc : Thread Cert.UpdateGluReferenceIdeal.nD Cert.UpdateGluReferenceIdeal.τ).loc Cert.UpdateGluReferenceIdeal.main_arg1) = m ((c.tc : Thread Cert.UpdateGluReferenceIdeal.nD Cert.UpdateGluReferenceIdeal.τ).loc Cert.UpdateGluReferenceIdeal.main_arg1)
      ∧ r.2.mem ((c.tc : Thread Cert.UpdateGluReferenceIdeal.nD Cert.UpdateGluReferenceIdeal.τ).loc Cert.UpdateGluReferenceIdeal.main_arg2) = m ((c.tc : Thread Cert.UpdateGluReferenceIdeal.nD Cert.UpdateGluReferenceIdeal.τ).loc Cert.UpdateGluReferenceIdeal.main_arg2)
      ∧ r.2.mem ((c.tc : Thread Cert.UpdateGluReferenceIdeal.nD Cert.UpdateGluReferenceIdeal.τ).loc Cert.UpdateGluReferenceIdeal.main_arg3) = m ((c.tc : Thread Cert.UpdateGluReferenceIdeal.nD Cert.UpdateGluReferenceIdeal.τ).loc Cert.UpdateGluReferenceIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4))
      ∧ r.2.sem = fun _ => 0)

def quiescent_WeightIn [hWeightIn : Cert.WeightIn.Facts] : Prop :=
  ∀ (m : (ℓ : Loc Cert.WeightIn.nD Cert.WeightIn.τ Cert.WeightIn.sig) → Buf (Elt Bits) ℓ) (g : Dev Cert.WeightIn.nD → PrngReg), Pre_WeightIn m →
    θ_run (Cert.WeightIn.defs (F := Bits)) (onTc (τ := Cert.WeightIn.τ) (Cert.WeightIn.main (F := Bits))) ⟨m, fun _ => 0, g⟩ (fun r => (∀ c : Dev Cert.WeightIn.nD,
      r.2.mem ((c.tc : Thread Cert.WeightIn.nD Cert.WeightIn.τ).loc Cert.WeightIn.main_arg0) = m ((c.tc : Thread Cert.WeightIn.nD Cert.WeightIn.τ).loc Cert.WeightIn.main_arg0)
      ∧ r.2.mem ((c.tc : Thread Cert.WeightIn.nD Cert.WeightIn.τ).loc Cert.WeightIn.main_arg1) = m ((c.tc : Thread Cert.WeightIn.nD Cert.WeightIn.τ).loc Cert.WeightIn.main_arg1))
      ∧ r.2.sem = fun _ => 0)

def quiescent_WeightInIdeal [hWeightInIdeal : Cert.WeightInIdeal.Facts] : Prop :=
  ∀ (m : (ℓ : Loc Cert.WeightInIdeal.nD Cert.WeightInIdeal.τ Cert.WeightInIdeal.sig) → Buf (Elt Ideal) ℓ) (g : Dev Cert.WeightInIdeal.nD → PrngReg), Pre_WeightInIdeal m →
    θ_run (Cert.WeightInIdeal.defs (F := Ideal)) (onTc (τ := Cert.WeightInIdeal.τ) (Cert.WeightInIdeal.main (F := Ideal))) ⟨m, fun _ => 0, g⟩ (fun r => (∀ c : Dev Cert.WeightInIdeal.nD,
      r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
      ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ r.2.sem = fun _ => 0)

def quiescent_WeightInReferenceIdeal [hWeightInReferenceIdeal : Cert.WeightInReferenceIdeal.Facts] : Prop :=
  ∀ (m : (ℓ : Loc Cert.WeightInReferenceIdeal.nD Cert.WeightInReferenceIdeal.τ Cert.WeightInReferenceIdeal.sig) → Buf (Elt Ideal) ℓ) (g : Dev Cert.WeightInReferenceIdeal.nD → PrngReg), Pre_WeightInReferenceIdeal m →
    θ_run (Cert.WeightInReferenceIdeal.defs (F := Ideal)) (onTc (τ := Cert.WeightInReferenceIdeal.τ) (Cert.WeightInReferenceIdeal.main (F := Ideal))) ⟨m, fun _ => 0, g⟩ (fun r => (∀ c : Dev Cert.WeightInReferenceIdeal.nD,
      r.2.mem ((c.tc : Thread Cert.WeightInReferenceIdeal.nD Cert.WeightInReferenceIdeal.τ).loc Cert.WeightInReferenceIdeal.main_arg0) = m ((c.tc : Thread Cert.WeightInReferenceIdeal.nD Cert.WeightInReferenceIdeal.τ).loc Cert.WeightInReferenceIdeal.main_arg0)
      ∧ r.2.mem ((c.tc : Thread Cert.WeightInReferenceIdeal.nD Cert.WeightInReferenceIdeal.τ).loc Cert.WeightInReferenceIdeal.main_arg1) = m ((c.tc : Thread Cert.WeightInReferenceIdeal.nD Cert.WeightInReferenceIdeal.τ).loc Cert.WeightInReferenceIdeal.main_arg1))
      ∧ r.2.sem = fun _ => 0)

def quiescent_WeightOut [hWeightOut : Cert.WeightOut.Facts] : Prop :=
  ∀ (m : (ℓ : Loc Cert.WeightOut.nD Cert.WeightOut.τ Cert.WeightOut.sig) → Buf (Elt Bits) ℓ) (g : Dev Cert.WeightOut.nD → PrngReg), Pre_WeightOut m →
    θ_run (Cert.WeightOut.defs (F := Bits)) (onTc (τ := Cert.WeightOut.τ) (Cert.WeightOut.main (F := Bits))) ⟨m, fun _ => 0, g⟩ (fun r => (∀ c : Dev Cert.WeightOut.nD,
      r.2.mem ((c.tc : Thread Cert.WeightOut.nD Cert.WeightOut.τ).loc Cert.WeightOut.main_arg0) = m ((c.tc : Thread Cert.WeightOut.nD Cert.WeightOut.τ).loc Cert.WeightOut.main_arg0)
      ∧ r.2.mem ((c.tc : Thread Cert.WeightOut.nD Cert.WeightOut.τ).loc Cert.WeightOut.main_arg1) = m ((c.tc : Thread Cert.WeightOut.nD Cert.WeightOut.τ).loc Cert.WeightOut.main_arg1))
      ∧ r.2.sem = fun _ => 0)

def quiescent_WeightOutIdeal [hWeightOutIdeal : Cert.WeightOutIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg), Pre_WeightOutIdeal m →
    θ_run (Cert.WeightOutIdeal.defs (F := Ideal)) (onTc (τ := Cert.WeightOutIdeal.τ) (Cert.WeightOutIdeal.main (F := Ideal))) ⟨m, fun _ => 0, g⟩ (fun r => (∀ c : Dev Cert.WeightOutIdeal.nD,
      r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
      ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ r.2.sem = fun _ => 0)

def quiescent_WeightOutReferenceIdeal [hWeightOutReferenceIdeal : Cert.WeightOutReferenceIdeal.Facts] : Prop :=
  ∀ (m : (ℓ : Loc Cert.WeightOutReferenceIdeal.nD Cert.WeightOutReferenceIdeal.τ Cert.WeightOutReferenceIdeal.sig) → Buf (Elt Ideal) ℓ) (g : Dev Cert.WeightOutReferenceIdeal.nD → PrngReg), Pre_WeightOutReferenceIdeal m →
    θ_run (Cert.WeightOutReferenceIdeal.defs (F := Ideal)) (onTc (τ := Cert.WeightOutReferenceIdeal.τ) (Cert.WeightOutReferenceIdeal.main (F := Ideal))) ⟨m, fun _ => 0, g⟩ (fun r => (∀ c : Dev Cert.WeightOutReferenceIdeal.nD,
      r.2.mem ((c.tc : Thread Cert.WeightOutReferenceIdeal.nD Cert.WeightOutReferenceIdeal.τ).loc Cert.WeightOutReferenceIdeal.main_arg0) = m ((c.tc : Thread Cert.WeightOutReferenceIdeal.nD Cert.WeightOutReferenceIdeal.τ).loc Cert.WeightOutReferenceIdeal.main_arg0)
      ∧ r.2.mem ((c.tc : Thread Cert.WeightOutReferenceIdeal.nD Cert.WeightOutReferenceIdeal.τ).loc Cert.WeightOutReferenceIdeal.main_arg1) = m ((c.tc : Thread Cert.WeightOutReferenceIdeal.nD Cert.WeightOutReferenceIdeal.τ).loc Cert.WeightOutReferenceIdeal.main_arg1))
      ∧ r.2.sem = fun _ => 0)

def quiescent_WeightGlu [hWeightGlu : Cert.WeightGlu.Facts] : Prop :=
  ∀ (m : (ℓ : Loc Cert.WeightGlu.nD Cert.WeightGlu.τ Cert.WeightGlu.sig) → Buf (Elt Bits) ℓ) (g : Dev Cert.WeightGlu.nD → PrngReg), Pre_WeightGlu m →
    θ_run (Cert.WeightGlu.defs (F := Bits)) (onTc (τ := Cert.WeightGlu.τ) (Cert.WeightGlu.main (F := Bits))) ⟨m, fun _ => 0, g⟩ (fun r => (∀ c : Dev Cert.WeightGlu.nD,
      r.2.mem ((c.tc : Thread Cert.WeightGlu.nD Cert.WeightGlu.τ).loc Cert.WeightGlu.main_arg0) = m ((c.tc : Thread Cert.WeightGlu.nD Cert.WeightGlu.τ).loc Cert.WeightGlu.main_arg0)
      ∧ r.2.mem ((c.tc : Thread Cert.WeightGlu.nD Cert.WeightGlu.τ).loc Cert.WeightGlu.main_arg1) = m ((c.tc : Thread Cert.WeightGlu.nD Cert.WeightGlu.τ).loc Cert.WeightGlu.main_arg1))
      ∧ r.2.sem = fun _ => 0)

def quiescent_WeightGluIdeal [hWeightGluIdeal : Cert.WeightGluIdeal.Facts] : Prop :=
  ∀ (m : (ℓ : Loc Cert.WeightGluIdeal.nD Cert.WeightGluIdeal.τ Cert.WeightGluIdeal.sig) → Buf (Elt Ideal) ℓ) (g : Dev Cert.WeightGluIdeal.nD → PrngReg), Pre_WeightGluIdeal m →
    θ_run (Cert.WeightGluIdeal.defs (F := Ideal)) (onTc (τ := Cert.WeightGluIdeal.τ) (Cert.WeightGluIdeal.main (F := Ideal))) ⟨m, fun _ => 0, g⟩ (fun r => (∀ c : Dev Cert.WeightGluIdeal.nD,
      r.2.mem ((c.tc : Thread Cert.WeightGluIdeal.nD Cert.WeightGluIdeal.τ).loc Cert.WeightGluIdeal.main_arg0) = m ((c.tc : Thread Cert.WeightGluIdeal.nD Cert.WeightGluIdeal.τ).loc Cert.WeightGluIdeal.main_arg0)
      ∧ r.2.mem ((c.tc : Thread Cert.WeightGluIdeal.nD Cert.WeightGluIdeal.τ).loc Cert.WeightGluIdeal.main_arg1) = m ((c.tc : Thread Cert.WeightGluIdeal.nD Cert.WeightGluIdeal.τ).loc Cert.WeightGluIdeal.main_arg1))
      ∧ r.2.sem = fun _ => 0)

def quiescent_WeightGluReferenceIdeal [hWeightGluReferenceIdeal : Cert.WeightGluReferenceIdeal.Facts] : Prop :=
  ∀ (m : (ℓ : Loc Cert.WeightGluReferenceIdeal.nD Cert.WeightGluReferenceIdeal.τ Cert.WeightGluReferenceIdeal.sig) → Buf (Elt Ideal) ℓ) (g : Dev Cert.WeightGluReferenceIdeal.nD → PrngReg), Pre_WeightGluReferenceIdeal m →
    θ_run (Cert.WeightGluReferenceIdeal.defs (F := Ideal)) (onTc (τ := Cert.WeightGluReferenceIdeal.τ) (Cert.WeightGluReferenceIdeal.main (F := Ideal))) ⟨m, fun _ => 0, g⟩ (fun r => (∀ c : Dev Cert.WeightGluReferenceIdeal.nD,
      r.2.mem ((c.tc : Thread Cert.WeightGluReferenceIdeal.nD Cert.WeightGluReferenceIdeal.τ).loc Cert.WeightGluReferenceIdeal.main_arg0) = m ((c.tc : Thread Cert.WeightGluReferenceIdeal.nD Cert.WeightGluReferenceIdeal.τ).loc Cert.WeightGluReferenceIdeal.main_arg0)
      ∧ r.2.mem ((c.tc : Thread Cert.WeightGluReferenceIdeal.nD Cert.WeightGluReferenceIdeal.τ).loc Cert.WeightGluReferenceIdeal.main_arg1) = m ((c.tc : Thread Cert.WeightGluReferenceIdeal.nD Cert.WeightGluReferenceIdeal.τ).loc Cert.WeightGluReferenceIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2)
      ∧ r.2.mem ((c.tc : Thread Cert.ConvBack.nD Cert.ConvBack.τ).loc Cert.ConvBack.main_arg3) = m ((c.tc : Thread Cert.ConvBack.nD Cert.ConvBack.τ).loc Cert.ConvBack.main_arg3))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2)
      ∧ r.2.mem ((c.tc : Thread Cert.ConvBackIdeal.nD Cert.ConvBackIdeal.τ).loc Cert.ConvBackIdeal.main_arg3) = m ((c.tc : Thread Cert.ConvBackIdeal.nD Cert.ConvBackIdeal.τ).loc Cert.ConvBackIdeal.main_arg3))
      ∧ r.2.sem = fun _ => 0)

def quiescent_ConvBackReferenceIdeal [hConvBackReferenceIdeal : Cert.ConvBackReferenceIdeal.Facts] : Prop :=
  ∀ (m : (ℓ : Loc Cert.ConvBackReferenceIdeal.nD Cert.ConvBackReferenceIdeal.τ Cert.ConvBackReferenceIdeal.sig) → Buf (Elt Ideal) ℓ) (g : Dev Cert.ConvBackReferenceIdeal.nD → PrngReg), Pre_ConvBackReferenceIdeal m →
    θ_run (Cert.ConvBackReferenceIdeal.defs (F := Ideal)) (onTc (τ := Cert.ConvBackReferenceIdeal.τ) (Cert.ConvBackReferenceIdeal.main (F := Ideal))) ⟨m, fun _ => 0, g⟩ (fun r => (∀ c : Dev Cert.ConvBackReferenceIdeal.nD,
      r.2.mem ((c.tc : Thread Cert.ConvBackReferenceIdeal.nD Cert.ConvBackReferenceIdeal.τ).loc Cert.ConvBackReferenceIdeal.main_arg0) = m ((c.tc : Thread Cert.ConvBackReferenceIdeal.nD Cert.ConvBackReferenceIdeal.τ).loc Cert.ConvBackReferenceIdeal.main_arg0)
      ∧ r.2.mem ((c.tc : Thread Cert.ConvBackReferenceIdeal.nD Cert.ConvBackReferenceIdeal.τ).loc Cert.ConvBackReferenceIdeal.main_arg1) = m ((c.tc : Thread Cert.ConvBackReferenceIdeal.nD Cert.ConvBackReferenceIdeal.τ).loc Cert.ConvBackReferenceIdeal.main_arg1)
      ∧ r.2.mem ((c.tc : Thread Cert.ConvBackReferenceIdeal.nD Cert.ConvBackReferenceIdeal.τ).loc Cert.ConvBackReferenceIdeal.main_arg2) = m ((c.tc : Thread Cert.ConvBackReferenceIdeal.nD Cert.ConvBackReferenceIdeal.τ).loc Cert.ConvBackReferenceIdeal.main_arg2)
      ∧ r.2.mem ((c.tc : Thread Cert.ConvBackReferenceIdeal.nD Cert.ConvBackReferenceIdeal.τ).loc Cert.ConvBackReferenceIdeal.main_arg3) = m ((c.tc : Thread Cert.ConvBackReferenceIdeal.nD Cert.ConvBackReferenceIdeal.τ).loc Cert.ConvBackReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2192, 128]⟩ ⟨2, ![17536, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 2048, 768]⟩ ⟨3, ![64, 2048, 768]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 256, 2048]⟩ ⟨3, ![64, 256, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v0)) (v1 : Buf (Elt Ideal) (((0 : Dev Cert.ReferenceIdeal.nD).tc : Thread Cert.ReferenceIdeal.nD Cert.ReferenceIdeal.τ).loc Cert.ReferenceIdeal.main_v3)) (v2 : Buf (Elt Ideal) (((0 : Dev Cert.ReferenceIdeal.nD).tc : Thread Cert.ReferenceIdeal.nD Cert.ReferenceIdeal.τ).loc Cert.ReferenceIdeal.main_v6)) (v3 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = Layout.block ⟨3, ![8, 2048, 768]⟩ ⟨3, ![64, 2048, 768]⟩ 0 8 c v1
          ∧ r.2.mem ((c.tc : Thread Cert.KernelIdeal.nD Cert.KernelIdeal.τ).loc Cert.KernelIdeal.main_v1_2) = Layout.block ⟨3, ![8, 256, 2048]⟩ ⟨3, ![64, 256, 2048]⟩ 0 8 c v2
          ∧ r.2.mem ((c.tc : Thread Cert.KernelIdeal.nD Cert.KernelIdeal.τ).loc Cert.KernelIdeal.main_v1_3) = Layout.block ⟨3, ![8, 128, 1024]⟩ ⟨3, ![64, 128, 1024]⟩ 0 8 c v3
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_v3) = v1
          ∧ r.2.mem (((0 : Dev Cert.ReferenceIdeal.nD).tc : Thread Cert.ReferenceIdeal.nD Cert.ReferenceIdeal.τ).loc Cert.ReferenceIdeal.main_v6) = v2
          ∧ r.2.mem (((0 : Dev Cert.ReferenceIdeal.nD).tc : Thread Cert.ReferenceIdeal.nD Cert.ReferenceIdeal.τ).loc Cert.ReferenceIdeal.main_v9) = v3
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![2192, 128]⟩ ⟨2, ![17536, 128]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 2048, 768]⟩ ⟨3, ![64, 2048, 768]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 256, 2048]⟩ ⟨3, ![64, 256, 2048]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 128, 1024]⟩ ⟨3, ![64, 128, 1024]⟩ 0 8 c (m' (((0 : Dev Cert.Reference.nD).tc : Thread Cert.Reference.nD Cert.Reference.τ).loc Cert.Reference.main_arg3))) →
    ∃ (v0 : Buf (Elt Bits) (((0 : Dev Cert.Reference.nD).tc : Thread Cert.Reference.nD Cert.Reference.τ).loc Cert.Reference.main_v0)) (v1 : Buf (Elt Bits) (((0 : Dev Cert.Reference.nD).tc : Thread Cert.Reference.nD Cert.Reference.τ).loc Cert.Reference.main_v3)) (v2 : Buf (Elt Bits) (((0 : Dev Cert.Reference.nD).tc : Thread Cert.Reference.nD Cert.Reference.τ).loc Cert.Reference.main_v6)) (v3 : Buf (Elt Bits) (((0 : Dev Cert.Reference.nD).tc : Thread Cert.Reference.nD Cert.Reference.τ).loc Cert.Reference.main_v9)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = Layout.block ⟨3, ![8, 2048, 768]⟩ ⟨3, ![64, 2048, 768]⟩ 0 8 c v1
          ∧ r.2.mem ((c.tc : Thread Cert.Kernel.nD Cert.Kernel.τ).loc Cert.Kernel.main_v1_2) = Layout.block ⟨3, ![8, 256, 2048]⟩ ⟨3, ![64, 256, 2048]⟩ 0 8 c v2
          ∧ r.2.mem ((c.tc : Thread Cert.Kernel.nD Cert.Kernel.τ).loc Cert.Kernel.main_v1_3) = Layout.block ⟨3, ![8, 128, 1024]⟩ ⟨3, ![64, 128, 1024]⟩ 0 8 c v3
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_v3) = v1
          ∧ r.2.mem (((0 : Dev Cert.Reference.nD).tc : Thread Cert.Reference.nD Cert.Reference.τ).loc Cert.Reference.main_v6) = v2
          ∧ r.2.mem (((0 : Dev Cert.Reference.nD).tc : Thread Cert.Reference.nD Cert.Reference.τ).loc Cert.Reference.main_v9) = v3
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![2048, 768]⟩ ⟨2, ![2048, 6144]⟩ 1 8 c (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.block ⟨2, ![256, 2048]⟩ ⟨2, ![2048, 2048]⟩ 0 8 c (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.block ⟨2, ![128, 1024]⟩ ⟨2, ![1024, 1024]⟩ 0 8 c (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.block ⟨2, ![8, 128]⟩ ⟨2, ![8, 1024]⟩ 1 8 c (m' (((0 : Dev Cert.GatherReferenceIdeal.nD).tc : Thread Cert.GatherReferenceIdeal.nD Cert.GatherReferenceIdeal.τ).loc Cert.GatherReferenceIdeal.main_arg3))) →
    ∃ (v0 : Buf (Elt Ideal) (((0 : Dev Cert.GatherReferenceIdeal.nD).tc : Thread Cert.GatherReferenceIdeal.nD Cert.GatherReferenceIdeal.τ).loc Cert.GatherReferenceIdeal.main_v1)) (v1 : Buf (Elt Ideal) (((0 : Dev Cert.GatherReferenceIdeal.nD).tc : Thread Cert.GatherReferenceIdeal.nD Cert.GatherReferenceIdeal.τ).loc Cert.GatherReferenceIdeal.main_v2)) (v2 : Buf (Elt Ideal) (((0 : Dev Cert.GatherReferenceIdeal.nD).tc : Thread Cert.GatherReferenceIdeal.nD Cert.GatherReferenceIdeal.τ).loc Cert.GatherReferenceIdeal.main_v3)) (v3 : Buf (Elt Ideal) (((0 : Dev Cert.GatherReferenceIdeal.nD).tc : Thread Cert.GatherReferenceIdeal.nD Cert.GatherReferenceIdeal.τ).loc Cert.GatherReferenceIdeal.main_v5)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v2) = v1
          ∧ r.2.mem (((0 : Dev Cert.GatherReferenceIdeal.nD).tc : Thread Cert.GatherReferenceIdeal.nD Cert.GatherReferenceIdeal.τ).loc Cert.GatherReferenceIdeal.main_v3) = v2
          ∧ r.2.mem (((0 : Dev Cert.GatherReferenceIdeal.nD).tc : Thread Cert.GatherReferenceIdeal.nD Cert.GatherReferenceIdeal.τ).loc Cert.GatherReferenceIdeal.main_v5) = v3
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![2048, 768]⟩ ⟨2, ![2048, 6144]⟩ 1 8 c (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.block ⟨2, ![256, 2048]⟩ ⟨2, ![2048, 2048]⟩ 0 8 c (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.block ⟨2, ![128, 1024]⟩ ⟨2, ![1024, 1024]⟩ 0 8 c (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.block ⟨2, ![8, 128]⟩ ⟨2, ![8, 1024]⟩ 1 8 c (m' (((0 : Dev Cert.GatherReference.nD).tc : Thread Cert.GatherReference.nD Cert.GatherReference.τ).loc Cert.GatherReference.main_arg3))) →
    ∃ (v0 : Buf (Elt Bits) (((0 : Dev Cert.GatherReference.nD).tc : Thread Cert.GatherReference.nD Cert.GatherReference.τ).loc Cert.GatherReference.main_v1)) (v1 : Buf (Elt Bits) (((0 : Dev Cert.GatherReference.nD).tc : Thread Cert.GatherReference.nD Cert.GatherReference.τ).loc Cert.GatherReference.main_v2)) (v2 : Buf (Elt Bits) (((0 : Dev Cert.GatherReference.nD).tc : Thread Cert.GatherReference.nD Cert.GatherReference.τ).loc Cert.GatherReference.main_v3)) (v3 : Buf (Elt Bits) (((0 : Dev Cert.GatherReference.nD).tc : Thread Cert.GatherReference.nD Cert.GatherReference.τ).loc Cert.GatherReference.main_v5)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v1) = v0
          ∧ r.2.mem (((0 : Dev Cert.GatherReference.nD).tc : Thread Cert.GatherReference.nD Cert.GatherReference.τ).loc Cert.GatherReference.main_v2) = v1
          ∧ r.2.mem (((0 : Dev Cert.GatherReference.nD).tc : Thread Cert.GatherReference.nD Cert.GatherReference.τ).loc Cert.GatherReference.main_v3) = v2
          ∧ r.2.mem (((0 : Dev Cert.GatherReference.nD).tc : Thread Cert.GatherReference.nD Cert.GatherReference.τ).loc Cert.GatherReference.main_v5) = v3
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3))

def preserves_UpdateIn_UpdateInIdeal : Prop :=
  True

def algebraic_UpdateInIdeal_UpdateInReferenceIdeal [hUpdateInIdeal : Cert.UpdateInIdeal.Facts] [hUpdateInReferenceIdeal : Cert.UpdateInReferenceIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInIdeal m →
    (∀ c : Dev Cert.UpdateInIdeal.nD,
      m' ((c.tc : Thread Cert.UpdateInReferenceIdeal.nD Cert.UpdateInReferenceIdeal.τ).loc Cert.UpdateInReferenceIdeal.main_arg0) = m ((c.tc : Thread Cert.UpdateInIdeal.nD Cert.UpdateInIdeal.τ).loc Cert.UpdateInIdeal.main_arg0)
      ∧ m' ((c.tc : Thread Cert.UpdateInReferenceIdeal.nD Cert.UpdateInReferenceIdeal.τ).loc Cert.UpdateInReferenceIdeal.main_arg1) = m ((c.tc : Thread Cert.UpdateInIdeal.nD Cert.UpdateInIdeal.τ).loc Cert.UpdateInIdeal.main_arg1)
      ∧ m' ((c.tc : Thread Cert.UpdateInReferenceIdeal.nD Cert.UpdateInReferenceIdeal.τ).loc Cert.UpdateInReferenceIdeal.main_arg2) = m ((c.tc : Thread Cert.UpdateInIdeal.nD Cert.UpdateInIdeal.τ).loc Cert.UpdateInIdeal.main_arg2)
      ∧ m' ((c.tc : Thread Cert.UpdateInReferenceIdeal.nD Cert.UpdateInReferenceIdeal.τ).loc Cert.UpdateInReferenceIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v0) = v0 c
          ∧ r.2.mem ((c.tc : Thread Cert.UpdateInReferenceIdeal.nD Cert.UpdateInReferenceIdeal.τ).loc Cert.UpdateInReferenceIdeal.main_v24) = v1 c
          ∧ r.2.mem ((c.tc : Thread Cert.UpdateInReferenceIdeal.nD Cert.UpdateInReferenceIdeal.τ).loc Cert.UpdateInReferenceIdeal.main_v5) = v2 c
          ∧ r.2.mem ((c.tc : Thread Cert.UpdateInReferenceIdeal.nD Cert.UpdateInReferenceIdeal.τ).loc Cert.UpdateInReferenceIdeal.main_v11) = v3 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)) (v3 : (c : Dev Cert.UpdateOutIdeal.nD) → Buf (Elt Ideal) ((c.tc : Thread Cert.UpdateOutIdeal.nD Cert.UpdateOutIdeal.τ).loc Cert.UpdateOutIdeal.main_v0_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_v0_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v0) = v0 c
          ∧ r.2.mem ((c.tc : Thread Cert.UpdateOutReferenceIdeal.nD Cert.UpdateOutReferenceIdeal.τ).loc Cert.UpdateOutReferenceIdeal.main_v24) = v1 c
          ∧ r.2.mem ((c.tc : Thread Cert.UpdateOutReferenceIdeal.nD Cert.UpdateOutReferenceIdeal.τ).loc Cert.UpdateOutReferenceIdeal.main_v5) = v2 c
          ∧ r.2.mem ((c.tc : Thread Cert.UpdateOutReferenceIdeal.nD Cert.UpdateOutReferenceIdeal.τ).loc Cert.UpdateOutReferenceIdeal.main_v11) = v3 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3))

def preserves_UpdateGlu_UpdateGluIdeal : Prop :=
  True

def algebraic_UpdateGluIdeal_UpdateGluReferenceIdeal [hUpdateGluIdeal : Cert.UpdateGluIdeal.Facts] [hUpdateGluReferenceIdeal : Cert.UpdateGluReferenceIdeal.Facts] : Prop :=
  ∀ (m : (ℓ : Loc Cert.UpdateGluIdeal.nD Cert.UpdateGluIdeal.τ Cert.UpdateGluIdeal.sig) → Buf (Elt Ideal) ℓ) (g : Dev Cert.UpdateGluIdeal.nD → PrngReg)
    (m' : (ℓ : Loc Cert.UpdateGluReferenceIdeal.nD Cert.UpdateGluReferenceIdeal.τ Cert.UpdateGluReferenceIdeal.sig) → Buf (Elt Ideal) ℓ) (g' : Dev Cert.UpdateGluReferenceIdeal.nD → PrngReg), Pre_UpdateGluIdeal m →
    (∀ c : Dev Cert.UpdateGluIdeal.nD,
      m' ((c.tc : Thread Cert.UpdateGluReferenceIdeal.nD Cert.UpdateGluReferenceIdeal.τ).loc Cert.UpdateGluReferenceIdeal.main_arg0) = m ((c.tc : Thread Cert.UpdateGluIdeal.nD Cert.UpdateGluIdeal.τ).loc Cert.UpdateGluIdeal.main_arg0)
      ∧ m' ((c.tc : Thread Cert.UpdateGluReferenceIdeal.nD Cert.UpdateGluReferenceIdeal.τ).loc Cert.UpdateGluReferenceIdeal.main_arg1) = m ((c.tc : Thread Cert.UpdateGluIdeal.nD Cert.UpdateGluIdeal.τ).loc Cert.UpdateGluIdeal.main_arg1)
      ∧ m' ((c.tc : Thread Cert.UpdateGluReferenceIdeal.nD Cert.UpdateGluReferenceIdeal.τ).loc Cert.UpdateGluReferenceIdeal.main_arg2) = m ((c.tc : Thread Cert.UpdateGluIdeal.nD Cert.UpdateGluIdeal.τ).loc Cert.UpdateGluIdeal.main_arg2)
      ∧ m' ((c.tc : Thread Cert.UpdateGluReferenceIdeal.nD Cert.UpdateGluReferenceIdeal.τ).loc Cert.UpdateGluReferenceIdeal.main_arg3) = m ((c.tc : Thread Cert.UpdateGluIdeal.nD Cert.UpdateGluIdeal.τ).loc Cert.UpdateGluIdeal.main_arg3)) →
    ∃ (v0 : (c : Dev Cert.UpdateGluIdeal.nD) → Buf (Elt Ideal) ((c.tc : Thread Cert.UpdateGluIdeal.nD Cert.UpdateGluIdeal.τ).loc Cert.UpdateGluIdeal.main_v0_0)) (v1 : (c : Dev Cert.UpdateGluIdeal.nD) → Buf (Elt Ideal) ((c.tc : Thread Cert.UpdateGluIdeal.nD Cert.UpdateGluIdeal.τ).loc Cert.UpdateGluIdeal.main_v0_1)) (v2 : (c : Dev Cert.UpdateGluIdeal.nD) → Buf (Elt Ideal) ((c.tc : Thread Cert.UpdateGluIdeal.nD Cert.UpdateGluIdeal.τ).loc Cert.UpdateGluIdeal.main_v0_2)) (v3 : (c : Dev Cert.UpdateGluIdeal.nD) → Buf (Elt Ideal) ((c.tc : Thread Cert.UpdateGluIdeal.nD Cert.UpdateGluIdeal.τ).loc Cert.UpdateGluIdeal.main_v0_3)),
      θ_run (Cert.UpdateGluIdeal.defs (F := Ideal)) (onTc (τ := Cert.UpdateGluIdeal.τ) (Cert.UpdateGluIdeal.main (F := Ideal))) ⟨m, fun _ => 0, g⟩ (fun r => ∀ c : Dev Cert.UpdateGluIdeal.nD,
          r.2.mem ((c.tc : Thread Cert.UpdateGluIdeal.nD Cert.UpdateGluIdeal.τ).loc Cert.UpdateGluIdeal.main_v0_0) = v0 c
          ∧ r.2.mem ((c.tc : Thread Cert.UpdateGluIdeal.nD Cert.UpdateGluIdeal.τ).loc Cert.UpdateGluIdeal.main_v0_1) = v1 c
          ∧ r.2.mem ((c.tc : Thread Cert.UpdateGluIdeal.nD Cert.UpdateGluIdeal.τ).loc Cert.UpdateGluIdeal.main_v0_2) = v2 c
          ∧ r.2.mem ((c.tc : Thread Cert.UpdateGluIdeal.nD Cert.UpdateGluIdeal.τ).loc Cert.UpdateGluIdeal.main_v0_3) = v3 c
          ∧ r.2.mem ((c.tc : Thread Cert.UpdateGluIdeal.nD Cert.UpdateGluIdeal.τ).loc Cert.UpdateGluIdeal.main_arg0) = m ((c.tc : Thread Cert.UpdateGluIdeal.nD Cert.UpdateGluIdeal.τ).loc Cert.UpdateGluIdeal.main_arg0)
          ∧ r.2.mem ((c.tc : Thread Cert.UpdateGluIdeal.nD Cert.UpdateGluIdeal.τ).loc Cert.UpdateGluIdeal.main_arg1) = m ((c.tc : Thread Cert.UpdateGluIdeal.nD Cert.UpdateGluIdeal.τ).loc Cert.UpdateGluIdeal.main_arg1)
          ∧ r.2.mem ((c.tc : Thread Cert.UpdateGluIdeal.nD Cert.UpdateGluIdeal.τ).loc Cert.UpdateGluIdeal.main_arg2) = m ((c.tc : Thread Cert.UpdateGluIdeal.nD Cert.UpdateGluIdeal.τ).loc Cert.UpdateGluIdeal.main_arg2)
          ∧ r.2.mem ((c.tc : Thread Cert.UpdateGluIdeal.nD Cert.UpdateGluIdeal.τ).loc Cert.UpdateGluIdeal.main_arg3) = m ((c.tc : Thread Cert.UpdateGluIdeal.nD Cert.UpdateGluIdeal.τ).loc Cert.UpdateGluIdeal.main_arg3))
      ∧ θ_run (Cert.UpdateGluReferenceIdeal.defs (F := Ideal)) (onTc (τ := Cert.UpdateGluReferenceIdeal.τ) (Cert.UpdateGluReferenceIdeal.main (F := Ideal))) ⟨m', fun _ => 0, g'⟩ (fun r => ∀ c : Dev Cert.UpdateGluReferenceIdeal.nD,
          r.2.mem ((c.tc : Thread Cert.UpdateGluReferenceIdeal.nD Cert.UpdateGluReferenceIdeal.τ).loc Cert.UpdateGluReferenceIdeal.main_v0) = v0 c
          ∧ r.2.mem ((c.tc : Thread Cert.UpdateGluReferenceIdeal.nD Cert.UpdateGluReferenceIdeal.τ).loc Cert.UpdateGluReferenceIdeal.main_v24) = v1 c
          ∧ r.2.mem ((c.tc : Thread Cert.UpdateGluReferenceIdeal.nD Cert.UpdateGluReferenceIdeal.τ).loc Cert.UpdateGluReferenceIdeal.main_v5) = v2 c
          ∧ r.2.mem ((c.tc : Thread Cert.UpdateGluReferenceIdeal.nD Cert.UpdateGluReferenceIdeal.τ).loc Cert.UpdateGluReferenceIdeal.main_v11) = v3 c
          ∧ r.2.mem ((c.tc : Thread Cert.UpdateGluReferenceIdeal.nD Cert.UpdateGluReferenceIdeal.τ).loc Cert.UpdateGluReferenceIdeal.main_arg0) = m' ((c.tc : Thread Cert.UpdateGluReferenceIdeal.nD Cert.UpdateGluReferenceIdeal.τ).loc Cert.UpdateGluReferenceIdeal.main_arg0)
          ∧ r.2.mem ((c.tc : Thread Cert.UpdateGluReferenceIdeal.nD Cert.UpdateGluReferenceIdeal.τ).loc Cert.UpdateGluReferenceIdeal.main_arg1) = m' ((c.tc : Thread Cert.UpdateGluReferenceIdeal.nD Cert.UpdateGluReferenceIdeal.τ).loc Cert.UpdateGluReferenceIdeal.main_arg1)
          ∧ r.2.mem ((c.tc : Thread Cert.UpdateGluReferenceIdeal.nD Cert.UpdateGluReferenceIdeal.τ).loc Cert.UpdateGluReferenceIdeal.main_arg2) = m' ((c.tc : Thread Cert.UpdateGluReferenceIdeal.nD Cert.UpdateGluReferenceIdeal.τ).loc Cert.UpdateGluReferenceIdeal.main_arg2)
          ∧ r.2.mem ((c.tc : Thread Cert.UpdateGluReferenceIdeal.nD Cert.UpdateGluReferenceIdeal.τ).loc Cert.UpdateGluReferenceIdeal.main_arg3) = m' ((c.tc : Thread Cert.UpdateGluReferenceIdeal.nD Cert.UpdateGluReferenceIdeal.τ).loc Cert.UpdateGluReferenceIdeal.main_arg3))

def preserves_Sum_SumIdeal : Prop :=
  True

def algebraic_SumIdeal_SumReferenceIdeal [hSumIdeal : Cert.SumIdeal.Facts] [hSumReferenceIdeal : Cert.SumReferenceIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumIdeal m →
    (∀ c : Dev Cert.SumIdeal.nD,
      m' ((c.tc : Thread Cert.SumReferenceIdeal.nD Cert.SumReferenceIdeal.τ).loc Cert.SumReferenceIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v25) = v0 c
          ∧ r.2.mem ((c.tc : Thread Cert.BackReferenceIdeal.nD Cert.BackReferenceIdeal.τ).loc Cert.BackReferenceIdeal.main_v28) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4))

def preserves_WeightIn_WeightInIdeal : Prop :=
  True

def algebraic_WeightInIdeal_WeightInReferenceIdeal [hWeightInIdeal : Cert.WeightInIdeal.Facts] [hWeightInReferenceIdeal : Cert.WeightInReferenceIdeal.Facts] : Prop :=
  ∀ (m : (ℓ : Loc Cert.WeightInIdeal.nD Cert.WeightInIdeal.τ Cert.WeightInIdeal.sig) → Buf (Elt Ideal) ℓ) (g : Dev Cert.WeightInIdeal.nD → PrngReg)
    (m' : (ℓ : Loc Cert.WeightInReferenceIdeal.nD Cert.WeightInReferenceIdeal.τ Cert.WeightInReferenceIdeal.sig) → Buf (Elt Ideal) ℓ) (g' : Dev Cert.WeightInReferenceIdeal.nD → PrngReg), Pre_WeightInIdeal m →
    (∀ c : Dev Cert.WeightInIdeal.nD,
      m' ((c.tc : Thread Cert.WeightInReferenceIdeal.nD Cert.WeightInReferenceIdeal.τ).loc Cert.WeightInReferenceIdeal.main_arg0) = m ((c.tc : Thread Cert.WeightInIdeal.nD Cert.WeightInIdeal.τ).loc Cert.WeightInIdeal.main_arg0)
      ∧ m' ((c.tc : Thread Cert.WeightInReferenceIdeal.nD Cert.WeightInReferenceIdeal.τ).loc Cert.WeightInReferenceIdeal.main_arg1) = m ((c.tc : Thread Cert.WeightInIdeal.nD Cert.WeightInIdeal.τ).loc Cert.WeightInIdeal.main_arg1)) →
    ∃ (v0 : (c : Dev Cert.WeightInIdeal.nD) → Buf (Elt Ideal) ((c.tc : Thread Cert.WeightInIdeal.nD Cert.WeightInIdeal.τ).loc Cert.WeightInIdeal.main_v0)),
      θ_run (Cert.WeightInIdeal.defs (F := Ideal)) (onTc (τ := Cert.WeightInIdeal.τ) (Cert.WeightInIdeal.main (F := Ideal))) ⟨m, fun _ => 0, g⟩ (fun r => ∀ c : Dev Cert.WeightInIdeal.nD,
          r.2.mem ((c.tc : Thread Cert.WeightInIdeal.nD Cert.WeightInIdeal.τ).loc Cert.WeightInIdeal.main_v0) = v0 c
          ∧ r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
          ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ θ_run (Cert.WeightInReferenceIdeal.defs (F := Ideal)) (onTc (τ := Cert.WeightInReferenceIdeal.τ) (Cert.WeightInReferenceIdeal.main (F := Ideal))) ⟨m', fun _ => 0, g'⟩ (fun r => ∀ c : Dev Cert.WeightInReferenceIdeal.nD,
          r.2.mem ((c.tc : Thread Cert.WeightInReferenceIdeal.nD Cert.WeightInReferenceIdeal.τ).loc Cert.WeightInReferenceIdeal.main_v2) = v0 c
          ∧ r.2.mem ((c.tc : Thread Cert.WeightInReferenceIdeal.nD Cert.WeightInReferenceIdeal.τ).loc Cert.WeightInReferenceIdeal.main_arg0) = m' ((c.tc : Thread Cert.WeightInReferenceIdeal.nD Cert.WeightInReferenceIdeal.τ).loc Cert.WeightInReferenceIdeal.main_arg0)
          ∧ r.2.mem ((c.tc : Thread Cert.WeightInReferenceIdeal.nD Cert.WeightInReferenceIdeal.τ).loc Cert.WeightInReferenceIdeal.main_arg1) = m' ((c.tc : Thread Cert.WeightInReferenceIdeal.nD Cert.WeightInReferenceIdeal.τ).loc Cert.WeightInReferenceIdeal.main_arg1))

def preserves_WeightOut_WeightOutIdeal : Prop :=
  True

def algebraic_WeightOutIdeal_WeightOutReferenceIdeal [hWeightOutIdeal : Cert.WeightOutIdeal.Facts] [hWeightOutReferenceIdeal : Cert.WeightOutReferenceIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg)
    (m' : (ℓ : Loc Cert.WeightOutReferenceIdeal.nD Cert.WeightOutReferenceIdeal.τ Cert.WeightOutReferenceIdeal.sig) → Buf (Elt Ideal) ℓ) (g' : Dev Cert.WeightOutReferenceIdeal.nD → PrngReg), Pre_WeightOutIdeal m →
    (∀ c : Dev Cert.WeightOutIdeal.nD,
      m' ((c.tc : Thread Cert.WeightOutReferenceIdeal.nD Cert.WeightOutReferenceIdeal.τ).loc Cert.WeightOutReferenceIdeal.main_arg0) = m ((c.tc : Thread Cert.WeightOutIdeal.nD Cert.WeightOutIdeal.τ).loc Cert.WeightOutIdeal.main_arg0)
      ∧ m' ((c.tc : Thread Cert.WeightOutReferenceIdeal.nD Cert.WeightOutReferenceIdeal.τ).loc Cert.WeightOutReferenceIdeal.main_arg1) = m ((c.tc : Thread Cert.WeightOutIdeal.nD Cert.WeightOutIdeal.τ).loc Cert.WeightOutIdeal.main_arg1)) →
    ∃ (v0 : (c : Dev Cert.WeightOutIdeal.nD) → Buf (Elt Ideal) ((c.tc : Thread Cert.WeightOutIdeal.nD Cert.WeightOutIdeal.τ).loc Cert.WeightOutIdeal.main_v0)),
      θ_run (Cert.WeightOutIdeal.defs (F := Ideal)) (onTc (τ := Cert.WeightOutIdeal.τ) (Cert.WeightOutIdeal.main (F := Ideal))) ⟨m, fun _ => 0, g⟩ (fun r => ∀ c : Dev Cert.WeightOutIdeal.nD,
          r.2.mem ((c.tc : Thread Cert.WeightOutIdeal.nD Cert.WeightOutIdeal.τ).loc Cert.WeightOutIdeal.main_v0) = v0 c
          ∧ r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
          ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ θ_run (Cert.WeightOutReferenceIdeal.defs (F := Ideal)) (onTc (τ := Cert.WeightOutReferenceIdeal.τ) (Cert.WeightOutReferenceIdeal.main (F := Ideal))) ⟨m', fun _ => 0, g'⟩ (fun r => ∀ c : Dev Cert.WeightOutReferenceIdeal.nD,
          r.2.mem ((c.tc : Thread Cert.WeightOutReferenceIdeal.nD Cert.WeightOutReferenceIdeal.τ).loc Cert.WeightOutReferenceIdeal.main_v1) = v0 c
          ∧ r.2.mem ((c.tc : Thread Cert.WeightOutReferenceIdeal.nD Cert.WeightOutReferenceIdeal.τ).loc Cert.WeightOutReferenceIdeal.main_arg0) = m' ((c.tc : Thread Cert.WeightOutReferenceIdeal.nD Cert.WeightOutReferenceIdeal.τ).loc Cert.WeightOutReferenceIdeal.main_arg0)
          ∧ r.2.mem ((c.tc : Thread Cert.WeightOutReferenceIdeal.nD Cert.WeightOutReferenceIdeal.τ).loc Cert.WeightOutReferenceIdeal.main_arg1) = m' ((c.tc : Thread Cert.WeightOutReferenceIdeal.nD Cert.WeightOutReferenceIdeal.τ).loc Cert.WeightOutReferenceIdeal.main_arg1))

def preserves_WeightGlu_WeightGluIdeal : Prop :=
  True

def algebraic_WeightGluIdeal_WeightGluReferenceIdeal [hWeightGluIdeal : Cert.WeightGluIdeal.Facts] [hWeightGluReferenceIdeal : Cert.WeightGluReferenceIdeal.Facts] : Prop :=
  ∀ (m : (ℓ : Loc Cert.WeightGluIdeal.nD Cert.WeightGluIdeal.τ Cert.WeightGluIdeal.sig) → Buf (Elt Ideal) ℓ) (g : Dev Cert.WeightGluIdeal.nD → PrngReg)
    (m' : (ℓ : Loc Cert.WeightGluReferenceIdeal.nD Cert.WeightGluReferenceIdeal.τ Cert.WeightGluReferenceIdeal.sig) → Buf (Elt Ideal) ℓ) (g' : Dev Cert.WeightGluReferenceIdeal.nD → PrngReg), Pre_WeightGluIdeal m →
    (∀ c : Dev Cert.WeightGluIdeal.nD,
      m' ((c.tc : Thread Cert.WeightGluReferenceIdeal.nD Cert.WeightGluReferenceIdeal.τ).loc Cert.WeightGluReferenceIdeal.main_arg0) = m ((c.tc : Thread Cert.WeightGluIdeal.nD Cert.WeightGluIdeal.τ).loc Cert.WeightGluIdeal.main_arg0)
      ∧ m' ((c.tc : Thread Cert.WeightGluReferenceIdeal.nD Cert.WeightGluReferenceIdeal.τ).loc Cert.WeightGluReferenceIdeal.main_arg1) = m ((c.tc : Thread Cert.WeightGluIdeal.nD Cert.WeightGluIdeal.τ).loc Cert.WeightGluIdeal.main_arg1)) →
    ∃ (v0 : (c : Dev Cert.WeightGluIdeal.nD) → Buf (Elt Ideal) ((c.tc : Thread Cert.WeightGluIdeal.nD Cert.WeightGluIdeal.τ).loc Cert.WeightGluIdeal.main_v0)),
      θ_run (Cert.WeightGluIdeal.defs (F := Ideal)) (onTc (τ := Cert.WeightGluIdeal.τ) (Cert.WeightGluIdeal.main (F := Ideal))) ⟨m, fun _ => 0, g⟩ (fun r => ∀ c : Dev Cert.WeightGluIdeal.nD,
          r.2.mem ((c.tc : Thread Cert.WeightGluIdeal.nD Cert.WeightGluIdeal.τ).loc Cert.WeightGluIdeal.main_v0) = v0 c
          ∧ r.2.mem ((c.tc : Thread Cert.WeightGluIdeal.nD Cert.WeightGluIdeal.τ).loc Cert.WeightGluIdeal.main_arg0) = m ((c.tc : Thread Cert.WeightGluIdeal.nD Cert.WeightGluIdeal.τ).loc Cert.WeightGluIdeal.main_arg0)
          ∧ r.2.mem ((c.tc : Thread Cert.WeightGluIdeal.nD Cert.WeightGluIdeal.τ).loc Cert.WeightGluIdeal.main_arg1) = m ((c.tc : Thread Cert.WeightGluIdeal.nD Cert.WeightGluIdeal.τ).loc Cert.WeightGluIdeal.main_arg1))
      ∧ θ_run (Cert.WeightGluReferenceIdeal.defs (F := Ideal)) (onTc (τ := Cert.WeightGluReferenceIdeal.τ) (Cert.WeightGluReferenceIdeal.main (F := Ideal))) ⟨m', fun _ => 0, g'⟩ (fun r => ∀ c : Dev Cert.WeightGluReferenceIdeal.nD,
          r.2.mem ((c.tc : Thread Cert.WeightGluReferenceIdeal.nD Cert.WeightGluReferenceIdeal.τ).loc Cert.WeightGluReferenceIdeal.main_v1) = v0 c
          ∧ r.2.mem ((c.tc : Thread Cert.WeightGluReferenceIdeal.nD Cert.WeightGluReferenceIdeal.τ).loc Cert.WeightGluReferenceIdeal.main_arg0) = m' ((c.tc : Thread Cert.WeightGluReferenceIdeal.nD Cert.WeightGluReferenceIdeal.τ).loc Cert.WeightGluReferenceIdeal.main_arg0)
          ∧ r.2.mem ((c.tc : Thread Cert.WeightGluReferenceIdeal.nD Cert.WeightGluReferenceIdeal.τ).loc Cert.WeightGluReferenceIdeal.main_arg1) = m' ((c.tc : Thread Cert.WeightGluReferenceIdeal.nD Cert.WeightGluReferenceIdeal.τ).loc Cert.WeightGluReferenceIdeal.main_arg1))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)) (v5 : (c : Dev Cert.PrepIdeal.nD) → Buf (Elt Ideal) ((c.tc : Thread Cert.PrepIdeal.nD Cert.PrepIdeal.τ).loc Cert.PrepIdeal.main_v0_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_v0_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v44) = v0 c
          ∧ r.2.mem ((c.tc : Thread Cert.PrepReferenceIdeal.nD Cert.PrepReferenceIdeal.τ).loc Cert.PrepReferenceIdeal.main_v45) = v1 c
          ∧ r.2.mem ((c.tc : Thread Cert.PrepReferenceIdeal.nD Cert.PrepReferenceIdeal.τ).loc Cert.PrepReferenceIdeal.main_v46) = v2 c
          ∧ r.2.mem ((c.tc : Thread Cert.PrepReferenceIdeal.nD Cert.PrepReferenceIdeal.τ).loc Cert.PrepReferenceIdeal.main_v47) = v3 c
          ∧ r.2.mem ((c.tc : Thread Cert.PrepReferenceIdeal.nD Cert.PrepReferenceIdeal.τ).loc Cert.PrepReferenceIdeal.main_v48) = v4 c
          ∧ r.2.mem ((c.tc : Thread Cert.PrepReferenceIdeal.nD Cert.PrepReferenceIdeal.τ).loc Cert.PrepReferenceIdeal.main_v49) = v5 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v43) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_ConvBack_ConvBackIdeal : Prop :=
  True

def algebraic_ConvBackIdeal_ConvBackReferenceIdeal [hConvBackIdeal : Cert.ConvBackIdeal.Facts] [hConvBackReferenceIdeal : Cert.ConvBackReferenceIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackReferenceIdeal.nD Cert.ConvBackReferenceIdeal.τ Cert.ConvBackReferenceIdeal.sig) → Buf (Elt Ideal) ℓ) (g' : Dev Cert.ConvBackReferenceIdeal.nD → PrngReg), Pre_ConvBackIdeal m →
    (∀ c : Dev Cert.ConvBackIdeal.nD,
      m' ((c.tc : Thread Cert.ConvBackReferenceIdeal.nD Cert.ConvBackReferenceIdeal.τ).loc Cert.ConvBackReferenceIdeal.main_arg0) = m ((c.tc : Thread Cert.ConvBackIdeal.nD Cert.ConvBackIdeal.τ).loc Cert.ConvBackIdeal.main_arg0)
      ∧ m' ((c.tc : Thread Cert.ConvBackReferenceIdeal.nD Cert.ConvBackReferenceIdeal.τ).loc Cert.ConvBackReferenceIdeal.main_arg1) = m ((c.tc : Thread Cert.ConvBackIdeal.nD Cert.ConvBackIdeal.τ).loc Cert.ConvBackIdeal.main_arg1)
      ∧ m' ((c.tc : Thread Cert.ConvBackReferenceIdeal.nD Cert.ConvBackReferenceIdeal.τ).loc Cert.ConvBackReferenceIdeal.main_arg2) = m ((c.tc : Thread Cert.ConvBackIdeal.nD Cert.ConvBackIdeal.τ).loc Cert.ConvBackIdeal.main_arg2)
      ∧ m' ((c.tc : Thread Cert.ConvBackReferenceIdeal.nD Cert.ConvBackReferenceIdeal.τ).loc Cert.ConvBackReferenceIdeal.main_arg3) = m ((c.tc : Thread Cert.ConvBackIdeal.nD Cert.ConvBackIdeal.τ).loc Cert.ConvBackIdeal.main_arg3)) →
    ∃ (v0 : (c : Dev Cert.ConvBackIdeal.nD) → Buf (Elt Ideal) ((c.tc : Thread Cert.ConvBackIdeal.nD Cert.ConvBackIdeal.τ).loc Cert.ConvBackIdeal.main_v0_0)) (v1 : (c : Dev Cert.ConvBackIdeal.nD) → Buf (Elt Ideal) ((c.tc : Thread Cert.ConvBackIdeal.nD Cert.ConvBackIdeal.τ).loc Cert.ConvBackIdeal.main_v0_1)) (v2 : (c : Dev Cert.ConvBackIdeal.nD) → Buf (Elt Ideal) ((c.tc : Thread Cert.ConvBackIdeal.nD Cert.ConvBackIdeal.τ).loc Cert.ConvBackIdeal.main_v0_2)) (v3 : (c : Dev Cert.ConvBackIdeal.nD) → Buf (Elt Ideal) ((c.tc : Thread Cert.ConvBackIdeal.nD Cert.ConvBackIdeal.τ).loc Cert.ConvBackIdeal.main_v0_3)) (v4 : (c : Dev Cert.ConvBackIdeal.nD) → Buf (Elt Ideal) ((c.tc : Thread Cert.ConvBackIdeal.nD Cert.ConvBackIdeal.τ).loc Cert.ConvBackIdeal.main_v0_4)) (v5 : (c : Dev Cert.ConvBackIdeal.nD) → Buf (Elt Ideal) ((c.tc : Thread Cert.ConvBackIdeal.nD Cert.ConvBackIdeal.τ).loc Cert.ConvBackIdeal.main_v0_5)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0_0) = v0 c
          ∧ r.2.mem ((c.tc : Thread Cert.ConvBackIdeal.nD Cert.ConvBackIdeal.τ).loc Cert.ConvBackIdeal.main_v0_1) = v1 c
          ∧ r.2.mem ((c.tc : Thread Cert.ConvBackIdeal.nD Cert.ConvBackIdeal.τ).loc Cert.ConvBackIdeal.main_v0_2) = v2 c
          ∧ r.2.mem ((c.tc : Thread Cert.ConvBackIdeal.nD Cert.ConvBackIdeal.τ).loc Cert.ConvBackIdeal.main_v0_3) = v3 c
          ∧ r.2.mem ((c.tc : Thread Cert.ConvBackIdeal.nD Cert.ConvBackIdeal.τ).loc Cert.ConvBackIdeal.main_v0_4) = v4 c
          ∧ r.2.mem ((c.tc : Thread Cert.ConvBackIdeal.nD Cert.ConvBackIdeal.τ).loc Cert.ConvBackIdeal.main_v0_5) = v5 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2)
          ∧ r.2.mem ((c.tc : Thread Cert.ConvBackIdeal.nD Cert.ConvBackIdeal.τ).loc Cert.ConvBackIdeal.main_arg3) = m ((c.tc : Thread Cert.ConvBackIdeal.nD Cert.ConvBackIdeal.τ).loc Cert.ConvBackIdeal.main_arg3))
      ∧ θ_run (Cert.ConvBackReferenceIdeal.defs (F := Ideal)) (onTc (τ := Cert.ConvBackReferenceIdeal.τ) (Cert.ConvBackReferenceIdeal.main (F := Ideal))) ⟨m', fun _ => 0, g'⟩ (fun r => ∀ c : Dev Cert.ConvBackReferenceIdeal.nD,
          r.2.mem ((c.tc : Thread Cert.ConvBackReferenceIdeal.nD Cert.ConvBackReferenceIdeal.τ).loc Cert.ConvBackReferenceIdeal.main_v94) = v0 c
          ∧ r.2.mem ((c.tc : Thread Cert.ConvBackReferenceIdeal.nD Cert.ConvBackReferenceIdeal.τ).loc Cert.ConvBackReferenceIdeal.main_v99) = v1 c
          ∧ r.2.mem ((c.tc : Thread Cert.ConvBackReferenceIdeal.nD Cert.ConvBackReferenceIdeal.τ).loc Cert.ConvBackReferenceIdeal.main_v104) = v2 c
          ∧ r.2.mem ((c.tc : Thread Cert.ConvBackReferenceIdeal.nD Cert.ConvBackReferenceIdeal.τ).loc Cert.ConvBackReferenceIdeal.main_v108) = v3 c
          ∧ r.2.mem ((c.tc : Thread Cert.ConvBackReferenceIdeal.nD Cert.ConvBackReferenceIdeal.τ).loc Cert.ConvBackReferenceIdeal.main_v110) = v4 c
          ∧ r.2.mem ((c.tc : Thread Cert.ConvBackReferenceIdeal.nD Cert.ConvBackReferenceIdeal.τ).loc Cert.ConvBackReferenceIdeal.main_v111) = v5 c
          ∧ r.2.mem ((c.tc : Thread Cert.ConvBackReferenceIdeal.nD Cert.ConvBackReferenceIdeal.τ).loc Cert.ConvBackReferenceIdeal.main_arg0) = m' ((c.tc : Thread Cert.ConvBackReferenceIdeal.nD Cert.ConvBackReferenceIdeal.τ).loc Cert.ConvBackReferenceIdeal.main_arg0)
          ∧ r.2.mem ((c.tc : Thread Cert.ConvBackReferenceIdeal.nD Cert.ConvBackReferenceIdeal.τ).loc Cert.ConvBackReferenceIdeal.main_arg1) = m' ((c.tc : Thread Cert.ConvBackReferenceIdeal.nD Cert.ConvBackReferenceIdeal.τ).loc Cert.ConvBackReferenceIdeal.main_arg1)
          ∧ r.2.mem ((c.tc : Thread Cert.ConvBackReferenceIdeal.nD Cert.ConvBackReferenceIdeal.τ).loc Cert.ConvBackReferenceIdeal.main_arg2) = m' ((c.tc : Thread Cert.ConvBackReferenceIdeal.nD Cert.ConvBackReferenceIdeal.τ).loc Cert.ConvBackReferenceIdeal.main_arg2)
          ∧ r.2.mem ((c.tc : Thread Cert.ConvBackReferenceIdeal.nD Cert.ConvBackReferenceIdeal.τ).loc Cert.ConvBackReferenceIdeal.main_arg3) = m' ((c.tc : Thread Cert.ConvBackReferenceIdeal.nD Cert.ConvBackReferenceIdeal.τ).loc Cert.ConvBackReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m ((c.tc : Thread Cert.LossIdeal.nD Cert.LossIdeal.τ).loc Cert.LossIdeal.main_arg0) = Layout.block ⟨2, ![1, 128]⟩ ⟨2, ![8, 128]⟩ 0 8 c (m' (((0 : Dev Cert.LossReferenceIdeal.nD).tc : Thread Cert.LossReferenceIdeal.nD Cert.LossReferenceIdeal.τ).loc Cert.LossReferenceIdeal.main_arg0))) →
    ∃ (v0 : Buf (Elt Ideal) (((0 : Dev Cert.LossReferenceIdeal.nD).tc : Thread Cert.LossReferenceIdeal.nD Cert.LossReferenceIdeal.τ).loc Cert.LossReferenceIdeal.main_v2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0))
      ∧ θ_run (Cert.LossReferenceIdeal.defs (F := Ideal)) (onTc (τ := Cert.LossReferenceIdeal.τ) (Cert.LossReferenceIdeal.main (F := Ideal))) ⟨m', fun _ => 0, g'⟩ (fun r =>
          r.2.mem (((0 : Dev Cert.LossReferenceIdeal.nD).tc : Thread Cert.LossReferenceIdeal.nD Cert.LossReferenceIdeal.τ).loc Cert.LossReferenceIdeal.main_v2) = v0
          ∧ r.2.mem (((0 : Dev Cert.LossReferenceIdeal.nD).tc : Thread Cert.LossReferenceIdeal.nD Cert.LossReferenceIdeal.τ).loc Cert.LossReferenceIdeal.main_arg0) = m' (((0 : Dev Cert.LossReferenceIdeal.nD).tc : Thread Cert.LossReferenceIdeal.nD Cert.LossReferenceIdeal.τ).loc Cert.LossReferenceIdeal.main_arg0))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherReferenceIdeal : Cert.GatherReferenceIdeal.Facts) (hGatherReference : Cert.GatherReference.Facts) (hUpdateIn : Cert.UpdateIn.Facts) (hUpdateInIdeal : Cert.UpdateInIdeal.Facts) (hUpdateInReferenceIdeal : Cert.UpdateInReferenceIdeal.Facts) (hUpdateOut : Cert.UpdateOut.Facts) (hUpdateOutIdeal : Cert.UpdateOutIdeal.Facts) (hUpdateOutReferenceIdeal : Cert.UpdateOutReferenceIdeal.Facts) (hUpdateGlu : Cert.UpdateGlu.Facts) (hUpdateGluIdeal : Cert.UpdateGluIdeal.Facts) (hUpdateGluReferenceIdeal : Cert.UpdateGluReferenceIdeal.Facts) (hSum : Cert.Sum.Facts) (hSumIdeal : Cert.SumIdeal.Facts) (hSumReferenceIdeal : Cert.SumReferenceIdeal.Facts) (hBack : Cert.Back.Facts) (hBackIdeal : Cert.BackIdeal.Facts) (hBackReferenceIdeal : Cert.BackReferenceIdeal.Facts) (hWeightIn : Cert.WeightIn.Facts) (hWeightInIdeal : Cert.WeightInIdeal.Facts) (hWeightInReferenceIdeal : Cert.WeightInReferenceIdeal.Facts) (hWeightOut : Cert.WeightOut.Facts) (hWeightOutIdeal : Cert.WeightOutIdeal.Facts) (hWeightOutReferenceIdeal : Cert.WeightOutReferenceIdeal.Facts) (hWeightGlu : Cert.WeightGlu.Facts) (hWeightGluIdeal : Cert.WeightGluIdeal.Facts) (hWeightGluReferenceIdeal : Cert.WeightGluReferenceIdeal.Facts) (hPrep : Cert.Prep.Facts) (hPrepIdeal : Cert.PrepIdeal.Facts) (hPrepReferenceIdeal : Cert.PrepReferenceIdeal.Facts) (hConv : Cert.Conv.Facts) (hConvIdeal : Cert.ConvIdeal.Facts) (hConvReferenceIdeal : Cert.ConvReferenceIdeal.Facts) (hConvBack : Cert.ConvBack.Facts) (hConvBackIdeal : Cert.ConvBackIdeal.Facts) (hConvBackReferenceIdeal : Cert.ConvBackReferenceIdeal.Facts) (hLoss : Cert.Loss.Facts) (hLossIdeal : Cert.LossIdeal.Facts) (hLossReferenceIdeal : Cert.LossReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_UpdateIn (hUpdateIn := hUpdateIn)
    ∧ quiescent_UpdateInIdeal (hUpdateInIdeal := hUpdateInIdeal)
    ∧ quiescent_UpdateInReferenceIdeal (hUpdateInReferenceIdeal := hUpdateInReferenceIdeal)
    ∧ quiescent_UpdateOut (hUpdateOut := hUpdateOut)
    ∧ quiescent_UpdateOutIdeal (hUpdateOutIdeal := hUpdateOutIdeal)
    ∧ quiescent_UpdateOutReferenceIdeal (hUpdateOutReferenceIdeal := hUpdateOutReferenceIdeal)
    ∧ quiescent_UpdateGlu (hUpdateGlu := hUpdateGlu)
    ∧ quiescent_UpdateGluIdeal (hUpdateGluIdeal := hUpdateGluIdeal)
    ∧ quiescent_UpdateGluReferenceIdeal (hUpdateGluReferenceIdeal := hUpdateGluReferenceIdeal)
    ∧ quiescent_Sum (hSum := hSum)
    ∧ quiescent_SumIdeal (hSumIdeal := hSumIdeal)
    ∧ quiescent_SumReferenceIdeal (hSumReferenceIdeal := hSumReferenceIdeal)
    ∧ quiescent_Back (hBack := hBack)
    ∧ quiescent_BackIdeal (hBackIdeal := hBackIdeal)
    ∧ quiescent_BackReferenceIdeal (hBackReferenceIdeal := hBackReferenceIdeal)
    ∧ quiescent_WeightIn (hWeightIn := hWeightIn)
    ∧ quiescent_WeightInIdeal (hWeightInIdeal := hWeightInIdeal)
    ∧ quiescent_WeightInReferenceIdeal (hWeightInReferenceIdeal := hWeightInReferenceIdeal)
    ∧ quiescent_WeightOut (hWeightOut := hWeightOut)
    ∧ quiescent_WeightOutIdeal (hWeightOutIdeal := hWeightOutIdeal)
    ∧ quiescent_WeightOutReferenceIdeal (hWeightOutReferenceIdeal := hWeightOutReferenceIdeal)
    ∧ quiescent_WeightGlu (hWeightGlu := hWeightGlu)
    ∧ quiescent_WeightGluIdeal (hWeightGluIdeal := hWeightGluIdeal)
    ∧ quiescent_WeightGluReferenceIdeal (hWeightGluReferenceIdeal := hWeightGluReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_ConvBack (hConvBack := hConvBack)
    ∧ quiescent_ConvBackIdeal (hConvBackIdeal := hConvBackIdeal)
    ∧ quiescent_ConvBackReferenceIdeal (hConvBackReferenceIdeal := hConvBackReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_UpdateIn_UpdateInIdeal
    ∧ algebraic_UpdateInIdeal_UpdateInReferenceIdeal (hUpdateInIdeal := hUpdateInIdeal) (hUpdateInReferenceIdeal := hUpdateInReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_UpdateGlu_UpdateGluIdeal
    ∧ algebraic_UpdateGluIdeal_UpdateGluReferenceIdeal (hUpdateGluIdeal := hUpdateGluIdeal) (hUpdateGluReferenceIdeal := hUpdateGluReferenceIdeal)
    ∧ preserves_Sum_SumIdeal
    ∧ algebraic_SumIdeal_SumReferenceIdeal (hSumIdeal := hSumIdeal) (hSumReferenceIdeal := hSumReferenceIdeal)
    ∧ preserves_Back_BackIdeal
    ∧ algebraic_BackIdeal_BackReferenceIdeal (hBackIdeal := hBackIdeal) (hBackReferenceIdeal := hBackReferenceIdeal)
    ∧ preserves_WeightIn_WeightInIdeal
    ∧ algebraic_WeightInIdeal_WeightInReferenceIdeal (hWeightInIdeal := hWeightInIdeal) (hWeightInReferenceIdeal := hWeightInReferenceIdeal)
    ∧ preserves_WeightOut_WeightOutIdeal
    ∧ algebraic_WeightOutIdeal_WeightOutReferenceIdeal (hWeightOutIdeal := hWeightOutIdeal) (hWeightOutReferenceIdeal := hWeightOutReferenceIdeal)
    ∧ preserves_WeightGlu_WeightGluIdeal
    ∧ algebraic_WeightGluIdeal_WeightGluReferenceIdeal (hWeightGluIdeal := hWeightGluIdeal) (hWeightGluReferenceIdeal := hWeightGluReferenceIdeal)
    ∧ preserves_Prep_PrepIdeal
    ∧ algebraic_PrepIdeal_PrepReferenceIdeal (hPrepIdeal := hPrepIdeal) (hPrepReferenceIdeal := hPrepReferenceIdeal)
    ∧ preserves_Conv_ConvIdeal
    ∧ algebraic_ConvIdeal_ConvReferenceIdeal (hConvIdeal := hConvIdeal) (hConvReferenceIdeal := hConvReferenceIdeal)
    ∧ preserves_ConvBack_ConvBackIdeal
    ∧ algebraic_ConvBackIdeal_ConvBackReferenceIdeal (hConvBackIdeal := hConvBackIdeal) (hConvBackReferenceIdeal := hConvBackReferenceIdeal)
    ∧ preserves_Loss_LossIdeal
    ∧ algebraic_LossIdeal_LossReferenceIdeal (hLossIdeal := hLossIdeal) (hLossReferenceIdeal := hLossReferenceIdeal)
-- ==== Kernel.lean ====
abbrev S2192x128 : Shape := ⟨2, ![2192, 128]⟩
abbrev S8x2048x768 : Shape := ⟨3, ![8, 2048, 768]⟩
abbrev S8x256x2048 : Shape := ⟨3, ![8, 256, 2048]⟩
abbrev S8x128x1024 : Shape := ⟨3, ![8, 128, 1024]⟩
abbrev S8x2192x128 : Shape := ⟨3, ![8, 2192, 128]⟩
abbrev S4x7 : Shape := ⟨2, ![4, 7]⟩
abbrev S4 : Shape := ⟨1, ![4]⟩
abbrev S1 : Shape := ⟨1, ![1]⟩
abbrev S_ : Shape := ⟨0, ![]⟩
abbrev S1x2192x128 : Shape := ⟨3, ![1, 2192, 128]⟩
abbrev S1x2048x768 : Shape := ⟨3, ![1, 2048, 768]⟩
abbrev S2048x768 : Shape := ⟨2, ![2048, 768]⟩
abbrev S1x256x2048 : Shape := ⟨3, ![1, 256, 2048]⟩
abbrev S256x2048 : Shape := ⟨2, ![256, 2048]⟩
abbrev S1x128x1024 : Shape := ⟨3, ![1, 128, 1024]⟩
abbrev S128x1024 : Shape := ⟨2, ![128, 1024]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S2192x128, .f32⟩
  | .hbm, ⟨1, _⟩ => ⟨S8x2048x768, .f32⟩
  | .hbm, ⟨2, _⟩ => ⟨S8x256x2048, .f32⟩
  | .hbm, ⟨3, _⟩ => ⟨S8x128x1024, .f32⟩
  | .hbm, ⟨4, _⟩ => ⟨S8x2192x128, .f32⟩
  | .hbm, ⟨5, _⟩ => ⟨S8x2048x768, .f32⟩
  | .hbm, ⟨6, _⟩ => ⟨S8x256x2048, .f32⟩
  | .hbm, ⟨7, _⟩ => ⟨S8x128x1024, .f32⟩
  | _, _ => ⟨S2192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_13 : BitVec 32 := 0#32
  let c0_i32_14 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_17 : BitVec 32 := 0#32
  let c0_i32_18 : BitVec 32 := 0#32
  ![v12.toNat, 0, 0]
def k0_dev1 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v75 : BitVec 32 := Scalar.muli v2 c4_i32_51
  let v76 : BitVec 32 := Scalar.addi c0_i32_52 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v77 : BitVec 32 := Scalar.muli v5 c2_i32_53
  let v78 : BitVec 32 := Scalar.addi v76 v77
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let c1_i32_54 : BitVec 32 := 1#32
  let v79 : BitVec 32 := Scalar.muli v35 c1_i32_54
  let v80 : BitVec 32 := Scalar.addi v78 v79
  v80.toNat
def k0_dev2 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v87 : BitVec 32 := Scalar.muli v2 c4_i32_61
  let v88 : BitVec 32 := Scalar.addi c0_i32_62 v87
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let c2_i32_63 : BitVec 32 := 2#32
  let v89 : BitVec 32 := Scalar.muli v40 c2_i32_63
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v91 : BitVec 32 := Scalar.muli v8 c1_i32_64
  let v92 : BitVec 32 := Scalar.addi v90 v91
  v92.toNat
def k0_dev3 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v99 : BitVec 32 := Scalar.muli v2 c4_i32_71
  let v100 : BitVec 32 := Scalar.addi c0_i32_72 v99
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let c2_i32_73 : BitVec 32 := 2#32
  let v101 : BitVec 32 := Scalar.muli v45 c2_i32_73
  let v102 : BitVec 32 := Scalar.addi v100 v101
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let c1_i32_74 : BitVec 32 := 1#32
  let v103 : BitVec 32 := Scalar.muli v46 c1_i32_74
  let v104 : BitVec 32 := Scalar.addi v102 v103
  v104.toNat
def k0_dev4 (d0 : Dev nD) : Nat :=
  let c0_i32_82 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let c4_i32_81 : BitVec 32 := 4#32
  let v111 : BitVec 32 := Scalar.muli v51 c4_i32_81
  let v112 : BitVec 32 := Scalar.addi c0_i32_82 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v113 : BitVec 32 := Scalar.muli v5 c2_i32_83
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v115 : BitVec 32 := Scalar.muli v8 c1_i32_84
  let v116 : BitVec 32 := Scalar.addi v114 v115
  v116.toNat
def k0_dev5 (d0 : Dev nD) : Nat :=
  let c0_i32_92 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let c4_i32_91 : BitVec 32 := 4#32
  let v123 : BitVec 32 := Scalar.muli v56 c4_i32_91
  let v124 : BitVec 32 := Scalar.addi c0_i32_92 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v125 : BitVec 32 := Scalar.muli v5 c2_i32_93
  let v126 : BitVec 32 := Scalar.addi v124 v125
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let c1_i32_94 : BitVec 32 := 1#32
  let v127 : BitVec 32 := Scalar.muli v57 c1_i32_94
  let v128 : BitVec 32 := Scalar.addi v126 v127
  v128.toNat
def k0_dev6 (d0 : Dev nD) : Nat :=
  let c0_i32_101 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let c4_i32_100 : BitVec 32 := 4#32
  let v135 : BitVec 32 := Scalar.muli v62 c4_i32_100
  let v136 : BitVec 32 := Scalar.addi c0_i32_101 v135
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let c2_i32_102 : BitVec 32 := 2#32
  let v137 : BitVec 32 := Scalar.muli v63 c2_i32_102
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v139 : BitVec 32 := Scalar.muli v8 c1_i32_103
  let v140 : BitVec 32 := Scalar.addi v138 v139
  v140.toNat
def k0_dev7 (d0 : Dev nD) : Nat :=
  let c0_i32_110 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_109 : BitVec 32 := 4#32
  let v147 : BitVec 32 := Scalar.muli v68 c4_i32_109
  let v148 : BitVec 32 := Scalar.addi c0_i32_110 v147
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let c2_i32_111 : BitVec 32 := 2#32
  let v149 : BitVec 32 := Scalar.muli v69 c2_i32_111
  let v150 : BitVec 32 := Scalar.addi v148 v149
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let c1_i32_112 : BitVec 32 := 1#32
  let v151 : BitVec 32 := Scalar.muli v70 c1_i32_112
  let v152 : BitVec 32 := Scalar.addi v150 v151
  v152.toNat
def k0_off5 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c4_i32_22 v2
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_23 v5
  let v38 : BitVec 32 := Scalar.addi v36 v37
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let v39 : BitVec 32 := Scalar.addi v38 v35
  let c0_i32_125 : BitVec 32 := 0#32
  let c0_i32_126 : BitVec 32 := 0#32
  ![v39.toNat, 0, 0]
def k0_dev8 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v159 : BitVec 32 := Scalar.muli v2 c4_i32_119
  let v160 : BitVec 32 := Scalar.addi c0_i32_120 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v161 : BitVec 32 := Scalar.muli v5 c2_i32_121
  let v162 : BitVec 32 := Scalar.addi v160 v161
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let c1_i32_122 : BitVec 32 := 1#32
  let v163 : BitVec 32 := Scalar.muli v35 c1_i32_122
  let v164 : BitVec 32 := Scalar.addi v162 v163
  v164.toNat
def k0_off6 (d0 : Dev nD) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_25 v2
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let v42 : BitVec 32 := Scalar.muli c2_i32_26 v40
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.addi v43 v8
  let c0_i32_137 : BitVec 32 := 0#32
  let c0_i32_138 : BitVec 32 := 0#32
  ![v44.toNat, 0, 0]
def k0_dev9 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v173 : BitVec 32 := Scalar.muli v2 c4_i32_131
  let v174 : BitVec 32 := Scalar.addi c0_i32_132 v173
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let c2_i32_133 : BitVec 32 := 2#32
  let v175 : BitVec 32 := Scalar.muli v40 c2_i32_133
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v177 : BitVec 32 := Scalar.muli v8 c1_i32_134
  let v178 : BitVec 32 := Scalar.addi v176 v177
  v178.toNat
def k0_off7 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.muli c4_i32_29 v2
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let v48 : BitVec 32 := Scalar.muli c2_i32_30 v45
  let v49 : BitVec 32 := Scalar.addi v47 v48
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let v50 : BitVec 32 := Scalar.addi v49 v46
  let c0_i32_149 : BitVec 32 := 0#32
  let c0_i32_150 : BitVec 32 := 0#32
  ![v50.toNat, 0, 0]
def k0_dev10 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v187 : BitVec 32 := Scalar.muli v2 c4_i32_143
  let v188 : BitVec 32 := Scalar.addi c0_i32_144 v187
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let c2_i32_145 : BitVec 32 := 2#32
  let v189 : BitVec 32 := Scalar.muli v45 c2_i32_145
  let v190 : BitVec 32 := Scalar.addi v188 v189
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let c1_i32_146 : BitVec 32 := 1#32
  let v191 : BitVec 32 := Scalar.muli v46 c1_i32_146
  let v192 : BitVec 32 := Scalar.addi v190 v191
  v192.toNat
def k0_off8 (d0 : Dev nD) : Fin 3 → Nat :=
  let c4_i32_32 : BitVec 32 := 4#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let v52 : BitVec 32 := Scalar.muli c4_i32_32 v51
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_33 v5
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v55 : BitVec 32 := Scalar.addi v54 v8
  let c0_i32_161 : BitVec 32 := 0#32
  let c0_i32_162 : BitVec 32 := 0#32
  ![v55.toNat, 0, 0]
def k0_dev11 (d0 : Dev nD) : Nat :=
  let c0_i32_156 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let c4_i32_155 : BitVec 32 := 4#32
  let v201 : BitVec 32 := Scalar.muli v51 c4_i32_155
  let v202 : BitVec 32 := Scalar.addi c0_i32_156 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v203 : BitVec 32 := Scalar.muli v5 c2_i32_157
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v205 : BitVec 32 := Scalar.muli v8 c1_i32_158
  let v206 : BitVec 32 := Scalar.addi v204 v205
  v206.toNat
def k0_off9 (d0 : Dev nD) : Fin 3 → Nat :=
  let c4_i32_36 : BitVec 32 := 4#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let v58 : BitVec 32 := Scalar.muli c4_i32_36 v56
  let c2_i32_37 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.muli c2_i32_37 v5
  let v60 : BitVec 32 := Scalar.addi v58 v59
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let v61 : BitVec 32 := Scalar.addi v60 v57
  let c0_i32_173 : BitVec 32 := 0#32
  let c0_i32_174 : BitVec 32 := 0#32
  ![v61.toNat, 0, 0]
def k0_dev12 (d0 : Dev nD) : Nat :=
  let c0_i32_168 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let c4_i32_167 : BitVec 32 := 4#32
  let v215 : BitVec 32 := Scalar.muli v56 c4_i32_167
  let v216 : BitVec 32 := Scalar.addi c0_i32_168 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v217 : BitVec 32 := Scalar.muli v5 c2_i32_169
  let v218 : BitVec 32 := Scalar.addi v216 v217
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let c1_i32_170 : BitVec 32 := 1#32
  let v219 : BitVec 32 := Scalar.muli v57 c1_i32_170
  let v220 : BitVec 32 := Scalar.addi v218 v219
  v220.toNat
def k0_off10 (d0 : Dev nD) : Fin 3 → Nat :=
  let c4_i32_40 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let v64 : BitVec 32 := Scalar.muli c4_i32_40 v62
  let c2_i32_41 : BitVec 32 := 2#32
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let v65 : BitVec 32 := Scalar.muli c2_i32_41 v63
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.addi v66 v8
  let c0_i32_185 : BitVec 32 := 0#32
  let c0_i32_186 : BitVec 32 := 0#32
  ![v67.toNat, 0, 0]
def k0_dev13 (d0 : Dev nD) : Nat :=
  let c0_i32_180 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let c4_i32_179 : BitVec 32 := 4#32
  let v229 : BitVec 32 := Scalar.muli v62 c4_i32_179
  let v230 : BitVec 32 := Scalar.addi c0_i32_180 v229
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let c2_i32_181 : BitVec 32 := 2#32
  let v231 : BitVec 32 := Scalar.muli v63 c2_i32_181
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v233 : BitVec 32 := Scalar.muli v8 c1_i32_182
  let v234 : BitVec 32 := Scalar.addi v232 v233
  v234.toNat
def k0_off11 (d0 : Dev nD) : Fin 3 → Nat :=
  let c4_i32_45 : BitVec 32 := 4#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let v71 : BitVec 32 := Scalar.muli c4_i32_45 v68
  let c2_i32_46 : BitVec 32 := 2#32
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let v72 : BitVec 32 := Scalar.muli c2_i32_46 v69
  let v73 : BitVec 32 := Scalar.addi v71 v72
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let v74 : BitVec 32 := Scalar.addi v73 v70
  let c0_i32_197 : BitVec 32 := 0#32
  let c0_i32_198 : BitVec 32 := 0#32
  ![v74.toNat, 0, 0]
def k0_dev14 (d0 : Dev nD) : Nat :=
  let c0_i32_192 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_191 : BitVec 32 := 4#32
  let v243 : BitVec 32 := Scalar.muli v68 c4_i32_191
  let v244 : BitVec 32 := Scalar.addi c0_i32_192 v243
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let c2_i32_193 : BitVec 32 := 2#32
  let v245 : BitVec 32 := Scalar.muli v69 c2_i32_193
  let v246 : BitVec 32 := Scalar.addi v244 v245
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let c1_i32_194 : BitVec 32 := 1#32
  let v247 : BitVec 32 := Scalar.muli v70 c1_i32_194
  let v248 : BitVec 32 := Scalar.addi v246 v247
  v248.toNat
def k0_off12 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c4_i32_22 v2
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_23 v5
  let v38 : BitVec 32 := Scalar.addi v36 v37
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let v39 : BitVec 32 := Scalar.addi v38 v35
  let c0_i32_209 : BitVec 32 := 0#32
  let c0_i32_210 : BitVec 32 := 0#32
  ![v39.toNat, 0, 0]
def k0_dev15 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v257 : BitVec 32 := Scalar.muli v2 c4_i32_203
  let v258 : BitVec 32 := Scalar.addi c0_i32_204 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v259 : BitVec 32 := Scalar.muli v5 c2_i32_205
  let v260 : BitVec 32 := Scalar.addi v258 v259
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let c1_i32_206 : BitVec 32 := 1#32
  let v261 : BitVec 32 := Scalar.muli v35 c1_i32_206
  let v262 : BitVec 32 := Scalar.addi v260 v261
  v262.toNat
def k0_off13 (d0 : Dev nD) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_25 v2
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let v42 : BitVec 32 := Scalar.muli c2_i32_26 v40
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.addi v43 v8
  let c0_i32_221 : BitVec 32 := 0#32
  let c0_i32_222 : BitVec 32 := 0#32
  ![v44.toNat, 0, 0]
def k0_dev16 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v271 : BitVec 32 := Scalar.muli v2 c4_i32_215
  let v272 : BitVec 32 := Scalar.addi c0_i32_216 v271
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let c2_i32_217 : BitVec 32 := 2#32
  let v273 : BitVec 32 := Scalar.muli v40 c2_i32_217
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v275 : BitVec 32 := Scalar.muli v8 c1_i32_218
  let v276 : BitVec 32 := Scalar.addi v274 v275
  v276.toNat
def k0_off14 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.muli c4_i32_29 v2
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let v48 : BitVec 32 := Scalar.muli c2_i32_30 v45
  let v49 : BitVec 32 := Scalar.addi v47 v48
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let v50 : BitVec 32 := Scalar.addi v49 v46
  let c0_i32_233 : BitVec 32 := 0#32
  let c0_i32_234 : BitVec 32 := 0#32
  ![v50.toNat, 0, 0]
def k0_dev17 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v285 : BitVec 32 := Scalar.muli v2 c4_i32_227
  let v286 : BitVec 32 := Scalar.addi c0_i32_228 v285
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let c2_i32_229 : BitVec 32 := 2#32
  let v287 : BitVec 32 := Scalar.muli v45 c2_i32_229
  let v288 : BitVec 32 := Scalar.addi v286 v287
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let c1_i32_230 : BitVec 32 := 1#32
  let v289 : BitVec 32 := Scalar.muli v46 c1_i32_230
  let v290 : BitVec 32 := Scalar.addi v288 v289
  v290.toNat
def k0_off15 (d0 : Dev nD) : Fin 3 → Nat :=
  let c4_i32_32 : BitVec 32 := 4#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let v52 : BitVec 32 := Scalar.muli c4_i32_32 v51
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_33 v5
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v55 : BitVec 32 := Scalar.addi v54 v8
  let c0_i32_245 : BitVec 32 := 0#32
  let c0_i32_246 : BitVec 32 := 0#32
  ![v55.toNat, 0, 0]
def k0_dev18 (d0 : Dev nD) : Nat :=
  let c0_i32_240 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let c4_i32_239 : BitVec 32 := 4#32
  let v299 : BitVec 32 := Scalar.muli v51 c4_i32_239
  let v300 : BitVec 32 := Scalar.addi c0_i32_240 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v301 : BitVec 32 := Scalar.muli v5 c2_i32_241
  let v302 : BitVec 32 := Scalar.addi v300 v301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v303 : BitVec 32 := Scalar.muli v8 c1_i32_242
  let v304 : BitVec 32 := Scalar.addi v302 v303
  v304.toNat
def k0_off16 (d0 : Dev nD) : Fin 3 → Nat :=
  let c4_i32_36 : BitVec 32 := 4#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let v58 : BitVec 32 := Scalar.muli c4_i32_36 v56
  let c2_i32_37 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.muli c2_i32_37 v5
  let v60 : BitVec 32 := Scalar.addi v58 v59
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let v61 : BitVec 32 := Scalar.addi v60 v57
  let c0_i32_257 : BitVec 32 := 0#32
  let c0_i32_258 : BitVec 32 := 0#32
  ![v61.toNat, 0, 0]
def k0_dev19 (d0 : Dev nD) : Nat :=
  let c0_i32_252 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let c4_i32_251 : BitVec 32 := 4#32
  let v313 : BitVec 32 := Scalar.muli v56 c4_i32_251
  let v314 : BitVec 32 := Scalar.addi c0_i32_252 v313
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_253 : BitVec 32 := 2#32
  let v315 : BitVec 32 := Scalar.muli v5 c2_i32_253
  let v316 : BitVec 32 := Scalar.addi v314 v315
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let c1_i32_254 : BitVec 32 := 1#32
  let v317 : BitVec 32 := Scalar.muli v57 c1_i32_254
  let v318 : BitVec 32 := Scalar.addi v316 v317
  v318.toNat
def k0_off17 (d0 : Dev nD) : Fin 3 → Nat :=
  let c4_i32_40 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let v64 : BitVec 32 := Scalar.muli c4_i32_40 v62
  let c2_i32_41 : BitVec 32 := 2#32
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let v65 : BitVec 32 := Scalar.muli c2_i32_41 v63
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.addi v66 v8
  let c0_i32_269 : BitVec 32 := 0#32
  let c0_i32_270 : BitVec 32 := 0#32
  ![v67.toNat, 0, 0]
def k0_dev20 (d0 : Dev nD) : Nat :=
  let c0_i32_264 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let c4_i32_263 : BitVec 32 := 4#32
  let v327 : BitVec 32 := Scalar.muli v62 c4_i32_263
  let v328 : BitVec 32 := Scalar.addi c0_i32_264 v327
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let c2_i32_265 : BitVec 32 := 2#32
  let v329 : BitVec 32 := Scalar.muli v63 c2_i32_265
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v331 : BitVec 32 := Scalar.muli v8 c1_i32_266
  let v332 : BitVec 32 := Scalar.addi v330 v331
  v332.toNat
def k0_off18 (d0 : Dev nD) : Fin 3 → Nat :=
  let c4_i32_45 : BitVec 32 := 4#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let v71 : BitVec 32 := Scalar.muli c4_i32_45 v68
  let c2_i32_46 : BitVec 32 := 2#32
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let v72 : BitVec 32 := Scalar.muli c2_i32_46 v69
  let v73 : BitVec 32 := Scalar.addi v71 v72
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let v74 : BitVec 32 := Scalar.addi v73 v70
  let c0_i32_281 : BitVec 32 := 0#32
  let c0_i32_282 : BitVec 32 := 0#32
  ![v74.toNat, 0, 0]
def k0_dev21 (d0 : Dev nD) : Nat :=
  let c0_i32_276 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_275 : BitVec 32 := 4#32
  let v341 : BitVec 32 := Scalar.muli v68 c4_i32_275
  let v342 : BitVec 32 := Scalar.addi c0_i32_276 v341
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let c2_i32_277 : BitVec 32 := 2#32
  let v343 : BitVec 32 := Scalar.muli v69 c2_i32_277
  let v344 : BitVec 32 := Scalar.addi v342 v343
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let c1_i32_278 : BitVec 32 := 1#32
  let v345 : BitVec 32 := Scalar.muli v70 c1_i32_278
  let v346 : BitVec 32 := Scalar.addi v344 v345
  v346.toNat
def k0_off19 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c4_i32_22 v2
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_23 v5
  let v38 : BitVec 32 := Scalar.addi v36 v37
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let v39 : BitVec 32 := Scalar.addi v38 v35
  let c0_i32_293 : BitVec 32 := 0#32
  let c0_i32_294 : BitVec 32 := 0#32
  ![v39.toNat, 0, 0]
def k0_dev22 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v355 : BitVec 32 := Scalar.muli v2 c4_i32_287
  let v356 : BitVec 32 := Scalar.addi c0_i32_288 v355
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v357 : BitVec 32 := Scalar.muli v5 c2_i32_289
  let v358 : BitVec 32 := Scalar.addi v356 v357
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let c1_i32_290 : BitVec 32 := 1#32
  let v359 : BitVec 32 := Scalar.muli v35 c1_i32_290
  let v360 : BitVec 32 := Scalar.addi v358 v359
  v360.toNat
def k0_off20 (d0 : Dev nD) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_25 v2
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let v42 : BitVec 32 := Scalar.muli c2_i32_26 v40
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.addi v43 v8
  let c0_i32_305 : BitVec 32 := 0#32
  let c0_i32_306 : BitVec 32 := 0#32
  ![v44.toNat, 0, 0]
def k0_dev23 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v369 : BitVec 32 := Scalar.muli v2 c4_i32_299
  let v370 : BitVec 32 := Scalar.addi c0_i32_300 v369
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let c2_i32_301 : BitVec 32 := 2#32
  let v371 : BitVec 32 := Scalar.muli v40 c2_i32_301
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_302 : BitVec 32 := 1#32
  let v373 : BitVec 32 := Scalar.muli v8 c1_i32_302
  let v374 : BitVec 32 := Scalar.addi v372 v373
  v374.toNat
def k0_off21 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.muli c4_i32_29 v2
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let v48 : BitVec 32 := Scalar.muli c2_i32_30 v45
  let v49 : BitVec 32 := Scalar.addi v47 v48
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let v50 : BitVec 32 := Scalar.addi v49 v46
  let c0_i32_317 : BitVec 32 := 0#32
  let c0_i32_318 : BitVec 32 := 0#32
  ![v50.toNat, 0, 0]
def k0_dev24 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v383 : BitVec 32 := Scalar.muli v2 c4_i32_311
  let v384 : BitVec 32 := Scalar.addi c0_i32_312 v383
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let c2_i32_313 : BitVec 32 := 2#32
  let v385 : BitVec 32 := Scalar.muli v45 c2_i32_313
  let v386 : BitVec 32 := Scalar.addi v384 v385
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let c1_i32_314 : BitVec 32 := 1#32
  let v387 : BitVec 32 := Scalar.muli v46 c1_i32_314
  let v388 : BitVec 32 := Scalar.addi v386 v387
  v388.toNat
def k0_off22 (d0 : Dev nD) : Fin 3 → Nat :=
  let c4_i32_32 : BitVec 32 := 4#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let v52 : BitVec 32 := Scalar.muli c4_i32_32 v51
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_33 v5
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v55 : BitVec 32 := Scalar.addi v54 v8
  let c0_i32_329 : BitVec 32 := 0#32
  let c0_i32_330 : BitVec 32 := 0#32
  ![v55.toNat, 0, 0]
def k0_dev25 (d0 : Dev nD) : Nat :=
  let c0_i32_324 : BitVec 32 := 0#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let c4_i32_323 : BitVec 32 := 4#32
  let v397 : BitVec 32 := Scalar.muli v51 c4_i32_323
  let v398 : BitVec 32 := Scalar.addi c0_i32_324 v397
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v399 : BitVec 32 := Scalar.muli v5 c2_i32_325
  let v400 : BitVec 32 := Scalar.addi v398 v399
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v401 : BitVec 32 := Scalar.muli v8 c1_i32_326
  let v402 : BitVec 32 := Scalar.addi v400 v401
  v402.toNat
def k0_off23 (d0 : Dev nD) : Fin 3 → Nat :=
  let c4_i32_36 : BitVec 32 := 4#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let v58 : BitVec 32 := Scalar.muli c4_i32_36 v56
  let c2_i32_37 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.muli c2_i32_37 v5
  let v60 : BitVec 32 := Scalar.addi v58 v59
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let v61 : BitVec 32 := Scalar.addi v60 v57
  let c0_i32_341 : BitVec 32 := 0#32
  let c0_i32_342 : BitVec 32 := 0#32
  ![v61.toNat, 0, 0]
def k0_dev26 (d0 : Dev nD) : Nat :=
  let c0_i32_336 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let c4_i32_335 : BitVec 32 := 4#32
  let v411 : BitVec 32 := Scalar.muli v56 c4_i32_335
  let v412 : BitVec 32 := Scalar.addi c0_i32_336 v411
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v413 : BitVec 32 := Scalar.muli v5 c2_i32_337
  let v414 : BitVec 32 := Scalar.addi v412 v413
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let c1_i32_338 : BitVec 32 := 1#32
  let v415 : BitVec 32 := Scalar.muli v57 c1_i32_338
  let v416 : BitVec 32 := Scalar.addi v414 v415
  v416.toNat
def k0_off24 (d0 : Dev nD) : Fin 3 → Nat :=
  let c4_i32_40 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let v64 : BitVec 32 := Scalar.muli c4_i32_40 v62
  let c2_i32_41 : BitVec 32 := 2#32
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let v65 : BitVec 32 := Scalar.muli c2_i32_41 v63
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.addi v66 v8
  let c0_i32_353 : BitVec 32 := 0#32
  let c0_i32_354 : BitVec 32 := 0#32
  ![v67.toNat, 0, 0]
def k0_dev27 (d0 : Dev nD) : Nat :=
  let c0_i32_348 : BitVec 32 := 0#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let c4_i32_347 : BitVec 32 := 4#32
  let v425 : BitVec 32 := Scalar.muli v62 c4_i32_347
  let v426 : BitVec 32 := Scalar.addi c0_i32_348 v425
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let c2_i32_349 : BitVec 32 := 2#32
  let v427 : BitVec 32 := Scalar.muli v63 c2_i32_349
  let v428 : BitVec 32 := Scalar.addi v426 v427
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v429 : BitVec 32 := Scalar.muli v8 c1_i32_350
  let v430 : BitVec 32 := Scalar.addi v428 v429
  v430.toNat
def k0_off25 (d0 : Dev nD) : Fin 3 → Nat :=
  let c4_i32_45 : BitVec 32 := 4#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let v71 : BitVec 32 := Scalar.muli c4_i32_45 v68
  let c2_i32_46 : BitVec 32 := 2#32
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let v72 : BitVec 32 := Scalar.muli c2_i32_46 v69
  let v73 : BitVec 32 := Scalar.addi v71 v72
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let v74 : BitVec 32 := Scalar.addi v73 v70
  let c0_i32_365 : BitVec 32 := 0#32
  let c0_i32_366 : BitVec 32 := 0#32
  ![v74.toNat, 0, 0]
def k0_dev28 (d0 : Dev nD) : Nat :=
  let c0_i32_360 : BitVec 32 := 0#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let c4_i32_359 : BitVec 32 := 4#32
  let v439 : BitVec 32 := Scalar.muli v68 c4_i32_359
  let v440 : BitVec 32 := Scalar.addi c0_i32_360 v439
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let c2_i32_361 : BitVec 32 := 2#32
  let v441 : BitVec 32 := Scalar.muli v69 c2_i32_361
  let v442 : BitVec 32 := Scalar.addi v440 v441
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let c1_i32_362 : BitVec 32 := 1#32
  let v443 : BitVec 32 := Scalar.muli v70 c1_i32_362
  let v444 : BitVec 32 := Scalar.addi v442 v443
  v444.toNat
def k0_off26 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v36 : BitVec 32 := Scalar.muli c4_i32_22 v2
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_23 v5
  let v38 : BitVec 32 := Scalar.addi v36 v37
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_21 v8
  let v39 : BitVec 32 := Scalar.addi v38 v35
  let c0_i32_375 : BitVec 32 := 0#32
  let c0_i32_376 : BitVec 32 := 0#32
  ![v39.toNat, 0, 0]
def k0_off27 (d0 : Dev nD) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_25 v2
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let v42 : BitVec 32 := Scalar.muli c2_i32_26 v40
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.addi v43 v8
  let c0_i32_385 : BitVec 32 := 0#32
  let c0_i32_386 : BitVec 32 := 0#32
  ![v44.toNat, 0, 0]
def k0_off28 (d0 : Dev nD) : Fin 3 → Nat :=
  let c4_i32_29 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.muli c4_i32_29 v2
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_27 v5
  let v48 : BitVec 32 := Scalar.muli c2_i32_30 v45
  let v49 : BitVec 32 := Scalar.addi v47 v48
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v46 : BitVec 32 := Scalar.subi c1_i32_28 v8
  let v50 : BitVec 32 := Scalar.addi v49 v46
  let c0_i32_395 : BitVec 32 := 0#32
  let c0_i32_396 : BitVec 32 := 0#32
  ![v50.toNat, 0, 0]
def k0_off29 (d0 : Dev nD) : Fin 3 → Nat :=
  let c4_i32_32 : BitVec 32 := 4#32
  let c1_i32_31 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v51 : BitVec 32 := Scalar.subi c1_i32_31 v2
  let v52 : BitVec 32 := Scalar.muli c4_i32_32 v51
  let c2_i32_33 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_33 v5
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v55 : BitVec 32 := Scalar.addi v54 v8
  let c0_i32_405 : BitVec 32 := 0#32
  let c0_i32_406 : BitVec 32 := 0#32
  ![v55.toNat, 0, 0]
def k0_off30 (d0 : Dev nD) : Fin 3 → Nat :=
  let c4_i32_36 : BitVec 32 := 4#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_34 v2
  let v58 : BitVec 32 := Scalar.muli c4_i32_36 v56
  let c2_i32_37 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v59 : BitVec 32 := Scalar.muli c2_i32_37 v5
  let v60 : BitVec 32 := Scalar.addi v58 v59
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v57 : BitVec 32 := Scalar.subi c1_i32_35 v8
  let v61 : BitVec 32 := Scalar.addi v60 v57
  let c0_i32_415 : BitVec 32 := 0#32
  let c0_i32_416 : BitVec 32 := 0#32
  ![v61.toNat, 0, 0]
def k0_off31 (d0 : Dev nD) : Fin 3 → Nat :=
  let c4_i32_40 : BitVec 32 := 4#32
  let c1_i32_38 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_38 v2
  let v64 : BitVec 32 := Scalar.muli c4_i32_40 v62
  let c2_i32_41 : BitVec 32 := 2#32
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_39 v5
  let v65 : BitVec 32 := Scalar.muli c2_i32_41 v63
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.addi v66 v8
  let c0_i32_425 : BitVec 32 := 0#32
  let c0_i32_426 : BitVec 32 := 0#32
  ![v67.toNat, 0, 0]
def k0_off32 (d0 : Dev nD) : Fin 3 → Nat :=
  let c4_i32_45 : BitVec 32 := 4#32
  let c1_i32_42 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v68 : BitVec 32 := Scalar.subi c1_i32_42 v2
  let v71 : BitVec 32 := Scalar.muli c4_i32_45 v68
  let c2_i32_46 : BitVec 32 := 2#32
  let c1_i32_43 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v69 : BitVec 32 := Scalar.subi c1_i32_43 v5
  let v72 : BitVec 32 := Scalar.muli c2_i32_46 v69
  let v73 : BitVec 32 := Scalar.addi v71 v72
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_44 v8
  let v74 : BitVec 32 := Scalar.addi v73 v70
  let c0_i32_435 : BitVec 32 := 0#32
  let c0_i32_436 : BitVec 32 := 0#32
  ![v74.toNat, 0, 0]
-- ==== Reference.lean ====
abbrev S17536x128 : Shape := ⟨2, ![17536, 128]⟩
abbrev S64x2048x768 : Shape := ⟨3, ![64, 2048, 768]⟩
abbrev S64x256x2048 : Shape := ⟨3, ![64, 256, 2048]⟩
abbrev S64x128x1024 : Shape := ⟨3, ![64, 128, 1024]⟩
abbrev S8x2192x128 : Shape := ⟨3, ![8, 2192, 128]⟩
abbrev S8x8x2048x768 : Shape := ⟨4, ![8, 8, 2048, 768]⟩
abbrev S8x8x256x2048 : Shape := ⟨4, ![8, 8, 256, 2048]⟩
abbrev S8x8x128x1024 : Shape := ⟨4, ![8, 8, 128, 1024]⟩

abbrev nBuf : Space → Nat
  | .hbm => 14
  | .vmem => 0
  | .smem => 0
  | _ => 0

abbrev bufTy : (tb : Table) → Fin (tcTables nBuf tb) → BufTy
  | .hbm, ⟨0, _⟩ => ⟨S17536x128, .f32⟩
  | .hbm, ⟨1, _⟩ => ⟨S64x2048x768, .f32⟩
  | .hbm, ⟨2, _⟩ => ⟨S64x256x2048, .f32⟩
  | .hbm, ⟨3, _⟩ => ⟨S64x128x1024, .f32⟩
  | .hbm, ⟨4, _⟩ => ⟨S8x2192x128, .f32⟩
  | .hbm, ⟨5, _⟩ => ⟨S8x8x2048x768, .f32⟩
  | .hbm, ⟨6, _⟩ => ⟨S8x8x2048x768, .f32⟩
  | .hbm, ⟨7, _⟩ => ⟨S64x2048x768, .f32⟩
  | .hbm, ⟨8, _⟩ => ⟨S8x8x256x2048, .f32⟩
  | .hbm, ⟨9, _⟩ => ⟨S8x8x256x2048, .f32⟩
  | .hbm, ⟨10, _⟩ => ⟨S64x256x2048, .f32⟩
  | .hbm, ⟨11, _⟩ => ⟨S8x8x128x1024, .f32⟩
  | .hbm, ⟨12, _⟩ => ⟨S8x8x128x1024, .f32⟩
  | .hbm, ⟨13, _⟩ => ⟨S64x128x1024, .f32⟩
  | _, _ => ⟨S17536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Gather.lean ====
abbrev S2048x768 : Shape := ⟨2, ![2048, 768]⟩
abbrev S256x2048 : Shape := ⟨2, ![256, 2048]⟩
abbrev S128x1024 : Shape := ⟨2, ![128, 1024]⟩
abbrev S8x128 : Shape := ⟨2, ![8, 128]⟩
abbrev S8x2048x768 : Shape := ⟨3, ![8, 2048, 768]⟩
abbrev S8x256x2048 : Shape := ⟨3, ![8, 256, 2048]⟩
abbrev S8x128x1024 : Shape := ⟨3, ![8, 128, 1024]⟩
abbrev S8x8x128 : Shape := ⟨3, ![8, 8, 128]⟩
abbrev S4x7 : Shape := ⟨2, ![4, 7]⟩
abbrev S4 : Shape := ⟨1, ![4]⟩
abbrev S1 : Shape := ⟨1, ![1]⟩
abbrev S_ : Shape := ⟨0, ![]⟩
abbrev S1x2048x768 : Shape := ⟨3, ![1, 2048, 768]⟩
abbrev S1x256x2048 : Shape := ⟨3, ![1, 256, 2048]⟩
abbrev S1x128x1024 : Shape := ⟨3, ![1, 128, 1024]⟩
abbrev S1x8x128 : Shape := ⟨3, ![1, 8, 128]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S256x2048, .bf16⟩
  | .hbm, ⟨2, _⟩ => ⟨S128x1024, .bf16⟩
  | .hbm, ⟨3, _⟩ => ⟨S8x128, .f32⟩
  | .hbm, ⟨4, _⟩ => ⟨S8x2048x768, .bf16⟩
  | .hbm, ⟨5, _⟩ => ⟨S8x256x2048, .bf16⟩
  | .hbm, ⟨6, _⟩ => ⟨S8x128x1024, .bf16⟩
  | .hbm, ⟨7, _⟩ => ⟨S8x8x128, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_8 : BitVec 32 := 0#32
  let c0_i32_9 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_11 : BitVec 32 := 0#32
  let c0_i32_12 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_13 : BitVec 32 := 0#32
  let c0_i32_14 : BitVec 32 := 0#32
  ![v12.toNat, 0, 0]
def k0_dev1 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v69 : BitVec 32 := Scalar.muli v2 c4_i32_45
  let v70 : BitVec 32 := Scalar.addi c0_i32_46 v69
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v71 : BitVec 32 := Scalar.muli v5 c2_i32_47
  let v72 : BitVec 32 := Scalar.addi v70 v71
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_48 : BitVec 32 := 1#32
  let v73 : BitVec 32 := Scalar.muli v29 c1_i32_48
  let v74 : BitVec 32 := Scalar.addi v72 v73
  v74.toNat
def k0_dev2 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v81 : BitVec 32 := Scalar.muli v2 c4_i32_55
  let v82 : BitVec 32 := Scalar.addi c0_i32_56 v81
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let c2_i32_57 : BitVec 32 := 2#32
  let v83 : BitVec 32 := Scalar.muli v34 c2_i32_57
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v85 : BitVec 32 := Scalar.muli v8 c1_i32_58
  let v86 : BitVec 32 := Scalar.addi v84 v85
  v86.toNat
def k0_dev3 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v93 : BitVec 32 := Scalar.muli v2 c4_i32_65
  let v94 : BitVec 32 := Scalar.addi c0_i32_66 v93
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let c2_i32_67 : BitVec 32 := 2#32
  let v95 : BitVec 32 := Scalar.muli v39 c2_i32_67
  let v96 : BitVec 32 := Scalar.addi v94 v95
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let c1_i32_68 : BitVec 32 := 1#32
  let v97 : BitVec 32 := Scalar.muli v40 c1_i32_68
  let v98 : BitVec 32 := Scalar.addi v96 v97
  v98.toNat
def k0_dev4 (d0 : Dev nD) : Nat :=
  let c0_i32_76 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let c4_i32_75 : BitVec 32 := 4#32
  let v105 : BitVec 32 := Scalar.muli v45 c4_i32_75
  let v106 : BitVec 32 := Scalar.addi c0_i32_76 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v107 : BitVec 32 := Scalar.muli v5 c2_i32_77
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v109 : BitVec 32 := Scalar.muli v8 c1_i32_78
  let v110 : BitVec 32 := Scalar.addi v108 v109
  v110.toNat
def k0_dev5 (d0 : Dev nD) : Nat :=
  let c0_i32_86 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let c4_i32_85 : BitVec 32 := 4#32
  let v117 : BitVec 32 := Scalar.muli v50 c4_i32_85
  let v118 : BitVec 32 := Scalar.addi c0_i32_86 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v119 : BitVec 32 := Scalar.muli v5 c2_i32_87
  let v120 : BitVec 32 := Scalar.addi v118 v119
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let c1_i32_88 : BitVec 32 := 1#32
  let v121 : BitVec 32 := Scalar.muli v51 c1_i32_88
  let v122 : BitVec 32 := Scalar.addi v120 v121
  v122.toNat
def k0_dev6 (d0 : Dev nD) : Nat :=
  let c0_i32_95 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_94 : BitVec 32 := 4#32
  let v129 : BitVec 32 := Scalar.muli v56 c4_i32_94
  let v130 : BitVec 32 := Scalar.addi c0_i32_95 v129
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_96 : BitVec 32 := 2#32
  let v131 : BitVec 32 := Scalar.muli v57 c2_i32_96
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v133 : BitVec 32 := Scalar.muli v8 c1_i32_97
  let v134 : BitVec 32 := Scalar.addi v132 v133
  v134.toNat
def k0_dev7 (d0 : Dev nD) : Nat :=
  let c0_i32_104 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let c4_i32_103 : BitVec 32 := 4#32
  let v141 : BitVec 32 := Scalar.muli v62 c4_i32_103
  let v142 : BitVec 32 := Scalar.addi c0_i32_104 v141
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let c2_i32_105 : BitVec 32 := 2#32
  let v143 : BitVec 32 := Scalar.muli v63 c2_i32_105
  let v144 : BitVec 32 := Scalar.addi v142 v143
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let c1_i32_106 : BitVec 32 := 1#32
  let v145 : BitVec 32 := Scalar.muli v64 c1_i32_106
  let v146 : BitVec 32 := Scalar.addi v144 v145
  v146.toNat
def k0_dev8 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v153 : BitVec 32 := Scalar.muli v2 c4_i32_113
  let v154 : BitVec 32 := Scalar.addi c0_i32_114 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v155 : BitVec 32 := Scalar.muli v5 c2_i32_115
  let v156 : BitVec 32 := Scalar.addi v154 v155
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_116 : BitVec 32 := 1#32
  let v157 : BitVec 32 := Scalar.muli v29 c1_i32_116
  let v158 : BitVec 32 := Scalar.addi v156 v157
  v158.toNat
def k0_dev9 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v165 : BitVec 32 := Scalar.muli v2 c4_i32_123
  let v166 : BitVec 32 := Scalar.addi c0_i32_124 v165
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let c2_i32_125 : BitVec 32 := 2#32
  let v167 : BitVec 32 := Scalar.muli v34 c2_i32_125
  let v168 : BitVec 32 := Scalar.addi v166 v167
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v169 : BitVec 32 := Scalar.muli v8 c1_i32_126
  let v170 : BitVec 32 := Scalar.addi v168 v169
  v170.toNat
def k0_dev10 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v177 : BitVec 32 := Scalar.muli v2 c4_i32_133
  let v178 : BitVec 32 := Scalar.addi c0_i32_134 v177
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let c2_i32_135 : BitVec 32 := 2#32
  let v179 : BitVec 32 := Scalar.muli v39 c2_i32_135
  let v180 : BitVec 32 := Scalar.addi v178 v179
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let c1_i32_136 : BitVec 32 := 1#32
  let v181 : BitVec 32 := Scalar.muli v40 c1_i32_136
  let v182 : BitVec 32 := Scalar.addi v180 v181
  v182.toNat
def k0_dev11 (d0 : Dev nD) : Nat :=
  let c0_i32_144 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let c4_i32_143 : BitVec 32 := 4#32
  let v189 : BitVec 32 := Scalar.muli v45 c4_i32_143
  let v190 : BitVec 32 := Scalar.addi c0_i32_144 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_145 : BitVec 32 := 2#32
  let v191 : BitVec 32 := Scalar.muli v5 c2_i32_145
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v193 : BitVec 32 := Scalar.muli v8 c1_i32_146
  let v194 : BitVec 32 := Scalar.addi v192 v193
  v194.toNat
def k0_dev12 (d0 : Dev nD) : Nat :=
  let c0_i32_154 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let c4_i32_153 : BitVec 32 := 4#32
  let v201 : BitVec 32 := Scalar.muli v50 c4_i32_153
  let v202 : BitVec 32 := Scalar.addi c0_i32_154 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v203 : BitVec 32 := Scalar.muli v5 c2_i32_155
  let v204 : BitVec 32 := Scalar.addi v202 v203
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let c1_i32_156 : BitVec 32 := 1#32
  let v205 : BitVec 32 := Scalar.muli v51 c1_i32_156
  let v206 : BitVec 32 := Scalar.addi v204 v205
  v206.toNat
def k0_dev13 (d0 : Dev nD) : Nat :=
  let c0_i32_164 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_163 : BitVec 32 := 4#32
  let v213 : BitVec 32 := Scalar.muli v56 c4_i32_163
  let v214 : BitVec 32 := Scalar.addi c0_i32_164 v213
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_165 : BitVec 32 := 2#32
  let v215 : BitVec 32 := Scalar.muli v57 c2_i32_165
  let v216 : BitVec 32 := Scalar.addi v214 v215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v217 : BitVec 32 := Scalar.muli v8 c1_i32_166
  let v218 : BitVec 32 := Scalar.addi v216 v217
  v218.toNat
def k0_dev14 (d0 : Dev nD) : Nat :=
  let c0_i32_174 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let c4_i32_173 : BitVec 32 := 4#32
  let v225 : BitVec 32 := Scalar.muli v62 c4_i32_173
  let v226 : BitVec 32 := Scalar.addi c0_i32_174 v225
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let c2_i32_175 : BitVec 32 := 2#32
  let v227 : BitVec 32 := Scalar.muli v63 c2_i32_175
  let v228 : BitVec 32 := Scalar.addi v226 v227
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let c1_i32_176 : BitVec 32 := 1#32
  let v229 : BitVec 32 := Scalar.muli v64 c1_i32_176
  let v230 : BitVec 32 := Scalar.addi v228 v229
  v230.toNat
def k0_dev15 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v237 : BitVec 32 := Scalar.muli v2 c4_i32_183
  let v238 : BitVec 32 := Scalar.addi c0_i32_184 v237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_185 : BitVec 32 := 2#32
  let v239 : BitVec 32 := Scalar.muli v5 c2_i32_185
  let v240 : BitVec 32 := Scalar.addi v238 v239
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_186 : BitVec 32 := 1#32
  let v241 : BitVec 32 := Scalar.muli v29 c1_i32_186
  let v242 : BitVec 32 := Scalar.addi v240 v241
  v242.toNat
def k0_dev16 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v249 : BitVec 32 := Scalar.muli v2 c4_i32_193
  let v250 : BitVec 32 := Scalar.addi c0_i32_194 v249
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let c2_i32_195 : BitVec 32 := 2#32
  let v251 : BitVec 32 := Scalar.muli v34 c2_i32_195
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v253 : BitVec 32 := Scalar.muli v8 c1_i32_196
  let v254 : BitVec 32 := Scalar.addi v252 v253
  v254.toNat
def k0_dev17 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v261 : BitVec 32 := Scalar.muli v2 c4_i32_203
  let v262 : BitVec 32 := Scalar.addi c0_i32_204 v261
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let c2_i32_205 : BitVec 32 := 2#32
  let v263 : BitVec 32 := Scalar.muli v39 c2_i32_205
  let v264 : BitVec 32 := Scalar.addi v262 v263
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let c1_i32_206 : BitVec 32 := 1#32
  let v265 : BitVec 32 := Scalar.muli v40 c1_i32_206
  let v266 : BitVec 32 := Scalar.addi v264 v265
  v266.toNat
def k0_dev18 (d0 : Dev nD) : Nat :=
  let c0_i32_214 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let c4_i32_213 : BitVec 32 := 4#32
  let v273 : BitVec 32 := Scalar.muli v45 c4_i32_213
  let v274 : BitVec 32 := Scalar.addi c0_i32_214 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v275 : BitVec 32 := Scalar.muli v5 c2_i32_215
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v277 : BitVec 32 := Scalar.muli v8 c1_i32_216
  let v278 : BitVec 32 := Scalar.addi v276 v277
  v278.toNat
def k0_dev19 (d0 : Dev nD) : Nat :=
  let c0_i32_224 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let c4_i32_223 : BitVec 32 := 4#32
  let v285 : BitVec 32 := Scalar.muli v50 c4_i32_223
  let v286 : BitVec 32 := Scalar.addi c0_i32_224 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v287 : BitVec 32 := Scalar.muli v5 c2_i32_225
  let v288 : BitVec 32 := Scalar.addi v286 v287
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let c1_i32_226 : BitVec 32 := 1#32
  let v289 : BitVec 32 := Scalar.muli v51 c1_i32_226
  let v290 : BitVec 32 := Scalar.addi v288 v289
  v290.toNat
def k0_dev20 (d0 : Dev nD) : Nat :=
  let c0_i32_234 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_233 : BitVec 32 := 4#32
  let v297 : BitVec 32 := Scalar.muli v56 c4_i32_233
  let v298 : BitVec 32 := Scalar.addi c0_i32_234 v297
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_235 : BitVec 32 := 2#32
  let v299 : BitVec 32 := Scalar.muli v57 c2_i32_235
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_236 : BitVec 32 := 1#32
  let v301 : BitVec 32 := Scalar.muli v8 c1_i32_236
  let v302 : BitVec 32 := Scalar.addi v300 v301
  v302.toNat
def k0_dev21 (d0 : Dev nD) : Nat :=
  let c0_i32_244 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let c4_i32_243 : BitVec 32 := 4#32
  let v309 : BitVec 32 := Scalar.muli v62 c4_i32_243
  let v310 : BitVec 32 := Scalar.addi c0_i32_244 v309
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let c2_i32_245 : BitVec 32 := 2#32
  let v311 : BitVec 32 := Scalar.muli v63 c2_i32_245
  let v312 : BitVec 32 := Scalar.addi v310 v311
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let c1_i32_246 : BitVec 32 := 1#32
  let v313 : BitVec 32 := Scalar.muli v64 c1_i32_246
  let v314 : BitVec 32 := Scalar.addi v312 v313
  v314.toNat
def k0_dev22 (d0 : Dev nD) : Nat :=
  let c0_i32_254 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_253 : BitVec 32 := 4#32
  let v321 : BitVec 32 := Scalar.muli v2 c4_i32_253
  let v322 : BitVec 32 := Scalar.addi c0_i32_254 v321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v323 : BitVec 32 := Scalar.muli v5 c2_i32_255
  let v324 : BitVec 32 := Scalar.addi v322 v323
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1_i32_256 : BitVec 32 := 1#32
  let v325 : BitVec 32 := Scalar.muli v29 c1_i32_256
  let v326 : BitVec 32 := Scalar.addi v324 v325
  v326.toNat
def k0_dev23 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v333 : BitVec 32 := Scalar.muli v2 c4_i32_263
  let v334 : BitVec 32 := Scalar.addi c0_i32_264 v333
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let c2_i32_265 : BitVec 32 := 2#32
  let v335 : BitVec 32 := Scalar.muli v34 c2_i32_265
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v337 : BitVec 32 := Scalar.muli v8 c1_i32_266
  let v338 : BitVec 32 := Scalar.addi v336 v337
  v338.toNat
def k0_dev24 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v345 : BitVec 32 := Scalar.muli v2 c4_i32_273
  let v346 : BitVec 32 := Scalar.addi c0_i32_274 v345
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let c2_i32_275 : BitVec 32 := 2#32
  let v347 : BitVec 32 := Scalar.muli v39 c2_i32_275
  let v348 : BitVec 32 := Scalar.addi v346 v347
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let c1_i32_276 : BitVec 32 := 1#32
  let v349 : BitVec 32 := Scalar.muli v40 c1_i32_276
  let v350 : BitVec 32 := Scalar.addi v348 v349
  v350.toNat
def k0_dev25 (d0 : Dev nD) : Nat :=
  let c0_i32_284 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let c4_i32_283 : BitVec 32 := 4#32
  let v357 : BitVec 32 := Scalar.muli v45 c4_i32_283
  let v358 : BitVec 32 := Scalar.addi c0_i32_284 v357
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v359 : BitVec 32 := Scalar.muli v5 c2_i32_285
  let v360 : BitVec 32 := Scalar.addi v358 v359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v361 : BitVec 32 := Scalar.muli v8 c1_i32_286
  let v362 : BitVec 32 := Scalar.addi v360 v361
  v362.toNat
def k0_dev26 (d0 : Dev nD) : Nat :=
  let c0_i32_294 : BitVec 32 := 0#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let c4_i32_293 : BitVec 32 := 4#32
  let v369 : BitVec 32 := Scalar.muli v50 c4_i32_293
  let v370 : BitVec 32 := Scalar.addi c0_i32_294 v369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v371 : BitVec 32 := Scalar.muli v5 c2_i32_295
  let v372 : BitVec 32 := Scalar.addi v370 v371
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let c1_i32_296 : BitVec 32 := 1#32
  let v373 : BitVec 32 := Scalar.muli v51 c1_i32_296
  let v374 : BitVec 32 := Scalar.addi v372 v373
  v374.toNat
def k0_dev27 (d0 : Dev nD) : Nat :=
  let c0_i32_304 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let c4_i32_303 : BitVec 32 := 4#32
  let v381 : BitVec 32 := Scalar.muli v56 c4_i32_303
  let v382 : BitVec 32 := Scalar.addi c0_i32_304 v381
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let c2_i32_305 : BitVec 32 := 2#32
  let v383 : BitVec 32 := Scalar.muli v57 c2_i32_305
  let v384 : BitVec 32 := Scalar.addi v382 v383
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_306 : BitVec 32 := 1#32
  let v385 : BitVec 32 := Scalar.muli v8 c1_i32_306
  let v386 : BitVec 32 := Scalar.addi v384 v385
  v386.toNat
def k0_dev28 (d0 : Dev nD) : Nat :=
  let c0_i32_314 : BitVec 32 := 0#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let c4_i32_313 : BitVec 32 := 4#32
  let v393 : BitVec 32 := Scalar.muli v62 c4_i32_313
  let v394 : BitVec 32 := Scalar.addi c0_i32_314 v393
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let c2_i32_315 : BitVec 32 := 2#32
  let v395 : BitVec 32 := Scalar.muli v63 c2_i32_315
  let v396 : BitVec 32 := Scalar.addi v394 v395
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let c1_i32_316 : BitVec 32 := 1#32
  let v397 : BitVec 32 := Scalar.muli v64 c1_i32_316
  let v398 : BitVec 32 := Scalar.addi v396 v397
  v398.toNat
def k0_off5 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let v33 : BitVec 32 := Scalar.addi v32 v29
  let c0_i32_327 : BitVec 32 := 0#32
  let c0_i32_328 : BitVec 32 := 0#32
  ![v33.toNat, 0, 0]
def k0_off6 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_19 v2
  let c2_i32_20 : BitVec 32 := 2#32
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let v36 : BitVec 32 := Scalar.muli c2_i32_20 v34
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.addi v37 v8
  let c0_i32_337 : BitVec 32 := 0#32
  let c0_i32_338 : BitVec 32 := 0#32
  ![v38.toNat, 0, 0]
def k0_off7 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_23 v2
  let c2_i32_24 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let v42 : BitVec 32 := Scalar.muli c2_i32_24 v39
  let v43 : BitVec 32 := Scalar.addi v41 v42
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let v44 : BitVec 32 := Scalar.addi v43 v40
  let c0_i32_347 : BitVec 32 := 0#32
  let c0_i32_348 : BitVec 32 := 0#32
  ![v44.toNat, 0, 0]
def k0_off8 (d0 : Dev nD) : Fin 3 → Nat :=
  let c4_i32_26 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let v46 : BitVec 32 := Scalar.muli c4_i32_26 v45
  let c2_i32_27 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.muli c2_i32_27 v5
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_357 : BitVec 32 := 0#32
  let c0_i32_358 : BitVec 32 := 0#32
  ![v49.toNat, 0, 0]
def k0_off9 (d0 : Dev nD) : Fin 3 → Nat :=
  let c4_i32_30 : BitVec 32 := 4#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let v52 : BitVec 32 := Scalar.muli c4_i32_30 v50
  let c2_i32_31 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_31 v5
  let v54 : BitVec 32 := Scalar.addi v52 v53
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let v55 : BitVec 32 := Scalar.addi v54 v51
  let c0_i32_367 : BitVec 32 := 0#32
  let c0_i32_368 : BitVec 32 := 0#32
  ![v55.toNat, 0, 0]
def k0_off10 (d0 : Dev nD) : Fin 3 → Nat :=
  let c4_i32_34 : BitVec 32 := 4#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let v58 : BitVec 32 := Scalar.muli c4_i32_34 v56
  let c2_i32_35 : BitVec 32 := 2#32
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let v59 : BitVec 32 := Scalar.muli c2_i32_35 v57
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.addi v60 v8
  let c0_i32_377 : BitVec 32 := 0#32
  let c0_i32_378 : BitVec 32 := 0#32
  ![v61.toNat, 0, 0]
def k0_off11 (d0 : Dev nD) : Fin 3 → Nat :=
  let c4_i32_39 : BitVec 32 := 4#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let v65 : BitVec 32 := Scalar.muli c4_i32_39 v62
  let c2_i32_40 : BitVec 32 := 2#32
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let v66 : BitVec 32 := Scalar.muli c2_i32_40 v63
  let v67 : BitVec 32 := Scalar.addi v65 v66
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let v68 : BitVec 32 := Scalar.addi v67 v64
  let c0_i32_387 : BitVec 32 := 0#32
  let c0_i32_388 : BitVec 32 := 0#32
  ![v68.toNat, 0, 0]
def k0_off12 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let v33 : BitVec 32 := Scalar.addi v32 v29
  let c0_i32_397 : BitVec 32 := 0#32
  let c0_i32_398 : BitVec 32 := 0#32
  ![v33.toNat, 0, 0]
def k0_off13 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_19 v2
  let c2_i32_20 : BitVec 32 := 2#32
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let v36 : BitVec 32 := Scalar.muli c2_i32_20 v34
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.addi v37 v8
  let c0_i32_407 : BitVec 32 := 0#32
  let c0_i32_408 : BitVec 32 := 0#32
  ![v38.toNat, 0, 0]
def k0_off14 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_23 v2
  let c2_i32_24 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let v42 : BitVec 32 := Scalar.muli c2_i32_24 v39
  let v43 : BitVec 32 := Scalar.addi v41 v42
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let v44 : BitVec 32 := Scalar.addi v43 v40
  let c0_i32_417 : BitVec 32 := 0#32
  let c0_i32_418 : BitVec 32 := 0#32
  ![v44.toNat, 0, 0]
def k0_off15 (d0 : Dev nD) : Fin 3 → Nat :=
  let c4_i32_26 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let v46 : BitVec 32 := Scalar.muli c4_i32_26 v45
  let c2_i32_27 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.muli c2_i32_27 v5
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_427 : BitVec 32 := 0#32
  let c0_i32_428 : BitVec 32 := 0#32
  ![v49.toNat, 0, 0]
def k0_off16 (d0 : Dev nD) : Fin 3 → Nat :=
  let c4_i32_30 : BitVec 32 := 4#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let v52 : BitVec 32 := Scalar.muli c4_i32_30 v50
  let c2_i32_31 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_31 v5
  let v54 : BitVec 32 := Scalar.addi v52 v53
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let v55 : BitVec 32 := Scalar.addi v54 v51
  let c0_i32_437 : BitVec 32 := 0#32
  let c0_i32_438 : BitVec 32 := 0#32
  ![v55.toNat, 0, 0]
def k0_off17 (d0 : Dev nD) : Fin 3 → Nat :=
  let c4_i32_34 : BitVec 32 := 4#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let v58 : BitVec 32 := Scalar.muli c4_i32_34 v56
  let c2_i32_35 : BitVec 32 := 2#32
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let v59 : BitVec 32 := Scalar.muli c2_i32_35 v57
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.addi v60 v8
  let c0_i32_447 : BitVec 32 := 0#32
  let c0_i32_448 : BitVec 32 := 0#32
  ![v61.toNat, 0, 0]
def k0_off18 (d0 : Dev nD) : Fin 3 → Nat :=
  let c4_i32_39 : BitVec 32 := 4#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let v65 : BitVec 32 := Scalar.muli c4_i32_39 v62
  let c2_i32_40 : BitVec 32 := 2#32
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let v66 : BitVec 32 := Scalar.muli c2_i32_40 v63
  let v67 : BitVec 32 := Scalar.addi v65 v66
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let v68 : BitVec 32 := Scalar.addi v67 v64
  let c0_i32_457 : BitVec 32 := 0#32
  let c0_i32_458 : BitVec 32 := 0#32
  ![v68.toNat, 0, 0]
def k0_off19 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let v33 : BitVec 32 := Scalar.addi v32 v29
  let c0_i32_467 : BitVec 32 := 0#32
  let c0_i32_468 : BitVec 32 := 0#32
  ![v33.toNat, 0, 0]
def k0_off20 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_19 v2
  let c2_i32_20 : BitVec 32 := 2#32
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let v36 : BitVec 32 := Scalar.muli c2_i32_20 v34
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.addi v37 v8
  let c0_i32_477 : BitVec 32 := 0#32
  let c0_i32_478 : BitVec 32 := 0#32
  ![v38.toNat, 0, 0]
def k0_off21 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_23 v2
  let c2_i32_24 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let v42 : BitVec 32 := Scalar.muli c2_i32_24 v39
  let v43 : BitVec 32 := Scalar.addi v41 v42
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let v44 : BitVec 32 := Scalar.addi v43 v40
  let c0_i32_487 : BitVec 32 := 0#32
  let c0_i32_488 : BitVec 32 := 0#32
  ![v44.toNat, 0, 0]
def k0_off22 (d0 : Dev nD) : Fin 3 → Nat :=
  let c4_i32_26 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let v46 : BitVec 32 := Scalar.muli c4_i32_26 v45
  let c2_i32_27 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.muli c2_i32_27 v5
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_497 : BitVec 32 := 0#32
  let c0_i32_498 : BitVec 32 := 0#32
  ![v49.toNat, 0, 0]
def k0_off23 (d0 : Dev nD) : Fin 3 → Nat :=
  let c4_i32_30 : BitVec 32 := 4#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let v52 : BitVec 32 := Scalar.muli c4_i32_30 v50
  let c2_i32_31 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_31 v5
  let v54 : BitVec 32 := Scalar.addi v52 v53
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let v55 : BitVec 32 := Scalar.addi v54 v51
  let c0_i32_507 : BitVec 32 := 0#32
  let c0_i32_508 : BitVec 32 := 0#32
  ![v55.toNat, 0, 0]
def k0_off24 (d0 : Dev nD) : Fin 3 → Nat :=
  let c4_i32_34 : BitVec 32 := 4#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let v58 : BitVec 32 := Scalar.muli c4_i32_34 v56
  let c2_i32_35 : BitVec 32 := 2#32
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let v59 : BitVec 32 := Scalar.muli c2_i32_35 v57
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.addi v60 v8
  let c0_i32_517 : BitVec 32 := 0#32
  let c0_i32_518 : BitVec 32 := 0#32
  ![v61.toNat, 0, 0]
def k0_off25 (d0 : Dev nD) : Fin 3 → Nat :=
  let c4_i32_39 : BitVec 32 := 4#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let v65 : BitVec 32 := Scalar.muli c4_i32_39 v62
  let c2_i32_40 : BitVec 32 := 2#32
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let v66 : BitVec 32 := Scalar.muli c2_i32_40 v63
  let v67 : BitVec 32 := Scalar.addi v65 v66
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let v68 : BitVec 32 := Scalar.addi v67 v64
  let c0_i32_527 : BitVec 32 := 0#32
  let c0_i32_528 : BitVec 32 := 0#32
  ![v68.toNat, 0, 0]
def k0_off26 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let v33 : BitVec 32 := Scalar.addi v32 v29
  let c0_i32_537 : BitVec 32 := 0#32
  let c0_i32_538 : BitVec 32 := 0#32
  ![v33.toNat, 0, 0]
def k0_off27 (d0 : Dev nD) : Fin 3 → Nat :=
  let c4_i32_19 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_19 v2
  let c2_i32_20 : BitVec 32 := 2#32
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_18 v5
  let v36 : BitVec 32 := Scalar.muli c2_i32_20 v34
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v38 : BitVec 32 := Scalar.addi v37 v8
  let c0_i32_547 : BitVec 32 := 0#32
  let c0_i32_548 : BitVec 32 := 0#32
  ![v38.toNat, 0, 0]
def k0_off28 (d0 : Dev nD) : Fin 3 → Nat :=
  let c4_i32_23 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c4_i32_23 v2
  let c2_i32_24 : BitVec 32 := 2#32
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.subi c1_i32_21 v5
  let v42 : BitVec 32 := Scalar.muli c2_i32_24 v39
  let v43 : BitVec 32 := Scalar.addi v41 v42
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_22 v8
  let v44 : BitVec 32 := Scalar.addi v43 v40
  let c0_i32_557 : BitVec 32 := 0#32
  let c0_i32_558 : BitVec 32 := 0#32
  ![v44.toNat, 0, 0]
def k0_off29 (d0 : Dev nD) : Fin 3 → Nat :=
  let c4_i32_26 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_25 v2
  let v46 : BitVec 32 := Scalar.muli c4_i32_26 v45
  let c2_i32_27 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.muli c2_i32_27 v5
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_567 : BitVec 32 := 0#32
  let c0_i32_568 : BitVec 32 := 0#32
  ![v49.toNat, 0, 0]
def k0_off30 (d0 : Dev nD) : Fin 3 → Nat :=
  let c4_i32_30 : BitVec 32 := 4#32
  let c1_i32_28 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_28 v2
  let v52 : BitVec 32 := Scalar.muli c4_i32_30 v50
  let c2_i32_31 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c2_i32_31 v5
  let v54 : BitVec 32 := Scalar.addi v52 v53
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_29 v8
  let v55 : BitVec 32 := Scalar.addi v54 v51
  let c0_i32_577 : BitVec 32 := 0#32
  let c0_i32_578 : BitVec 32 := 0#32
  ![v55.toNat, 0, 0]
def k0_off31 (d0 : Dev nD) : Fin 3 → Nat :=
  let c4_i32_34 : BitVec 32 := 4#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v56 : BitVec 32 := Scalar.subi c1_i32_32 v2
  let v58 : BitVec 32 := Scalar.muli c4_i32_34 v56
  let c2_i32_35 : BitVec 32 := 2#32
  let c1_i32_33 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_33 v5
  let v59 : BitVec 32 := Scalar.muli c2_i32_35 v57
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.addi v60 v8
  let c0_i32_587 : BitVec 32 := 0#32
  let c0_i32_588 : BitVec 32 := 0#32
  ![v61.toNat, 0, 0]
def k0_off32 (d0 : Dev nD) : Fin 3 → Nat :=
  let c4_i32_39 : BitVec 32 := 4#32
  let c1_i32_36 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v62 : BitVec 32 := Scalar.subi c1_i32_36 v2
  let v65 : BitVec 32 := Scalar.muli c4_i32_39 v62
  let c2_i32_40 : BitVec 32 := 2#32
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v63 : BitVec 32 := Scalar.subi c1_i32_37 v5
  let v66 : BitVec 32 := Scalar.muli c2_i32_40 v63
  let v67 : BitVec 32 := Scalar.addi v65 v66
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_38 v8
  let v68 : BitVec 32 := Scalar.addi v67 v64
  let c0_i32_597 : BitVec 32 := 0#32
  let c0_i32_598 : BitVec 32 := 0#32
  ![v68.toNat, 0, 0]
-- ==== GatherReference.lean ====
abbrev S2048x6144 : Shape := ⟨2, ![2048, 6144]⟩
abbrev S2048x2048 : Shape := ⟨2, ![2048, 2048]⟩
abbrev S1024x1024 : Shape := ⟨2, ![1024, 1024]⟩
abbrev S8x1024 : Shape := ⟨2, ![8, 1024]⟩
abbrev S2048x8x768 : Shape := ⟨3, ![2048, 8, 768]⟩
abbrev S8x2048x768 : Shape := ⟨3, ![8, 2048, 768]⟩
abbrev S8x256x2048 : Shape := ⟨3, ![8, 256, 2048]⟩
abbrev S8x128x1024 : Shape := ⟨3, ![8, 128, 1024]⟩
abbrev S8x8x128 : Shape := ⟨3, ![8, 8, 128]⟩

abbrev nBuf : Space → Nat
  | .hbm => 10
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S1024x1024, .bf16⟩
  | .hbm, ⟨3, _⟩ => ⟨S8x1024, .f32⟩
  | .hbm, ⟨4, _⟩ => ⟨S2048x8x768, .bf16⟩
  | .hbm, ⟨5, _⟩ => ⟨S8x2048x768, .bf16⟩
  | .hbm, ⟨6, _⟩ => ⟨S8x256x2048, .bf16⟩
  | .hbm, ⟨7, _⟩ => ⟨S8x128x1024, .bf16⟩
  | .hbm, ⟨8, _⟩ => ⟨S8x8x128, .f32⟩
  | .hbm, ⟨9, _⟩ => ⟨S8x8x128, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpdateIn.lean ====
abbrev S8x2048x768 : Shape := ⟨3, ![8, 2048, 768]⟩
abbrev S2048x768 : Shape := ⟨2, ![2048, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S8x256x768, .f32⟩
  | .local _ .vmem, ⟨1, _⟩ => ⟨S8x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateInReferenceIdeal.lean ====
abbrev S8x2048x768 : Shape := ⟨3, ![8, 2048, 768]⟩
abbrev S2048x768 : Shape := ⟨2, ![2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .f32⟩
  | .local _ .vmem, ⟨1, _⟩ => ⟨S8x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateOutReferenceIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateGlu.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateGluReferenceIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Sum.lean ====
abbrev S8x2192x128 : Shape := ⟨3, ![8, 2192, 128]⟩
abbrev S2192x128 : Shape := ⟨2, ![2192, 128]⟩
abbrev S1x2192x128 : Shape := ⟨3, ![1, 2192, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2192x128, .f32⟩
  | .hbm, ⟨1, _⟩ => ⟨S2192x128, .f32⟩
  | .local _ .vmem, ⟨0, _⟩ => ⟨S8x2192x128, .f32⟩
  | .local _ .vmem, ⟨1, _⟩ => ⟨S2192x128, .f32⟩
  | _, _ => ⟨S8x2192x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumReferenceIdeal.lean ====
abbrev S8x2192x128 : Shape := ⟨3, ![8, 2192, 128]⟩
abbrev S_ : Shape := ⟨0, ![]⟩
abbrev S2192x128 : Shape := ⟨2, ![2192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2192x128, .f32⟩
  | .hbm, ⟨1, _⟩ => ⟨S_, .f32⟩
  | .hbm, ⟨2, _⟩ => ⟨S2192x128, .f32⟩
  | _, _ => ⟨S8x2192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Back.lean ====
abbrev S4096x6144 : Shape := ⟨2, ![4096, 6144]⟩
abbrev S8x2048x768 : Shape := ⟨3, ![8, 2048, 768]⟩
abbrev S4096x2048 : Shape := ⟨2, ![4096, 2048]⟩
abbrev S1x2048 : Shape := ⟨2, ![1, 2048]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩
abbrev S512 : Shape := ⟨1, ![512]⟩
abbrev S512x1 : Shape := ⟨2, ![512, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x6144, .bf16⟩
  | .hbm, ⟨1, _⟩ => ⟨S8x2048x768, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== BackReferenceIdeal.lean ====
abbrev S4096x6144 : Shape := ⟨2, ![4096, 6144]⟩
abbrev S8x2048x768 : Shape := ⟨3, ![8, 2048, 768]⟩
abbrev S4096x2048 : Shape := ⟨2, ![4096, 2048]⟩
abbrev S1x2048 : Shape := ⟨2, ![1, 2048]⟩
abbrev S2048x8x768 : Shape := ⟨3, ![2048, 8, 768]⟩
abbrev S2048x6144 : Shape := ⟨2, ![2048, 6144]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x2048x768, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048x8x768, .bf16⟩
  | .hbm, ⟨6, _⟩ => ⟨S2048x6144, .bf16⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== WeightIn.lean ====
abbrev S4096x2048 : Shape := ⟨2, ![4096, 2048]⟩
abbrev S4096x6144 : Shape := ⟨2, ![4096, 6144]⟩
abbrev S8x2048x768 : Shape := ⟨3, ![8, 2048, 768]⟩
abbrev S512x512 : Shape := ⟨2, ![512, 512]⟩
abbrev S512x768 : Shape := ⟨2, ![512, 768]⟩
abbrev S1x512x768 : Shape := ⟨3, ![1, 512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .f32⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S1x512x768, .f32⟩
  | .local _ .vmem, ⟨5, _⟩ => ⟨S1x512x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightInReferenceIdeal.lean ====
abbrev S4096x2048 : Shape := ⟨2, ![4096, 2048]⟩
abbrev S4096x6144 : Shape := ⟨2, ![4096, 6144]⟩
abbrev S2048x6144 : Shape := ⟨2, ![2048, 6144]⟩
abbrev S2048x8x768 : Shape := ⟨3, ![2048, 8, 768]⟩
abbrev S8x2048x768 : Shape := ⟨3, ![8, 2048, 768]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .f32⟩
  | .hbm, ⟨3, _⟩ => ⟨S2048x8x768, .f32⟩
  | .hbm, ⟨4, _⟩ => ⟨S8x2048x768, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WeightOut.lean ====
abbrev S4096x2048 : Shape := ⟨2, ![4096, 2048]⟩
abbrev S8x256x2048 : Shape := ⟨3, ![8, 256, 2048]⟩
abbrev S512x256 : Shape := ⟨2, ![512, 256]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x256x2048, .f32⟩
  | .local _ .vmem, ⟨0, _⟩ => ⟨S512x256, .bf16⟩
  | .local _ .vmem, ⟨1, _⟩ => ⟨S512x256, .bf16⟩
  | .local _ .vmem, ⟨2, _⟩ => ⟨S512x2048, .bf16⟩
  | .local _ .vmem, ⟨3, _⟩ => ⟨S512x2048, .bf16⟩
  | .local _ .vmem, ⟨4, _⟩ => ⟨S1x256x2048, .f32⟩
  | .local _ .vmem, ⟨5, _⟩ => ⟨S1x256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WeightOutReferenceIdeal.lean ====
abbrev S4096x2048 : Shape := ⟨2, ![4096, 2048]⟩
abbrev S2048x2048 : Shape := ⟨2, ![2048, 2048]⟩
abbrev S8x256x2048 : Shape := ⟨3, ![8, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .hbm, ⟨3, _⟩ => ⟨S8x256x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WeightGlu.lean ====
abbrev S4096x1024 : Shape := ⟨2, ![4096, 1024]⟩
abbrev S8x128x1024 : Shape := ⟨3, ![8, 128, 1024]⟩
abbrev S512x128 : Shape := ⟨2, ![512, 128]⟩
abbrev S512x1024 : Shape := ⟨2, ![512, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .f32⟩
  | .local _ .vmem, ⟨0, _⟩ => ⟨S512x128, .bf16⟩
  | .local _ .vmem, ⟨1, _⟩ => ⟨S512x128, .bf16⟩
  | .local _ .vmem, ⟨2, _⟩ => ⟨S512x1024, .bf16⟩
  | .local _ .vmem, ⟨3, _⟩ => ⟨S512x1024, .bf16⟩
  | .local _ .vmem, ⟨4, _⟩ => ⟨S1x128x1024, .f32⟩
  | .local _ .vmem, ⟨5, _⟩ => ⟨S1x128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WeightGluReferenceIdeal.lean ====
abbrev S4096x1024 : Shape := ⟨2, ![4096, 1024]⟩
abbrev S1024x1024 : Shape := ⟨2, ![1024, 1024]⟩
abbrev S8x128x1024 : Shape := ⟨3, ![8, 128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S8x128x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Prep.lean ====
abbrev S64x1x64 : Shape := ⟨3, ![64, 1, 64]⟩
abbrev S64x1x1 : Shape := ⟨3, ![64, 1, 1]⟩
abbrev S64x16x64 : Shape := ⟨3, ![64, 16, 64]⟩

abbrev nBuf : Space → Nat
  | .hbm => 11
  | .vmem => 11
  | .smem => 0
  | _ => 0

abbrev bufTy : (tb : Table) → Fin (tcTables nBuf tb) → BufTy
  | .hbm, ⟨0, _⟩ => ⟨S64x1x64, .f32⟩
  | .hbm, ⟨1, _⟩ => ⟨S64x1x64, .f32⟩
  | .hbm, ⟨2, _⟩ => ⟨S64x1x1, .f32⟩
  | .hbm, ⟨3, _⟩ => ⟨S64x16x64, .f32⟩
  | .hbm, ⟨4, _⟩ => ⟨S64x16x64, .f32⟩
  | .hbm, ⟨5, _⟩ => ⟨S64x1x64, .f32⟩
  | .hbm, ⟨6, _⟩ => ⟨S64x1x64, .f32⟩
  | .hbm, ⟨7, _⟩ => ⟨S64x1x64, .f32⟩
  | .hbm, ⟨8, _⟩ => ⟨S64x1x64, .f32⟩
  | .hbm, ⟨9, _⟩ => ⟨S64x16x64, .f32⟩
  | .hbm, ⟨10, _⟩ => ⟨S64x16x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x1x64, .f32⟩
  | .local _ .vmem, ⟨8, _⟩ => ⟨S64x1x64, .f32⟩
  | .local _ .vmem, ⟨9, _⟩ => ⟨S64x16x64, .f32⟩
  | .local _ .vmem, ⟨10, _⟩ => ⟨S64x16x64, .f32⟩
  | _, _ => ⟨S64x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== PrepReferenceIdeal.lean ====
abbrev S64x1x64 : Shape := ⟨3, ![64, 1, 64]⟩
abbrev S64x1x1 : Shape := ⟨3, ![64, 1, 1]⟩
abbrev S64x16x64 : Shape := ⟨3, ![64, 16, 64]⟩
abbrev S64x64 : Shape := ⟨2, ![64, 64]⟩
abbrev S64x1 : Shape := ⟨2, ![64, 1]⟩
abbrev S64x64x16 : Shape := ⟨3, ![64, 64, 16]⟩
abbrev S_ : Shape := ⟨0, ![]⟩
abbrev S64x64x1 : Shape := ⟨3, ![64, 64, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x1x64, .f32⟩
  | .hbm, ⟨1, _⟩ => ⟨S64x1x64, .f32⟩
  | .hbm, ⟨2, _⟩ => ⟨S64x1x1, .f32⟩
  | .hbm, ⟨3, _⟩ => ⟨S64x16x64, .f32⟩
  | .hbm, ⟨4, _⟩ => ⟨S64x16x64, .f32⟩
  | .hbm, ⟨5, _⟩ => ⟨S64x64, .f32⟩
  | .hbm, ⟨6, _⟩ => ⟨S64x64, .f32⟩
  | .hbm, ⟨7, _⟩ => ⟨S64x1, .f32⟩
  | .hbm, ⟨8, _⟩ => ⟨S64x1, .f32⟩
  | .hbm, ⟨9, _⟩ => ⟨S64x64x16, .f32⟩
  | .hbm, ⟨10, _⟩ => ⟨S64x64x16, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x1, .f32⟩
  | .hbm, ⟨44, _⟩ => ⟨S64x64x16, .f32⟩
  | .hbm, ⟨45, _⟩ => ⟨S64x64x16, .f32⟩
  | .hbm, ⟨46, _⟩ => ⟨S64x64x1, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S64x1x64, .f32⟩
  | .hbm, ⟨51, _⟩ => ⟨S64x1x64, .f32⟩
  | .hbm, ⟨52, _⟩ => ⟨S64x1x64, .f32⟩
  | .hbm, ⟨53, _⟩ => ⟨S64x1x64, .f32⟩
  | .hbm, ⟨54, _⟩ => ⟨S64x16x64, .f32⟩
  | .hbm, ⟨55, _⟩ => ⟨S64x16x64, .f32⟩
  | _, _ => ⟨S64x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩

abbrev nD : Nat := 1
abbrev τ : Topo := Topo.v7x

variable {F : FTy → Type} [FloatOps F]
-- ==== Conv.lean ====
abbrev S4096x6144 : Shape := ⟨2, ![4096, 6144]⟩
abbrev S8x1024 : Shape := ⟨2, ![8, 1024]⟩
abbrev S1x1024 : Shape := ⟨2, ![1, 1024]⟩
abbrev S4096x1024 : Shape := ⟨2, ![4096, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩

abbrev nBuf : Space → Nat
  | .hbm => 4
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S8x1024, .f32⟩
  | .hbm, ⟨2, _⟩ => ⟨S1x1024, .f32⟩
  | .hbm, ⟨3, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvReferenceIdeal.lean ====
abbrev S4096x6144 : Shape := ⟨2, ![4096, 6144]⟩
abbrev S8x1024 : Shape := ⟨2, ![8, 1024]⟩
abbrev S1x1024 : Shape := ⟨2, ![1, 1024]⟩
abbrev S512x8x6144 : Shape := ⟨3, ![512, 8, 6144]⟩
abbrev S8x512x6144 : Shape := ⟨3, ![8, 512, 6144]⟩
abbrev S4096x4096 : Shape := ⟨2, ![4096, 4096]⟩
abbrev S4096x1024 : Shape := ⟨2, ![4096, 1024]⟩
abbrev S_ : Shape := ⟨0, ![]⟩
abbrev S4098x1024 : Shape := ⟨2, ![4098, 1024]⟩
abbrev S1024 : Shape := ⟨1, ![1024]⟩
abbrev S8x512x1024 : Shape := ⟨3, ![8, 512, 1024]⟩
abbrev S512x8x1024 : Shape := ⟨3, ![512, 8, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S8x1024, .f32⟩
  | .hbm, ⟨2, _⟩ => ⟨S1x1024, .f32⟩
  | .hbm, ⟨3, _⟩ => ⟨S512x8x6144, .f32⟩
  | .hbm, ⟨4, _⟩ => ⟨S8x512x6144, .f32⟩
  | .hbm, ⟨5, _⟩ => ⟨S4096x6144, .f32⟩
  | .hbm, ⟨6, _⟩ => ⟨S4096x4096, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .i32⟩
  | .hbm, ⟨13, _⟩ => ⟨S_, .f32⟩
  | .hbm, ⟨14, _⟩ => ⟨S4098x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S8x512x1024, .f32⟩
  | .hbm, ⟨49, _⟩ => ⟨S512x8x1024, .f32⟩
  | .hbm, ⟨50, _⟩ => ⟨S4096x1024, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst : Ref sig .tc := ⟨.hbm, 40, rfl⟩
abbrev main_v35 : Ref sig .tc := ⟨.hbm, 41, rfl⟩
abbrev main_v36 : Ref sig .tc := ⟨.hbm, 42, rfl⟩
abbrev main_cst_0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== ConvBack.lean ====
abbrev S4096x6144 : Shape := ⟨2, ![4096, 6144]⟩
abbrev S4096x1024 : Shape := ⟨2, ![4096, 1024]⟩
abbrev S8x1024 : Shape := ⟨2, ![8, 1024]⟩
abbrev S1x1024 : Shape := ⟨2, ![1, 1024]⟩
abbrev S4096x128 : Shape := ⟨2, ![4096, 128]⟩
abbrev S8x128 : Shape := ⟨2, ![8, 128]⟩
abbrev S1x128 : Shape := ⟨2, ![1, 128]⟩
abbrev S4088x128 : Shape := ⟨2, ![4088, 128]⟩
abbrev S128 : Shape := ⟨1, ![128]⟩
abbrev S5x128 : Shape := ⟨2, ![5, 128]⟩

abbrev nBuf : Space → Nat
  | .hbm => 10
  | .vmem => 26
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S8x1024, .f32⟩
  | .hbm, ⟨3, _⟩ => ⟨S1x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S1x1024, .f32⟩
  | .hbm, ⟨9, _⟩ => ⟨S8x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S8x128, .f32⟩
  | .local _ .vmem, ⟨11, _⟩ => ⟨S8x128, .f32⟩
  | .local _ .vmem, ⟨12, _⟩ => ⟨S1x128, .f32⟩
  | .local _ .vmem, ⟨13, _⟩ => ⟨S1x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S1x128, .f32⟩
  | .local _ .vmem, ⟨23, _⟩ => ⟨S1x128, .f32⟩
  | .local _ .vmem, ⟨24, _⟩ => ⟨S8x128, .f32⟩
  | .local _ .vmem, ⟨25, _⟩ => ⟨S8x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvBackReferenceIdeal.lean ====
abbrev S4096x6144 : Shape := ⟨2, ![4096, 6144]⟩
abbrev S4096x1024 : Shape := ⟨2, ![4096, 1024]⟩
abbrev S8x1024 : Shape := ⟨2, ![8, 1024]⟩
abbrev S1x1024 : Shape := ⟨2, ![1, 1024]⟩
abbrev S512x8x6144 : Shape := ⟨3, ![512, 8, 6144]⟩
abbrev S8x512x6144 : Shape := ⟨3, ![8, 512, 6144]⟩
abbrev S4096x4096 : Shape := ⟨2, ![4096, 4096]⟩
abbrev S512x8x1024 : Shape := ⟨3, ![512, 8, 1024]⟩
abbrev S8x512x1024 : Shape := ⟨3, ![8, 512, 1024]⟩
abbrev S_ : Shape := ⟨0, ![]⟩
abbrev S4098x1024 : Shape := ⟨2, ![4098, 1024]⟩
abbrev S1024 : Shape := ⟨1, ![1024]⟩
abbrev S3x1024 : Shape := ⟨2, ![3, 1024]⟩

abbrev nBuf : Space → Nat
  | .hbm => 133
  | .vmem => 0
  | .smem => 0
  | _ => 0

abbrev hbmTy0_0 (i : Nat) : BufTy := match i % 128 with
  | 0 => ⟨S4096x6144, .f32⟩
  | 1 => ⟨S4096x1024, .f32⟩
  | 2 => ⟨S8x1024, .f32⟩
  | 3 => ⟨S1x1024, .f32⟩
  | 4 => ⟨S512x8x6144, .f32⟩
  | 5 => ⟨S8x512x6144, .f32⟩
  | 6 => ⟨S4096x6144, .f32⟩
  | 7 => ⟨S4096x4096, .f32⟩
  | 8 => ⟨S4096x1024, .f32⟩
  | 9 => ⟨S4096x1024, .f32⟩
  | 10 => ⟨S4096x1024, .f32⟩
  | 11 => ⟨S4096x1024, .f32⟩
  | 12 => ⟨S512x8x1024, .f32⟩
  | 13 => ⟨S8x512x1024, .f32⟩
  | 14 => ⟨S4096x1024, .f32⟩
  | 15 => ⟨S4096x1024, .f32⟩
  | 16 => ⟨S_, .i32⟩
  | 17 => ⟨S_, .f32⟩
  | 18 => ⟨S4098x1024, .f32⟩
  | 19 => ⟨S1x1024, .f32⟩
  | 20 => ⟨S1024, .f32⟩
  | 21 => ⟨S1x1024, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S1x1024, .f32⟩
  | 28 => ⟨S1024, .f32⟩
  | 29 => ⟨S1x1024, .f32⟩
  | 30 => ⟨S4096x1024, .f32⟩
  | 31 => ⟨S4096x1024, .f32⟩
  | 32 => ⟨S4096x1024, .f32⟩
  | 33 => ⟨S4096x1024, .f32⟩
  | 34 => ⟨S1x1024, .f32⟩
  | 35 => ⟨S1024, .f32⟩
  | 36 => ⟨S1x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .i32⟩
  | 64 => ⟨S_, .f32⟩
  | 65 => ⟨S4098x1024, .f32⟩
  | 66 => ⟨S_, .i32⟩
  | 67 => ⟨S_, .f32⟩
  | 68 => ⟨S4098x1024, .f32⟩
  | 69 => ⟨S1x1024, .f32⟩
  | 70 => ⟨S1024, .f32⟩
  | 71 => ⟨S1x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S1x1024, .f32⟩
  | 79 => ⟨S1024, .f32⟩
  | 80 => ⟨S1x1024, .f32⟩
  | 81 => ⟨S4096x1024, .f32⟩
  | 82 => ⟨S4096x1024, .f32⟩
  | 83 => ⟨S4096x1024, .f32⟩
  | 84 => ⟨S4096x1024, .f32⟩
  | 85 => ⟨S1x1024, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S4096x1024, .f32⟩
  | 97 => ⟨S4096x1024, .f32⟩
  | 98 => ⟨S_, .f32⟩
  | 99 => ⟨S1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S1x1024, .f32⟩
  | 106 => ⟨S1x1024, .f32⟩
  | 107 => ⟨S3x1024, .f32⟩
  | 108 => ⟨S4096x1024, .f32⟩
  | 109 => ⟨S8x512x1024, .f32⟩
  | 110 => ⟨S512x8x1024, .f32⟩
  | 111 => ⟨S4096x1024, .f32⟩
  | 112 => ⟨S4096x1024, .bf16⟩
  | 113 => ⟨S4096x1024, .f32⟩
  | 114 => ⟨S8x512x1024, .f32⟩
  | 115 => ⟨S512x8x1024, .f32⟩
  | 116 => ⟨S4096x1024, .f32⟩
  | 117 => ⟨S4096x1024, .bf16⟩
  | 118 => ⟨S4096x1024, .f32⟩
  | 119 => ⟨S8x512x1024, .f32⟩
  | 120 => ⟨S512x8x1024, .f32⟩
  | 121 => ⟨S4096x1024, .f32⟩
  | 122 => ⟨S4096x1024, .bf16⟩
  | 123 => ⟨S8x512x1024, .f32⟩
  | 124 => ⟨S512x8x1024, .f32⟩
  | 125 => ⟨S4096x1024, .f32⟩
  | 126 => ⟨S4096x1024, .bf16⟩
  | 127 => ⟨S_, .f32⟩
  | _ => ⟨S4096x6144, .f32⟩

abbrev hbmTy0_1 (i : Nat) : BufTy := match i % 128 with
  | 0 => ⟨S1024, .f32⟩
  | 1 => ⟨S1x1024, .f32⟩
  | 2 => ⟨S_, .i32⟩
  | 3 => ⟨S_, .f32⟩
  | 4 => ⟨S8x1024, .f32⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_v38 : Ref sig .tc := ⟨.hbm, 45, rfl⟩
abbrev main_cst_0 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_1 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c_3 : Ref sig .tc := ⟨.hbm, 63, rfl⟩
abbrev main_call1_v0 : Ref sig .tc := ⟨.hbm, 64, rfl⟩
abbrev main_v53 : Ref sig .tc := ⟨.hbm, 65, rfl⟩
abbrev main_c_4 : Ref sig .tc := ⟨.hbm, 66, rfl⟩
abbrev main_call2_v0 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_6 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_7 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_8 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_9 : Ref sig .tc := ⟨.hbm, 127, rfl⟩
abbrev main_v109 : Ref sig .tc := ⟨.hbm, 128, rfl⟩
abbrev main_v110 : Ref sig .tc := ⟨.hbm, 129, rfl⟩
abbrev main_c_10 : Ref sig .tc := ⟨.hbm, 130, rfl⟩
abbrev main_call3_v0 : Ref sig .tc := ⟨.hbm, 131, rfl⟩
abbrev main_v111 : Ref sig .tc := ⟨.hbm, 132, rfl⟩

abbrev nD : Nat := 1
abbrev τ : Topo := Topo.v7x

variable {F : FTy → Type} [FloatOps F]
-- ==== Loss.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== LossReferenceIdeal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Geometry.lean ====
/-
The exchange's geometry: the eight devices, each device's seven peers, the four arrays, the slot of an array a
copy reads or writes, and the elements under a slot.

Array by array: `pack` is copied whole to every device; of the three gradients, slot `j` goes to device `j`.
Device `c` writes slot `c` of the destination on every device.
-/
module

public import proofs.«01_k».proof.Proof.Gen.KernelIdeal
public import proofs.«01_k».proof.Proof.Gen.KernelIdeal.Skeleton
public import Idealize.ShloMosaic.Lib.ViewIndex
public import Idealize.ShloMosaic.Lib.ValueLayout

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.Sem

/-! ## Devices -/

/-- The `k`-th peer of device `c`: its number with the bits of `k + 1` flipped. -/
def peer (c : Dev nD) (k : Fin 7) : Dev nD := ⟨c.val ^^^ (k.val + 1), by revert c k; decide⟩

theorem peer_peer (c : Dev nD) (k : Fin 7) : peer (peer c k) k = c := by revert c k; decide
theorem peer_ne (c : Dev nD) (k : Fin 7) : peer c k ≠ c := by revert c k; decide
theorem peer_inj (c : Dev nD) : Function.Injective (peer c) := by revert c; decide

/-- Flipping the bits of `k + 1` permutes the devices. -/
def flip (k : Fin 7) : Dev nD ≃ Dev nD := ⟨(peer · k), (peer · k), (peer_peer · k), (peer_peer · k)⟩

/-- Every device is `c` itself or one of its peers. -/
def around (c : Dev nD) : Option (Fin 7) → Dev nD := fun o => o.elim c (peer c)
theorem around_bijective (c : Dev nD) : Function.Bijective (around c) := by
  rw [Fintype.bijective_iff_injective_and_card]
  refine ⟨?_, by decide⟩
  rintro (_ | k) (_ | k') h
  · rfl
  · exact absurd h.symm (peer_ne c k')
  · exact absurd h (peer_ne c k)
  · exact congrArg some (peer_inj c h)

/-- The devices as `c` and its peers. -/
def aroundEquiv (c : Dev nD) : Option (Fin 7) ≃ Dev nD := Equiv.ofBijective (around c) (around_bijective c)

/-! ## Arrays -/

/-- The four arrays of the exchange. -/
inductive Arr | pack | dwin | dwout | dwglu
  deriving DecidableEq

instance : Fintype Arr := ⟨{.pack, .dwin, .dwout, .dwglu}, fun t => by cases t <;> decide⟩

/-- An array's number in the semaphore tables. -/
def Arr.ix : Arr → Fin 4 | .pack => 0 | .dwin => 1 | .dwout => 2 | .dwglu => 3

/-- The shape one copy moves. -/
abbrev blk : Arr → Shape
  | .pack => S2192x128
  | .dwin => S2048x768
  | .dwout => S256x2048
  | .dwglu => S128x1024

/-! ## Slots -/

section Slot

variable {A B : ℕ}

theorem slot_inb (j : Dev nD) : ∀ a : Fin 3, (![j.val, 0, 0] : Fin 3 → ℕ) a + (![1, A, B] : Fin 3 → ℕ) a ≤ (![8, A, B] : Fin 3 → ℕ) a := by
  have hj : j.val < 8 := j.isLt
  intro a
  match a with
  | ⟨0, _⟩ => show j.val + 1 ≤ 8; omega
  | ⟨1, _⟩ => show 0 + A ≤ A; omega
  | ⟨2, _⟩ => show 0 + B ≤ B; omega

/-- Slot `j` of a stack of eight matrices. -/
abbrev slotM (M : Memref sig .tc .hbm ⟨3, ![8, A, B]⟩ .f32) (h : (⟨3, ![1, A, B]⟩ : Shape).Squeezes ⟨2, ![A, B]⟩) (j : Dev nD) :
    Memref sig .tc .hbm ⟨2, ![A, B]⟩ .f32 :=
  (M.slice (Rect.unit (s := ⟨3, ![8, A, B]⟩) ![j.val, 0, 0] ![1, A, B] (slot_inb j)) (fun _ => rfl)).squeeze ⟨2, ![A, B]⟩ h

/-- The element of a stack under an index of slot `j`. -/
theorem slot_emb (M : Memref sig .tc .hbm ⟨3, ![8, A, B]⟩ .f32) (h : (⟨3, ![1, A, B]⟩ : Shape).Squeezes ⟨2, ![A, B]⟩) (j : Dev nD)
    (a : Fin A) (b : Fin B) : (slotM M h j).view.emb (ix2 a b) = M.view.emb (ix3 (j : Fin 8) a b) := by
  show M.view.emb ((Rect.unit (s := ⟨3, ![8, A, B]⟩) ![j.val, 0, 0] ![1, A, B] (slot_inb j)).emb (Shape.reshapeEquiv h.numel_eq (ix2 a b))) = _
  rw [reshapeEquiv_ix2_1ab]
  congr 1
  refine Shape.idx3_ext ?_ ?_ ?_
  · show j.val + 1 * 0 = j.val; omega
  · show 0 + 1 * a.val = a.val; omega
  · show 0 + 1 * b.val = b.val; omega

variable {Val : EltTy → Type}

/-- The elements under slot `j` of a whole buffer are those whose first coordinate is `j`; a write of the slot puts
    `w a b` at `(j, a, b)`. So contents `f` that hold `w` there agree with the written contents on the slot. -/
theorem slot_write (M : Memref sig .tc .hbm ⟨3, ![8, A, B]⟩ .f32) (h : (⟨3, ![1, A, B]⟩ : Shape).Squeezes ⟨2, ![A, B]⟩) (j : Dev nD)
    (fd f : M.view.ty.Contents Val) (w : (⟨2, ![A, B]⟩ : Shape).Idx → Val .f32)
    (hf : ∀ a b, M.view.read Val f (ix3 (j : Fin 8) a b) = w (ix2 a b)) :
    ∀ i ∈ (slotM M h j).view.set, (slotM M h j).view.write Val fd w Finset.univ i = f i := by
  intro i hi
  obtain ⟨x, -, rfl⟩ := Finset.mem_map.mp hi
  obtain ⟨a, b, rfl⟩ : ∃ (a : Fin A) (b : Fin B), x = ix2 a b := ⟨x 0, x 1, eq_ix2 x⟩
  have h1 : (slotM M h j).view.read Val ((slotM M h j).view.write Val fd w Finset.univ) (ix2 a b) = w (ix2 a b) :=
    View.read_write_of_mem (v := (slotM M h j).view) fd w (Finset.mem_univ _)
  have h2 : (slotM M h j).view.read Val f (ix2 a b) = w (ix2 a b) := by
    rw [← hf a b, View.read_apply, View.read_apply]
    congr 1
    exact congrArg f (slot_emb M h j a b)
  exact View.eq_of_read_eq (h1.trans h2.symm)

end Slot

/-! ## What the copies read and write -/

section Copies

/-- What `c` copies to device `j`: the whole pack, or slot `j` of a gradient. -/
abbrev srcM : (t : Arr) → Dev nD → Memref sig .tc .hbm (blk t) .f32
  | .pack, _ => Memref.whole main_arg0
  | .dwin, j => slotM (Memref.whole main_arg1) squeezes_S1x2048x768_S2048x768 j
  | .dwout, j => slotM (Memref.whole main_arg2) squeezes_S1x256x2048_S256x2048 j
  | .dwglu, j => slotM (Memref.whole main_arg3) squeezes_S1x128x1024_S128x1024 j

/-- Where the copies that device `j` starts land, on every device: slot `j` of the result. -/
abbrev dstM : (t : Arr) → Dev nD → Memref sig .tc .hbm (blk t) .f32
  | .pack, j => slotM (Memref.whole main_v1_0) squeezes_S1x2192x128_S2192x128 j
  | .dwin, j => slotM (Memref.whole main_v1_1) squeezes_S1x2048x768_S2048x768 j
  | .dwout, j => slotM (Memref.whole main_v1_2) squeezes_S1x256x2048_S256x2048 j
  | .dwglu, j => slotM (Memref.whole main_v1_3) squeezes_S1x128x1024_S128x1024 j

theorem src_wordExact : ∀ (t : Arr) (j : Dev nD), (srcM t j).view.WordExact
  | .pack, _ => (Memref.isWhole_whole main_arg0).wordExact
  | .dwin, _ => (View.wordExact_bits rfl).reshape _ _
  | .dwout, _ => (View.wordExact_bits rfl).reshape _ _
  | .dwglu, _ => (View.wordExact_bits rfl).reshape _ _

theorem dst_wordExact : ∀ (t : Arr) (j : Dev nD), (dstM t j).view.WordExact
  | .pack, _ => (View.wordExact_bits rfl).reshape _ _
  | .dwin, _ => (View.wordExact_bits rfl).reshape _ _
  | .dwout, _ => (View.wordExact_bits rfl).reshape _ _
  | .dwglu, _ => (View.wordExact_bits rfl).reshape _ _

theorem dst_shared (t : Arr) (j : Dev nD) : (dstM t j).view.ref.isScScratch = false := by cases t <;> rfl

/-- What one copy of an array credits. -/
def credit (t : Arr) : ℕ := (dstM t 0).view.dmaCredit

theorem credit_pos (t : Arr) : 0 < credit t := by cases t <;> exact View.dmaCredit_pos _ (by decide)
theorem dst_credit (t : Arr) (j : Dev nD) : (dstM t j).view.dmaCredit = credit t := by cases t <;> rfl
theorem src_credit (t : Arr) (j : Dev nD) : (srcM t j).view.dmaCredit = credit t := by cases t <;> rfl

variable {F : FTy → Type} (m : (ℓ : Loc nD τ sig) → Buf (Elt F) ℓ)

/-- What device `c`'s result holds at the end: in slot `j`, device `j`'s pack, or slot `c` of device `j`'s gradient. -/
def gathered : (t : Arr) → (j c : Dev nD) → Buf (Elt F) ((dstM t j).view.loc (c : Thread nD τ))
  | .pack, _, _ => fun x : S8x2192x128.Idx => m ((Dev.tc (x 0) : Thread nD τ).loc main_arg0) (ix2 (x 1) (x 2))
  | .dwin, _, c => fun x : S8x2048x768.Idx => m ((Dev.tc (x 0) : Thread nD τ).loc main_arg1) (ix3 (c : Fin 8) (x 1) (x 2))
  | .dwout, _, c => fun x : S8x256x2048.Idx => m ((Dev.tc (x 0) : Thread nD τ).loc main_arg2) (ix3 (c : Fin 8) (x 1) (x 2))
  | .dwglu, _, c => fun x : S8x128x1024.Idx => m ((Dev.tc (x 0) : Thread nD τ).loc main_arg3) (ix3 (c : Fin 8) (x 1) (x 2))

/-- A copy by device `j` of what it has for device `c` lands as `gathered` says, on the slot it writes. -/
theorem lands (t : Arr) (j c : Dev nD) (fd : Buf (Elt F) ((dstM t j).view.loc (c : Thread nD τ))) :
    ∀ i ∈ (dstM t j).view.set,
      (dstM t j).view.write (Elt F) fd ((srcM t c).view.read (Elt F) (m ((srcM t c).view.loc (j : Thread nD τ)))) Finset.univ i
        = gathered m t j c i := by
  cases t
  · exact slot_write _ _ j fd _ _ fun a b => rfl
  · exact slot_write _ _ j fd _ _ fun a b => (congrArg _ (slot_emb (Memref.whole main_arg1) squeezes_S1x2048x768_S2048x768 c a b)).symm
  · exact slot_write _ _ j fd _ _ fun a b => (congrArg _ (slot_emb (Memref.whole main_arg2) squeezes_S1x256x2048_S256x2048 c a b)).symm
  · exact slot_write _ _ j fd _ _ fun a b => (congrArg _ (slot_emb (Memref.whole main_arg3) squeezes_S1x128x1024_S128x1024 c a b)).symm

end Copies

end Cert.Exchange

end
-- ==== Proof.Program.lean ====
/-
The kernel body as five lists of operations: a device starts its four local copies, then its 28 remote copies,
and then waits for the 28 copies that its peers send it, for its own 28 to have left, and for the local ones.
-/
module

public import proofs.«01_k».proof.Proof.Geometry
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]

/-! ## The semaphores -/

/-- The semaphore device `c`'s copy of `x.1` to its peer `x.2` credits when it has left. -/
def sendSem (x : Arr × Fin 7) : DmaSem sig := (⟨7 * x.1.ix.val + x.2.val, by have := x.1.ix.isLt; have := x.2.isLt; omega⟩ : Fin 60)
/-- The semaphore that copy credits on the peer when it has landed. -/
def recvSem (x : Arr × Fin 7) : DmaSem sig := (⟨28 + (7 * x.1.ix.val + x.2.val), by have := x.1.ix.isLt; have := x.2.isLt; omega⟩ : Fin 60)
/-- The semaphore of a device's copy to itself. -/
def locSem (t : Arr) : DmaSem sig := (⟨56 + t.ix.val, by have := t.ix.isLt; omega⟩ : Fin 60)

/-! ## The operations -/

/-- Copy to the device's own slot. -/
abbrev locOp (d : Dev nD) (t : Arr) : TpuEff nD τ sig (Elt F) Λ₀ .tc PUnit :=
  .enqueueDma (srcM t d) (.here (dstM t d)) (.dma (locSem t)) (src_wordExact t d) (dst_wordExact t d) ⟨Or.inl rfl, trivial⟩

/-- Copy to a peer. -/
abbrev sendOp (d : Dev nD) (x : Arr × Fin 7) : TpuEff nD τ sig (Elt F) Λ₀ .tc PUnit :=
  .enqueueDma (srcM x.1 (peer d x.2)) (.remote (Dev.tc (peer d x.2)) (dstM x.1 d) (.dma (sendSem x)) (dst_shared x.1 d)) (.dma (recvSem x))
    (src_wordExact x.1 _) (dst_wordExact x.1 d) ⟨⟨rfl, Or.inl rfl⟩, trivial⟩

/-- Wait for a peer's copy to have landed. -/
abbrev recvWait (d : Dev nD) (x : Arr × Fin 7) : TpuEff nD τ sig (Elt F) Λ₀ .tc PUnit :=
  .waitDma2 (recvSem x) (srcM x.1 (peer d x.2)) (dstM x.1 (peer d x.2)) (src_wordExact x.1 _) (dst_wordExact x.1 _)

/-- Wait for a copy to a peer to have left. -/
abbrev sendWait (d : Dev nD) (x : Arr × Fin 7) : TpuEff nD τ sig (Elt F) Λ₀ .tc PUnit :=
  .waitDma2 (sendSem x) (dstM x.1 d) (srcM x.1 (peer d x.2)) (dst_wordExact x.1 _) (src_wordExact x.1 _)

/-- Wait for the local copy. -/
abbrev locWait (d : Dev nD) (t : Arr) : TpuEff nD τ sig (Elt F) Λ₀ .tc PUnit :=
  .waitDma2 (locSem t) (srcM t d) (dstM t d) (src_wordExact t _) (dst_wordExact t _)

/-! ## The program -/

/-- The operations `f` of a list's members in order, then `k`. -/
def each {α : Type} (f : α → TpuEff nD τ sig (Elt F) Λ₀ .tc PUnit) :
    List α → Prog (TpuEff nD τ sig (Elt F) Λ₀ .tc) PUnit → Prog (TpuEff nD τ sig (Elt F) Λ₀ .tc) PUnit
  | [], k => k
  | a :: l, k => .op (f a) fun _ => each f l k

abbrev arrs : List Arr := [.pack, .dwin, .dwout, .dwglu]
abbrev peersOf (t : Arr) : List (Arr × Fin 7) := [(t, 0), (t, 1), (t, 2), (t, 3), (t, 4), (t, 5), (t, 6)]
abbrev sends : List (Arr × Fin 7) := peersOf .pack ++ (peersOf .dwin ++ (peersOf .dwout ++ peersOf .dwglu))

/-- The exchange on device `d`. -/
def exchange (d : Dev nD) : Prog (TpuEff nD τ sig (Elt F) Λ₀ .tc) PUnit :=
  each (locOp d) arrs <| each (sendOp d) sends <| each (recvWait d) sends <| each (sendWait d) sends <| each (locWait d) arrs <| .ret ⟨⟩

/-! ## The printed body is that program -/

section Steps

variable {α : Type} {f : α → TpuEff nD τ sig (Elt F) Λ₀ .tc PUnit} {d : Dev nD} {K k : Prog (TpuEff nD τ sig (Elt F) Λ₀ .tc) PUnit}

theorem each_nil (h : K = k) : each f [] K = k := h

theorem loc_step {t : Arr} {l : List Arr} {src dst : Memref sig .tc .hbm (blk t) .f32} {s : DmaSem sig} {p₁ p₂ p₃}
    (h₁ : src = srcM t d) (h₂ : dst = dstM t d) (h₃ : s = locSem t) (h : each (locOp d) l K = k) :
    each (locOp d) (t :: l) K = .op (.enqueueDma src (.here dst) (.dma s) p₁ p₂ p₃) fun _ => k := by
  subst h₁ h₂ h₃ h; rfl

theorem send_step {x : Arr × Fin 7} {l : List (Arr × Fin 7)} {src dst : Memref sig .tc .hbm (blk x.1) .f32} {n : Dev nD} {s r : DmaSem sig} {p₀ p₁ p₂ p₃}
    (h₁ : src = srcM x.1 (peer d x.2)) (hn : n = peer d x.2) (h₂ : dst = dstM x.1 d) (h₃ : s = sendSem x) (h₄ : r = recvSem x) (h : each (sendOp d) l K = k) :
    each (sendOp d) (x :: l) K = .op (.enqueueDma src (.remote (Dev.tc n) dst (.dma s) p₀) (.dma r) p₁ p₂ p₃) fun _ => k := by
  subst h₁ hn h₂ h₃ h₄ h; rfl

theorem recv_step {x : Arr × Fin 7} {l : List (Arr × Fin 7)} {src dst : Memref sig .tc .hbm (blk x.1) .f32} {s : DmaSem sig} {p₁ p₂}
    (h₁ : src = srcM x.1 (peer d x.2)) (h₂ : dst = dstM x.1 (peer d x.2)) (h₃ : s = recvSem x) (h : each (recvWait d) l K = k) :
    each (recvWait d) (x :: l) K = .op (.waitDma2 s src dst p₁ p₂) fun _ => k := by
  subst h₁ h₂ h₃ h; rfl

theorem sent_step {x : Arr × Fin 7} {l : List (Arr × Fin 7)} {src dst : Memref sig .tc .hbm (blk x.1) .f32} {s : DmaSem sig} {p₁ p₂}
    (h₁ : src = dstM x.1 d) (h₂ : dst = srcM x.1 (peer d x.2)) (h₃ : s = sendSem x) (h : each (sendWait d) l K = k) :
    each (sendWait d) (x :: l) K = .op (.waitDma2 s src dst p₁ p₂) fun _ => k := by
  subst h₁ h₂ h₃ h; rfl

theorem kept_step {t : Arr} {l : List Arr} {src dst : Memref sig .tc .hbm (blk t) .f32} {s : DmaSem sig} {p₁ p₂}
    (h₁ : src = srcM t d) (h₂ : dst = dstM t d) (h₃ : s = locSem t) (h : each (locWait d) l K = k) :
    each (locWait d) (t :: l) K = .op (.waitDma2 s src dst p₁ p₂) fun _ => k := by
  subst h₁ h₂ h₃ h; rfl

/-- A slice of a stack at an offset that is a slot's is that slot. -/
theorem slot_at {A B : ℕ} (M : Memref sig .tc .hbm ⟨3, ![8, A, B]⟩ .f32) {j : Dev nD} {off : Fin 3 → ℕ} (h : off = ![j.val, 0, 0])
    (p : ∀ a, off a + (![1, A, B] : Fin 3 → ℕ) a ≤ (![8, A, B] : Fin 3 → ℕ) a) (hs) (q : (⟨3, ![1, A, B]⟩ : Shape).Squeezes ⟨2, ![A, B]⟩) :
    (M.slice (Rect.unit (s := ⟨3, ![8, A, B]⟩) off ![1, A, B] p) hs).squeeze ⟨2, ![A, B]⟩ q = slotM M q j := by
  subst h; rfl

end Steps

set_option maxHeartbeats 4000000 in
set_option maxRecDepth 65536 in
/-- Each operation in turn: its slots, its device and its semaphores, evaluated at every device. -/
theorem body_eq (t : Fin cfg0.N) : bodyAt0 (F := F) t = .op .deviceId fun d => exchange d := by
  simp only [bodyAt0, cc0_reduce_grads_eq_skeleton]
  unfold cc0_reduce_grads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel
  simp only [Prog.lift, Prog.bind_op, Prog.bind_ret, Prog.pure_eq_ret]
  refine congrArg (Prog.op _) (funext fun d => Eq.symm ?_)
  unfold exchange
  simp only [List.cons_append, List.nil_append]
  repeat'
    first
    | rfl
    | refine loc_step ?_ ?_ ?_ ?_
    | refine send_step ?_ ?_ ?_ ?_ ?_ ?_
    | refine recv_step ?_ ?_ ?_ ?_
    | refine sent_step ?_ ?_ ?_ ?_
    | refine kept_step ?_ ?_ ?_ ?_
    | refine each_nil ?_
    | exact slot_at _ (by revert d; decide +kernel) _ _ _
    | exact Fin.ext (by revert d; decide +kernel)

end Cert.Exchange

end
-- ==== Proof.Protocol.lean ====
/-
The exchange's protocol. Every DMA semaphore of a device is a cell with one round and one duty: the copy that
credits it. The copy's payload says what the wait hands back:
  a copy to a peer, on the sender's cell: the part of the array that was read;
  the same copy, on the peer's cell: the written slot, at the contents it will keep;
  a local copy: both.
The slots and the tokens are dealt before any device runs, so a copy needs no permission from its peer.
-/
module

public import proofs.«01_k».proof.Proof.Program
public import Idealize.ShloMosaic.Lib.ShareLeaves
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

/-- A device's semaphores: one per copy to a peer, one per copy from a peer, one per local copy. -/
abbrev Cell : Type := (Arr × Fin 7) ⊕ (Arr × Fin 7) ⊕ Arr
abbrev Cell.send (x : Arr × Fin 7) : Cell := .inl x
abbrev Cell.recv (x : Arr × Fin 7) : Cell := .inr (.inl x)
abbrev Cell.loc (t : Arr) : Cell := .inr (.inr t)

def semOf : Cell → DmaSem sig := Sum.elim sendSem (Sum.elim recvSem locSem)

theorem ix_injective : Function.Injective Arr.ix := by intro t t'; cases t <;> cases t' <;> first | (intro _; rfl) | (intro h; exact absurd h (by decide))

theorem semOf_injective : Function.Injective semOf := by
  intro k k' h
  have hv : (semOf k : Fin 60).val = (semOf k' : Fin 60).val := congrArg Fin.val h
  have hpair (x y : Arr × Fin 7) (h : 7 * x.1.ix.val + x.2.val = 7 * y.1.ix.val + y.2.val) : x = y := by
    have := x.2.isLt; have := y.2.isLt
    exact Prod.ext (ix_injective (Fin.ext (by omega))) (Fin.ext (by omega))
  rcases k with x | x | t <;> rcases k' with y | y | t'
  all_goals first
    | have h1 := x.1.ix.isLt; have h2 := x.2.isLt
    | have h1 := t.ix.isLt
  all_goals first
    | have h3 := y.1.ix.isLt; have h4 := y.2.isLt
    | have h3 := t'.ix.isLt
  all_goals simp only [semOf, Sum.elim_inl, Sum.elim_inr, sendSem, recvSem, locSem] at hv
  · exact congrArg Sum.inl (hpair x y hv)
  · omega
  · omega
  · omega
  · exact congrArg (fun z => Sum.inr (Sum.inl z)) (hpair x y (by omega))
  · omega
  · omega
  · omega
  · exact congrArg (fun z => Sum.inr (Sum.inr z)) (ix_injective (Fin.ext (by omega)))

instance : Nonempty Cell := ⟨Cell.loc .pack⟩

/-- The cell a DMA semaphore is. -/
def cellOfSem : DmaSem sig → Cell := Function.invFun semOf
theorem cellOfSem_semOf (k : Cell) : cellOfSem (semOf k) = k := Function.leftInverse_invFun semOf_injective k

/-- Device `c`'s cell `k`, on the machine. -/
abbrev at_ (c : Dev nD) (k : Cell) : GSem nD τ sig := ((c : Thread nD τ), .dma (semOf k))

/-- What is credited to a cell, and waited for. -/
def amt : Cell → ℕ := Sum.elim (fun x => credit x.1) (Sum.elim (fun x => credit x.1) credit)
theorem amt_pos (k : Cell) : 0 < amt k := by rcases k with x | x | t <;> exact credit_pos _

/-! ## Payloads -/

variable (m : (ℓ : Loc nD τ sig) → Buf (Elt F) ℓ)

/-- The share of an array that the copy to device `j` reads through: the pack is read by eight copies at once. -/
def shareTo : Arr → Dev nD → PosShare TreeShare
  | .pack, j => leaf 3 fullShare j
  | _, _ => fullShare

/-- What device `c`'s copy of `t` to device `j` reads. -/
def srcPts (c : Dev nD) (t : Arr) (j : Dev nD) : sProp 𝕄 :=
  (srcM t j).view.loc (c : Thread nD τ) ↦[(srcM t j).view.set]{shareTo t j} m ((srcM t j).view.loc (c : Thread nD τ))

/-- Slot `j` of device `c`'s result `t`, at contents `f`. -/
def slotPts (c : Dev nD) (t : Arr) (j : Dev nD) (f : Buf (Elt F) ((dstM t j).view.loc (c : Thread nD τ))) : sProp 𝕄 :=
  (dstM t j).view.loc (c : Thread nD τ) ↦[(dstM t j).view.set]{fullShare} f

/-- The slot before the exchange, and after it. -/
def slotOld (c : Dev nD) (t : Arr) (j : Dev nD) : sProp 𝕄 := slotPts c t j (m ((dstM t j).view.loc (c : Thread nD τ)))
def slotNew (c : Dev nD) (t : Arr) (j : Dev nD) : sProp 𝕄 := slotPts c t j (gathered m t j c)

instance (c : Dev nD) (t : Arr) (j : Dev nD) : BI.Storable (upEmb : UEmb _ 𝕄) (srcPts (F := F) m c t j) := by unfold srcPts; infer_instance
instance (c : Dev nD) (t : Arr) (j : Dev nD) : BI.Storable (upEmb : UEmb _ 𝕄) (slotOld (F := F) m c t j) := by unfold slotOld slotPts; infer_instance
instance (c : Dev nD) (t : Arr) (j : Dev nD) : BI.Storable (upEmb : UEmb _ 𝕄) (slotNew (F := F) m c t j) := by unfold slotNew slotPts; infer_instance

/-- What the wait on device `c`'s cell `k` hands back. -/
def pay (c : Dev nD) : Cell → sProp 𝕄
  | .inl x => srcPts m c x.1 (peer c x.2)
  | .inr (.inl x) => slotNew m c x.1 (peer c x.2)
  | .inr (.inr t) => iprop(slotNew m c t c ∗ srcPts m c t c)

instance (c : Dev nD) (k : Cell) : BI.Storable (upEmb : UEmb _ 𝕄) (pay (F := F) m c k) := by
  rcases k with x | x | t <;> unfold pay <;> infer_instance

theorem pay_send (c : Dev nD) (x : Arr × Fin 7) : pay m c (.send x) = srcPts m c x.1 (peer c x.2) := rfl
theorem pay_recv (c : Dev nD) (x : Arr × Fin 7) : pay m c (.recv x) = slotNew m c x.1 (peer c x.2) := rfl
theorem pay_loc (c : Dev nD) (t : Arr) : pay m c (.loc t) = iprop(slotNew m c t c ∗ srcPts m c t c) := rfl

/-! ## The schedule -/

def payAt (g : GSem nD τ sig) : sProp 𝕄 :=
  match g.2 with
  | .dma s => pay m g.1.1 (cellOfSem s)
  | .reg _ => iprop(emp)
def amtAt (g : GSem nD τ sig) : ℕ :=
  match g.2 with
  | .dma s => amt (cellOfSem s)
  | .reg _ => 1

instance (g : GSem nD τ sig) : BI.Storable (upEmb : UEmb _ 𝕄) (payAt (F := F) m g) := by
  unfold payAt; split <;> infer_instance

def sched : Rounds.Schedule (GSem nD τ sig) Unit 𝕄 where
  duties g r := if r = 0 ∧ g.1.2 = .tc then {()} else ∅
  unitless _ := False
  amount g _ _ := amtAt g
  payload g _ _ := payAt m g
  amount_pos g _ _ _ := by
    unfold amtAt; split
    · exact amt_pos _
    · exact Nat.one_pos

instance sched_storable (g : GSem nD τ sig) (r : ℕ) (d : Unit) : BI.Storable (upEmb : UEmb _ 𝕄) ((sched (F := F) m).payload g r d) := by
  show BI.Storable upEmb (payAt m g); infer_instance

section Sched
variable (c : Dev nD) (k : Cell)

theorem duties_eq : (sched (F := F) m).duties (at_ c k) 0 = {()} := by
  show (if 0 = 0 ∧ (at_ c k).1.2 = .tc then ({()} : Finset Unit) else ∅) = {()}
  exact if_pos ⟨rfl, rfl⟩
theorem duties_later (g : GSem nD τ sig) : ∀ r, 1 ≤ r → (sched (F := F) m).duties g r = ∅ := fun r hr => if_neg fun h => by omega
theorem duty_mem : () ∈ (sched (F := F) m).duties (at_ c k) 0 := by rw [duties_eq]; exact Finset.mem_singleton_self _
theorem amount_eq (u : Unit) : (sched (F := F) m).amount (at_ c k) 0 u = amt k := congrArg amt (cellOfSem_semOf k)
theorem payload_eq (u : Unit) : (sched (F := F) m).payload (at_ c k) 0 u = pay m c k := congrArg (pay m c) (cellOfSem_semOf k)
theorem expect_eq : (sched (F := F) m).expect (at_ c k) 0 = amt k := by
  unfold Schedule.expect Schedule.amountOf; rw [duties_eq, Finset.sum_singleton, amount_eq]
theorem rest_eq : bigSep ((sched (F := F) m).duties (at_ c k) 0 \ ∅) (fun u => (sched (F := F) m).payload (at_ c k) 0 u) = pay m c k := by
  rw [Finset.sdiff_empty, duties_eq, bigSep_singleton, payload_eq]

end Sched

/-! ## Resources along a list -/

/-- `Φ` of every member of a list. -/
def all {α : Type} (Φ : α → sProp 𝕄) : List α → sProp 𝕄
  | [] => iprop(emp)
  | a :: l => iprop(Φ a ∗ all Φ l)

theorem all_eq {α : Type} [Fintype α] [DecidableEq α] (Φ : α → sProp 𝕄) (l : List α) (hn : l.Nodup) (hl : l.toFinset = Finset.univ) :
    all Φ l = bigSep Finset.univ Φ := by
  rw [← hl]
  clear hl
  induction l with
  | nil => rw [List.toFinset_nil, BI.bigSep_empty]; rfl
  | cons a l ih =>
    rw [List.toFinset_cons, BI.bigSep_insert (by rw [List.mem_toFinset]; exact (List.nodup_cons.mp hn).1), ← ih (List.nodup_cons.mp hn).2]
    rfl

/-- What is known of every cell throughout: its invariant, and that its round has begun. -/
def Known (K : Dev nD × Cell → ℕ) : sProp 𝕄 :=
  iprop((bigSep Finset.univ fun ck : Dev nD × Cell => cellInv ER (sched m) (K ck) (at_ ck.1 ck.2))
    ∗ bigSep Finset.univ fun ck : Dev nD × Cell => reached ER (at_ ck.1 ck.2) 0)
instance (K : Dev nD × Cell → ℕ) : BI.Persistent (Known (F := F) m K) := by unfold Known; infer_instance

theorem known_inv (K : Dev nD × Cell → ℕ) (c : Dev nD) (k : Cell) : Known (F := F) m K ⊢ cellInv ER (sched m) (K (c, k)) (at_ c k) := by
  unfold Known
  iintro ⟨H, -⟩
  have h : (bigSep Finset.univ fun ck : Dev nD × Cell => (cellInv ER (sched m) (K ck) (at_ ck.1 ck.2) : sProp 𝕄))
      ⊢ cellInv ER (sched m) (K (c, k)) (at_ c k) := bigSep_elim (Finset.mem_univ (c, k))
  iapply h; iexact H
theorem known_reached (K : Dev nD × Cell → ℕ) (c : Dev nD) (k : Cell) : Known (F := F) m K ⊢ reached ER (at_ c k) 0 := by
  unfold Known
  iintro ⟨-, H⟩
  have h : (bigSep Finset.univ fun ck : Dev nD × Cell => (reached ER (at_ ck.1 ck.2) 0 : sProp 𝕄))
      ⊢ reached ER (at_ c k) 0 := bigSep_elim (Finset.mem_univ (c, k))
  iapply h; iexact H

abbrev creds (c : Dev nD) (k : Cell) : sProp 𝕄 := cred (tallyAt (at_ c k) () (amt k))
abbrev atStart (c : Dev nD) (k : Cell) : sProp 𝕄 := atPos ER (at_ c k) 0 ∅ 0
abbrev atEnd (c : Dev nD) (k : Cell) : sProp 𝕄 := atPos ER (at_ c k) (0 + 1) ∅ 0
abbrev token (c : Dev nD) (k : Cell) : sProp 𝕄 := dutyTok ER (at_ c k) 0 ()

/-- What a local copy takes. -/
def toKeep (c : Dev nD) (t : Arr) : sProp 𝕄 := iprop(srcPts m c t c ∗ slotOld m c t c ∗ token c (.loc t))
/-- What a copy to a peer takes. -/
def toSend (c : Dev nD) (x : Arr × Fin 7) : sProp 𝕄 :=
  iprop(srcPts m c x.1 (peer c x.2) ∗ slotOld m (peer c x.2) x.1 c ∗ token c (.send x) ∗ token (peer c x.2) (.recv x))

/-- What a device still owes its peers when the copies in `l` are to be started. -/
def owed (c : Dev nD) (l : List (Arr × Fin 7)) : CellTallies nD τ sig Unit := (l.map fun x => tallyAt (at_ (peer c x.2) (.recv x)) () (credit x.1)).sum

theorem owed_cons (c : Dev nD) (x : Arr × Fin 7) (l : List (Arr × Fin 7)) :
    owed c (x :: l) = owed c l + tallyAt (at_ (peer c x.2) (.recv x)) () (credit x.1) := by
  unfold owed; rw [List.map_cons, List.sum_cons, add_comm]

/-! ## The steps -/

section Steps

variable (c : Dev nD) (K : Dev nD × Cell → ℕ)

local notation "wp₀" => wp frame (wpE (defs₀ (F := F)) Variants.none (c : Thread nD τ) none) Set.univ

/-- One local copy: its part of the array and its slot go in, the credit for the wait comes out. -/
theorem step_local (t : Arr) {k : PUnit → Prog (TpuEff nD τ sig (Elt F) Λ₀ .tc) PUnit} {Q : PUnit → sProp 𝕄} :
    iprop(cellInv ER (sched m) (K (c, .loc t)) (at_ c (.loc t)) ∗ srcPts m c t c ∗ slotOld m c t c ∗ token c (.loc t) ∗ reached ER (at_ c (.loc t)) 0)
    ⊢ iprop((creds c (.loc t) -∗ wp₀ (k ⟨⟩) Q) -∗ wp₀ (.op (locOp c t) k) Q) := by
  unfold srcPts slotOld slotPts
  exact Rounds.wp_copy_pointsTo Variants.none ER (sched m) (c : Thread nD τ) none (κ := K (c, .loc t)) (r := 0) (d := ())
    (duty_mem m c (.loc t)) () (credit t) (dst_credit t c) (amount_eq m c (.loc t) ())
    (by
      rw [payload_eq, pay_loc]; unfold slotNew slotPts srcPts
      exact sep_mono_left (Entails.of_eq (pointsTo_congr (lands m t c c _))))

/-- One copy to a peer: the part read, the peer's slot and both tokens go in; the credit for the send wait comes out, and
    what is owed to the peer is paid. -/
theorem step_send (x : Arr × Fin 7) (O : CellTallies nD τ sig Unit) (W : Waits sig Unit) {k : PUnit → Prog (TpuEff nD τ sig (Elt F) Λ₀ .tc) PUnit} {Q : PUnit → sProp 𝕄} :
    iprop(cellInv ER (sched m) (K (c, .send x)) (at_ c (.send x)) ∗ cellInv ER (sched m) (K (peer c x.2, .recv x)) (at_ (peer c x.2) (.recv x))
      ∗ srcPts m c x.1 (peer c x.2) ∗ slotOld m (peer c x.2) x.1 c
      ∗ owes (c : Thread nD τ) (O + tallyAt (at_ (peer c x.2) (.recv x)) () (credit x.1)) W
      ∗ token c (.send x) ∗ reached ER (at_ c (.send x)) 0 ∗ token (peer c x.2) (.recv x) ∗ reached ER (at_ (peer c x.2) (.recv x)) 0)
    ⊢ iprop((iprop(creds c (.send x) ∗ owes (c : Thread nD τ) O W) -∗ wp₀ (k ⟨⟩) Q) -∗ wp₀ (.op (sendOp c x) k) Q) := by
  unfold srcPts slotOld slotPts
  exact Rounds.wp_send_pointsTo Variants.none ER (sched m) (c : Thread nD τ) none (c' := (peer c x.2 : Thread nD τ))
    (κ₁ := K (c, .send x)) (κ₂ := K (peer c x.2, .recv x)) (r₁ := 0) (r₂ := 0) (d₁ := ()) (d₂ := ())
    (duty_mem m c (.send x)) (duty_mem m (peer c x.2) (.recv x)) () () (credit x.1) (dst_credit x.1 c)
    (amount_eq m c (.send x) ()) (amount_eq m (peer c x.2) (.recv x) ()) O rfl (W := W)
    (by rw [payload_eq, pay_send]; unfold srcPts; exact BI.Entails.refl _)
    (by
      rw [payload_eq, pay_recv, peer_peer]; unfold slotNew slotPts
      exact Entails.of_eq (pointsTo_congr (lands m x.1 c (peer c x.2) _)))

/-- One wait for all that a cell is credited: its payload comes out. -/
theorem step_wait (j : Cell) {w : TpuEff nD τ sig (Elt F) Λ₀ .tc PUnit}
    (hw : ∀ K' : PUnit → sProp 𝕄, wpE (defs₀ (F := F)) Variants.none (c : Thread nD τ) none Set.univ w K'
      = waitSpec (c : Thread nD τ) Set.univ (.dma (semOf j)) (amt j) K') (W : Waits sig Unit) {k : PUnit → Prog (TpuEff nD τ sig (Elt F) Λ₀ .tc) PUnit} {Q : PUnit → sProp 𝕄} :
    iprop(cellInv ER (sched m) (K (c, j)) (at_ c j) ∗ creds c j ∗ owes (c : Thread nD τ) 0 W ∗ atStart c j)
    ⊢ iprop((iprop(owes (c : Thread nD τ) 0 (insert (SemLoc.dma (semOf j), ()) W) ∗ atEnd c j ∗ pay m c j) -∗ wp₀ (k ⟨⟩) Q) -∗ wp₀ (.op w k) Q) := by
  iintro ⟨Hinv, Hcr, HO, Hat⟩ Hk
  iapply (Rounds.wp_wait_rest_token Variants.none ER (sched m) (c : Thread nD τ) none (κ := K (c, j)) hw (Set.mem_univ _) ()
    (O := 0) (W := W) (R := 0) (m := 0) (T := ∅) (by rw [Nat.zero_add, expect_eq])) $$ [Hinv Hcr Hat HO]
  · isplitl [Hinv]; · iexact Hinv
    isplitl [Hcr]; · iexact Hcr
    isplitl [HO]; · iexact HO
    isplitr; · rw [MayWait_zero]; iempintro
    iexact Hat
  iintro ⟨HO, Hat, -, Hpay⟩
  ihave Hp := (Entails.of_eq (rest_eq m c j)) $$ Hpay
  iapply Hk
  isplitl [HO]; · iexact HO
  isplitl [Hat]; · iexact Hat
  iexact Hp

theorem run_locals (l : List Arr) {k : Prog (TpuEff nD τ sig (Elt F) Λ₀ .tc) PUnit} {Q : PUnit → sProp 𝕄} : iprop(Known m K ∗ all (toKeep m c) l)
    ⊢ iprop((all (fun t => creds c (.loc t)) l -∗ wp₀ k Q) -∗ wp₀ (each (locOp c) l k) Q) := by
  induction l with
  | nil =>
    iintro ⟨-, H⟩ Hk
    iapply Hk; iexact H
  | cons t l ih =>
    simp only [all, toKeep]
    iintro ⟨#HK, ⟨⟨Hsrc, Hslot, Htok⟩, Hl⟩⟩ Hk
    iapply (step_local m c K t) $$ [Hsrc Hslot Htok]
    · isplitr; · iapply (known_inv m K c (.loc t)); iexact HK
      isplitl [Hsrc]; · iexact Hsrc
      isplitl [Hslot]; · iexact Hslot
      isplitl [Htok]; · iexact Htok
      iapply (known_reached m K c (.loc t)); iexact HK
    iintro Hcr
    iapply ih $$ [Hl]
    · isplitr; · iexact HK
      iexact Hl
    iintro Hcrs
    iapply Hk
    isplitl [Hcr]; · iexact Hcr
    iexact Hcrs

theorem run_sends (l : List (Arr × Fin 7)) (W : Waits sig Unit) {k : Prog (TpuEff nD τ sig (Elt F) Λ₀ .tc) PUnit} {Q : PUnit → sProp 𝕄} : iprop(Known m K ∗ all (toSend m c) l ∗ owes (c : Thread nD τ) (owed c l) W)
    ⊢ iprop((iprop(all (fun x => creds c (.send x)) l ∗ owes (c : Thread nD τ) 0 W) -∗ wp₀ k Q) -∗ wp₀ (each (sendOp c) l k) Q) := by
  induction l with
  | nil =>
    iintro ⟨-, H, HO⟩ Hk
    iapply Hk
    isplitl [H]; · iexact H
    iexact HO
  | cons x l ih =>
    simp only [all, toSend]
    iintro ⟨#HK, ⟨⟨Hsrc, Hslot, Hts, Htr⟩, Hl⟩, HO⟩ Hk
    ihave HO := (Entails.of_eq (congrArg (fun O => (owes (c : Thread nD τ) O W : sProp 𝕄)) (owed_cons c x l))) $$ HO
    iapply (step_send m c K x (owed c l) W) $$ [Hsrc Hslot Hts Htr HO]
    · isplitr; · iapply (known_inv m K c (.send x)); iexact HK
      isplitr; · iapply (known_inv m K (peer c x.2) (.recv x)); iexact HK
      isplitl [Hsrc]; · iexact Hsrc
      isplitl [Hslot]; · iexact Hslot
      isplitl [HO]; · iexact HO
      isplitl [Hts]; · iexact Hts
      isplitr; · iapply (known_reached m K c (.send x)); iexact HK
      isplitl [Htr]; · iexact Htr
      iapply (known_reached m K (peer c x.2) (.recv x)); iexact HK
    iintro ⟨Hcr, HO⟩
    iapply ih $$ [Hl HO]
    · isplitr; · iexact HK
      isplitl [Hl]; · iexact Hl
      iexact HO
    iintro ⟨Hcrs, HO⟩
    iapply Hk
    isplitr [HO]
    · isplitl [Hcr]; · iexact Hcr
      iexact Hcrs
    iexact HO

/-- Waits, whatever memrefs they name: `f a` waits for all that cell `cl a` is credited. -/
theorem run_waits {α : Type} (cl : α → Cell) (f : α → TpuEff nD τ sig (Elt F) Λ₀ .tc PUnit)
    (hf : ∀ a (K' : PUnit → sProp 𝕄), wpE (defs₀ (F := F)) Variants.none (c : Thread nD τ) none Set.univ (f a) K'
      = waitSpec (c : Thread nD τ) Set.univ (.dma (semOf (cl a))) (amt (cl a)) K')
    (l : List α) (W : Waits sig Unit) {k : Prog (TpuEff nD τ sig (Elt F) Λ₀ .tc) PUnit} {Q : PUnit → sProp 𝕄} :
    iprop(Known m K ∗ all (fun a => creds c (cl a)) l ∗ all (fun a => atStart c (cl a)) l ∗ owes (c : Thread nD τ) 0 W)
    ⊢ iprop((∀ W', iprop(all (fun a => pay m c (cl a)) l ∗ all (fun a => atEnd c (cl a)) l ∗ owes (c : Thread nD τ) 0 W') -∗ wp₀ k Q)
        -∗ wp₀ (each f l k) Q) := by
  induction l generalizing W with
  | nil =>
    iintro ⟨-, -, -, HO⟩ Hk
    iapply Hk $$ %W
    isplitr; · unfold all; iempintro
    isplitr; · unfold all; iempintro
    iexact HO
  | cons a l ih =>
    simp only [all]
    iintro ⟨#HK, ⟨Hcr, Hcrs⟩, ⟨Hat, Hats⟩, HO⟩ Hk
    iapply (step_wait m c K (cl a) (hf a) W) $$ [Hcr Hat HO]
    · isplitr; · iapply (known_inv m K c (cl a)); iexact HK
      isplitl [Hcr]; · iexact Hcr
      isplitl [HO]; · iexact HO
      iexact Hat
    iintro ⟨HO, Hat, Hp⟩
    iapply (ih (insert (SemLoc.dma (semOf (cl a)), ()) W)) $$ [Hcrs Hats HO]
    · isplitr; · iexact HK
      isplitl [Hcrs]; · iexact Hcrs
      isplitl [Hats]; · iexact Hats
      iexact HO
    iintro %W' ⟨Hps, Hats, HO⟩
    iapply Hk $$ %W'
    isplitl [Hp Hps]
    · isplitl [Hp]; · iexact Hp
      iexact Hps
    isplitl [Hat Hats]
    · isplitl [Hat]; · iexact Hat
      iexact Hats
    iexact HO

/-- Cells whose rounds are over close: their counters read zero. -/
theorem close_all {α : Type} (cl : α → Cell) (l : List α) : iprop(Known m K ∗ all (fun a => atEnd c (cl a)) l)
    ⊢ |={Set.univ}=> (all (fun a => semVal (at_ c (cl a)) 0) l : sProp 𝕄) := by
  induction l with
  | nil =>
    iintro ⟨-, H⟩
    imodintro; iexact H
  | cons a l ih =>
    simp only [all]
    iintro ⟨#HK, ⟨Hat, Hats⟩⟩
    imod (Rounds.cell_close ER (sched m) (Set.mem_univ (K (c, cl a))) (fun h => h) (R := 0 + 1) (duties_later m (at_ c (cl a)))) $$ [Hat] with Hz
    · isplitr; · iapply (known_inv m K c (cl a)); iexact HK
      iexact Hat
    imod ih $$ [Hats] with Hzs
    · isplitr; · iexact HK
      iexact Hats
    imodintro
    isplitl [Hz]; · iexact Hz
    iexact Hzs

end Steps

end Cert.Exchange

end
-- ==== Proof.Body.lean ====
/-
The kernel's body, run once on a symbolic device: what it takes, what it leaves, and the region's proof data.
-/
module

public import proofs.«01_k».proof.Proof.Protocol
public import proofs.«01_k».proof.Proof.Gen.KernelIdeal.Launch

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's own part of the exchange: its copies' sources, slots and tokens, the credit its peers owe it, and its
    position at every cell. -/
def mine (c : Dev nD) : sProp 𝕄 :=
  iprop(all (toKeep m c) arrs ∗ all (toSend m c) sends ∗ all (fun x => creds c (.recv x)) sends
    ∗ all (fun x => atStart c (.recv x)) sends ∗ all (fun x => atStart c (.send x)) sends ∗ all (fun t => atStart c (.loc t)) arrs)

/-- Before the body, and after it. -/
def before (c : Dev nD) : sProp 𝕄 := iprop(∃ K, Known m K ∗ mine m c)
def after (c : Dev nD) : sProp 𝕄 :=
  iprop((all (fun x => pay m c (.recv x)) sends ∗ all (fun x => pay m c (.send x)) sends ∗ all (fun t => pay m c (.loc t)) arrs)
    ∗ all (fun x => semVal (at_ c (.recv x)) 0) sends ∗ all (fun x => semVal (at_ c (.send x)) 0) sends ∗ all (fun t => semVal (at_ c (.loc t)) 0) arrs)

/-- The exchange: four local copies, the copies to the peers, and a wait for each copy on each side. -/
theorem run_exchange (c : Dev nD) (W : Waits sig Unit) :
    iprop(before m c ∗ owes (c : Thread nD τ) (owed c sends) W)
      ⊢ wp frame (wpE (defs₀ (F := F)) 𝒱₀ (c : Thread nD τ) none) Set.univ (exchange c)
          fun _ => iprop(after m c ∗ ∃ W', owes (c : Thread nD τ) 0 W') := by
  unfold before mine exchange
  iintro ⟨⟨%K, #HK, Hkeep, Hsend, HcrR, HatR, HatS, HatL⟩, HO⟩
  iapply (run_locals m c K arrs) $$ [Hkeep]
  · isplitr; · iexact HK
    iexact Hkeep
  iintro HcrL
  iapply (run_sends m c K sends W) $$ [Hsend HO]
  · isplitr; · iexact HK
    isplitl [Hsend]; · iexact Hsend
    iexact HO
  iintro ⟨HcrS, HO⟩
  iapply (run_waits m c K (fun x => .recv x) (recvWait c) (fun x _ => wpE_waitDma2_eq 𝒱₀ (c : Thread nD τ) none Set.univ _) sends W) $$ [HcrR HatR HO]
  · isplitr; · iexact HK
    isplitl [HcrR]; · iexact HcrR
    isplitl [HatR]; · iexact HatR
    iexact HO
  iintro %W1 ⟨HpR, HatR, HO⟩
  iapply (run_waits m c K (fun x => .send x) (sendWait c) (fun x _ => wpE_waitDma2_eq 𝒱₀ (c : Thread nD τ) none Set.univ _) sends W1) $$ [HcrS HatS HO]
  · isplitr; · iexact HK
    isplitl [HcrS]; · iexact HcrS
    isplitl [HatS]; · iexact HatS
    iexact HO
  iintro %W2 ⟨HpS, HatS, HO⟩
  iapply (run_waits m c K (fun t => .loc t) (locWait c) (fun t _ => wpE_waitDma2_eq 𝒱₀ (c : Thread nD τ) none Set.univ _) arrs W2) $$ [HcrL HatL HO]
  · isplitr; · iexact HK
    isplitl [HcrL]; · iexact HcrL
    isplitl [HatL]; · iexact HatL
    iexact HO
  iintro %W3 ⟨HpL, HatL, HO⟩
  rw [wp_ret]
  imod (close_all m c K (fun x => .recv x) sends) $$ [HatR] with HzR
  · isplitr; · iexact HK
    iexact HatR
  imod (close_all m c K (fun x => .send x) sends) $$ [HatS] with HzS
  · isplitr; · iexact HK
    iexact HatS
  imod (close_all m c K (fun t => .loc t) arrs) $$ [HatL] with HzL
  · isplitr; · iexact HK
    iexact HatL
  imodintro
  unfold after
  isplitr [HO]
  · isplitl [HpR HpS HpL]
    · isplitl [HpR]; · iexact HpR
      isplitl [HpS]; · iexact HpS
      iexact HpL
    isplitl [HzR]; · iexact HzR
    isplitl [HzS]; · iexact HzS
    iexact HzL
  iexists W3; iexact HO

/-! ## The region's proof data -/

/-- The region moves no window: all its state is the exchange's. -/
def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q w := w.elim0
  owed t := match t with
    | ⟨0, _⟩ => owed c sends
    | ⟨_ + 1, _⟩ => 0

set_option maxRecDepth 16000 in
theorem body_obligation (c : Dev nD) : BodyObligation (dats (F := F) m 0 c) (defs₀ (F := F)) 𝒱₀ () Set.univ := fun t => by
  have ht : t = t0_0 := fin_N0 t
  subst ht
  have hempty (Φ : Fin 0 → sProp 𝕄) : bigSep Finset.univ Φ = iprop(emp) := by rw [Finset.univ_eq_empty, BI.bigSep_empty]; rfl
  have hrun : iprop(before m c ∗ (dats m 0 c).owesAt () (t0_0 : Fin cfg0.N).castSucc ∗ emp)
      ⊢ wp frame (wpE (defs₀ (F := F)) 𝒱₀ (c : Thread nD τ) none) Set.univ (bodyAt0 (F := F) t0_0)
          fun _ => iprop(after m c ∗ (dats m 0 c).owesAt () (t0_0 : Fin cfg0.N).succ ∗ emp) := by
    rw [body_eq, wp_deviceId]
    unfold Dat.owesAt Pipeline.owesWithin
    rw [show (dats m 0 c).owed (t0_0 : Fin cfg0.N).castSucc = owed c sends from rfl, show (dats m 0 c).owed (t0_0 : Fin cfg0.N).succ = 0 from rfl]
    have hpost (u : PUnit) : iprop(after m c ∗ ∃ W', owes (c : Thread nD τ) 0 W')
        ⊢ iprop(after m c ∗ (∃ W' : Waits sig Unit, ⌜(↑W' : Set (SemLoc sig × Unit)) ⊆ (dats m 0 c).bound () (t0_0 : Fin cfg0.N).succ⌝ ∗ owes (c : Thread nD τ) 0 W') ∗ emp) := by
      iintro ⟨Ha, ⟨%W', HO⟩⟩
      isplitl [Ha]; · iexact Ha
      isplitl [HO]
      · iexists W'
        isplitr; · ipureintro; exact fun _ _ => Or.inl trivial
        iexact HO
      iempintro
    have hpre : iprop(before m c ∗ (∃ W : Waits sig Unit, ⌜(↑W : Set (SemLoc sig × Unit)) ⊆ (dats m 0 c).bound () (t0_0 : Fin cfg0.N).castSucc⌝
          ∗ owes (c : Thread nD τ) (owed c sends) W) ∗ emp)
        ⊢ wp frame (wpE (defs₀ (F := F)) 𝒱₀ (c : Thread nD τ) none) Set.univ (exchange c)
          fun _ => iprop(after m c ∗ ∃ W', owes (c : Thread nD τ) 0 W') := by
      iintro ⟨Hb, ⟨%W, -, HO⟩, -⟩
      iapply (run_exchange m c W)
      isplitl [Hb]; · iexact Hb
      iexact HO
    exact hpre.trans (wp_mono frame _ Set.univ hpost)
  refine (show _ ⊢ _ from ?_)
  erw [hempty]
  exact hrun

end Cert.Exchange

end
-- ==== Proof.Arrays.lean ====
/-
A device's arrays and the parts the copies read and write: a gradient and a result are their eight slots, and the pack
is held in eight shares, one per copy that reads it. Regrouping a family over "every device" as the device itself and
its peers.
-/
module

public import proofs.«01_k».proof.Proof.Body

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole arrays -/

/-- Device `c`'s argument array, as launched. -/
def argPts (c : Dev nD) : Arr → sProp 𝕄
  | .pack => ((c : Thread nD τ).loc main_arg0) ↦{fullShare} m ((c : Thread nD τ).loc main_arg0)
  | .dwin => ((c : Thread nD τ).loc main_arg1) ↦{fullShare} m ((c : Thread nD τ).loc main_arg1)
  | .dwout => ((c : Thread nD τ).loc main_arg2) ↦{fullShare} m ((c : Thread nD τ).loc main_arg2)
  | .dwglu => ((c : Thread nD τ).loc main_arg3) ↦{fullShare} m ((c : Thread nD τ).loc main_arg3)

/-- Device `c`'s result array, as launched. -/
def outOld (c : Dev nD) : Arr → sProp 𝕄
  | .pack => ((c : Thread nD τ).loc main_v1_0) ↦{fullShare} m ((c : Thread nD τ).loc main_v1_0)
  | .dwin => ((c : Thread nD τ).loc main_v1_1) ↦{fullShare} m ((c : Thread nD τ).loc main_v1_1)
  | .dwout => ((c : Thread nD τ).loc main_v1_2) ↦{fullShare} m ((c : Thread nD τ).loc main_v1_2)
  | .dwglu => ((c : Thread nD τ).loc main_v1_3) ↦{fullShare} m ((c : Thread nD τ).loc main_v1_3)

/-- Device `c`'s result array, after the exchange. -/
def outNew (c : Dev nD) : Arr → sProp 𝕄
  | .pack => ((c : Thread nD τ).loc main_v1_0) ↦{fullShare} gathered m .pack 0 c
  | .dwin => ((c : Thread nD τ).loc main_v1_1) ↦{fullShare} gathered m .dwin 0 c
  | .dwout => ((c : Thread nD τ).loc main_v1_2) ↦{fullShare} gathered m .dwout 0 c
  | .dwglu => ((c : Thread nD τ).loc main_v1_3) ↦{fullShare} gathered m .dwglu 0 c

/-! ## Slots -/

section Slots

variable {A B : ℕ} (b : Ref sig .tc) (M : Memref sig .tc .hbm ⟨3, ![8, A, B]⟩ .f32) (h : (⟨3, ![1, A, B]⟩ : Shape).Squeezes ⟨2, ![A, B]⟩)

/-- The eight slots of a whole stack are all of it, -/
theorem slots_cover (hM : M.view.set = Finset.univ) : Finset.biUnion (β := M.view.ty.Idx) Finset.univ (fun j : Dev nD => (slotM M h j).view.set) = Finset.univ := by
  refine Finset.eq_univ_of_forall fun y => ?_
  have hy : y ∈ M.view.set := hM ▸ Finset.mem_univ y
  obtain ⟨x, -, rfl⟩ := Finset.mem_map.mp hy
  obtain ⟨j, a, b, rfl⟩ : ∃ (j : Fin 8) (a : Fin A) (b : Fin B), x = ix3 j a b := ⟨x 0, x 1, x 2, eq_ix3 x⟩
  exact Finset.mem_biUnion.mpr ⟨(j : Dev nD), Finset.mem_univ _, Finset.mem_map.mpr ⟨ix2 a b, Finset.mem_univ _, slot_emb M h j a b⟩⟩

/-- and no two of them meet. -/
theorem slots_disjoint (j j' : Dev nD) (hj : j ≠ j') : Disjoint ((slotM M h j).view.set : Finset M.view.ty.Idx) (slotM M h j').view.set := by
  refine Finset.disjoint_left.mpr fun {y} h1 h2 => hj ?_
  obtain ⟨x, -, rfl⟩ := Finset.mem_map.mp h1
  obtain ⟨x', -, hx⟩ := Finset.mem_map.mp h2
  obtain ⟨a, b, rfl⟩ : ∃ (a : Fin A) (b : Fin B), x = ix2 a b := ⟨x 0, x 1, eq_ix2 x⟩
  obtain ⟨a', b', rfl⟩ : ∃ (a : Fin A) (b : Fin B), x' = ix2 a b := ⟨x' 0, x' 1, eq_ix2 x'⟩
  have e : ix3 (j' : Fin 8) a' b' = ix3 (j : Fin 8) a b := M.view.emb.injective ((slot_emb M h j' a' b').symm.trans (hx.trans (slot_emb M h j a b)))
  exact (congrFun e 0).symm

variable (c : Dev nD) (q : PosShare TreeShare)

/-- So a whole stack is held as its eight slots. -/
theorem pointsTo_slots (hM : M.view.set = Finset.univ) (f : Buf (Elt F) (M.view.loc (c : Thread nD τ))) :
    (M.view.loc (c : Thread nD τ) ↦{q} f : sProp 𝕄)
      = bigSep Finset.univ fun j : Dev nD => (slotM M h j).view.loc (c : Thread nD τ) ↦[(slotM M h j).view.set]{q} f := by
  have hb : (M.view.loc (c : Thread nD τ) ↦[Finset.biUnion (β := M.view.ty.Idx) Finset.univ fun j : Dev nD => (slotM M h j).view.set]{q} f : sProp 𝕄)
      = bigSep Finset.univ fun j : Dev nD => (slotM M h j).view.loc (c : Thread nD τ) ↦[(slotM M h j).view.set]{q} f :=
    pointsTo_biUnion (ℓ := M.view.loc (c : Thread nD τ)) (f := f) (q := q) Finset.univ (fun j : Dev nD => ((slotM M h j).view.set : Finset M.view.ty.Idx))
      fun j _ j' _ hj => slots_disjoint M h j j' hj
  rw [← hb]
  exact congrArg (fun I => (M.view.loc (c : Thread nD τ) ↦[I]{q} f : sProp 𝕄)) (slots_cover M h hM).symm

end Slots

/-- An argument is what the eight copies of it read: the pack in eight shares, a gradient in eight slots. -/
theorem argPts_split (c : Dev nD) (t : Arr) : argPts m c t = bigSep Finset.univ (srcPts m c t) := by
  cases t
  · exact (ShareLeaves.pointsTo_leaves Finset.univ (m ((c : Thread nD τ).loc main_arg0)) 3 fullShare).trans
      (bigSep_congr fun j _ => by unfold srcPts shareTo; rw [View.set_whole])
  · exact pointsTo_slots (Memref.whole main_arg1) squeezes_S1x2048x768_S2048x768 c fullShare (View.set_whole _) _
  · exact pointsTo_slots (Memref.whole main_arg2) squeezes_S1x256x2048_S256x2048 c fullShare (View.set_whole _) _
  · exact pointsTo_slots (Memref.whole main_arg3) squeezes_S1x128x1024_S128x1024 c fullShare (View.set_whole _) _

/-- A result is its eight slots, before the exchange -/
theorem outOld_split (c : Dev nD) (t : Arr) : outOld m c t = bigSep Finset.univ (slotOld m c t) := by
  cases t
  · exact pointsTo_slots (Memref.whole main_v1_0) squeezes_S1x2192x128_S2192x128 c fullShare (View.set_whole _) _
  · exact pointsTo_slots (Memref.whole main_v1_1) squeezes_S1x2048x768_S2048x768 c fullShare (View.set_whole _) _
  · exact pointsTo_slots (Memref.whole main_v1_2) squeezes_S1x256x2048_S256x2048 c fullShare (View.set_whole _) _
  · exact pointsTo_slots (Memref.whole main_v1_3) squeezes_S1x128x1024_S128x1024 c fullShare (View.set_whole _) _

/-- and after it. -/
theorem outNew_split (c : Dev nD) (t : Arr) : outNew m c t = bigSep Finset.univ (slotNew m c t) := by
  cases t
  · exact pointsTo_slots (Memref.whole main_v1_0) squeezes_S1x2192x128_S2192x128 c fullShare (View.set_whole _) _
  · exact pointsTo_slots (Memref.whole main_v1_1) squeezes_S1x2048x768_S2048x768 c fullShare (View.set_whole _) _
  · exact pointsTo_slots (Memref.whole main_v1_2) squeezes_S1x256x2048_S256x2048 c fullShare (View.set_whole _) _
  · exact pointsTo_slots (Memref.whole main_v1_3) squeezes_S1x128x1024_S128x1024 c fullShare (View.set_whole _) _

/-! ## Around a device, and across a pair -/

/-- Every device is `c` or one of its peers. -/
theorem bigSep_around (c : Dev nD) (Ψ : Dev nD → sProp 𝕄) :
    bigSep Finset.univ Ψ = iprop(Ψ c ∗ bigSep Finset.univ fun k : Fin 7 => Ψ (peer c k)) := by
  rw [bigSep_univ_equiv ((Equiv.optionEquivSumPUnit.{0} (Fin 7)).symm.trans (aroundEquiv c)) Ψ, BI.bigSep_univ_sum,
    BI.bigSep_univ_of_subsingleton PUnit.unit.{1}]
  exact BI.Entails.antisymm BI.sep_comm BI.sep_comm

/-- The parts of all arrays for all devices: each array's own part, and one part per copy to a peer. -/
theorem parts_around (c : Dev nD) (Ψ : Arr → Dev nD → sProp 𝕄) :
    (bigSep Finset.univ fun t => bigSep Finset.univ (Ψ t))
      = iprop((bigSep Finset.univ fun t => Ψ t c) ∗ bigSep Finset.univ fun x : Arr × Fin 7 => Ψ x.1 (peer c x.2)) := by
  rw [bigSep_congr fun t _ => bigSep_around c (Ψ t), bigSep_sep', bigSep_univ_prod fun x : Arr × Fin 7 => Ψ x.1 (peer c x.2)]

/-- Device and peer, for each copy. -/
def across : Dev nD × (Arr × Fin 7) ≃ Dev nD × (Arr × Fin 7) where
  toFun p := (peer p.1 p.2.2, p.2)
  invFun p := (peer p.1 p.2.2, p.2)
  left_inv p := by obtain ⟨c, x⟩ := p; exact congrArg (·, x) (peer_peer c x.2)
  right_inv p := by obtain ⟨c, x⟩ := p; exact congrArg (·, x) (peer_peer c x.2)

/-- What every device holds for each of its peers, each peer takes. -/
theorem bigSep_across (Φ : Dev nD → Dev nD → Arr × Fin 7 → sProp 𝕄) :
    (bigSep Finset.univ fun c : Dev nD => bigSep Finset.univ fun x : Arr × Fin 7 => Φ c (peer c x.2) x)
      = bigSep Finset.univ fun c : Dev nD => bigSep Finset.univ fun x : Arr × Fin 7 => Φ (peer c x.2) c x := by
  rw [← bigSep_univ_prod fun p : Dev nD × (Arr × Fin 7) => Φ p.1 (peer p.1 p.2.2) p.2,
    ← bigSep_univ_prod fun p : Dev nD × (Arr × Fin 7) => Φ (peer p.1 p.2.2) p.1 p.2, bigSep_univ_equiv across]
  exact bigSep_congr fun p _ => by
    show Φ (peer p.1 p.2.2) (peer (peer p.1 p.2.2) p.2.2) p.2 = _
    rw [peer_peer]

/-! ## Lists and sums -/

theorem all_arrs (Φ : Arr → sProp 𝕄) : all Φ arrs = bigSep Finset.univ Φ := all_eq Φ arrs (by decide) (by decide)
theorem all_sends (Φ : Arr × Fin 7 → sProp 𝕄) : all Φ sends = bigSep Finset.univ Φ := all_eq Φ sends (by decide) (by decide)

theorem owed_sends (c : Dev nD) : owed c sends = ∑ x : Arr × Fin 7, tallyAt (at_ (peer c x.2) (.recv x)) () (credit x.1) := by
  unfold owed
  rw [← List.sum_toFinset _ (by decide : sends.Nodup), (by decide : sends.toFinset = Finset.univ)]

end Cert.Exchange

end
-- ==== Proof.Dealt.lean ====
/-
A launch in which everything is dealt at once.

The launch theorems of the library hand a device its scoped semaphores when its kernel region is entered. An
exchange without an opening barrier needs more: a device may copy into its peer's buffer, and credit its
peer's receive semaphore, before that peer has reached the kernel. So the receive cells and the destination
buffers of ALL devices have to be put under the protocol before any of them runs. The theorem below does so:
one update deals every device's `boundary` (its scoped buffers and semaphores), unscoped buffers, owed units
and credit together.
-/
module

public import Idealize.ShloMosaic.Lib.Pipeline.Launch
public import Idealize.ShloMosaic.Lib.Pipeline.Regions

@[expose] public section

noncomputable section

namespace Cert.Dealt

open Idealize.ShloMosaic Idealize.ShloMosaic.Pipeline
open Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA
open Idealize.ShloMosaic.TcCoe

set_option Elab.async false

variable {nD : Nat} {τ : Topo} {sig : RefSig} {Val : EltTy → Type}
variable {Ix : Type} [DecidableEq Ix] {Name : Type} [DecidableEq Name] {U : Type} [URA U] {Lvl : Type} [Preorder Lvl]
variable {Λ : Idealize.SL.Sem.Labels}

local notation "𝕄" => MT nD τ sig Ix Val Name U Lvl

/-- What the launch gives a device: its scoped part, its unscoped buffers at the launch contents, its unscoped
    semaphores at zero, the units it owes, the credit it is promised, and its generator register. -/
def holdings (O₀ : Dev nD → CellTallies nD τ sig Ix) (m : (ℓ : Loc nD τ sig) → Buf Val ℓ) (g : Dev nD → PrngReg)
    (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- The level facts of every cell, from the devices' empty level holdings. -/
theorem levels_assign (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  refine (bigSep_mono fun c _ => lev_assign_cells (c.tc : Thread nD τ) L lv).trans <| (BI.bigSep_bupd _ _).trans <| BI.bupd_mono ?_
  have hothers : (bigSep Finset.univ fun d : Dev nD => bigSep (Finset.univ.erase Proc.tc) fun p => (coreLevAts ((d, p) : Thread nD τ) L lv : sProp 𝕄)) = BI.emp := by
    refine (bigSep_congr (Ψ := fun _ : Dev nD => (BI.emp : sProp 𝕄)) fun d _ => ?_).trans (BI.bigSep_emp_const _)
    refine (bigSep_congr (Ψ := fun _ : Proc τ => (BI.emp : sProp 𝕄)) fun p hp => ?_).trans (BI.bigSep_emp_const _)
    unfold coreLevAts
    refine (bigSep_congr (Ψ := fun _ : SemLoc sig => (BI.emp : sProp 𝕄)) fun sm _ => ?_).trans (BI.bigSep_emp_const _)
    rw [hL (((d, p) : Thread nD τ), sm) (Finset.ne_of_mem_erase hp), BI.bigSep_empty]
  have hcells : (levAts L lv : sProp 𝕄) = bigSep Finset.univ fun c : Thread nD τ => coreLevAts c L lv :=
    bigSep_univ_prod fun g : GSem nD τ sig => bigSep (L g) fun ι => levAt g ι (lv g ι)
  rw [hcells, bigSep_threads (fun c : Thread nD τ => coreLevAts c L lv), hothers, bigSep_sep']
  have hdrop (A B : sProp 𝕄) : iprop(A ∗ B) ⊢ iprop(B ∗ BI.emp) := by
    iintro ⟨-, H⟩
    isplitl [H]; · iexact H
    iempintro
  exact hdrop _ _

variable {defs : Defs nD τ sig Val Λ} {𝒱 : Variants}

/-- A program run by every TensorCore, launched on memory `m` with every semaphore at zero: if one update makes the
    start states of all devices from what the launch deals to all of them (`hinit`), each device runs from its start
    state to its final state paying all it owes (`hrun`), and the final states read as `QY` (`hfin`), then every
    weakly fair execution terminates, and at the end `QY` holds on every device and every semaphore that is scoped or
    that belongs to no TensorCore reads zero. -/
theorem θ_run_dealt [∀ e, Nonempty (Val e)] [Infinite Name]
    (m : (ℓ : Loc nD τ sig) → Buf Val ℓ) (g : Dev nD → PrngReg)
    (main : Dev nD → Prog (TpuEff nD τ sig Val Λ .tc) PUnit)
    (O₀ : Dev nD → CellTallies nD τ sig Ix) (L : GSem nD τ sig → Finset Ix) (lv : GSem nD τ sig → Ix → Lvl)
    (hL : ∀ g : GSem nD τ sig, g.1.2 ≠ .tc → L g = ∅) (u₀ : U)
    (start fin : Dev nD → sProp 𝕄)
    (hinit : iprop((bigSep Finset.univ fun c : Dev nD => holdings O₀ m g c) ∗ levAts L lv ∗ ownU u₀)
      ⊢ |={Set.univ}=> bigSep Finset.univ start)
    (hrun : ∀ c, start c ⊢ wp frame (wpE defs 𝒱 (c.tc : Thread nD τ) none) Set.univ (main c)
      fun _ => iprop((fin c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(fin c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let final : Dev nD → sProp 𝕄 := fun c => iprop(fin c ∗ boundary (c.tc : Thread nD τ))
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => start) (fun _ => final)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => holdings O₀ m g c)
            ∗ (bigSep Finset.univ fun c : Dev nD => levels0 (Ix := Ix) (Val := Val) (Name := Name) (U := U) (Lvl := Lvl) (τ := τ) (sig := sig) c) : sProp 𝕄) := by
      rw [← bigSep_sep']
      refine bigSep_mono fun c _ => (coreInit_boundary_owing O₀ m g c).trans ?_
      unfold holdings
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr]; · iexact Hcr
        iexact Hpr
      · iexact Hlv
    iintro ⟨Hcores, Hu⟩
    ihave Hc := hcores $$ Hcores
    icases Hc with ⟨Hh, Hlv⟩
    imod (levels_assign L lv hL) $$ Hlv with Hla
    imod hinit $$ [Hh Hla Hu] with HT
    · isplitl [Hh]; · iexact Hh
      isplitl [Hla] <;> iassumption
    imodintro
    iexists ()
    isplitl [HT]; · iexact HT
    iempintro
  · exact (hrun c).trans (Entails.of_eq (by unfold post; simp only [liftTc_tc, final]))
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Dealt

end
-- ==== Proof.Launch.lean ====
/-
The launch: what every device is given at the start is dealt out, so that each device holds its own part of the
exchange — the parts of its arrays it copies from, its peers' slots it copies into, the tokens of those copies and the
credit its peers owe it.
-/
module

public import proofs.«01_k».proof.Proof.Arrays
public import proofs.«01_k».proof.Proof.Dealt

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch's ghost state -/

/-- Every device's cells, and their tokens. -/
def cellAt (ck : Dev nD × Cell) : GSem nD τ sig := at_ ck.1 ck.2

theorem cellAt_injective : Function.Injective cellAt := by
  rintro ⟨c, k⟩ ⟨c', k'⟩ h
  have h1 : c = c' := congrArg (fun g : GSem nD τ sig => g.1.1) h
  subst h1
  have h2 : SemLoc.dma (semOf k) = SemLoc.dma (semOf k') := congrArg Prod.snd h
  exact congrArg (Prod.mk c) (semOf_injective (SemLoc.dma.inj h2))

def exCells : Finset (GSem nD τ sig) := Finset.univ.map ⟨cellAt, cellAt_injective⟩
def exToks : Finset (GSem nD τ sig × ℕ × Unit) :=
  Finset.univ.map ⟨fun ck : Dev nD × Cell => (cellAt ck, 0, ()), fun _ _ h => cellAt_injective (congrArg Prod.fst h)⟩

def u₀ : UU := (initOf (Pipeline.cells cfgs cellOf_inj) (Pipeline.launchToks cfgs cellOf_inj), initOf exCells exToks)

theorem fund_exchange : BI.own (ER (initOf exCells exToks)) ⊢
    (|==> iprop((bigSep Finset.univ fun c : Dev nD => bigSep Finset.univ fun k : Cell => roundState ER (sched m) (at_ c k) 0)
      ∗ (bigSep Finset.univ fun ck : Dev nD × Cell => reached ER (at_ ck.1 ck.2) 0)
      ∗ (bigSep Finset.univ fun c : Dev nD => bigSep Finset.univ fun k : Cell => atStart c k)
      ∗ (bigSep Finset.univ fun c : Dev nD => bigSep Finset.univ fun k : Cell => token c k)) : sProp 𝕄) := by
  have hX (Φ : GSem nD τ sig → sProp 𝕄) : bigSep exCells Φ = bigSep Finset.univ fun ck : Dev nD × Cell => Φ (at_ ck.1 ck.2) := by
    unfold exCells; rw [bigSep_map]; rfl
  have hX' (Φ : GSem nD τ sig → sProp 𝕄) : bigSep exCells Φ = bigSep Finset.univ fun c : Dev nD => bigSep Finset.univ fun k : Cell => Φ (at_ c k) := by
    rw [hX, bigSep_univ_prod]
  have hT : bigSep exToks (fun x => (dutyTok ER x.1 x.2.1 x.2.2 : sProp 𝕄)) = bigSep Finset.univ fun c : Dev nD => bigSep Finset.univ fun k : Cell => token c k := by
    unfold exToks; rw [bigSep_map, bigSep_univ_prod]; rfl
  iintro HX
  imod (Rounds.fund ER (sched m) exCells exToks) $$ HX with ⟨Hst, Hr, Hat, Htok⟩
  imodintro
  isplitl [Hst]; · iapply (Entails.of_eq (hX' fun g => roundState ER (sched m) g 0)); iexact Hst
  isplitl [Hr]; · iapply (Entails.of_eq (hX fun g => reached ER g 0)); iexact Hr
  isplitl [Hat]; · iapply (Entails.of_eq (hX' fun g => atPos ER g 0 ∅ 0)); iexact Hat
  iapply (Entails.of_eq hT); iexact Htok

/-! ## The semaphores -/

/-- The cells are the region's own semaphores. -/
abbrev osem (k : Cell) : SemLoc sig := .dma (semOf k)

theorem dma_scoped : ∀ s : DmaSem sig, (SemLoc.dma s : SemLoc sig).isScoped .tc = true := by decide

theorem ownSemFacts : Pipeline.OwnSemFacts cfg0.spec osem where
  isScoped k := dma_scoped (semOf k)
  inj k k' h := semOf_injective (SemLoc.dma.inj h)
  disj k w := w.elim0

abbrev stagingSems (c : Dev nD) : sProp 𝕄 := Pipeline.cellsSems0 cfgs 0 c
abbrev idleSems (c : Dev nD) : sProp 𝕄 := Pipeline.idleSems0 cfgs cellOf_inj 0 ownSemFacts c
abbrev cellSems (c : Dev nD) : sProp 𝕄 := bigSep Finset.univ fun k : Cell => semVal (at_ c k) 0

theorem scopedSems_split (c : Dev nD) :
    (scopedSems0 (c : Thread nD τ) : sProp 𝕄) = iprop((stagingSems c ∗ cellSems c) ∗ idleSems c) :=
  Pipeline.scopedSems0_split cfgs cellOf_inj 0 (by decide) ownSemFacts c

/-- Each cell's counter at zero and its first round make its invariant. -/
theorem alloc_cells :
    iprop((bigSep Finset.univ fun c : Dev nD => cellSems c)
        ∗ (bigSep Finset.univ fun c : Dev nD => bigSep Finset.univ fun k : Cell => roundState ER (sched m) (at_ c k) 0))
      ⊢ (|={Set.univ}=> iprop(∃ K : Dev nD × Cell → ℕ, bigSep Finset.univ fun ck : Dev nD × Cell => cellInv ER (sched m) (K ck) (at_ ck.1 ck.2)) : sProp 𝕄) := by
  rw [← bigSep_univ_prod fun ck : Dev nD × Cell => (semVal (at_ ck.1 ck.2) 0 : sProp 𝕄),
    ← bigSep_univ_prod fun ck : Dev nD × Cell => (roundState ER (sched m) (at_ ck.1 ck.2) 0 : sProp 𝕄), ← bigSep_sep']
  exact ((bigSep_mono fun ck _ => (Rounds.body_intro ER (sched m) (at_ ck.1 ck.2)).trans inv_alloc).trans (bigSep_fupd _ _)).trans
    (fupd_mono (BI.bigSep_exists_pi Finset.univ fun (ck : Dev nD × Cell) (κ : ℕ) => (cellInv ER (sched m) κ (at_ ck.1 ck.2) : sProp 𝕄)))

/-! ## Credit -/

/-- The credit of a sum is the credit of each term. -/
theorem cred_total {α : Type} [DecidableEq α] (s : Finset α) (T : α → CellTallies nD τ sig Unit) :
    (cred (∑ x ∈ s, T x) : sProp 𝕄) ⊢ bigSep s fun x => cred (T x) := by
  induction s using Finset.induction_on with
  | empty => rw [Finset.sum_empty, cred_zero, BI.bigSep_empty]; exact BI.Entails.refl _
  | insert a s ha ih =>
    rw [Finset.sum_insert ha, BI.bigSep_insert ha]
    exact (cred_add _ _).1.trans (BI.sep_mono (BI.Entails.refl _) ih)

/-- What a device owes its peers is what its peers are to receive. -/
theorem creds_of_launch (c : Dev nD) :
    (Pipeline.launchCred (fun c => owed c sends) c : sProp 𝕄) ⊢ bigSep Finset.univ fun x : Arr × Fin 7 => creds c (.recv x) := by
  rw [Pipeline.launchCred_of_sum (fun c => owed c sends) (fun c => ∑ x : Arr × Fin 7, tallyAt (at_ c (.recv x)) () (credit x.1))
    (by
      rw [Finset.sum_congr rfl fun d _ => owed_sends d, Finset.sum_comm, Finset.sum_comm (s := Finset.univ (α := Dev nD))]
      exact Finset.sum_congr rfl fun x _ => Equiv.sum_comp (flip x.2) fun d => tallyAt (at_ d (.recv x)) () (credit x.1))
    (fun d g h => by
      by_contra hg
      refine h ?_
      rw [Finset.sum_apply]
      refine Finset.sum_eq_zero fun x _ => ?_
      exact tallyAt_ne_cell (fun e => hg (by rw [e])) _ _)]
  exact cred_total Finset.univ fun x => tallyAt (at_ c (.recv x)) () (credit x.1)

/-! ## Dealing -/

/-- The parts of the arrays, the credit, the positions and the tokens, dealt to the devices that use them. -/
theorem deal :
    iprop((bigSep Finset.univ fun c : Dev nD => bigSep Finset.univ fun t => bigSep Finset.univ (srcPts m c t))
        ∗ (bigSep Finset.univ fun c : Dev nD => bigSep Finset.univ fun t => bigSep Finset.univ (slotOld m c t))
        ∗ (bigSep Finset.univ fun c : Dev nD => bigSep Finset.univ fun x : Arr × Fin 7 => creds c (.recv x))
        ∗ (bigSep Finset.univ fun c : Dev nD => bigSep Finset.univ fun k : Cell => atStart c k)
        ∗ (bigSep Finset.univ fun c : Dev nD => bigSep Finset.univ fun k : Cell => token c k))
      ⊢ (bigSep Finset.univ (mine m) : sProp 𝕄) := by
  have hmine : bigSep Finset.univ (mine m) = bigSep Finset.univ fun c : Dev nD =>
      iprop((bigSep Finset.univ fun t => iprop(srcPts m c t c ∗ slotOld m c t c ∗ token c (.loc t)))
        ∗ (bigSep Finset.univ fun x : Arr × Fin 7 => iprop(srcPts m c x.1 (peer c x.2) ∗ slotOld m (peer c x.2) x.1 c ∗ token c (.send x) ∗ token (peer c x.2) (.recv x)))
        ∗ (bigSep Finset.univ fun x => creds c (.recv x)) ∗ (bigSep Finset.univ fun x => atStart c (.recv x))
        ∗ (bigSep Finset.univ fun x => atStart c (.send x)) ∗ (bigSep Finset.univ fun t => atStart c (.loc t))) :=
    bigSep_congr fun c _ => by
      unfold mine
      rw [all_arrs, all_sends, all_sends, all_sends, all_sends, all_arrs]
      rfl
  have hcell (Φ : Dev nD → Cell → sProp 𝕄) : (bigSep Finset.univ fun c : Dev nD => bigSep Finset.univ (Φ c))
      = iprop((bigSep Finset.univ fun c : Dev nD => bigSep Finset.univ fun x => Φ c (.send x))
        ∗ (bigSep Finset.univ fun c : Dev nD => bigSep Finset.univ fun x => Φ c (.recv x))
        ∗ (bigSep Finset.univ fun c : Dev nD => bigSep Finset.univ fun t => Φ c (.loc t))) := by
    simp only [← bigSep_sep']
    exact bigSep_congr fun c _ => by rw [BI.bigSep_univ_sum, BI.bigSep_univ_sum]; rfl
  have hslots := bigSep_across fun c d (x : Arr × Fin 7) => slotOld m c x.1 d
  have htoks := bigSep_across fun c d (x : Arr × Fin 7) => (token c (.recv x) : sProp 𝕄)
  rw [hmine, hcell fun c k => atStart c k, hcell fun c k => token c k, bigSep_congr fun c _ => parts_around c (srcPts m c),
    bigSep_congr fun c _ => parts_around c (slotOld m c)]
  simp only [bigSep_sep']
  rw [hslots, htoks]
  iintro ⟨⟨Hk1, Hs1⟩, ⟨Hk2, Hs2⟩, Hcr, ⟨HaS, HaR, HaL⟩, ⟨Hs3, Hs4, Hk3⟩⟩
  isplitl [Hk1 Hk2 Hk3]
  · isplitl [Hk1]; · iexact Hk1
    isplitl [Hk2]; · iexact Hk2
    iexact Hk3
  isplitl [Hs1 Hs2 Hs3 Hs4]
  · isplitl [Hs1]; · iexact Hs1
    isplitl [Hs2]; · iexact Hs2
    isplitl [Hs3]; · iexact Hs3
    iexact Hs4
  isplitl [Hcr]; · iexact Hcr
  isplitl [HaR]; · iexact HaR
  isplitl [HaS]; · iexact HaS
  iexact HaL

/-! ## The start states -/

/-- What a device keeps besides its part of the exchange. -/
def carried (c : Dev nD) : sProp 𝕄 :=
  iprop(scopedBufs (c : Thread nD τ) ∗ stagingSems c ∗ idleSems c ∗ opIdle (c : Thread nD τ) ∗ owes (c : Thread nD τ) (owed c sends) ∅)

def start (c : Dev nD) : sProp 𝕄 :=
  iprop(carried c ∗ (bigSep Finset.univ fun p => Pipeline.cellsGhost cfgs EP p c) ∗ (bigSep Finset.univ fun p => Pipeline.toksInit cfgs EP p c) ∗ before m c)

theorem holdings_split (ρ : Dev nD → PrngReg) (c : Dev nD) :
    Dealt.holdings (fun c => owed c sends) m ρ c
      ⊢ (iprop(carried c ∗ cellSems c ∗ (bigSep Finset.univ fun t => bigSep Finset.univ (srcPts m c t))
          ∗ (bigSep Finset.univ fun t => bigSep Finset.univ (slotOld m c t))
          ∗ bigSep Finset.univ fun x : Arr × Fin 7 => creds c (.recv x)) : sProp 𝕄) := by
  have hb : (boundary (c : Thread nD τ) : sProp 𝕄) ⊢ iprop(scopedBufs (c : Thread nD τ) ∗ ((stagingSems c ∗ cellSems c) ∗ idleSems c) ∗ opIdle (c : Thread nD τ)) := by
    rw [← scopedSems_split]; exact BI.Entails.refl _
  have hu : (unscopedBufs c (fun b => m ((c : Thread nD τ).loc b)) : sProp 𝕄)
      ⊢ iprop((bigSep Finset.univ fun t => bigSep Finset.univ (srcPts m c t)) ∗ (bigSep Finset.univ fun t => bigSep Finset.univ (slotOld m c t))) := by
    rw [Pipeline.unscopedBufs_split cfgs 0 winFacts0.arr_unscoped (fun w => w.elim0) c, unscopedRest0_eq,
      ← bigSep_congr fun t _ => argPts_split m c t, ← bigSep_congr fun t _ => outOld_split m c t, ← all_arrs, ← all_arrs]
    simp only [arrs, all, argPts, outOld]
    iintro ⟨-, Ha0, Ha1, Ha2, Ha3, Ho0, Ho1, Ho2, Ho3⟩
    isplitl [Ha0 Ha1 Ha2 Ha3]
    · isplitl [Ha0]; · iexact Ha0
      isplitl [Ha1]; · iexact Ha1
      isplitl [Ha2]; · iexact Ha2
      isplitl [Ha3]; · iexact Ha3
      iempintro
    · isplitl [Ho0]; · iexact Ho0
      isplitl [Ho1]; · iexact Ho1
      isplitl [Ho2]; · iexact Ho2
      isplitl [Ho3]; · iexact Ho3
      iempintro
  unfold Dealt.holdings carried
  iintro ⟨Hb, Hu, -, HO, Hcr, -⟩
  ihave Hb' := hb $$ Hb
  icases Hb' with ⟨Hsc, ⟨⟨Hst, Hce⟩, Hid⟩, Hop⟩
  ihave Hu' := hu $$ Hu
  icases Hu' with ⟨Ha, Ho⟩
  isplitl [Hsc Hst Hid Hop HO]
  · isplitl [Hsc]; · iexact Hsc
    isplitl [Hst]; · iexact Hst
    isplitl [Hid]; · iexact Hid
    isplitl [Hop]; · iexact Hop
    iexact HO
  isplitl [Hce]; · iexact Hce
  isplitl [Ha]; · iexact Ha
  isplitl [Ho]; · iexact Ho
  iapply (creds_of_launch c); iexact Hcr

/-- What holds throughout, beside a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ iprop((bigSep S fun _ => R) ∗ bigSep S Φ) := sep_mono_left (BI.bigSep_of_persistent S R)
  rw [← bigSep_sep'] at h1
  exact h1.trans (bigSep_mono h)

theorem launch_init (ρ : Dev nD → PrngReg) (L : GSem nD τ sig → Finset Unit) (lv : GSem nD τ sig → Unit → ℕ) :
    iprop((bigSep Finset.univ fun c : Dev nD => Dealt.holdings (fun c => owed c sends) m ρ c) ∗ levAts L lv ∗ ownU u₀)
      ⊢ (|={Set.univ}=> bigSep Finset.univ (start m) : sProp 𝕄) := by
  have hsplit : (bigSep Finset.univ fun c : Dev nD => Dealt.holdings (fun c => owed c sends) m ρ c)
      ⊢ (iprop((bigSep Finset.univ fun c : Dev nD => carried c) ∗ (bigSep Finset.univ fun c : Dev nD => cellSems c)
          ∗ (bigSep Finset.univ fun c : Dev nD => bigSep Finset.univ fun t => bigSep Finset.univ (srcPts m c t))
          ∗ (bigSep Finset.univ fun c : Dev nD => bigSep Finset.univ fun t => bigSep Finset.univ (slotOld m c t))
          ∗ bigSep Finset.univ fun c : Dev nD => bigSep Finset.univ fun x : Arr × Fin 7 => creds c (.recv x)) : sProp 𝕄) := by
    have h := bigSep_mono (s := Finset.univ) fun (c : Dev nD) _ => holdings_split m ρ c
    simp only [bigSep_sep'] at h
    exact h
  have hknown (K : Dev nD × Cell → ℕ) : iprop(Known m K ∗ bigSep Finset.univ (mine m)) ⊢ (bigSep Finset.univ (before m) : sProp 𝕄) :=
    bigSep_beside fun c _ => by
      unfold before
      iintro ⟨#HK, Hm⟩
      iexists K
      isplitr; · iexact HK
      iexact Hm
  have hstart : iprop((bigSep Finset.univ fun c : Dev nD => carried c)
        ∗ (bigSep Finset.univ fun c : Dev nD => bigSep Finset.univ fun p => Pipeline.cellsGhost cfgs EP p c)
        ∗ (bigSep Finset.univ fun c : Dev nD => bigSep Finset.univ fun p => Pipeline.toksInit cfgs EP p c) ∗ bigSep Finset.univ (before m))
      ⊢ (bigSep Finset.univ (start m) : sProp 𝕄) := by
    unfold start; simp only [bigSep_sep']; exact BI.Entails.refl _
  have hpair : (ownU u₀ : sProp 𝕄) ⊢ iprop(BI.own (EP (initOf (Pipeline.cells cfgs cellOf_inj) (Pipeline.launchToks cfgs cellOf_inj))) ∗ BI.own (ER (initOf exCells exToks))) :=
    ownU_pair _ _
  iintro ⟨Hh, -, Hu⟩
  ihave Hu' := hpair $$ Hu
  icases Hu' with ⟨HP, HX⟩
  imod (Pipeline.fund_ghost cfgs EP cellOf_inj) $$ HP with ⟨Hg, Ht⟩
  imod (fund_exchange m) $$ HX with ⟨Hst, #Hr, Hat, Htok⟩
  ihave Hh' := hsplit $$ Hh
  icases Hh' with ⟨Hc, Hsem, Hsrc, Hslot, Hcr⟩
  imod (alloc_cells m) $$ [Hsem Hst] with ⟨%K, #HI⟩
  · isplitl [Hsem]; · iexact Hsem
    iexact Hst
  imodintro
  iapply hstart
  isplitl [Hc]; · iexact Hc
  isplitl [Hg]; · iexact Hg
  isplitl [Ht]; · iexact Ht
  iapply (hknown K)
  isplitr
  · unfold Known
    isplitl; · iexact HI
    iexact Hr
  iapply (deal m)
  isplitl [Hsrc]; · iexact Hsrc
  isplitl [Hslot]; · iexact Hslot
  isplitl [Hcr]; · iexact Hcr
  isplitl [Hat]; · iexact Hat
  iexact Htok

end Cert.Exchange

end
-- ==== Proof.Run.lean ====
/-
The run of the whole program: the launch, the exchange on every device, and what the memory holds at the end.
-/
module

public import proofs.«01_k».proof.Proof.Launch
public import Idealize.ShloMosaic.Lib.Pipeline.Quiescent

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's arrays at the end. -/
def fin (c : Dev nD) : sProp 𝕄 := iprop((bigSep Finset.univ fun t => argPts m c t) ∗ bigSep Finset.univ fun t => outNew m c t)

/-- What the waits hand back makes up the arrays, and every cell reads zero. -/
theorem after_gather (c : Dev nD) : after m c ⊢ (iprop(fin m c ∗ cellSems c) : sProp 𝕄) := by
  have hf : fin m c = iprop(((bigSep Finset.univ fun t => srcPts m c t c) ∗ bigSep Finset.univ fun x : Arr × Fin 7 => srcPts m c x.1 (peer c x.2))
      ∗ ((bigSep Finset.univ fun t => slotNew m c t c) ∗ bigSep Finset.univ fun x : Arr × Fin 7 => slotNew m c x.1 (peer c x.2))) := by
    unfold fin
    rw [bigSep_congr fun t _ => argPts_split m c t, bigSep_congr fun t _ => outNew_split m c t, parts_around c (srcPts m c), parts_around c (slotNew m c)]
  have hc : (cellSems c : sProp 𝕄) = iprop((bigSep Finset.univ fun x => semVal (at_ c (.send x)) 0) ∗ (bigSep Finset.univ fun x => semVal (at_ c (.recv x)) 0)
      ∗ bigSep Finset.univ fun t => semVal (at_ c (.loc t)) 0) := by
    unfold cellSems; rw [BI.bigSep_univ_sum, BI.bigSep_univ_sum]; rfl
  have hl : (bigSep Finset.univ fun t => pay m c (.loc t) : sProp 𝕄)
      = iprop((bigSep Finset.univ fun t => slotNew m c t c) ∗ bigSep Finset.univ fun t => srcPts m c t c) := by
    rw [← bigSep_sep']; rfl
  rw [hf, hc]
  unfold after
  rw [all_sends, all_sends, all_arrs, all_sends, all_sends, all_arrs, hl]
  iintro ⟨⟨HR, HS, HL1, HL2⟩, HzR, HzS, HzL⟩
  isplitl [HR HS HL1 HL2]
  · isplitl [HS HL2]
    · isplitl [HL2]; · iexact HL2
      iexact HS
    · isplitl [HL1]; · iexact HL1
      iexact HR
  isplitl [HzS]; · iexact HzS
  isplitl [HzR]; · iexact HzR
  iexact HzL

theorem wholes (c : Dev nD) :
    (scopedBufs (c : Thread nD τ) : sProp 𝕄) = iprop(Dat.staging cfg0 c ∗ Pipeline.scopedRest cfg0.spec c) :=
  Pipeline.scopedBufs_split cfgs 0 winFacts0.stage_scoped winFacts0.stage_inj stage_whole0 c

theorem exchange_leaves (c : Dev nD) :
    iprop(after m c ∗ stagingSems c ∗ Dat.staging cfg0 c ∗ idleSems c)
      ⊢ (iprop(fin m c ∗ scopedSems0 (c : Thread nD τ) ∗ scopedBufs (c : Thread nD τ)) : sProp 𝕄) := by
  rw [scopedSems_split, wholes, scopedRest0_eq]
  iintro ⟨Ha, Hs, Hst, Hi⟩
  ihave Ha' := (after_gather m c) $$ Ha
  icases Ha' with ⟨Hf, Hc⟩
  isplitl [Hf]; · iexact Hf
  isplitl [Hs Hc Hi]
  · isplitl [Hs Hc]
    · isplitl [Hs]; · iexact Hs
      iexact Hc
    iexact Hi
  isplitl [Hst]; · iexact Hst
  iempintro

theorem dats_first (c : Dev nD) : (dats m 0 c).Φ 0 = before m c := rfl
theorem dats_last (c : Dev nD) : (dats m 0 c).Φ (Fin.last cfg0.N) = after m c := by
  have h : (Fin.last cfg0.N).val = 0 + 1 := N_0
  show (match Fin.last cfg0.N with
    | ⟨0, _⟩ => before m c
    | ⟨_ + 1, _⟩ => after m c) = after m c
  split
  · next h' => exact absurd (h.symm.trans (congrArg Fin.val h')) (Nat.succ_ne_zero 0)
  · rfl

/-- The exchange as a region of the program: it takes what `before` says and leaves the arrays and the scoped state. -/
theorem run_region (c : Dev nD) (κ : GSem nD τ sig → ℕ) {k : PUnit → Prog (TpuEff nD τ sig (Elt F) (Pipeline.Sig Λ₀ (Fin 1) fun p => (pcfgs (F := F) p).Adm) .tc) PUnit}
    {Q : PUnit → sProp 𝕄} :
    iprop(Pipeline.EntryPre cfgs (dats m) () EP κ 0 c ∗ Pipeline.prefHeld (pcfgs (F := F) 0).pre c (fun _ => fullShare) (cfgs 0).toPCfg_adm.1
        ∗ before m c ∗ idleSems c ∗ scopedBufs (c : Thread nD τ))
      ⊢ iprop(((Pipeline.EntryPost cfgs (dats m) () 0 c ∗ fin m c ∗ scopedSems0 (c : Thread nD τ) ∗ scopedBufs (c : Thread nD τ))
          -∗ wp frame (wpE (defs (F := F)) (Variants.lift 𝒱₀) (c : Thread nD τ) none) Set.univ (k ⟨⟩) Q)
        -∗ wp frame (wpE (defs (F := F)) (Variants.lift 𝒱₀) (c : Thread nD τ) none) Set.univ (.op (.customCall (Pipeline.entry 0) ()) k) Q) :=
  Pipeline.wp_customCall_entry_frame (pcfgs (F := F)) (fun p : Fin 1 => (cfgs p).toPCfg_adm) (dats m) () EP κ cellOf_inj 0 (defs₀ (F := F)) 𝒱₀
    (fun _ => fullShare) c Set.univ (fun _ _ => Set.mem_univ _) (body_obligation m c).loose block_pos0 none (fun u h => nomatch h)
    (X := before m c) (Y := fin m c) (R := Pipeline.scopedRest cfg0.spec c) (I := idleSems c) (Entails.of_eq (wholes c))
    (by
      rw [dats_first]
      iintro ⟨H, -, -⟩
      iexact H)
    (by
      have h := exchange_leaves m c
      rw [← dats_last] at h
      exact h)

/-- The region moves no window, so it needs nothing for windows. -/
theorem bigSep_none (Φ : Fin 0 → sProp 𝕄) : bigSep Finset.univ Φ = iprop(emp) := by
  rw [Finset.univ_eq_empty, BI.bigSep_empty]; rfl

theorem enter (c : Dev nD) (κ : GSem nD τ sig → ℕ) :
    iprop(owes (c : Thread nD τ) (owed c sends) ∅ ∗ Pipeline.cellsInit cfgs (dats m) EP κ 0 c ∗ Pipeline.toksInit cfgs EP 0 c)
      ⊢ (Pipeline.EntryPre cfgs (dats m) () EP κ 0 c : sProp 𝕄) := by
  have harr : (iprop(emp) : sProp 𝕄) ⊢ (dats m 0 c).arrays ((dats m 0 c).arrAt · 0) := Entails.of_eq (bigSep_none _).symm
  have hw : (iprop(emp) : sProp 𝕄) ⊢ Pipeline.cellsWaits cfgs (dats m) () 0 c := Entails.of_eq (bigSep_none _).symm
  unfold Pipeline.EntryPre Pipeline.PerCore.EntryPre Dat.owesAt Pipeline.owesWithin
  rw [show (dats m 0 c).owed 0 = owed c sends from rfl]
  iintro ⟨HO, Hi, Ht⟩
  isplitr; · iapply harr; iempintro
  isplitl [HO]
  · iexists ∅
    isplitr; · ipureintro; rw [Finset.coe_empty]; exact Set.empty_subset _
    iexact HO
  isplitr; · iapply hw; iempintro
  isplitl [Hi]; · iexact Hi
  iexact Ht

theorem dats_owed_last (c : Dev nD) : (dats m 0 c).owed (Fin.last cfg0.N) = 0 := by
  have h : (Fin.last cfg0.N).val = 0 + 1 := N_0
  show (match Fin.last cfg0.N with
    | ⟨0, _⟩ => owed c sends
    | ⟨_ + 1, _⟩ => 0) = 0
  split
  · next h' => exact absurd (h.symm.trans (congrArg Fin.val h')) (Nat.succ_ne_zero 0)
  · rfl

theorem leave (c : Dev nD) :
    (Pipeline.EntryPost cfgs (dats m) () 0 c : sProp 𝕄) ⊢ iprop(∃ W, owes (c : Thread nD τ) (0 : CellTallies nD τ sig Unit) W) := by
  have h := dats_owed_last m c
  unfold Pipeline.EntryPost Pipeline.PerCore.EntryPost Dat.owesAt Pipeline.owesWithin
  rw [h]
  iintro ⟨-, ⟨%W, -, HO⟩⟩
  iexists W; iexact HO

/-- One device's run. -/
theorem run_device (c : Dev nD) :
    start m c ⊢ wp frame (wpE (defs (F := F)) (Variants.lift 𝒱₀) (c : Thread nD τ) none) Set.univ (main (F := F) c)
      fun _ => iprop((fin m c ∗ boundary (c : Thread nD τ)) ∗ ∃ W, owes (c : Thread nD τ) (0 : CellTallies nD τ sig Unit) W) := by
  have hmain : main (F := F) c = .op (.customCall (Pipeline.entry 0) ()) fun _ => Prog.ret ⟨⟩ := rfl
  have hpref : (iprop(emp) : sProp 𝕄) ⊢ Pipeline.prefHeld (pcfgs (F := F) 0).pre c (fun _ => fullShare) (cfgs 0).toPCfg_adm.1 :=
    Entails.of_eq (bigSep_none _).symm
  rw [hmain]
  unfold start carried
  rw [BI.bigSep_univ_of_subsingleton (0 : Fin 1), BI.bigSep_univ_of_subsingleton (0 : Fin 1)]
  iintro ⟨⟨Hsc, Hst, Hid, Hop, HO⟩, Hg, Ht, Hb⟩
  iapply (fupd_wp frame (wpE (defs (F := F)) (Variants.lift 𝒱₀) (c : Thread nD τ) none) Set.univ _ _)
  imod (Pipeline.cellsInit_alloc cfgs (dats m) EP cellOf_inj 0 c) $$ [Hst Hg] with ⟨%κ, -, Hinit⟩
  · isplitl [Hst]; · iexact Hst
    iexact Hg
  imodintro
  iapply (run_region m c κ) $$ [HO Hinit Ht Hb Hid Hsc]
  · isplitl [HO Hinit Ht]
    · iapply (enter m c κ)
      isplitl [HO]; · iexact HO
      isplitl [Hinit]; · iexact Hinit
      iexact Ht
    isplitr; · iapply hpref; iempintro
    isplitl [Hb]; · iexact Hb
    isplitl [Hid]; · iexact Hid
    iexact Hsc
  iintro ⟨Hpost, Hf, Hss, Hsc⟩
  rw [wp_ret]
  imodintro
  isplitr [Hpost]
  · isplitl [Hf]; · iexact Hf
    iapply (show iprop(scopedBufs (c : Thread nD τ) ∗ scopedSems0 (c : Thread nD τ) ∗ opIdle (c : Thread nD τ)) ⊢ (boundary (c : Thread nD τ) : sProp 𝕄) from BI.Entails.refl _)
    isplitl [Hsc]; · iexact Hsc
    isplitl [Hss]; · iexact Hss
    iexact Hop
  iapply (leave m c); iexact Hpost

/-! ## The end of the run -/

/-- At the end device `c`'s arguments are as launched and its results are what `gathered` says. -/
def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ (s.mem ((c : Thread nD τ).loc main_v1_0) = gathered m .pack 0 c ∧ s.mem ((c : Thread nD τ).loc main_v1_1) = gathered m .dwin 0 c
    ∧ s.mem ((c : Thread nD τ).loc main_v1_2) = gathered m .dwout 0 c ∧ s.mem ((c : Thread nD τ).loc main_v1_3) = gathered m .dwglu 0 c)

/-- Reading one array off the state. -/
theorem read_array (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr; · ipureintro; exact Buf.eq_of_forall_mem_univ h
  iexact HSI

theorem fin_reads (c : Dev nD) (s' : Phys nD τ sig (Elt F)) :
    iprop(fin m c ∗ SI s') ⊢ (|={Set.univ}=> iprop(⌜Ends m c s'.mem⌝ ∗ SI s') : sProp 𝕄) := by
  unfold fin
  rw [← all_arrs, ← all_arrs]
  simp only [arrs, all, argPts, outNew]
  iintro ⟨⟨⟨Ha0, Ha1, Ha2, Ha3, -⟩, Ho0, Ho1, Ho2, Ho3, -⟩, HSI⟩
  ihave H := (read_array _ _ s') $$ [Ha0 HSI]
  · isplitl [Ha0] <;> iassumption
  icases H with ⟨%h0, HSI⟩
  ihave H := (read_array _ _ s') $$ [Ha1 HSI]
  · isplitl [Ha1] <;> iassumption
  icases H with ⟨%h1, HSI⟩
  ihave H := (read_array _ _ s') $$ [Ha2 HSI]
  · isplitl [Ha2] <;> iassumption
  icases H with ⟨%h2, HSI⟩
  ihave H := (read_array _ _ s') $$ [Ha3 HSI]
  · isplitl [Ha3] <;> iassumption
  icases H with ⟨%h3, HSI⟩
  ihave H := (read_array _ _ s') $$ [Ho0 HSI]
  · isplitl [Ho0] <;> iassumption
  icases H with ⟨%k0, HSI⟩
  ihave H := (read_array _ _ s') $$ [Ho1 HSI]
  · isplitl [Ho1] <;> iassumption
  icases H with ⟨%k1, HSI⟩
  ihave H := (read_array _ _ s') $$ [Ho2 HSI]
  · isplitl [Ho2] <;> iassumption
  icases H with ⟨%k2, HSI⟩
  ihave H := (read_array _ _ s') $$ [Ho3 HSI]
  · isplitl [Ho3] <;> iassumption
  icases H with ⟨%k3, HSI⟩
  imodintro
  isplitr
  · ipureintro
    exact ⟨⟨h0, h1, h2, h3⟩, k0, k1, k2, k3⟩
  iexact HSI

/-- Every execution ends, with the arguments as launched, the results gathered, and every semaphore at zero. -/
theorem run_main (ρ : Dev nD → PrngReg) :
    θ_run (defs (F := F)) (onTc (τ := τ) (main (F := F))) ⟨m, fun _ => 0, ρ⟩ fun r => (∀ c, Ends m c r.2) ∧ r.2.sem = fun _ => 0 :=
  Dealt.θ_run_dealt (𝒱 := Variants.lift 𝒱₀) (Ix := Unit) (Name := ℕ) (U := UU) (Lvl := ℕ) m ρ main (fun c => owed c sends) (fun _ => ∅) (fun _ _ => 0) (fun _ _ => rfl) u₀
    (start m) (fin m) (launch_init m ρ _ _) (run_device m) (Ends m) (fin_reads m)
    fun s h hs => ⟨h, sem_eq_zero_of_scoped (by decide) hs⟩

end Cert.Exchange

end
-- ==== Proof.Value.lean ====
/-
The value: what the exchange gathers is the device's part of the reference's reshapes and transposes of the whole arrays.
-/
module

public import proofs.«01_k».proof.Proof.Run
public import proofs.«01_k».proof.Defs
public import proofs.«01_k».proof.Proof.Gen.Kernel
public import proofs.«01_k».proof.Proof.Gen.Reference
public import proofs.«01_k».proof.Proof.Gen.ReferenceIdeal.Run
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Whole

variable {α : Type} {A B : ℕ}

/-- The pack: rows cut in eight blocks, stacked again, are the rows grouped in eights. -/
theorem stacked {R : ℕ} (hT : Layout.Tiles ⟨2, ![R, B]⟩ ⟨2, ![8 * R, B]⟩ 0 8) (hc : (⟨2, ![8 * R, B]⟩ : Shape).ShapeCasts ⟨3, ![8, R, B]⟩)
    (v : (⟨2, ![8 * R, B]⟩ : Shape).Idx → α) (j : Fin 8) (a : Fin R) (b : Fin B) :
    Layout.block ⟨2, ![R, B]⟩ ⟨2, ![8 * R, B]⟩ 0 8 j v hT (ix2 a b) = shapeCast ⟨3, ![8, R, B]⟩ v hc (ix3 j a b) := by
  refine (shapeCast_apply v hc (ix3 j a b) (hT.idx j (ix2 a b)) ?_).symm
  rw [Shape.rowMajor_val_two, Shape.rowMajor_val_three]
  simp only [Layout.Tiles.idx_val]
  show (j.val * R + a.val) * B + b.val = (j.val * R + a.val) * B + b.val
  rfl

/-- A stack of sixty-four read as eight eights, and back: the flat row of block `j`, slot `c`. -/
theorem swapped (hT : Layout.Tiles ⟨3, ![8, A, B]⟩ ⟨3, ![64, A, B]⟩ 0 8)
    (h1 : (⟨3, ![64, A, B]⟩ : Shape).ShapeCasts ⟨4, ![8, 8, A, B]⟩) (h2 : (⟨4, ![8, 8, A, B]⟩ : Shape).Transposes [1, 0, 2, 3] ⟨4, ![8, 8, A, B]⟩)
    (h3 : (⟨4, ![8, 8, A, B]⟩ : Shape).ShapeCasts ⟨3, ![64, A, B]⟩) (v : (⟨3, ![64, A, B]⟩ : Shape).Idx → α) (c j : Fin 8) (a : Fin A) (b : Fin B) :
    Layout.block ⟨3, ![8, A, B]⟩ ⟨3, ![64, A, B]⟩ 0 8 j v hT (ix3 c a b)
      = Layout.block ⟨3, ![8, A, B]⟩ ⟨3, ![64, A, B]⟩ 0 8 c
          (shapeCast ⟨3, ![64, A, B]⟩ (transpose ⟨4, ![8, 8, A, B]⟩ [1, 0, 2, 3] (shapeCast ⟨4, ![8, 8, A, B]⟩ v h1) h2) h3) hT (ix3 j a b) := by
  rw [Layout.block_apply, Layout.block_apply]
  rw [shapeCast_apply _ h3 (hT.idx c (ix3 j a b)) (ix4 c j a b) (by
      rw [Shape.rowMajor_val_three, Shape.rowMajor_val_four]
      simp only [Layout.Tiles.idx_val]
      rfl),
    transpose_apply _ _ h2 (ix4 c j a b) (ix4 j c a b) (fun x => by fin_cases x <;> rfl),
    shapeCast_apply _ h1 (ix4 j c a b) (hT.idx j (ix3 c a b)) (by
      rw [Shape.rowMajor_val_three, Shape.rowMajor_val_four]
      simp only [Layout.Tiles.idx_val]
      rfl)]

end Whole

variable (m : (ℓ : Loc nD τ sig) → Buf (Elt F) ℓ)
variable (m' : (ℓ : Loc Cert.ReferenceIdeal.nD Cert.ReferenceIdeal.τ Cert.ReferenceIdeal.sig) → Buf (Elt F) ℓ)

/-- Each device's arguments are its blocks of the whole arrays. -/
def Cut : Prop := ∀ c : Dev nD,
  m ((c : Thread nD τ).loc main_arg0) = Layout.block ⟨2, ![2192, 128]⟩ ⟨2, ![17536, 128]⟩ 0 8 c (m' (((0 : Dev Cert.ReferenceIdeal.nD) : Thread Cert.ReferenceIdeal.nD Cert.ReferenceIdeal.τ).loc Cert.ReferenceIdeal.main_arg0))
    ∧ m ((c : Thread nD τ).loc main_arg1) = Layout.block ⟨3, ![8, 2048, 768]⟩ ⟨3, ![64, 2048, 768]⟩ 0 8 c (m' (((0 : Dev Cert.ReferenceIdeal.nD) : Thread Cert.ReferenceIdeal.nD Cert.ReferenceIdeal.τ).loc Cert.ReferenceIdeal.main_arg1))
    ∧ m ((c : Thread nD τ).loc main_arg2) = Layout.block ⟨3, ![8, 256, 2048]⟩ ⟨3, ![64, 256, 2048]⟩ 0 8 c (m' (((0 : Dev Cert.ReferenceIdeal.nD) : Thread Cert.ReferenceIdeal.nD Cert.ReferenceIdeal.τ).loc Cert.ReferenceIdeal.main_arg2))
    ∧ m ((c : Thread nD τ).loc main_arg3) = Layout.block ⟨3, ![8, 128, 1024]⟩ ⟨3, ![64, 128, 1024]⟩ 0 8 c (m' (((0 : Dev Cert.ReferenceIdeal.nD) : Thread Cert.ReferenceIdeal.nD Cert.ReferenceIdeal.τ).loc Cert.ReferenceIdeal.main_arg3))

/-- The reference's results. -/
abbrev whole0 : Buf (Elt F) (((0 : Dev Cert.ReferenceIdeal.nD) : Thread Cert.ReferenceIdeal.nD Cert.ReferenceIdeal.τ).loc Cert.ReferenceIdeal.main_v0) :=
  shapeCast _ (m' (((0 : Dev Cert.ReferenceIdeal.nD) : Thread Cert.ReferenceIdeal.nD Cert.ReferenceIdeal.τ).loc Cert.ReferenceIdeal.main_arg0)) Cert.ReferenceIdeal.Gen.shapeCasts_S17536x128_S8x2192x128
abbrev whole1 : Buf (Elt F) (((0 : Dev Cert.ReferenceIdeal.nD) : Thread Cert.ReferenceIdeal.nD Cert.ReferenceIdeal.τ).loc Cert.ReferenceIdeal.main_v3) :=
  shapeCast _ (transpose Cert.ReferenceIdeal.S8x8x2048x768 [1, 0, 2, 3] (shapeCast _ (m' (((0 : Dev Cert.ReferenceIdeal.nD) : Thread Cert.ReferenceIdeal.nD Cert.ReferenceIdeal.τ).loc Cert.ReferenceIdeal.main_arg1)) Cert.ReferenceIdeal.Gen.shapeCasts_S64x2048x768_S8x8x2048x768)
    Cert.ReferenceIdeal.Gen.transposes_S8x8x2048x768_S8x8x2048x768_1_0_2_3) Cert.ReferenceIdeal.Gen.shapeCasts_S8x8x2048x768_S64x2048x768
abbrev whole2 : Buf (Elt F) (((0 : Dev Cert.ReferenceIdeal.nD) : Thread Cert.ReferenceIdeal.nD Cert.ReferenceIdeal.τ).loc Cert.ReferenceIdeal.main_v6) :=
  shapeCast _ (transpose Cert.ReferenceIdeal.S8x8x256x2048 [1, 0, 2, 3] (shapeCast _ (m' (((0 : Dev Cert.ReferenceIdeal.nD) : Thread Cert.ReferenceIdeal.nD Cert.ReferenceIdeal.τ).loc Cert.ReferenceIdeal.main_arg2)) Cert.ReferenceIdeal.Gen.shapeCasts_S64x256x2048_S8x8x256x2048)
    Cert.ReferenceIdeal.Gen.transposes_S8x8x256x2048_S8x8x256x2048_1_0_2_3) Cert.ReferenceIdeal.Gen.shapeCasts_S8x8x256x2048_S64x256x2048
abbrev whole3 : Buf (Elt F) (((0 : Dev Cert.ReferenceIdeal.nD) : Thread Cert.ReferenceIdeal.nD Cert.ReferenceIdeal.τ).loc Cert.ReferenceIdeal.main_v9) :=
  shapeCast _ (transpose Cert.ReferenceIdeal.S8x8x128x1024 [1, 0, 2, 3] (shapeCast _ (m' (((0 : Dev Cert.ReferenceIdeal.nD) : Thread Cert.ReferenceIdeal.nD Cert.ReferenceIdeal.τ).loc Cert.ReferenceIdeal.main_arg3)) Cert.ReferenceIdeal.Gen.shapeCasts_S64x128x1024_S8x8x128x1024)
    Cert.ReferenceIdeal.Gen.transposes_S8x8x128x1024_S8x8x128x1024_1_0_2_3) Cert.ReferenceIdeal.Gen.shapeCasts_S8x8x128x1024_S64x128x1024

section
variable {m m'} (h : Cut m m') (c : Dev nD)
include h

theorem pack_value : gathered m .pack 0 c = whole0 m' := by
  funext x
  obtain ⟨j, a, b, rfl⟩ : ∃ (j : Fin 8) (a : Fin 2192) (b : Fin 128), x = ix3 j a b := ⟨x 0, x 1, x 2, eq_ix3 x⟩
  show m ((Dev.tc (j : Dev nD) : Thread nD τ).loc main_arg0) (ix2 a b) = _
  rw [(h j).1]
  exact stacked (R := 2192) (B := 128) (by decide) Cert.ReferenceIdeal.Gen.shapeCasts_S17536x128_S8x2192x128 _ j a b

theorem dwin_value : gathered m .dwin 0 c = Layout.block ⟨3, ![8, 2048, 768]⟩ ⟨3, ![64, 2048, 768]⟩ 0 8 c (whole1 m') := by
  funext x
  obtain ⟨j, a, b, rfl⟩ : ∃ (j : Fin 8) (a : Fin 2048) (b : Fin 768), x = ix3 j a b := ⟨x 0, x 1, x 2, eq_ix3 x⟩
  show m ((Dev.tc (j : Dev nD) : Thread nD τ).loc main_arg1) (ix3 (c : Fin 8) a b) = _
  rw [(h j).2.1]
  exact swapped (A := 2048) (B := 768) (by decide) _ _ _ _ c j a b

theorem dwout_value : gathered m .dwout 0 c = Layout.block ⟨3, ![8, 256, 2048]⟩ ⟨3, ![64, 256, 2048]⟩ 0 8 c (whole2 m') := by
  funext x
  obtain ⟨j, a, b, rfl⟩ : ∃ (j : Fin 8) (a : Fin 256) (b : Fin 2048), x = ix3 j a b := ⟨x 0, x 1, x 2, eq_ix3 x⟩
  show m ((Dev.tc (j : Dev nD) : Thread nD τ).loc main_arg2) (ix3 (c : Fin 8) a b) = _
  rw [(h j).2.2.1]
  exact swapped (A := 256) (B := 2048) (by decide) _ _ _ _ c j a b

theorem dwglu_value : gathered m .dwglu 0 c = Layout.block ⟨3, ![8, 128, 1024]⟩ ⟨3, ![64, 128, 1024]⟩ 0 8 c (whole3 m') := by
  funext x
  obtain ⟨j, a, b, rfl⟩ : ∃ (j : Fin 8) (a : Fin 128) (b : Fin 1024), x = ix3 j a b := ⟨x 0, x 1, x 2, eq_ix3 x⟩
  show m ((Dev.tc (j : Dev nD) : Thread nD τ).loc main_arg3) (ix3 (c : Fin 8) a b) = _
  rw [(h j).2.2.2]
  exact swapped (A := 128) (B := 1024) (by decide) _ _ _ _ c j a b

end

/-- From arguments that are the blocks of whole arrays, every device ends with its part of what the reference makes of the
    whole arrays. -/
theorem run_value (h : Cut m m') (ρ : Dev nD → PrngReg) (ρ' : Dev Cert.ReferenceIdeal.nD → PrngReg) :
    θ_run (defs (F := F)) (onTc (τ := τ) (main (F := F))) ⟨m, fun _ => 0, ρ⟩ (fun r => ∀ c : Dev nD,
        r.2.mem ((c : Thread nD τ).loc main_v1_0) = whole0 m'
        ∧ r.2.mem ((c : Thread nD τ).loc main_v1_1) = Layout.block ⟨3, ![8, 2048, 768]⟩ ⟨3, ![64, 2048, 768]⟩ 0 8 c (whole1 m')
        ∧ r.2.mem ((c : Thread nD τ).loc main_v1_2) = Layout.block ⟨3, ![8, 256, 2048]⟩ ⟨3, ![64, 256, 2048]⟩ 0 8 c (whole2 m')
        ∧ r.2.mem ((c : Thread nD τ).loc main_v1_3) = Layout.block ⟨3, ![8, 128, 1024]⟩ ⟨3, ![64, 128, 1024]⟩ 0 8 c (whole3 m')
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
    ∧ θ_run (Cert.ReferenceIdeal.defs (F := F)) (onTc (τ := Cert.ReferenceIdeal.τ) (Cert.ReferenceIdeal.main (F := F))) ⟨m', fun _ => 0, ρ'⟩ (fun r =>
        r.2.mem (((0 : Dev Cert.ReferenceIdeal.nD) : Thread Cert.ReferenceIdeal.nD Cert.ReferenceIdeal.τ).loc Cert.ReferenceIdeal.main_v0) = whole0 m' ∧ r.2.mem (((0 : Dev Cert.ReferenceIdeal.nD) : Thread Cert.ReferenceIdeal.nD Cert.ReferenceIdeal.τ).loc Cert.ReferenceIdeal.main_v3) = whole1 m' ∧ r.2.mem (((0 : Dev Cert.ReferenceIdeal.nD) : Thread Cert.ReferenceIdeal.nD Cert.ReferenceIdeal.τ).loc Cert.ReferenceIdeal.main_v6) = whole2 m' ∧ r.2.mem (((0 : Dev Cert.ReferenceIdeal.nD) : Thread Cert.ReferenceIdeal.nD Cert.ReferenceIdeal.τ).loc Cert.ReferenceIdeal.main_v9) = whole3 m'
        ∧ r.2.mem (((0 : Dev Cert.ReferenceIdeal.nD) : Thread Cert.ReferenceIdeal.nD Cert.ReferenceIdeal.τ).loc Cert.ReferenceIdeal.main_arg0) = m' (((0 : Dev Cert.ReferenceIdeal.nD) : Thread Cert.ReferenceIdeal.nD Cert.ReferenceIdeal.τ).loc Cert.ReferenceIdeal.main_arg0) ∧ r.2.mem (((0 : Dev Cert.ReferenceIdeal.nD) : Thread Cert.ReferenceIdeal.nD Cert.ReferenceIdeal.τ).loc Cert.ReferenceIdeal.main_arg1) = m' (((0 : Dev Cert.ReferenceIdeal.nD) : Thread Cert.ReferenceIdeal.nD Cert.ReferenceIdeal.τ).loc Cert.ReferenceIdeal.main_arg1)
        ∧ r.2.mem (((0 : Dev Cert.ReferenceIdeal.nD) : Thread Cert.ReferenceIdeal.nD Cert.ReferenceIdeal.τ).loc Cert.ReferenceIdeal.main_arg2) = m' (((0 : Dev Cert.ReferenceIdeal.nD) : Thread Cert.ReferenceIdeal.nD Cert.ReferenceIdeal.τ).loc Cert.ReferenceIdeal.main_arg2) ∧ r.2.mem (((0 : Dev Cert.ReferenceIdeal.nD) : Thread Cert.ReferenceIdeal.nD Cert.ReferenceIdeal.τ).loc Cert.ReferenceIdeal.main_arg3) = m' (((0 : Dev Cert.ReferenceIdeal.nD) : Thread Cert.ReferenceIdeal.nD Cert.ReferenceIdeal.τ).loc Cert.ReferenceIdeal.main_arg3)) :=
  ⟨(θ_run defs _ _).mono (fun r hr c => by
      obtain ⟨⟨a0, a1, a2, a3⟩, o0, o1, o2, o3⟩ := hr.1 c
      exact ⟨o0.trans (pack_value h c), o1.trans (dwin_value h c), o2.trans (dwout_value h c), o3.trans (dwglu_value h c), a0, a1, a2, a3⟩) (run_main m ρ),
    (θ_run Cert.ReferenceIdeal.defs _ _).mono (fun r hr => hr 0) (Cert.ReferenceIdeal.Value.run m' ρ')⟩

end Cert.Exchange

end
-- ==== Proof.GatherGeometry.lean ====
/-
The gather's geometry: the eight devices, each device's seven peers, the four arrays, the slot of a stack a copy
writes, and the elements under a slot. Each array is copied whole to every device: device `c` writes slot `c` of
the stack on every device.
-/
module

public import proofs.«01_k».proof.Proof.Gen.GatherIdeal
public import proofs.«01_k».proof.Proof.Gen.GatherIdeal.Skeleton
public import Idealize.ShloMosaic.Lib.ViewIndex
public import Idealize.ShloMosaic.Lib.ValueLayout

@[expose] public section

noncomputable section

namespace Cert.Gathering

open Cert.GatherIdeal Cert.GatherIdeal.Gen
open Idealize.ShloMosaic Idealize.ShloMosaic.TcCoe
open Idealize.ShloMosaic.ValueIdx
open Idealize.SL Idealize.SL.Sem

/-! ## Devices -/

/-- The `k`-th peer of device `c`: its number with the bits of `k + 1` flipped. -/
def peer (c : Dev nD) (k : Fin 7) : Dev nD := ⟨c.val ^^^ (k.val + 1), by revert c k; decide⟩

theorem peer_peer (c : Dev nD) (k : Fin 7) : peer (peer c k) k = c := by revert c k; decide
theorem peer_ne (c : Dev nD) (k : Fin 7) : peer c k ≠ c := by revert c k; decide
theorem peer_inj (c : Dev nD) : Function.Injective (peer c) := by revert c; decide

/-- Flipping the bits of `k + 1` permutes the devices. -/
def flip (k : Fin 7) : Dev nD ≃ Dev nD := ⟨(peer · k), (peer · k), (peer_peer · k), (peer_peer · k)⟩

/-- Every device is `c` itself or one of its peers. -/
def around (c : Dev nD) : Option (Fin 7) → Dev nD := fun o => o.elim c (peer c)
theorem around_bijective (c : Dev nD) : Function.Bijective (around c) := by
  rw [Fintype.bijective_iff_injective_and_card]
  refine ⟨?_, by decide⟩
  rintro (_ | k) (_ | k') h
  · rfl
  · exact absurd h.symm (peer_ne c k')
  · exact absurd h (peer_ne c k)
  · exact congrArg some (peer_inj c h)

/-- The devices as `c` and its peers. -/
def aroundEquiv (c : Dev nD) : Option (Fin 7) ≃ Dev nD := Equiv.ofBijective (around c) (around_bijective c)

/-! ## Arrays -/

/-- The four arrays of the exchange. -/
inductive Arr | win | wout | wglu | conv
  deriving DecidableEq

instance : Fintype Arr := ⟨{.win, .wout, .wglu, .conv}, fun t => by cases t <;> decide⟩

/-- An array's number in the semaphore tables. -/
def Arr.ix : Arr → Fin 4 | .win => 0 | .wout => 1 | .wglu => 2 | .conv => 3

/-- The shape one copy moves. -/
abbrev blk : Arr → Shape
  | .win => S2048x768
  | .wout => S256x2048
  | .wglu => S128x1024
  | .conv => S8x128

/-- The type of an array's elements. -/
abbrev elt : Arr → EltTy
  | .conv => .f32
  | _ => .bf16

/-! ## Slots -/

section Slot

variable {A B : ℕ} {ty : EltTy}

theorem slot_inb (j : Dev nD) : ∀ a : Fin 3, (![j.val, 0, 0] : Fin 3 → ℕ) a + (![1, A, B] : Fin 3 → ℕ) a ≤ (![8, A, B] : Fin 3 → ℕ) a := by
  have hj : j.val < 8 := j.isLt
  intro a
  match a with
  | ⟨0, _⟩ => show j.val + 1 ≤ 8; omega
  | ⟨1, _⟩ => show 0 + A ≤ A; omega
  | ⟨2, _⟩ => show 0 + B ≤ B; omega

/-- Slot `j` of a stack of eight matrices. -/
abbrev slotM (M : Memref sig .tc .hbm ⟨3, ![8, A, B]⟩ ty) (h : (⟨3, ![1, A, B]⟩ : Shape).Squeezes ⟨2, ![A, B]⟩) (j : Dev nD) :
    Memref sig .tc .hbm ⟨2, ![A, B]⟩ ty :=
  (M.slice (Rect.unit (s := ⟨3, ![8, A, B]⟩) ![j.val, 0, 0] ![1, A, B] (slot_inb j)) (fun _ => rfl)).squeeze ⟨2, ![A, B]⟩ h

/-- The element of a stack under an index of slot `j`. -/
theorem slot_emb (M : Memref sig .tc .hbm ⟨3, ![8, A, B]⟩ ty) (h : (⟨3, ![1, A, B]⟩ : Shape).Squeezes ⟨2, ![A, B]⟩) (j : Dev nD)
    (a : Fin A) (b : Fin B) : (slotM M h j).view.emb (ix2 a b) = M.view.emb (ix3 (j : Fin 8) a b) := by
  show M.view.emb ((Rect.unit (s := ⟨3, ![8, A, B]⟩) ![j.val, 0, 0] ![1, A, B] (slot_inb j)).emb (Shape.reshapeEquiv h.numel_eq (ix2 a b))) = _
  rw [reshapeEquiv_ix2_1ab]
  congr 1
  refine Shape.idx3_ext ?_ ?_ ?_
  · show j.val + 1 * 0 = j.val; omega
  · show 0 + 1 * a.val = a.val; omega
  · show 0 + 1 * b.val = b.val; omega

variable {Val : EltTy → Type}

/-- The elements under slot `j` of a whole buffer are those whose first coordinate is `j`; a write of the slot puts
    `w a b` at `(j, a, b)`. So contents `f` that hold `w` there agree with the written contents on the slot. -/
theorem slot_write (M : Memref sig .tc .hbm ⟨3, ![8, A, B]⟩ ty) (h : (⟨3, ![1, A, B]⟩ : Shape).Squeezes ⟨2, ![A, B]⟩) (j : Dev nD)
    (fd f : M.view.ty.Contents Val) (w : (⟨2, ![A, B]⟩ : Shape).Idx → Val ty)
    (hf : ∀ a b, M.view.read Val f (ix3 (j : Fin 8) a b) = w (ix2 a b)) :
    ∀ i ∈ (slotM M h j).view.set, (slotM M h j).view.write Val fd w Finset.univ i = f i := by
  intro i hi
  obtain ⟨x, -, rfl⟩ := Finset.mem_map.mp hi
  obtain ⟨a, b, rfl⟩ : ∃ (a : Fin A) (b : Fin B), x = ix2 a b := ⟨x 0, x 1, eq_ix2 x⟩
  have h1 : (slotM M h j).view.read Val ((slotM M h j).view.write Val fd w Finset.univ) (ix2 a b) = w (ix2 a b) :=
    View.read_write_of_mem (v := (slotM M h j).view) fd w (Finset.mem_univ _)
  have h2 : (slotM M h j).view.read Val f (ix2 a b) = w (ix2 a b) := by
    rw [← hf a b, View.read_apply, View.read_apply]
    congr 1
    exact congrArg f (slot_emb M h j a b)
  exact View.eq_of_read_eq (h1.trans h2.symm)

end Slot

/-! ## What the copies read and write -/

section Copies

/-- What `c` copies to every device: the whole array. -/
abbrev srcM : (t : Arr) → Dev nD → Memref sig .tc .hbm (blk t) (elt t)
  | .win, _ => Memref.whole main_arg0
  | .wout, _ => Memref.whole main_arg1
  | .wglu, _ => Memref.whole main_arg2
  | .conv, _ => Memref.whole main_arg3

/-- Where the copies that device `j` starts land, on every device: slot `j` of the result. -/
abbrev dstM : (t : Arr) → Dev nD → Memref sig .tc .hbm (blk t) (elt t)
  | .win, j => slotM (Memref.whole main_v1_0) squeezes_S1x2048x768_S2048x768 j
  | .wout, j => slotM (Memref.whole main_v1_1) squeezes_S1x256x2048_S256x2048 j
  | .wglu, j => slotM (Memref.whole main_v1_2) squeezes_S1x128x1024_S128x1024 j
  | .conv, j => slotM (Memref.whole main_v1_3) squeezes_S1x8x128_S8x128 j

theorem src_wordExact : ∀ (t : Arr) (j : Dev nD), (srcM t j).view.WordExact
  | .win, _ => (Memref.isWhole_whole main_arg0).wordExact
  | .wout, _ => (Memref.isWhole_whole main_arg1).wordExact
  | .wglu, _ => (Memref.isWhole_whole main_arg2).wordExact
  | .conv, _ => (Memref.isWhole_whole main_arg3).wordExact

/-- A slot of a stack of 16-bit matrices is whole words. -/
theorem win_words : ∀ j : Dev nD, (Rect.unit (s := S8x2048x768) ![j.val, 0, 0] ![1, 2048, 768] (slot_inb j)).WholeWords (EltTy.packing .bf16) := by decide +kernel
theorem wout_words : ∀ j : Dev nD, (Rect.unit (s := S8x256x2048) ![j.val, 0, 0] ![1, 256, 2048] (slot_inb j)).WholeWords (EltTy.packing .bf16) := by decide +kernel
theorem wglu_words : ∀ j : Dev nD, (Rect.unit (s := S8x128x1024) ![j.val, 0, 0] ![1, 128, 1024] (slot_inb j)).WholeWords (EltTy.packing .bf16) := by decide +kernel

theorem dst_wordExact : ∀ (t : Arr) (j : Dev nD), (dstM t j).view.WordExact
  | .win, j => ((Memref.isWhole_whole main_v1_0).wordExact_slice rfl _ (win_words j)).reshape _ _
  | .wout, j => ((Memref.isWhole_whole main_v1_1).wordExact_slice rfl _ (wout_words j)).reshape _ _
  | .wglu, j => ((Memref.isWhole_whole main_v1_2).wordExact_slice rfl _ (wglu_words j)).reshape _ _
  | .conv, _ => (View.wordExact_bits rfl).reshape _ _

theorem dst_shared (t : Arr) (j : Dev nD) : (dstM t j).view.ref.isScScratch = false := by cases t <;> rfl

/-- What one copy of an array credits. -/
def credit (t : Arr) : ℕ := (dstM t 0).view.dmaCredit

theorem credit_pos (t : Arr) : 0 < credit t := by cases t <;> exact View.dmaCredit_pos _ (by decide)
theorem dst_credit (t : Arr) (j : Dev nD) : (dstM t j).view.dmaCredit = credit t := by cases t <;> rfl
theorem src_credit (t : Arr) (j : Dev nD) : (srcM t j).view.dmaCredit = credit t := by cases t <;> rfl

variable {F : FTy → Type} (m : (ℓ : Loc nD τ sig) → Buf (Elt F) ℓ)

/-- What device `c`'s result holds at the end: in slot `j`, device `j`'s array. -/
def gathered : (t : Arr) → (j c : Dev nD) → Buf (Elt F) ((dstM t j).view.loc (c : Thread nD τ))
  | .win, _, _ => fun x : S8x2048x768.Idx => m ((Dev.tc (x 0) : Thread nD τ).loc main_arg0) (ix2 (x 1) (x 2))
  | .wout, _, _ => fun x : S8x256x2048.Idx => m ((Dev.tc (x 0) : Thread nD τ).loc main_arg1) (ix2 (x 1) (x 2))
  | .wglu, _, _ => fun x : S8x128x1024.Idx => m ((Dev.tc (x 0) : Thread nD τ).loc main_arg2) (ix2 (x 1) (x 2))
  | .conv, _, _ => fun x : S8x8x128.Idx => m ((Dev.tc (x 0) : Thread nD τ).loc main_arg3) (ix2 (x 1) (x 2))

/-- A copy by device `j` of its array lands as `gathered` says, on the slot it writes. -/
theorem lands (t : Arr) (j c : Dev nD) (fd : Buf (Elt F) ((dstM t j).view.loc (c : Thread nD τ))) :
    ∀ i ∈ (dstM t j).view.set,
      (dstM t j).view.write (Elt F) fd ((srcM t c).view.read (Elt F) (m ((srcM t c).view.loc (j : Thread nD τ)))) Finset.univ i
        = gathered m t j c i := by
  cases t <;> exact slot_write _ _ j fd _ _ fun a b => rfl

end Copies

end Cert.Gathering

end
-- ==== Proof.GatherProgram.lean ====
/-
The kernel body as five lists of operations: a device starts its four local copies, then its 28 remote copies,
and then waits for the 28 copies that its peers send it, for its own 28 to have left, and for the local ones.
-/
module

public import proofs.«01_k».proof.Proof.GatherGeometry
public import proofs.«01_k».proof.Proof.Gen.GatherIdeal.Points

@[expose] public section

noncomputable section

namespace Cert.Gathering

open Cert.GatherIdeal Cert.GatherIdeal.Gen
open Idealize.ShloMosaic Idealize.ShloMosaic.TcCoe
open Idealize.SL Idealize.SL.Sem

variable {F : FTy → Type} [FloatOps F]

/-! ## The semaphores -/

/-- The semaphore device `c`'s copy of `x.1` to its peer `x.2` credits when it has left. -/
def sendSem (x : Arr × Fin 7) : DmaSem sig := (⟨7 * x.1.ix.val + x.2.val, by have := x.1.ix.isLt; have := x.2.isLt; omega⟩ : Fin 60)
/-- The semaphore that copy credits on the peer when it has landed. -/
def recvSem (x : Arr × Fin 7) : DmaSem sig := (⟨28 + (7 * x.1.ix.val + x.2.val), by have := x.1.ix.isLt; have := x.2.isLt; omega⟩ : Fin 60)
/-- The semaphore of a device's copy to itself. -/
def locSem (t : Arr) : DmaSem sig := (⟨56 + t.ix.val, by have := t.ix.isLt; omega⟩ : Fin 60)

/-! ## The operations -/

/-- Copy to the device's own slot. -/
abbrev locOp (d : Dev nD) (t : Arr) : TpuEff nD τ sig (Elt F) Λ₀ .tc PUnit :=
  .enqueueDma (srcM t d) (.here (dstM t d)) (.dma (locSem t)) (src_wordExact t d) (dst_wordExact t d) ⟨Or.inl rfl, trivial⟩

/-- Copy to a peer. -/
abbrev sendOp (d : Dev nD) (x : Arr × Fin 7) : TpuEff nD τ sig (Elt F) Λ₀ .tc PUnit :=
  .enqueueDma (srcM x.1 (peer d x.2)) (.remote (Dev.tc (peer d x.2)) (dstM x.1 d) (.dma (sendSem x)) (dst_shared x.1 d)) (.dma (recvSem x))
    (src_wordExact x.1 _) (dst_wordExact x.1 d) ⟨⟨rfl, Or.inl rfl⟩, trivial⟩

/-- Wait for a peer's copy to have landed. -/
abbrev recvWait (d : Dev nD) (x : Arr × Fin 7) : TpuEff nD τ sig (Elt F) Λ₀ .tc PUnit :=
  .waitDma2 (recvSem x) (srcM x.1 (peer d x.2)) (dstM x.1 (peer d x.2)) (src_wordExact x.1 _) (dst_wordExact x.1 _)

/-- Wait for a copy to a peer to have left. -/
abbrev sendWait (d : Dev nD) (x : Arr × Fin 7) : TpuEff nD τ sig (Elt F) Λ₀ .tc PUnit :=
  .waitDma2 (sendSem x) (dstM x.1 d) (srcM x.1 (peer d x.2)) (dst_wordExact x.1 _) (src_wordExact x.1 _)

/-- Wait for the local copy. -/
abbrev locWait (d : Dev nD) (t : Arr) : TpuEff nD τ sig (Elt F) Λ₀ .tc PUnit :=
  .waitDma2 (locSem t) (srcM t d) (dstM t d) (src_wordExact t _) (dst_wordExact t _)

/-! ## The program -/

/-- The operations `f` of a list's members in order, then `k`. -/
def each {α : Type} (f : α → TpuEff nD τ sig (Elt F) Λ₀ .tc PUnit) :
    List α → Prog (TpuEff nD τ sig (Elt F) Λ₀ .tc) PUnit → Prog (TpuEff nD τ sig (Elt F) Λ₀ .tc) PUnit
  | [], k => k
  | a :: l, k => .op (f a) fun _ => each f l k

abbrev arrs : List Arr := [.win, .wout, .wglu, .conv]
abbrev peersOf (t : Arr) : List (Arr × Fin 7) := [(t, 0), (t, 1), (t, 2), (t, 3), (t, 4), (t, 5), (t, 6)]
abbrev sends : List (Arr × Fin 7) := peersOf .win ++ (peersOf .wout ++ (peersOf .wglu ++ peersOf .conv))

/-- The exchange on device `d`. -/
def exchange (d : Dev nD) : Prog (TpuEff nD τ sig (Elt F) Λ₀ .tc) PUnit :=
  each (locOp d) arrs <| each (sendOp d) sends <| each (recvWait d) sends <| each (sendWait d) sends <| each (locWait d) arrs <| .ret ⟨⟩

/-! ## The printed body is that program -/

section Steps

variable {α : Type} {f : α → TpuEff nD τ sig (Elt F) Λ₀ .tc PUnit} {d : Dev nD} {K k : Prog (TpuEff nD τ sig (Elt F) Λ₀ .tc) PUnit}

theorem each_nil (h : K = k) : each f [] K = k := h

theorem loc_step {t : Arr} {l : List Arr} {src dst : Memref sig .tc .hbm (blk t) (elt t)} {s : DmaSem sig} {p₁ p₂ p₃}
    (h₁ : src = srcM t d) (h₂ : dst = dstM t d) (h₃ : s = locSem t) (h : each (locOp d) l K = k) :
    each (locOp d) (t :: l) K = .op (.enqueueDma src (.here dst) (.dma s) p₁ p₂ p₃) fun _ => k := by
  subst h₁ h₂ h₃ h; rfl

theorem send_step {x : Arr × Fin 7} {l : List (Arr × Fin 7)} {src dst : Memref sig .tc .hbm (blk x.1) (elt x.1)} {n : Dev nD} {s r : DmaSem sig} {p₀ p₁ p₂ p₃}
    (h₁ : src = srcM x.1 (peer d x.2)) (hn : n = peer d x.2) (h₂ : dst = dstM x.1 d) (h₃ : s = sendSem x) (h₄ : r = recvSem x) (h : each (sendOp d) l K = k) :
    each (sendOp d) (x :: l) K = .op (.enqueueDma src (.remote (Dev.tc n) dst (.dma s) p₀) (.dma r) p₁ p₂ p₃) fun _ => k := by
  subst h₁ hn h₂ h₃ h₄ h; rfl

theorem recv_step {x : Arr × Fin 7} {l : List (Arr × Fin 7)} {src dst : Memref sig .tc .hbm (blk x.1) (elt x.1)} {s : DmaSem sig} {p₁ p₂}
    (h₁ : src = srcM x.1 (peer d x.2)) (h₂ : dst = dstM x.1 (peer d x.2)) (h₃ : s = recvSem x) (h : each (recvWait d) l K = k) :
    each (recvWait d) (x :: l) K = .op (.waitDma2 s src dst p₁ p₂) fun _ => k := by
  subst h₁ h₂ h₃ h; rfl

theorem sent_step {x : Arr × Fin 7} {l : List (Arr × Fin 7)} {src dst : Memref sig .tc .hbm (blk x.1) (elt x.1)} {s : DmaSem sig} {p₁ p₂}
    (h₁ : src = dstM x.1 d) (h₂ : dst = srcM x.1 (peer d x.2)) (h₃ : s = sendSem x) (h : each (sendWait d) l K = k) :
    each (sendWait d) (x :: l) K = .op (.waitDma2 s src dst p₁ p₂) fun _ => k := by
  subst h₁ h₂ h₃ h; rfl

theorem kept_step {t : Arr} {l : List Arr} {src dst : Memref sig .tc .hbm (blk t) (elt t)} {s : DmaSem sig} {p₁ p₂}
    (h₁ : src = srcM t d) (h₂ : dst = dstM t d) (h₃ : s = locSem t) (h : each (locWait d) l K = k) :
    each (locWait d) (t :: l) K = .op (.waitDma2 s src dst p₁ p₂) fun _ => k := by
  subst h₁ h₂ h₃ h; rfl

/-- A slice of a stack at an offset that is a slot's is that slot. -/
theorem slot_at {A B : ℕ} {ty : EltTy} (M : Memref sig .tc .hbm ⟨3, ![8, A, B]⟩ ty) {j : Dev nD} {off : Fin 3 → ℕ} (h : off = ![j.val, 0, 0])
    (p : ∀ a, off a + (![1, A, B] : Fin 3 → ℕ) a ≤ (![8, A, B] : Fin 3 → ℕ) a) (hs) (q : (⟨3, ![1, A, B]⟩ : Shape).Squeezes ⟨2, ![A, B]⟩) :
    (M.slice (Rect.unit (s := ⟨3, ![8, A, B]⟩) off ![1, A, B] p) hs).squeeze ⟨2, ![A, B]⟩ q = slotM M q j := by
  subst h; rfl

end Steps

set_option maxHeartbeats 4000000 in
set_option maxRecDepth 65536 in
/-- Each operation in turn: its slots, its device and its semaphores, evaluated at every device. -/
theorem body_eq (t : Fin cfg0.N) : bodyAt0 (F := F) t = .op .deviceId fun d => exchange d := by
  simp only [bodyAt0, cc0_gather_weights_eq_skeleton]
  unfold cc0_gather_weights_skel
  simp only [k0_part29_eq_skeleton]
  unfold k0_part29_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel
  simp only [Prog.lift, Prog.bind_op, Prog.bind_ret, Prog.pure_eq_ret]
  refine congrArg (Prog.op _) (funext fun d => Eq.symm ?_)
  unfold exchange
  simp only [List.cons_append, List.nil_append]
  repeat'
    first
    | rfl
    | refine loc_step ?_ ?_ ?_ ?_
    | refine send_step ?_ ?_ ?_ ?_ ?_ ?_
    | refine recv_step ?_ ?_ ?_ ?_
    | refine sent_step ?_ ?_ ?_ ?_
    | refine kept_step ?_ ?_ ?_ ?_
    | refine each_nil ?_
    | exact slot_at _ (by revert d; decide +kernel) _ _ _
    | exact Fin.ext (by revert d; decide +kernel)

end Cert.Gathering

end
-- ==== Proof.GatherProtocol.lean ====
/-
The gather's protocol. Every DMA semaphore of a device is a cell with one round and one duty: the copy that
credits it. The copy's payload says what the wait hands back:
  a copy to a peer, on the sender's cell: the part of the array that was read;
  the same copy, on the peer's cell: the written slot, at the contents it will keep;
  a local copy: both.
The slots and the tokens are dealt before any device runs, so a copy needs no permission from its peer.
-/
module

public import proofs.«01_k».proof.Proof.GatherProgram
public import Idealize.ShloMosaic.Lib.ShareLeaves
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

/-- A device's semaphores: one per copy to a peer, one per copy from a peer, one per local copy. -/
abbrev Cell : Type := (Arr × Fin 7) ⊕ (Arr × Fin 7) ⊕ Arr
abbrev Cell.send (x : Arr × Fin 7) : Cell := .inl x
abbrev Cell.recv (x : Arr × Fin 7) : Cell := .inr (.inl x)
abbrev Cell.loc (t : Arr) : Cell := .inr (.inr t)

def semOf : Cell → DmaSem sig := Sum.elim sendSem (Sum.elim recvSem locSem)

theorem ix_injective : Function.Injective Arr.ix := by intro t t'; cases t <;> cases t' <;> first | (intro _; rfl) | (intro h; exact absurd h (by decide))

theorem semOf_injective : Function.Injective semOf := by
  intro k k' h
  have hv : (semOf k : Fin 60).val = (semOf k' : Fin 60).val := congrArg Fin.val h
  have hpair (x y : Arr × Fin 7) (h : 7 * x.1.ix.val + x.2.val = 7 * y.1.ix.val + y.2.val) : x = y := by
    have := x.2.isLt; have := y.2.isLt
    exact Prod.ext (ix_injective (Fin.ext (by omega))) (Fin.ext (by omega))
  rcases k with x | x | t <;> rcases k' with y | y | t'
  all_goals first
    | have h1 := x.1.ix.isLt; have h2 := x.2.isLt
    | have h1 := t.ix.isLt
  all_goals first
    | have h3 := y.1.ix.isLt; have h4 := y.2.isLt
    | have h3 := t'.ix.isLt
  all_goals simp only [semOf, Sum.elim_inl, Sum.elim_inr, sendSem, recvSem, locSem] at hv
  · exact congrArg Sum.inl (hpair x y hv)
  · omega
  · omega
  · omega
  · exact congrArg (fun z => Sum.inr (Sum.inl z)) (hpair x y (by omega))
  · omega
  · omega
  · omega
  · exact congrArg (fun z => Sum.inr (Sum.inr z)) (ix_injective (Fin.ext (by omega)))

instance : Nonempty Cell := ⟨Cell.loc .win⟩

/-- The cell a DMA semaphore is. -/
def cellOfSem : DmaSem sig → Cell := Function.invFun semOf
theorem cellOfSem_semOf (k : Cell) : cellOfSem (semOf k) = k := Function.leftInverse_invFun semOf_injective k

/-- Device `c`'s cell `k`, on the machine. -/
abbrev at_ (c : Dev nD) (k : Cell) : GSem nD τ sig := ((c : Thread nD τ), .dma (semOf k))

/-- What is credited to a cell, and waited for. -/
def amt : Cell → ℕ := Sum.elim (fun x => credit x.1) (Sum.elim (fun x => credit x.1) credit)
theorem amt_pos (k : Cell) : 0 < amt k := by rcases k with x | x | t <;> exact credit_pos _

/-! ## Payloads -/

variable (m : (ℓ : Loc nD τ sig) → Buf (Elt F) ℓ)

/-- The share of an array that the copy to device `j` reads through: an array is read by eight copies at once. -/
def shareTo (j : Dev nD) : PosShare TreeShare := leaf 3 fullShare j

/-- What device `c`'s copy of `t` to device `j` reads. -/
def srcPts (c : Dev nD) (t : Arr) (j : Dev nD) : sProp 𝕄 :=
  (srcM t j).view.loc (c : Thread nD τ) ↦[(srcM t j).view.set]{shareTo j} m ((srcM t j).view.loc (c : Thread nD τ))

/-- Slot `j` of device `c`'s result `t`, at contents `f`. -/
def slotPts (c : Dev nD) (t : Arr) (j : Dev nD) (f : Buf (Elt F) ((dstM t j).view.loc (c : Thread nD τ))) : sProp 𝕄 :=
  (dstM t j).view.loc (c : Thread nD τ) ↦[(dstM t j).view.set]{fullShare} f

/-- The slot before the exchange, and after it. -/
def slotOld (c : Dev nD) (t : Arr) (j : Dev nD) : sProp 𝕄 := slotPts c t j (m ((dstM t j).view.loc (c : Thread nD τ)))
def slotNew (c : Dev nD) (t : Arr) (j : Dev nD) : sProp 𝕄 := slotPts c t j (gathered m t j c)

instance (c : Dev nD) (t : Arr) (j : Dev nD) : BI.Storable (upEmb : UEmb _ 𝕄) (srcPts (F := F) m c t j) := by unfold srcPts; infer_instance
instance (c : Dev nD) (t : Arr) (j : Dev nD) : BI.Storable (upEmb : UEmb _ 𝕄) (slotOld (F := F) m c t j) := by unfold slotOld slotPts; infer_instance
instance (c : Dev nD) (t : Arr) (j : Dev nD) : BI.Storable (upEmb : UEmb _ 𝕄) (slotNew (F := F) m c t j) := by unfold slotNew slotPts; infer_instance

/-- What the wait on device `c`'s cell `k` hands back. -/
def pay (c : Dev nD) : Cell → sProp 𝕄
  | .inl x => srcPts m c x.1 (peer c x.2)
  | .inr (.inl x) => slotNew m c x.1 (peer c x.2)
  | .inr (.inr t) => iprop(slotNew m c t c ∗ srcPts m c t c)

instance (c : Dev nD) (k : Cell) : BI.Storable (upEmb : UEmb _ 𝕄) (pay (F := F) m c k) := by
  rcases k with x | x | t <;> unfold pay <;> infer_instance

theorem pay_send (c : Dev nD) (x : Arr × Fin 7) : pay m c (.send x) = srcPts m c x.1 (peer c x.2) := rfl
theorem pay_recv (c : Dev nD) (x : Arr × Fin 7) : pay m c (.recv x) = slotNew m c x.1 (peer c x.2) := rfl
theorem pay_loc (c : Dev nD) (t : Arr) : pay m c (.loc t) = iprop(slotNew m c t c ∗ srcPts m c t c) := rfl

/-! ## The schedule -/

def payAt (g : GSem nD τ sig) : sProp 𝕄 :=
  match g.2 with
  | .dma s => pay m g.1.1 (cellOfSem s)
  | .reg _ => iprop(emp)
def amtAt (g : GSem nD τ sig) : ℕ :=
  match g.2 with
  | .dma s => amt (cellOfSem s)
  | .reg _ => 1

instance (g : GSem nD τ sig) : BI.Storable (upEmb : UEmb _ 𝕄) (payAt (F := F) m g) := by
  unfold payAt; split <;> infer_instance

def sched : Rounds.Schedule (GSem nD τ sig) Unit 𝕄 where
  duties g r := if r = 0 ∧ g.1.2 = .tc then {()} else ∅
  unitless _ := False
  amount g _ _ := amtAt g
  payload g _ _ := payAt m g
  amount_pos g _ _ _ := by
    unfold amtAt; split
    · exact amt_pos _
    · exact Nat.one_pos

instance sched_storable (g : GSem nD τ sig) (r : ℕ) (d : Unit) : BI.Storable (upEmb : UEmb _ 𝕄) ((sched (F := F) m).payload g r d) := by
  show BI.Storable upEmb (payAt m g); infer_instance

section Sched
variable (c : Dev nD) (k : Cell)

theorem duties_eq : (sched (F := F) m).duties (at_ c k) 0 = {()} := by
  show (if 0 = 0 ∧ (at_ c k).1.2 = .tc then ({()} : Finset Unit) else ∅) = {()}
  exact if_pos ⟨rfl, rfl⟩
theorem duties_later (g : GSem nD τ sig) : ∀ r, 1 ≤ r → (sched (F := F) m).duties g r = ∅ := fun r hr => if_neg fun h => by omega
theorem duty_mem : () ∈ (sched (F := F) m).duties (at_ c k) 0 := by rw [duties_eq]; exact Finset.mem_singleton_self _
theorem amount_eq (u : Unit) : (sched (F := F) m).amount (at_ c k) 0 u = amt k := congrArg amt (cellOfSem_semOf k)
theorem payload_eq (u : Unit) : (sched (F := F) m).payload (at_ c k) 0 u = pay m c k := congrArg (pay m c) (cellOfSem_semOf k)
theorem expect_eq : (sched (F := F) m).expect (at_ c k) 0 = amt k := by
  unfold Schedule.expect Schedule.amountOf; rw [duties_eq, Finset.sum_singleton, amount_eq]
theorem rest_eq : bigSep ((sched (F := F) m).duties (at_ c k) 0 \ ∅) (fun u => (sched (F := F) m).payload (at_ c k) 0 u) = pay m c k := by
  rw [Finset.sdiff_empty, duties_eq, bigSep_singleton, payload_eq]

end Sched

/-! ## Resources along a list -/

/-- `Φ` of every member of a list. -/
def all {α : Type} (Φ : α → sProp 𝕄) : List α → sProp 𝕄
  | [] => iprop(emp)
  | a :: l => iprop(Φ a ∗ all Φ l)

theorem all_eq {α : Type} [Fintype α] [DecidableEq α] (Φ : α → sProp 𝕄) (l : List α) (hn : l.Nodup) (hl : l.toFinset = Finset.univ) :
    all Φ l = bigSep Finset.univ Φ := by
  rw [← hl]
  clear hl
  induction l with
  | nil => rw [List.toFinset_nil, BI.bigSep_empty]; rfl
  | cons a l ih =>
    rw [List.toFinset_cons, BI.bigSep_insert (by rw [List.mem_toFinset]; exact (List.nodup_cons.mp hn).1), ← ih (List.nodup_cons.mp hn).2]
    rfl

/-- What is known of every cell throughout: its invariant, and that its round has begun. -/
def Known (K : Dev nD × Cell → ℕ) : sProp 𝕄 :=
  iprop((bigSep Finset.univ fun ck : Dev nD × Cell => cellInv ER (sched m) (K ck) (at_ ck.1 ck.2))
    ∗ bigSep Finset.univ fun ck : Dev nD × Cell => reached ER (at_ ck.1 ck.2) 0)
instance (K : Dev nD × Cell → ℕ) : BI.Persistent (Known (F := F) m K) := by unfold Known; infer_instance

theorem known_inv (K : Dev nD × Cell → ℕ) (c : Dev nD) (k : Cell) : Known (F := F) m K ⊢ cellInv ER (sched m) (K (c, k)) (at_ c k) := by
  unfold Known
  iintro ⟨H, -⟩
  have h : (bigSep Finset.univ fun ck : Dev nD × Cell => (cellInv ER (sched m) (K ck) (at_ ck.1 ck.2) : sProp 𝕄))
      ⊢ cellInv ER (sched m) (K (c, k)) (at_ c k) := bigSep_elim (Finset.mem_univ (c, k))
  iapply h; iexact H
theorem known_reached (K : Dev nD × Cell → ℕ) (c : Dev nD) (k : Cell) : Known (F := F) m K ⊢ reached ER (at_ c k) 0 := by
  unfold Known
  iintro ⟨-, H⟩
  have h : (bigSep Finset.univ fun ck : Dev nD × Cell => (reached ER (at_ ck.1 ck.2) 0 : sProp 𝕄))
      ⊢ reached ER (at_ c k) 0 := bigSep_elim (Finset.mem_univ (c, k))
  iapply h; iexact H

abbrev creds (c : Dev nD) (k : Cell) : sProp 𝕄 := cred (tallyAt (at_ c k) () (amt k))
abbrev atStart (c : Dev nD) (k : Cell) : sProp 𝕄 := atPos ER (at_ c k) 0 ∅ 0
abbrev atEnd (c : Dev nD) (k : Cell) : sProp 𝕄 := atPos ER (at_ c k) (0 + 1) ∅ 0
abbrev token (c : Dev nD) (k : Cell) : sProp 𝕄 := dutyTok ER (at_ c k) 0 ()

/-- What a local copy takes. -/
def toKeep (c : Dev nD) (t : Arr) : sProp 𝕄 := iprop(srcPts m c t c ∗ slotOld m c t c ∗ token c (.loc t))
/-- What a copy to a peer takes. -/
def toSend (c : Dev nD) (x : Arr × Fin 7) : sProp 𝕄 :=
  iprop(srcPts m c x.1 (peer c x.2) ∗ slotOld m (peer c x.2) x.1 c ∗ token c (.send x) ∗ token (peer c x.2) (.recv x))

/-- What a device still owes its peers when the copies in `l` are to be started. -/
def owed (c : Dev nD) (l : List (Arr × Fin 7)) : CellTallies nD τ sig Unit := (l.map fun x => tallyAt (at_ (peer c x.2) (.recv x)) () (credit x.1)).sum

theorem owed_cons (c : Dev nD) (x : Arr × Fin 7) (l : List (Arr × Fin 7)) :
    owed c (x :: l) = owed c l + tallyAt (at_ (peer c x.2) (.recv x)) () (credit x.1) := by
  unfold owed; rw [List.map_cons, List.sum_cons, add_comm]

/-! ## The steps -/

section Steps

variable (c : Dev nD) (K : Dev nD × Cell → ℕ)

local notation "wp₀" => wp frame (wpE (defs₀ (F := F)) Variants.none (c : Thread nD τ) none) Set.univ

/-- One local copy: its part of the array and its slot go in, the credit for the wait comes out. -/
theorem step_local (t : Arr) {k : PUnit → Prog (TpuEff nD τ sig (Elt F) Λ₀ .tc) PUnit} {Q : PUnit → sProp 𝕄} :
    iprop(cellInv ER (sched m) (K (c, .loc t)) (at_ c (.loc t)) ∗ srcPts m c t c ∗ slotOld m c t c ∗ token c (.loc t) ∗ reached ER (at_ c (.loc t)) 0)
    ⊢ iprop((creds c (.loc t) -∗ wp₀ (k ⟨⟩) Q) -∗ wp₀ (.op (locOp c t) k) Q) := by
  unfold srcPts slotOld slotPts
  exact Rounds.wp_copy_pointsTo Variants.none ER (sched m) (c : Thread nD τ) none (κ := K (c, .loc t)) (r := 0) (d := ())
    (duty_mem m c (.loc t)) () (credit t) (dst_credit t c) (amount_eq m c (.loc t) ())
    (by
      rw [payload_eq, pay_loc]; unfold slotNew slotPts srcPts
      exact sep_mono_left (Entails.of_eq (pointsTo_congr (lands m t c c _))))

/-- One copy to a peer: the part read, the peer's slot and both tokens go in; the credit for the send wait comes out, and
    what is owed to the peer is paid. -/
theorem step_send (x : Arr × Fin 7) (O : CellTallies nD τ sig Unit) (W : Waits sig Unit) {k : PUnit → Prog (TpuEff nD τ sig (Elt F) Λ₀ .tc) PUnit} {Q : PUnit → sProp 𝕄} :
    iprop(cellInv ER (sched m) (K (c, .send x)) (at_ c (.send x)) ∗ cellInv ER (sched m) (K (peer c x.2, .recv x)) (at_ (peer c x.2) (.recv x))
      ∗ srcPts m c x.1 (peer c x.2) ∗ slotOld m (peer c x.2) x.1 c
      ∗ owes (c : Thread nD τ) (O + tallyAt (at_ (peer c x.2) (.recv x)) () (credit x.1)) W
      ∗ token c (.send x) ∗ reached ER (at_ c (.send x)) 0 ∗ token (peer c x.2) (.recv x) ∗ reached ER (at_ (peer c x.2) (.recv x)) 0)
    ⊢ iprop((iprop(creds c (.send x) ∗ owes (c : Thread nD τ) O W) -∗ wp₀ (k ⟨⟩) Q) -∗ wp₀ (.op (sendOp c x) k) Q) := by
  unfold srcPts slotOld slotPts
  exact Rounds.wp_send_pointsTo Variants.none ER (sched m) (c : Thread nD τ) none (c' := (peer c x.2 : Thread nD τ))
    (κ₁ := K (c, .send x)) (κ₂ := K (peer c x.2, .recv x)) (r₁ := 0) (r₂ := 0) (d₁ := ()) (d₂ := ())
    (duty_mem m c (.send x)) (duty_mem m (peer c x.2) (.recv x)) () () (credit x.1) (dst_credit x.1 c)
    (amount_eq m c (.send x) ()) (amount_eq m (peer c x.2) (.recv x) ()) O rfl (W := W)
    (by rw [payload_eq, pay_send]; unfold srcPts; exact BI.Entails.refl _)
    (by
      rw [payload_eq, pay_recv, peer_peer]; unfold slotNew slotPts
      exact Entails.of_eq (pointsTo_congr (lands m x.1 c (peer c x.2) _)))

/-- One wait for all that a cell is credited: its payload comes out. -/
theorem step_wait (j : Cell) {w : TpuEff nD τ sig (Elt F) Λ₀ .tc PUnit}
    (hw : ∀ K' : PUnit → sProp 𝕄, wpE (defs₀ (F := F)) Variants.none (c : Thread nD τ) none Set.univ w K'
      = waitSpec (c : Thread nD τ) Set.univ (.dma (semOf j)) (amt j) K') (W : Waits sig Unit) {k : PUnit → Prog (TpuEff nD τ sig (Elt F) Λ₀ .tc) PUnit} {Q : PUnit → sProp 𝕄} :
    iprop(cellInv ER (sched m) (K (c, j)) (at_ c j) ∗ creds c j ∗ owes (c : Thread nD τ) 0 W ∗ atStart c j)
    ⊢ iprop((iprop(owes (c : Thread nD τ) 0 (insert (SemLoc.dma (semOf j), ()) W) ∗ atEnd c j ∗ pay m c j) -∗ wp₀ (k ⟨⟩) Q) -∗ wp₀ (.op w k) Q) := by
  iintro ⟨Hinv, Hcr, HO, Hat⟩ Hk
  iapply (Rounds.wp_wait_rest_token Variants.none ER (sched m) (c : Thread nD τ) none (κ := K (c, j)) hw (Set.mem_univ _) ()
    (O := 0) (W := W) (R := 0) (m := 0) (T := ∅) (by rw [Nat.zero_add, expect_eq])) $$ [Hinv Hcr Hat HO]
  · isplitl [Hinv]; · iexact Hinv
    isplitl [Hcr]; · iexact Hcr
    isplitl [HO]; · iexact HO
    isplitr; · rw [MayWait_zero]; iempintro
    iexact Hat
  iintro ⟨HO, Hat, -, Hpay⟩
  ihave Hp := (Entails.of_eq (rest_eq m c j)) $$ Hpay
  iapply Hk
  isplitl [HO]; · iexact HO
  isplitl [Hat]; · iexact Hat
  iexact Hp

theorem run_locals (l : List Arr) {k : Prog (TpuEff nD τ sig (Elt F) Λ₀ .tc) PUnit} {Q : PUnit → sProp 𝕄} : iprop(Known m K ∗ all (toKeep m c) l)
    ⊢ iprop((all (fun t => creds c (.loc t)) l -∗ wp₀ k Q) -∗ wp₀ (each (locOp c) l k) Q) := by
  induction l with
  | nil =>
    iintro ⟨-, H⟩ Hk
    iapply Hk; iexact H
  | cons t l ih =>
    simp only [all, toKeep]
    iintro ⟨#HK, ⟨⟨Hsrc, Hslot, Htok⟩, Hl⟩⟩ Hk
    iapply (step_local m c K t) $$ [Hsrc Hslot Htok]
    · isplitr; · iapply (known_inv m K c (.loc t)); iexact HK
      isplitl [Hsrc]; · iexact Hsrc
      isplitl [Hslot]; · iexact Hslot
      isplitl [Htok]; · iexact Htok
      iapply (known_reached m K c (.loc t)); iexact HK
    iintro Hcr
    iapply ih $$ [Hl]
    · isplitr; · iexact HK
      iexact Hl
    iintro Hcrs
    iapply Hk
    isplitl [Hcr]; · iexact Hcr
    iexact Hcrs

theorem run_sends (l : List (Arr × Fin 7)) (W : Waits sig Unit) {k : Prog (TpuEff nD τ sig (Elt F) Λ₀ .tc) PUnit} {Q : PUnit → sProp 𝕄} : iprop(Known m K ∗ all (toSend m c) l ∗ owes (c : Thread nD τ) (owed c l) W)
    ⊢ iprop((iprop(all (fun x => creds c (.send x)) l ∗ owes (c : Thread nD τ) 0 W) -∗ wp₀ k Q) -∗ wp₀ (each (sendOp c) l k) Q) := by
  induction l with
  | nil =>
    iintro ⟨-, H, HO⟩ Hk
    iapply Hk
    isplitl [H]; · iexact H
    iexact HO
  | cons x l ih =>
    simp only [all, toSend]
    iintro ⟨#HK, ⟨⟨Hsrc, Hslot, Hts, Htr⟩, Hl⟩, HO⟩ Hk
    ihave HO := (Entails.of_eq (congrArg (fun O => (owes (c : Thread nD τ) O W : sProp 𝕄)) (owed_cons c x l))) $$ HO
    iapply (step_send m c K x (owed c l) W) $$ [Hsrc Hslot Hts Htr HO]
    · isplitr; · iapply (known_inv m K c (.send x)); iexact HK
      isplitr; · iapply (known_inv m K (peer c x.2) (.recv x)); iexact HK
      isplitl [Hsrc]; · iexact Hsrc
      isplitl [Hslot]; · iexact Hslot
      isplitl [HO]; · iexact HO
      isplitl [Hts]; · iexact Hts
      isplitr; · iapply (known_reached m K c (.send x)); iexact HK
      isplitl [Htr]; · iexact Htr
      iapply (known_reached m K (peer c x.2) (.recv x)); iexact HK
    iintro ⟨Hcr, HO⟩
    iapply ih $$ [Hl HO]
    · isplitr; · iexact HK
      isplitl [Hl]; · iexact Hl
      iexact HO
    iintro ⟨Hcrs, HO⟩
    iapply Hk
    isplitr [HO]
    · isplitl [Hcr]; · iexact Hcr
      iexact Hcrs
    iexact HO

/-- Waits, whatever memrefs they name: `f a` waits for all that cell `cl a` is credited. -/
theorem run_waits {α : Type} (cl : α → Cell) (f : α → TpuEff nD τ sig (Elt F) Λ₀ .tc PUnit)
    (hf : ∀ a (K' : PUnit → sProp 𝕄), wpE (defs₀ (F := F)) Variants.none (c : Thread nD τ) none Set.univ (f a) K'
      = waitSpec (c : Thread nD τ) Set.univ (.dma (semOf (cl a))) (amt (cl a)) K')
    (l : List α) (W : Waits sig Unit) {k : Prog (TpuEff nD τ sig (Elt F) Λ₀ .tc) PUnit} {Q : PUnit → sProp 𝕄} :
    iprop(Known m K ∗ all (fun a => creds c (cl a)) l ∗ all (fun a => atStart c (cl a)) l ∗ owes (c : Thread nD τ) 0 W)
    ⊢ iprop((∀ W', iprop(all (fun a => pay m c (cl a)) l ∗ all (fun a => atEnd c (cl a)) l ∗ owes (c : Thread nD τ) 0 W') -∗ wp₀ k Q)
        -∗ wp₀ (each f l k) Q) := by
  induction l generalizing W with
  | nil =>
    iintro ⟨-, -, -, HO⟩ Hk
    iapply Hk $$ %W
    isplitr; · unfold all; iempintro
    isplitr; · unfold all; iempintro
    iexact HO
  | cons a l ih =>
    simp only [all]
    iintro ⟨#HK, ⟨Hcr, Hcrs⟩, ⟨Hat, Hats⟩, HO⟩ Hk
    iapply (step_wait m c K (cl a) (hf a) W) $$ [Hcr Hat HO]
    · isplitr; · iapply (known_inv m K c (cl a)); iexact HK
      isplitl [Hcr]; · iexact Hcr
      isplitl [HO]; · iexact HO
      iexact Hat
    iintro ⟨HO, Hat, Hp⟩
    iapply (ih (insert (SemLoc.dma (semOf (cl a)), ()) W)) $$ [Hcrs Hats HO]
    · isplitr; · iexact HK
      isplitl [Hcrs]; · iexact Hcrs
      isplitl [Hats]; · iexact Hats
      iexact HO
    iintro %W' ⟨Hps, Hats, HO⟩
    iapply Hk $$ %W'
    isplitl [Hp Hps]
    · isplitl [Hp]; · iexact Hp
      iexact Hps
    isplitl [Hat Hats]
    · isplitl [Hat]; · iexact Hat
      iexact Hats
    iexact HO

/-- Cells whose rounds are over close: their counters read zero. -/
theorem close_all {α : Type} (cl : α → Cell) (l : List α) : iprop(Known m K ∗ all (fun a => atEnd c (cl a)) l)
    ⊢ |={Set.univ}=> (all (fun a => semVal (at_ c (cl a)) 0) l : sProp 𝕄) := by
  induction l with
  | nil =>
    iintro ⟨-, H⟩
    imodintro; iexact H
  | cons a l ih =>
    simp only [all]
    iintro ⟨#HK, ⟨Hat, Hats⟩⟩
    imod (Rounds.cell_close ER (sched m) (Set.mem_univ (K (c, cl a))) (fun h => h) (R := 0 + 1) (duties_later m (at_ c (cl a)))) $$ [Hat] with Hz
    · isplitr; · iapply (known_inv m K c (cl a)); iexact HK
      iexact Hat
    imod ih $$ [Hats] with Hzs
    · isplitr; · iexact HK
      iexact Hats
    imodintro
    isplitl [Hz]; · iexact Hz
    iexact Hzs

end Steps

end Cert.Gathering

end
-- ==== Proof.GatherBody.lean ====
/-
The kernel's body, run once on a symbolic device: what it takes, what it leaves, and the region's proof data.
-/
module

public import proofs.«01_k».proof.Proof.GatherProtocol
public import proofs.«01_k».proof.Proof.Gen.GatherIdeal.Launch

@[expose] public section

noncomputable section

namespace Cert.Gathering

open Cert.GatherIdeal Cert.GatherIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's own part of the exchange: its copies' sources, slots and tokens, the credit its peers owe it, and its
    position at every cell. -/
def mine (c : Dev nD) : sProp 𝕄 :=
  iprop(all (toKeep m c) arrs ∗ all (toSend m c) sends ∗ all (fun x => creds c (.recv x)) sends
    ∗ all (fun x => atStart c (.recv x)) sends ∗ all (fun x => atStart c (.send x)) sends ∗ all (fun t => atStart c (.loc t)) arrs)

/-- Before the body, and after it. -/
def before (c : Dev nD) : sProp 𝕄 := iprop(∃ K, Known m K ∗ mine m c)
def after (c : Dev nD) : sProp 𝕄 :=
  iprop((all (fun x => pay m c (.recv x)) sends ∗ all (fun x => pay m c (.send x)) sends ∗ all (fun t => pay m c (.loc t)) arrs)
    ∗ all (fun x => semVal (at_ c (.recv x)) 0) sends ∗ all (fun x => semVal (at_ c (.send x)) 0) sends ∗ all (fun t => semVal (at_ c (.loc t)) 0) arrs)

/-- The exchange: four local copies, the copies to the peers, and a wait for each copy on each side. -/
theorem run_exchange (c : Dev nD) (W : Waits sig Unit) :
    iprop(before m c ∗ owes (c : Thread nD τ) (owed c sends) W)
      ⊢ wp frame (wpE (defs₀ (F := F)) 𝒱₀ (c : Thread nD τ) none) Set.univ (exchange c)
          fun _ => iprop(after m c ∗ ∃ W', owes (c : Thread nD τ) 0 W') := by
  unfold before mine exchange
  iintro ⟨⟨%K, #HK, Hkeep, Hsend, HcrR, HatR, HatS, HatL⟩, HO⟩
  iapply (run_locals m c K arrs) $$ [Hkeep]
  · isplitr; · iexact HK
    iexact Hkeep
  iintro HcrL
  iapply (run_sends m c K sends W) $$ [Hsend HO]
  · isplitr; · iexact HK
    isplitl [Hsend]; · iexact Hsend
    iexact HO
  iintro ⟨HcrS, HO⟩
  iapply (run_waits m c K (fun x => .recv x) (recvWait c) (fun x _ => wpE_waitDma2_eq 𝒱₀ (c : Thread nD τ) none Set.univ _) sends W) $$ [HcrR HatR HO]
  · isplitr; · iexact HK
    isplitl [HcrR]; · iexact HcrR
    isplitl [HatR]; · iexact HatR
    iexact HO
  iintro %W1 ⟨HpR, HatR, HO⟩
  iapply (run_waits m c K (fun x => .send x) (sendWait c) (fun x _ => wpE_waitDma2_eq 𝒱₀ (c : Thread nD τ) none Set.univ _) sends W1) $$ [HcrS HatS HO]
  · isplitr; · iexact HK
    isplitl [HcrS]; · iexact HcrS
    isplitl [HatS]; · iexact HatS
    iexact HO
  iintro %W2 ⟨HpS, HatS, HO⟩
  iapply (run_waits m c K (fun t => .loc t) (locWait c) (fun t _ => wpE_waitDma2_eq 𝒱₀ (c : Thread nD τ) none Set.univ _) arrs W2) $$ [HcrL HatL HO]
  · isplitr; · iexact HK
    isplitl [HcrL]; · iexact HcrL
    isplitl [HatL]; · iexact HatL
    iexact HO
  iintro %W3 ⟨HpL, HatL, HO⟩
  rw [wp_ret]
  imod (close_all m c K (fun x => .recv x) sends) $$ [HatR] with HzR
  · isplitr; · iexact HK
    iexact HatR
  imod (close_all m c K (fun x => .send x) sends) $$ [HatS] with HzS
  · isplitr; · iexact HK
    iexact HatS
  imod (close_all m c K (fun t => .loc t) arrs) $$ [HatL] with HzL
  · isplitr; · iexact HK
    iexact HatL
  imodintro
  unfold after
  isplitr [HO]
  · isplitl [HpR HpS HpL]
    · isplitl [HpR]; · iexact HpR
      isplitl [HpS]; · iexact HpS
      iexact HpL
    isplitl [HzR]; · iexact HzR
    isplitl [HzS]; · iexact HzS
    iexact HzL
  iexists W3; iexact HO

/-! ## The region's proof data -/

/-- The region moves no window: all its state is the exchange's. -/
def dats (_ : Fin 1) (c : Dev nD) : Dat τ (Elt F) Unit ℕ UU ℕ cfg0 c where
  A w := w.elim0
  after w := w.elim0
  Φ t := match t with
    | ⟨0, _⟩ => before m c
    | ⟨_ + 1, _⟩ => after m c
  q w := w.elim0
  owed t := match t with
    | ⟨0, _⟩ => owed c sends
    | ⟨_ + 1, _⟩ => 0

set_option maxRecDepth 16000 in
theorem body_obligation (c : Dev nD) : BodyObligation (dats (F := F) m 0 c) (defs₀ (F := F)) 𝒱₀ () Set.univ := fun t => by
  have ht : t = t0_0 := fin_N0 t
  subst ht
  have hempty (Φ : Fin 0 → sProp 𝕄) : bigSep Finset.univ Φ = iprop(emp) := by rw [Finset.univ_eq_empty, BI.bigSep_empty]; rfl
  have hrun : iprop(before m c ∗ (dats m 0 c).owesAt () (t0_0 : Fin cfg0.N).castSucc ∗ emp)
      ⊢ wp frame (wpE (defs₀ (F := F)) 𝒱₀ (c : Thread nD τ) none) Set.univ (bodyAt0 (F := F) t0_0)
          fun _ => iprop(after m c ∗ (dats m 0 c).owesAt () (t0_0 : Fin cfg0.N).succ ∗ emp) := by
    rw [body_eq, wp_deviceId]
    unfold Dat.owesAt Pipeline.owesWithin
    rw [show (dats m 0 c).owed (t0_0 : Fin cfg0.N).castSucc = owed c sends from rfl, show (dats m 0 c).owed (t0_0 : Fin cfg0.N).succ = 0 from rfl]
    have hpost (u : PUnit) : iprop(after m c ∗ ∃ W', owes (c : Thread nD τ) 0 W')
        ⊢ iprop(after m c ∗ (∃ W' : Waits sig Unit, ⌜(↑W' : Set (SemLoc sig × Unit)) ⊆ (dats m 0 c).bound () (t0_0 : Fin cfg0.N).succ⌝ ∗ owes (c : Thread nD τ) 0 W') ∗ emp) := by
      iintro ⟨Ha, ⟨%W', HO⟩⟩
      isplitl [Ha]; · iexact Ha
      isplitl [HO]
      · iexists W'
        isplitr; · ipureintro; exact fun _ _ => Or.inl trivial
        iexact HO
      iempintro
    have hpre : iprop(before m c ∗ (∃ W : Waits sig Unit, ⌜(↑W : Set (SemLoc sig × Unit)) ⊆ (dats m 0 c).bound () (t0_0 : Fin cfg0.N).castSucc⌝
          ∗ owes (c : Thread nD τ) (owed c sends) W) ∗ emp)
        ⊢ wp frame (wpE (defs₀ (F := F)) 𝒱₀ (c : Thread nD τ) none) Set.univ (exchange c)
          fun _ => iprop(after m c ∗ ∃ W', owes (c : Thread nD τ) 0 W') := by
      iintro ⟨Hb, ⟨%W, -, HO⟩, -⟩
      iapply (run_exchange m c W)
      isplitl [Hb]; · iexact Hb
      iexact HO
    exact hpre.trans (wp_mono frame _ Set.univ hpost)
  refine (show _ ⊢ _ from ?_)
  erw [hempty]
  exact hrun

end Cert.Gathering

end
-- ==== Proof.GatherArrays.lean ====
/-
A device's arrays and the parts the copies read and write: a result is its eight slots, and an argument is held in eight
shares, one per copy that reads it. Regrouping a family over "every device" as the device itself and its peers.
-/
module

public import proofs.«01_k».proof.Proof.GatherBody

@[expose] public section

noncomputable section

namespace Cert.Gathering

open Cert.GatherIdeal Cert.GatherIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Whole arrays -/

/-- Device `c`'s argument array, as launched. -/
def argPts (c : Dev nD) : Arr → sProp 𝕄
  | .win => ((c : Thread nD τ).loc main_arg0) ↦{fullShare} m ((c : Thread nD τ).loc main_arg0)
  | .wout => ((c : Thread nD τ).loc main_arg1) ↦{fullShare} m ((c : Thread nD τ).loc main_arg1)
  | .wglu => ((c : Thread nD τ).loc main_arg2) ↦{fullShare} m ((c : Thread nD τ).loc main_arg2)
  | .conv => ((c : Thread nD τ).loc main_arg3) ↦{fullShare} m ((c : Thread nD τ).loc main_arg3)

/-- Device `c`'s result array, as launched. -/
def outOld (c : Dev nD) : Arr → sProp 𝕄
  | .win => ((c : Thread nD τ).loc main_v1_0) ↦{fullShare} m ((c : Thread nD τ).loc main_v1_0)
  | .wout => ((c : Thread nD τ).loc main_v1_1) ↦{fullShare} m ((c : Thread nD τ).loc main_v1_1)
  | .wglu => ((c : Thread nD τ).loc main_v1_2) ↦{fullShare} m ((c : Thread nD τ).loc main_v1_2)
  | .conv => ((c : Thread nD τ).loc main_v1_3) ↦{fullShare} m ((c : Thread nD τ).loc main_v1_3)

/-- Device `c`'s result array, after the exchange. -/
def outNew (c : Dev nD) : Arr → sProp 𝕄
  | .win => ((c : Thread nD τ).loc main_v1_0) ↦{fullShare} gathered m .win 0 c
  | .wout => ((c : Thread nD τ).loc main_v1_1) ↦{fullShare} gathered m .wout 0 c
  | .wglu => ((c : Thread nD τ).loc main_v1_2) ↦{fullShare} gathered m .wglu 0 c
  | .conv => ((c : Thread nD τ).loc main_v1_3) ↦{fullShare} gathered m .conv 0 c

/-! ## Slots -/

section Slots

variable {A B : ℕ} {ty : EltTy} (b : Ref sig .tc) (M : Memref sig .tc .hbm ⟨3, ![8, A, B]⟩ ty) (h : (⟨3, ![1, A, B]⟩ : Shape).Squeezes ⟨2, ![A, B]⟩)

/-- The eight slots of a whole stack are all of it, -/
theorem slots_cover (hM : M.view.set = Finset.univ) : Finset.biUnion (β := M.view.ty.Idx) Finset.univ (fun j : Dev nD => (slotM M h j).view.set) = Finset.univ := by
  refine Finset.eq_univ_of_forall fun y => ?_
  have hy : y ∈ M.view.set := hM ▸ Finset.mem_univ y
  obtain ⟨x, -, rfl⟩ := Finset.mem_map.mp hy
  obtain ⟨j, a, b, rfl⟩ : ∃ (j : Fin 8) (a : Fin A) (b : Fin B), x = ix3 j a b := ⟨x 0, x 1, x 2, eq_ix3 x⟩
  exact Finset.mem_biUnion.mpr ⟨(j : Dev nD), Finset.mem_univ _, Finset.mem_map.mpr ⟨ix2 a b, Finset.mem_univ _, slot_emb M h j a b⟩⟩

/-- and no two of them meet. -/
theorem slots_disjoint (j j' : Dev nD) (hj : j ≠ j') : Disjoint ((slotM M h j).view.set : Finset M.view.ty.Idx) (slotM M h j').view.set := by
  refine Finset.disjoint_left.mpr fun {y} h1 h2 => hj ?_
  obtain ⟨x, -, rfl⟩ := Finset.mem_map.mp h1
  obtain ⟨x', -, hx⟩ := Finset.mem_map.mp h2
  obtain ⟨a, b, rfl⟩ : ∃ (a : Fin A) (b : Fin B), x = ix2 a b := ⟨x 0, x 1, eq_ix2 x⟩
  obtain ⟨a', b', rfl⟩ : ∃ (a : Fin A) (b : Fin B), x' = ix2 a b := ⟨x' 0, x' 1, eq_ix2 x'⟩
  have e : ix3 (j' : Fin 8) a' b' = ix3 (j : Fin 8) a b := M.view.emb.injective ((slot_emb M h j' a' b').symm.trans (hx.trans (slot_emb M h j a b)))
  exact (congrFun e 0).symm

variable (c : Dev nD) (q : PosShare TreeShare)

/-- So a whole stack is held as its eight slots. -/
theorem pointsTo_slots (hM : M.view.set = Finset.univ) (f : Buf (Elt F) (M.view.loc (c : Thread nD τ))) :
    (M.view.loc (c : Thread nD τ) ↦{q} f : sProp 𝕄)
      = bigSep Finset.univ fun j : Dev nD => (slotM M h j).view.loc (c : Thread nD τ) ↦[(slotM M h j).view.set]{q} f := by
  have hb : (M.view.loc (c : Thread nD τ) ↦[Finset.biUnion (β := M.view.ty.Idx) Finset.univ fun j : Dev nD => (slotM M h j).view.set]{q} f : sProp 𝕄)
      = bigSep Finset.univ fun j : Dev nD => (slotM M h j).view.loc (c : Thread nD τ) ↦[(slotM M h j).view.set]{q} f :=
    pointsTo_biUnion (ℓ := M.view.loc (c : Thread nD τ)) (f := f) (q := q) Finset.univ (fun j : Dev nD => ((slotM M h j).view.set : Finset M.view.ty.Idx))
      fun j _ j' _ hj => slots_disjoint M h j j' hj
  rw [← hb]
  exact congrArg (fun I => (M.view.loc (c : Thread nD τ) ↦[I]{q} f : sProp 𝕄)) (slots_cover M h hM).symm

end Slots

/-- An argument is what the eight copies of it read: eight shares of it. -/
theorem argPts_split (c : Dev nD) (t : Arr) : argPts m c t = bigSep Finset.univ (srcPts m c t) := by
  cases t
  · exact (ShareLeaves.pointsTo_leaves Finset.univ (m ((c : Thread nD τ).loc main_arg0)) 3 fullShare).trans
      (bigSep_congr fun j _ => by unfold srcPts shareTo; rw [View.set_whole])
  · exact (ShareLeaves.pointsTo_leaves Finset.univ (m ((c : Thread nD τ).loc main_arg1)) 3 fullShare).trans
      (bigSep_congr fun j _ => by unfold srcPts shareTo; rw [View.set_whole])
  · exact (ShareLeaves.pointsTo_leaves Finset.univ (m ((c : Thread nD τ).loc main_arg2)) 3 fullShare).trans
      (bigSep_congr fun j _ => by unfold srcPts shareTo; rw [View.set_whole])
  · exact (ShareLeaves.pointsTo_leaves Finset.univ (m ((c : Thread nD τ).loc main_arg3)) 3 fullShare).trans
      (bigSep_congr fun j _ => by unfold srcPts shareTo; rw [View.set_whole])

/-- A result is its eight slots, before the exchange -/
theorem outOld_split (c : Dev nD) (t : Arr) : outOld m c t = bigSep Finset.univ (slotOld m c t) := by
  cases t
  · exact pointsTo_slots (Memref.whole main_v1_0) squeezes_S1x2048x768_S2048x768 c fullShare (View.set_whole _) _
  · exact pointsTo_slots (Memref.whole main_v1_1) squeezes_S1x256x2048_S256x2048 c fullShare (View.set_whole _) _
  · exact pointsTo_slots (Memref.whole main_v1_2) squeezes_S1x128x1024_S128x1024 c fullShare (View.set_whole _) _
  · exact pointsTo_slots (Memref.whole main_v1_3) squeezes_S1x8x128_S8x128 c fullShare (View.set_whole _) _

/-- and after it. -/
theorem outNew_split (c : Dev nD) (t : Arr) : outNew m c t = bigSep Finset.univ (slotNew m c t) := by
  cases t
  · exact pointsTo_slots (Memref.whole main_v1_0) squeezes_S1x2048x768_S2048x768 c fullShare (View.set_whole _) _
  · exact pointsTo_slots (Memref.whole main_v1_1) squeezes_S1x256x2048_S256x2048 c fullShare (View.set_whole _) _
  · exact pointsTo_slots (Memref.whole main_v1_2) squeezes_S1x128x1024_S128x1024 c fullShare (View.set_whole _) _
  · exact pointsTo_slots (Memref.whole main_v1_3) squeezes_S1x8x128_S8x128 c fullShare (View.set_whole _) _

/-! ## Around a device, and across a pair -/

/-- Every device is `c` or one of its peers. -/
theorem bigSep_around (c : Dev nD) (Ψ : Dev nD → sProp 𝕄) :
    bigSep Finset.univ Ψ = iprop(Ψ c ∗ bigSep Finset.univ fun k : Fin 7 => Ψ (peer c k)) := by
  rw [bigSep_univ_equiv ((Equiv.optionEquivSumPUnit.{0} (Fin 7)).symm.trans (aroundEquiv c)) Ψ, BI.bigSep_univ_sum,
    BI.bigSep_univ_of_subsingleton PUnit.unit.{1}]
  exact BI.Entails.antisymm BI.sep_comm BI.sep_comm

/-- The parts of all arrays for all devices: each array's own part, and one part per copy to a peer. -/
theorem parts_around (c : Dev nD) (Ψ : Arr → Dev nD → sProp 𝕄) :
    (bigSep Finset.univ fun t => bigSep Finset.univ (Ψ t))
      = iprop((bigSep Finset.univ fun t => Ψ t c) ∗ bigSep Finset.univ fun x : Arr × Fin 7 => Ψ x.1 (peer c x.2)) := by
  rw [bigSep_congr fun t _ => bigSep_around c (Ψ t), bigSep_sep', bigSep_univ_prod fun x : Arr × Fin 7 => Ψ x.1 (peer c x.2)]

/-- Device and peer, for each copy. -/
def across : Dev nD × (Arr × Fin 7) ≃ Dev nD × (Arr × Fin 7) where
  toFun p := (peer p.1 p.2.2, p.2)
  invFun p := (peer p.1 p.2.2, p.2)
  left_inv p := by obtain ⟨c, x⟩ := p; exact congrArg (·, x) (peer_peer c x.2)
  right_inv p := by obtain ⟨c, x⟩ := p; exact congrArg (·, x) (peer_peer c x.2)

/-- What every device holds for each of its peers, each peer takes. -/
theorem bigSep_across (Φ : Dev nD → Dev nD → Arr × Fin 7 → sProp 𝕄) :
    (bigSep Finset.univ fun c : Dev nD => bigSep Finset.univ fun x : Arr × Fin 7 => Φ c (peer c x.2) x)
      = bigSep Finset.univ fun c : Dev nD => bigSep Finset.univ fun x : Arr × Fin 7 => Φ (peer c x.2) c x := by
  rw [← bigSep_univ_prod fun p : Dev nD × (Arr × Fin 7) => Φ p.1 (peer p.1 p.2.2) p.2,
    ← bigSep_univ_prod fun p : Dev nD × (Arr × Fin 7) => Φ (peer p.1 p.2.2) p.1 p.2, bigSep_univ_equiv across]
  exact bigSep_congr fun p _ => by
    show Φ (peer p.1 p.2.2) (peer (peer p.1 p.2.2) p.2.2) p.2 = _
    rw [peer_peer]

/-! ## Lists and sums -/

theorem all_arrs (Φ : Arr → sProp 𝕄) : all Φ arrs = bigSep Finset.univ Φ := all_eq Φ arrs (by decide) (by decide)
theorem all_sends (Φ : Arr × Fin 7 → sProp 𝕄) : all Φ sends = bigSep Finset.univ Φ := all_eq Φ sends (by decide) (by decide)

theorem owed_sends (c : Dev nD) : owed c sends = ∑ x : Arr × Fin 7, tallyAt (at_ (peer c x.2) (.recv x)) () (credit x.1) := by
  unfold owed
  rw [← List.sum_toFinset _ (by decide : sends.Nodup), (by decide : sends.toFinset = Finset.univ)]

end Cert.Gathering

end
-- ==== Proof.GatherLaunch.lean ====
/-
The launch: what every device is given at the start is dealt out, so that each device holds its own part of the
exchange — the parts of its arrays it copies from, its peers' slots it copies into, the tokens of those copies and the
credit its peers owe it.
-/
module

public import proofs.«01_k».proof.Proof.GatherArrays
public import proofs.«01_k».proof.Proof.Dealt

@[expose] public section

noncomputable section

namespace Cert.Gathering

open Cert.GatherIdeal Cert.GatherIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The launch's ghost state -/

/-- Every device's cells, and their tokens. -/
def cellAt (ck : Dev nD × Cell) : GSem nD τ sig := at_ ck.1 ck.2

theorem cellAt_injective : Function.Injective cellAt := by
  rintro ⟨c, k⟩ ⟨c', k'⟩ h
  have h1 : c = c' := congrArg (fun g : GSem nD τ sig => g.1.1) h
  subst h1
  have h2 : SemLoc.dma (semOf k) = SemLoc.dma (semOf k') := congrArg Prod.snd h
  exact congrArg (Prod.mk c) (semOf_injective (SemLoc.dma.inj h2))

def exCells : Finset (GSem nD τ sig) := Finset.univ.map ⟨cellAt, cellAt_injective⟩
def exToks : Finset (GSem nD τ sig × ℕ × Unit) :=
  Finset.univ.map ⟨fun ck : Dev nD × Cell => (cellAt ck, 0, ()), fun _ _ h => cellAt_injective (congrArg Prod.fst h)⟩

def u₀ : UU := (initOf (Pipeline.cells cfgs cellOf_inj) (Pipeline.launchToks cfgs cellOf_inj), initOf exCells exToks)

theorem fund_exchange : BI.own (ER (initOf exCells exToks)) ⊢
    (|==> iprop((bigSep Finset.univ fun c : Dev nD => bigSep Finset.univ fun k : Cell => roundState ER (sched m) (at_ c k) 0)
      ∗ (bigSep Finset.univ fun ck : Dev nD × Cell => reached ER (at_ ck.1 ck.2) 0)
      ∗ (bigSep Finset.univ fun c : Dev nD => bigSep Finset.univ fun k : Cell => atStart c k)
      ∗ (bigSep Finset.univ fun c : Dev nD => bigSep Finset.univ fun k : Cell => token c k)) : sProp 𝕄) := by
  have hX (Φ : GSem nD τ sig → sProp 𝕄) : bigSep exCells Φ = bigSep Finset.univ fun ck : Dev nD × Cell => Φ (at_ ck.1 ck.2) := by
    unfold exCells; rw [bigSep_map]; rfl
  have hX' (Φ : GSem nD τ sig → sProp 𝕄) : bigSep exCells Φ = bigSep Finset.univ fun c : Dev nD => bigSep Finset.univ fun k : Cell => Φ (at_ c k) := by
    rw [hX, bigSep_univ_prod]
  have hT : bigSep exToks (fun x => (dutyTok ER x.1 x.2.1 x.2.2 : sProp 𝕄)) = bigSep Finset.univ fun c : Dev nD => bigSep Finset.univ fun k : Cell => token c k := by
    unfold exToks; rw [bigSep_map, bigSep_univ_prod]; rfl
  iintro HX
  imod (Rounds.fund ER (sched m) exCells exToks) $$ HX with ⟨Hst, Hr, Hat, Htok⟩
  imodintro
  isplitl [Hst]; · iapply (Entails.of_eq (hX' fun g => roundState ER (sched m) g 0)); iexact Hst
  isplitl [Hr]; · iapply (Entails.of_eq (hX fun g => reached ER g 0)); iexact Hr
  isplitl [Hat]; · iapply (Entails.of_eq (hX' fun g => atPos ER g 0 ∅ 0)); iexact Hat
  iapply (Entails.of_eq hT); iexact Htok

/-! ## The semaphores -/

/-- The cells are the region's own semaphores. -/
abbrev osem (k : Cell) : SemLoc sig := .dma (semOf k)

theorem dma_scoped : ∀ s : DmaSem sig, (SemLoc.dma s : SemLoc sig).isScoped .tc = true := by decide

theorem ownSemFacts : Pipeline.OwnSemFacts cfg0.spec osem where
  isScoped k := dma_scoped (semOf k)
  inj k k' h := semOf_injective (SemLoc.dma.inj h)
  disj k w := w.elim0

abbrev stagingSems (c : Dev nD) : sProp 𝕄 := Pipeline.cellsSems0 cfgs 0 c
abbrev idleSems (c : Dev nD) : sProp 𝕄 := Pipeline.idleSems0 cfgs cellOf_inj 0 ownSemFacts c
abbrev cellSems (c : Dev nD) : sProp 𝕄 := bigSep Finset.univ fun k : Cell => semVal (at_ c k) 0

theorem scopedSems_split (c : Dev nD) :
    (scopedSems0 (c : Thread nD τ) : sProp 𝕄) = iprop((stagingSems c ∗ cellSems c) ∗ idleSems c) :=
  Pipeline.scopedSems0_split cfgs cellOf_inj 0 (by decide) ownSemFacts c

/-- Each cell's counter at zero and its first round make its invariant. -/
theorem alloc_cells :
    iprop((bigSep Finset.univ fun c : Dev nD => cellSems c)
        ∗ (bigSep Finset.univ fun c : Dev nD => bigSep Finset.univ fun k : Cell => roundState ER (sched m) (at_ c k) 0))
      ⊢ (|={Set.univ}=> iprop(∃ K : Dev nD × Cell → ℕ, bigSep Finset.univ fun ck : Dev nD × Cell => cellInv ER (sched m) (K ck) (at_ ck.1 ck.2)) : sProp 𝕄) := by
  rw [← bigSep_univ_prod fun ck : Dev nD × Cell => (semVal (at_ ck.1 ck.2) 0 : sProp 𝕄),
    ← bigSep_univ_prod fun ck : Dev nD × Cell => (roundState ER (sched m) (at_ ck.1 ck.2) 0 : sProp 𝕄), ← bigSep_sep']
  exact ((bigSep_mono fun ck _ => (Rounds.body_intro ER (sched m) (at_ ck.1 ck.2)).trans inv_alloc).trans (bigSep_fupd _ _)).trans
    (fupd_mono (BI.bigSep_exists_pi Finset.univ fun (ck : Dev nD × Cell) (κ : ℕ) => (cellInv ER (sched m) κ (at_ ck.1 ck.2) : sProp 𝕄)))

/-! ## Credit -/

/-- The credit of a sum is the credit of each term. -/
theorem cred_total {α : Type} [DecidableEq α] (s : Finset α) (T : α → CellTallies nD τ sig Unit) :
    (cred (∑ x ∈ s, T x) : sProp 𝕄) ⊢ bigSep s fun x => cred (T x) := by
  induction s using Finset.induction_on with
  | empty => rw [Finset.sum_empty, cred_zero, BI.bigSep_empty]; exact BI.Entails.refl _
  | insert a s ha ih =>
    rw [Finset.sum_insert ha, BI.bigSep_insert ha]
    exact (cred_add _ _).1.trans (BI.sep_mono (BI.Entails.refl _) ih)

/-- What a device owes its peers is what its peers are to receive. -/
theorem creds_of_launch (c : Dev nD) :
    (Pipeline.launchCred (fun c => owed c sends) c : sProp 𝕄) ⊢ bigSep Finset.univ fun x : Arr × Fin 7 => creds c (.recv x) := by
  rw [Pipeline.launchCred_of_sum (fun c => owed c sends) (fun c => ∑ x : Arr × Fin 7, tallyAt (at_ c (.recv x)) () (credit x.1))
    (by
      rw [Finset.sum_congr rfl fun d _ => owed_sends d, Finset.sum_comm, Finset.sum_comm (s := Finset.univ (α := Dev nD))]
      exact Finset.sum_congr rfl fun x _ => Equiv.sum_comp (flip x.2) fun d => tallyAt (at_ d (.recv x)) () (credit x.1))
    (fun d g h => by
      by_contra hg
      refine h ?_
      rw [Finset.sum_apply]
      refine Finset.sum_eq_zero fun x _ => ?_
      exact tallyAt_ne_cell (fun e => hg (by rw [e])) _ _)]
  exact cred_total Finset.univ fun x => tallyAt (at_ c (.recv x)) () (credit x.1)

/-! ## Dealing -/

/-- The parts of the arrays, the credit, the positions and the tokens, dealt to the devices that use them. -/
theorem deal :
    iprop((bigSep Finset.univ fun c : Dev nD => bigSep Finset.univ fun t => bigSep Finset.univ (srcPts m c t))
        ∗ (bigSep Finset.univ fun c : Dev nD => bigSep Finset.univ fun t => bigSep Finset.univ (slotOld m c t))
        ∗ (bigSep Finset.univ fun c : Dev nD => bigSep Finset.univ fun x : Arr × Fin 7 => creds c (.recv x))
        ∗ (bigSep Finset.univ fun c : Dev nD => bigSep Finset.univ fun k : Cell => atStart c k)
        ∗ (bigSep Finset.univ fun c : Dev nD => bigSep Finset.univ fun k : Cell => token c k))
      ⊢ (bigSep Finset.univ (mine m) : sProp 𝕄) := by
  have hmine : bigSep Finset.univ (mine m) = bigSep Finset.univ fun c : Dev nD =>
      iprop((bigSep Finset.univ fun t => iprop(srcPts m c t c ∗ slotOld m c t c ∗ token c (.loc t)))
        ∗ (bigSep Finset.univ fun x : Arr × Fin 7 => iprop(srcPts m c x.1 (peer c x.2) ∗ slotOld m (peer c x.2) x.1 c ∗ token c (.send x) ∗ token (peer c x.2) (.recv x)))
        ∗ (bigSep Finset.univ fun x => creds c (.recv x)) ∗ (bigSep Finset.univ fun x => atStart c (.recv x))
        ∗ (bigSep Finset.univ fun x => atStart c (.send x)) ∗ (bigSep Finset.univ fun t => atStart c (.loc t))) :=
    bigSep_congr fun c _ => by
      unfold mine
      rw [all_arrs, all_sends, all_sends, all_sends, all_sends, all_arrs]
      rfl
  have hcell (Φ : Dev nD → Cell → sProp 𝕄) : (bigSep Finset.univ fun c : Dev nD => bigSep Finset.univ (Φ c))
      = iprop((bigSep Finset.univ fun c : Dev nD => bigSep Finset.univ fun x => Φ c (.send x))
        ∗ (bigSep Finset.univ fun c : Dev nD => bigSep Finset.univ fun x => Φ c (.recv x))
        ∗ (bigSep Finset.univ fun c : Dev nD => bigSep Finset.univ fun t => Φ c (.loc t))) := by
    simp only [← bigSep_sep']
    exact bigSep_congr fun c _ => by rw [BI.bigSep_univ_sum, BI.bigSep_univ_sum]; rfl
  have hslots := bigSep_across fun c d (x : Arr × Fin 7) => slotOld m c x.1 d
  have htoks := bigSep_across fun c d (x : Arr × Fin 7) => (token c (.recv x) : sProp 𝕄)
  rw [hmine, hcell fun c k => atStart c k, hcell fun c k => token c k, bigSep_congr fun c _ => parts_around c (srcPts m c),
    bigSep_congr fun c _ => parts_around c (slotOld m c)]
  simp only [bigSep_sep']
  rw [hslots, htoks]
  iintro ⟨⟨Hk1, Hs1⟩, ⟨Hk2, Hs2⟩, Hcr, ⟨HaS, HaR, HaL⟩, ⟨Hs3, Hs4, Hk3⟩⟩
  isplitl [Hk1 Hk2 Hk3]
  · isplitl [Hk1]; · iexact Hk1
    isplitl [Hk2]; · iexact Hk2
    iexact Hk3
  isplitl [Hs1 Hs2 Hs3 Hs4]
  · isplitl [Hs1]; · iexact Hs1
    isplitl [Hs2]; · iexact Hs2
    isplitl [Hs3]; · iexact Hs3
    iexact Hs4
  isplitl [Hcr]; · iexact Hcr
  isplitl [HaR]; · iexact HaR
  isplitl [HaS]; · iexact HaS
  iexact HaL

/-! ## The start states -/

/-- What a device keeps besides its part of the exchange. -/
def carried (c : Dev nD) : sProp 𝕄 :=
  iprop(scopedBufs (c : Thread nD τ) ∗ stagingSems c ∗ idleSems c ∗ opIdle (c : Thread nD τ) ∗ owes (c : Thread nD τ) (owed c sends) ∅)

def start (c : Dev nD) : sProp 𝕄 :=
  iprop(carried c ∗ (bigSep Finset.univ fun p => Pipeline.cellsGhost cfgs EP p c) ∗ (bigSep Finset.univ fun p => Pipeline.toksInit cfgs EP p c) ∗ before m c)

theorem holdings_split (ρ : Dev nD → PrngReg) (c : Dev nD) :
    Dealt.holdings (fun c => owed c sends) m ρ c
      ⊢ (iprop(carried c ∗ cellSems c ∗ (bigSep Finset.univ fun t => bigSep Finset.univ (srcPts m c t))
          ∗ (bigSep Finset.univ fun t => bigSep Finset.univ (slotOld m c t))
          ∗ bigSep Finset.univ fun x : Arr × Fin 7 => creds c (.recv x)) : sProp 𝕄) := by
  have hb : (boundary (c : Thread nD τ) : sProp 𝕄) ⊢ iprop(scopedBufs (c : Thread nD τ) ∗ ((stagingSems c ∗ cellSems c) ∗ idleSems c) ∗ opIdle (c : Thread nD τ)) := by
    rw [← scopedSems_split]; exact BI.Entails.refl _
  have hu : (unscopedBufs c (fun b => m ((c : Thread nD τ).loc b)) : sProp 𝕄)
      ⊢ iprop((bigSep Finset.univ fun t => bigSep Finset.univ (srcPts m c t)) ∗ (bigSep Finset.univ fun t => bigSep Finset.univ (slotOld m c t))) := by
    rw [Pipeline.unscopedBufs_split cfgs 0 winFacts0.arr_unscoped (fun w => w.elim0) c, unscopedRest0_eq,
      ← bigSep_congr fun t _ => argPts_split m c t, ← bigSep_congr fun t _ => outOld_split m c t, ← all_arrs, ← all_arrs]
    simp only [arrs, all, argPts, outOld]
    iintro ⟨-, Ha0, Ha1, Ha2, Ha3, Ho0, Ho1, Ho2, Ho3⟩
    isplitl [Ha0 Ha1 Ha2 Ha3]
    · isplitl [Ha0]; · iexact Ha0
      isplitl [Ha1]; · iexact Ha1
      isplitl [Ha2]; · iexact Ha2
      isplitl [Ha3]; · iexact Ha3
      iempintro
    · isplitl [Ho0]; · iexact Ho0
      isplitl [Ho1]; · iexact Ho1
      isplitl [Ho2]; · iexact Ho2
      isplitl [Ho3]; · iexact Ho3
      iempintro
  unfold Dealt.holdings carried
  iintro ⟨Hb, Hu, -, HO, Hcr, -⟩
  ihave Hb' := hb $$ Hb
  icases Hb' with ⟨Hsc, ⟨⟨Hst, Hce⟩, Hid⟩, Hop⟩
  ihave Hu' := hu $$ Hu
  icases Hu' with ⟨Ha, Ho⟩
  isplitl [Hsc Hst Hid Hop HO]
  · isplitl [Hsc]; · iexact Hsc
    isplitl [Hst]; · iexact Hst
    isplitl [Hid]; · iexact Hid
    isplitl [Hop]; · iexact Hop
    iexact HO
  isplitl [Hce]; · iexact Hce
  isplitl [Ha]; · iexact Ha
  isplitl [Ho]; · iexact Ho
  iapply (creds_of_launch c); iexact Hcr

/-- What holds throughout, beside a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ iprop((bigSep S fun _ => R) ∗ bigSep S Φ) := sep_mono_left (BI.bigSep_of_persistent S R)
  rw [← bigSep_sep'] at h1
  exact h1.trans (bigSep_mono h)

theorem launch_init (ρ : Dev nD → PrngReg) (L : GSem nD τ sig → Finset Unit) (lv : GSem nD τ sig → Unit → ℕ) :
    iprop((bigSep Finset.univ fun c : Dev nD => Dealt.holdings (fun c => owed c sends) m ρ c) ∗ levAts L lv ∗ ownU u₀)
      ⊢ (|={Set.univ}=> bigSep Finset.univ (start m) : sProp 𝕄) := by
  have hsplit : (bigSep Finset.univ fun c : Dev nD => Dealt.holdings (fun c => owed c sends) m ρ c)
      ⊢ (iprop((bigSep Finset.univ fun c : Dev nD => carried c) ∗ (bigSep Finset.univ fun c : Dev nD => cellSems c)
          ∗ (bigSep Finset.univ fun c : Dev nD => bigSep Finset.univ fun t => bigSep Finset.univ (srcPts m c t))
          ∗ (bigSep Finset.univ fun c : Dev nD => bigSep Finset.univ fun t => bigSep Finset.univ (slotOld m c t))
          ∗ bigSep Finset.univ fun c : Dev nD => bigSep Finset.univ fun x : Arr × Fin 7 => creds c (.recv x)) : sProp 𝕄) := by
    have h := bigSep_mono (s := Finset.univ) fun (c : Dev nD) _ => holdings_split m ρ c
    simp only [bigSep_sep'] at h
    exact h
  have hknown (K : Dev nD × Cell → ℕ) : iprop(Known m K ∗ bigSep Finset.univ (mine m)) ⊢ (bigSep Finset.univ (before m) : sProp 𝕄) :=
    bigSep_beside fun c _ => by
      unfold before
      iintro ⟨#HK, Hm⟩
      iexists K
      isplitr; · iexact HK
      iexact Hm
  have hstart : iprop((bigSep Finset.univ fun c : Dev nD => carried c)
        ∗ (bigSep Finset.univ fun c : Dev nD => bigSep Finset.univ fun p => Pipeline.cellsGhost cfgs EP p c)
        ∗ (bigSep Finset.univ fun c : Dev nD => bigSep Finset.univ fun p => Pipeline.toksInit cfgs EP p c) ∗ bigSep Finset.univ (before m))
      ⊢ (bigSep Finset.univ (start m) : sProp 𝕄) := by
    unfold start; simp only [bigSep_sep']; exact BI.Entails.refl _
  have hpair : (ownU u₀ : sProp 𝕄) ⊢ iprop(BI.own (EP (initOf (Pipeline.cells cfgs cellOf_inj) (Pipeline.launchToks cfgs cellOf_inj))) ∗ BI.own (ER (initOf exCells exToks))) :=
    ownU_pair _ _
  iintro ⟨Hh, -, Hu⟩
  ihave Hu' := hpair $$ Hu
  icases Hu' with ⟨HP, HX⟩
  imod (Pipeline.fund_ghost cfgs EP cellOf_inj) $$ HP with ⟨Hg, Ht⟩
  imod (fund_exchange m) $$ HX with ⟨Hst, #Hr, Hat, Htok⟩
  ihave Hh' := hsplit $$ Hh
  icases Hh' with ⟨Hc, Hsem, Hsrc, Hslot, Hcr⟩
  imod (alloc_cells m) $$ [Hsem Hst] with ⟨%K, #HI⟩
  · isplitl [Hsem]; · iexact Hsem
    iexact Hst
  imodintro
  iapply hstart
  isplitl [Hc]; · iexact Hc
  isplitl [Hg]; · iexact Hg
  isplitl [Ht]; · iexact Ht
  iapply (hknown K)
  isplitr
  · unfold Known
    isplitl; · iexact HI
    iexact Hr
  iapply (deal m)
  isplitl [Hsrc]; · iexact Hsrc
  isplitl [Hslot]; · iexact Hslot
  isplitl [Hcr]; · iexact Hcr
  isplitl [Hat]; · iexact Hat
  iexact Htok

end Cert.Gathering

end
-- ==== Proof.GatherRun.lean ====
/-
The run of the whole program: the launch, the exchange on every device, and what the memory holds at the end.
-/
module

public import proofs.«01_k».proof.Proof.GatherLaunch
public import Idealize.ShloMosaic.Lib.Pipeline.Quiescent

@[expose] public section

noncomputable section

namespace Cert.Gathering

open Cert.GatherIdeal Cert.GatherIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's arrays at the end. -/
def fin (c : Dev nD) : sProp 𝕄 := iprop((bigSep Finset.univ fun t => argPts m c t) ∗ bigSep Finset.univ fun t => outNew m c t)

/-- What the waits hand back makes up the arrays, and every cell reads zero. -/
theorem after_gather (c : Dev nD) : after m c ⊢ (iprop(fin m c ∗ cellSems c) : sProp 𝕄) := by
  have hf : fin m c = iprop(((bigSep Finset.univ fun t => srcPts m c t c) ∗ bigSep Finset.univ fun x : Arr × Fin 7 => srcPts m c x.1 (peer c x.2))
      ∗ ((bigSep Finset.univ fun t => slotNew m c t c) ∗ bigSep Finset.univ fun x : Arr × Fin 7 => slotNew m c x.1 (peer c x.2))) := by
    unfold fin
    rw [bigSep_congr fun t _ => argPts_split m c t, bigSep_congr fun t _ => outNew_split m c t, parts_around c (srcPts m c), parts_around c (slotNew m c)]
  have hc : (cellSems c : sProp 𝕄) = iprop((bigSep Finset.univ fun x => semVal (at_ c (.send x)) 0) ∗ (bigSep Finset.univ fun x => semVal (at_ c (.recv x)) 0)
      ∗ bigSep Finset.univ fun t => semVal (at_ c (.loc t)) 0) := by
    unfold cellSems; rw [BI.bigSep_univ_sum, BI.bigSep_univ_sum]; rfl
  have hl : (bigSep Finset.univ fun t => pay m c (.loc t) : sProp 𝕄)
      = iprop((bigSep Finset.univ fun t => slotNew m c t c) ∗ bigSep Finset.univ fun t => srcPts m c t c) := by
    rw [← bigSep_sep']; rfl
  rw [hf, hc]
  unfold after
  rw [all_sends, all_sends, all_arrs, all_sends, all_sends, all_arrs, hl]
  iintro ⟨⟨HR, HS, HL1, HL2⟩, HzR, HzS, HzL⟩
  isplitl [HR HS HL1 HL2]
  · isplitl [HS HL2]
    · isplitl [HL2]; · iexact HL2
      iexact HS
    · isplitl [HL1]; · iexact HL1
      iexact HR
  isplitl [HzS]; · iexact HzS
  isplitl [HzR]; · iexact HzR
  iexact HzL

theorem wholes (c : Dev nD) :
    (scopedBufs (c : Thread nD τ) : sProp 𝕄) = iprop(Dat.staging cfg0 c ∗ Pipeline.scopedRest cfg0.spec c) :=
  Pipeline.scopedBufs_split cfgs 0 winFacts0.stage_scoped winFacts0.stage_inj stage_whole0 c

theorem exchange_leaves (c : Dev nD) :
    iprop(after m c ∗ stagingSems c ∗ Dat.staging cfg0 c ∗ idleSems c)
      ⊢ (iprop(fin m c ∗ scopedSems0 (c : Thread nD τ) ∗ scopedBufs (c : Thread nD τ)) : sProp 𝕄) := by
  rw [scopedSems_split, wholes, scopedRest0_eq]
  iintro ⟨Ha, Hs, Hst, Hi⟩
  ihave Ha' := (after_gather m c) $$ Ha
  icases Ha' with ⟨Hf, Hc⟩
  isplitl [Hf]; · iexact Hf
  isplitl [Hs Hc Hi]
  · isplitl [Hs Hc]
    · isplitl [Hs]; · iexact Hs
      iexact Hc
    iexact Hi
  isplitl [Hst]; · iexact Hst
  iempintro

theorem dats_first (c : Dev nD) : (dats m 0 c).Φ 0 = before m c := rfl
theorem dats_last (c : Dev nD) : (dats m 0 c).Φ (Fin.last cfg0.N) = after m c := by
  have h : (Fin.last cfg0.N).val = 0 + 1 := N_0
  show (match Fin.last cfg0.N with
    | ⟨0, _⟩ => before m c
    | ⟨_ + 1, _⟩ => after m c) = after m c
  split
  · next h' => exact absurd (h.symm.trans (congrArg Fin.val h')) (Nat.succ_ne_zero 0)
  · rfl

/-- The exchange as a region of the program: it takes what `before` says and leaves the arrays and the scoped state. -/
theorem run_region (c : Dev nD) (κ : GSem nD τ sig → ℕ) {k : PUnit → Prog (TpuEff nD τ sig (Elt F) (Pipeline.Sig Λ₀ (Fin 1) fun p => (pcfgs (F := F) p).Adm) .tc) PUnit}
    {Q : PUnit → sProp 𝕄} :
    iprop(Pipeline.EntryPre cfgs (dats m) () EP κ 0 c ∗ Pipeline.prefHeld (pcfgs (F := F) 0).pre c (fun _ => fullShare) (cfgs 0).toPCfg_adm.1
        ∗ before m c ∗ idleSems c ∗ scopedBufs (c : Thread nD τ))
      ⊢ iprop(((Pipeline.EntryPost cfgs (dats m) () 0 c ∗ fin m c ∗ scopedSems0 (c : Thread nD τ) ∗ scopedBufs (c : Thread nD τ))
          -∗ wp frame (wpE (defs (F := F)) (Variants.lift 𝒱₀) (c : Thread nD τ) none) Set.univ (k ⟨⟩) Q)
        -∗ wp frame (wpE (defs (F := F)) (Variants.lift 𝒱₀) (c : Thread nD τ) none) Set.univ (.op (.customCall (Pipeline.entry 0) ()) k) Q) :=
  Pipeline.wp_customCall_entry_frame (pcfgs (F := F)) (fun p : Fin 1 => (cfgs p).toPCfg_adm) (dats m) () EP κ cellOf_inj 0 (defs₀ (F := F)) 𝒱₀
    (fun _ => fullShare) c Set.univ (fun _ _ => Set.mem_univ _) (body_obligation m c).loose block_pos0 none (fun u h => nomatch h)
    (X := before m c) (Y := fin m c) (R := Pipeline.scopedRest cfg0.spec c) (I := idleSems c) (Entails.of_eq (wholes c))
    (by
      rw [dats_first]
      iintro ⟨H, -, -⟩
      iexact H)
    (by
      have h := exchange_leaves m c
      rw [← dats_last] at h
      exact h)

/-- The region moves no window, so it needs nothing for windows. -/
theorem bigSep_none (Φ : Fin 0 → sProp 𝕄) : bigSep Finset.univ Φ = iprop(emp) := by
  rw [Finset.univ_eq_empty, BI.bigSep_empty]; rfl

theorem enter (c : Dev nD) (κ : GSem nD τ sig → ℕ) :
    iprop(owes (c : Thread nD τ) (owed c sends) ∅ ∗ Pipeline.cellsInit cfgs (dats m) EP κ 0 c ∗ Pipeline.toksInit cfgs EP 0 c)
      ⊢ (Pipeline.EntryPre cfgs (dats m) () EP κ 0 c : sProp 𝕄) := by
  have harr : (iprop(emp) : sProp 𝕄) ⊢ (dats m 0 c).arrays ((dats m 0 c).arrAt · 0) := Entails.of_eq (bigSep_none _).symm
  have hw : (iprop(emp) : sProp 𝕄) ⊢ Pipeline.cellsWaits cfgs (dats m) () 0 c := Entails.of_eq (bigSep_none _).symm
  unfold Pipeline.EntryPre Pipeline.PerCore.EntryPre Dat.owesAt Pipeline.owesWithin
  rw [show (dats m 0 c).owed 0 = owed c sends from rfl]
  iintro ⟨HO, Hi, Ht⟩
  isplitr; · iapply harr; iempintro
  isplitl [HO]
  · iexists ∅
    isplitr; · ipureintro; rw [Finset.coe_empty]; exact Set.empty_subset _
    iexact HO
  isplitr; · iapply hw; iempintro
  isplitl [Hi]; · iexact Hi
  iexact Ht

theorem dats_owed_last (c : Dev nD) : (dats m 0 c).owed (Fin.last cfg0.N) = 0 := by
  have h : (Fin.last cfg0.N).val = 0 + 1 := N_0
  show (match Fin.last cfg0.N with
    | ⟨0, _⟩ => owed c sends
    | ⟨_ + 1, _⟩ => 0) = 0
  split
  · next h' => exact absurd (h.symm.trans (congrArg Fin.val h')) (Nat.succ_ne_zero 0)
  · rfl

theorem leave (c : Dev nD) :
    (Pipeline.EntryPost cfgs (dats m) () 0 c : sProp 𝕄) ⊢ iprop(∃ W, owes (c : Thread nD τ) (0 : CellTallies nD τ sig Unit) W) := by
  have h := dats_owed_last m c
  unfold Pipeline.EntryPost Pipeline.PerCore.EntryPost Dat.owesAt Pipeline.owesWithin
  rw [h]
  iintro ⟨-, ⟨%W, -, HO⟩⟩
  iexists W; iexact HO

/-- One device's run. -/
theorem run_device (c : Dev nD) :
    start m c ⊢ wp frame (wpE (defs (F := F)) (Variants.lift 𝒱₀) (c : Thread nD τ) none) Set.univ (main (F := F) c)
      fun _ => iprop((fin m c ∗ boundary (c : Thread nD τ)) ∗ ∃ W, owes (c : Thread nD τ) (0 : CellTallies nD τ sig Unit) W) := by
  have hmain : main (F := F) c = .op (.customCall (Pipeline.entry 0) ()) fun _ => Prog.ret ⟨⟩ := rfl
  have hpref : (iprop(emp) : sProp 𝕄) ⊢ Pipeline.prefHeld (pcfgs (F := F) 0).pre c (fun _ => fullShare) (cfgs 0).toPCfg_adm.1 :=
    Entails.of_eq (bigSep_none _).symm
  rw [hmain]
  unfold start carried
  rw [BI.bigSep_univ_of_subsingleton (0 : Fin 1), BI.bigSep_univ_of_subsingleton (0 : Fin 1)]
  iintro ⟨⟨Hsc, Hst, Hid, Hop, HO⟩, Hg, Ht, Hb⟩
  iapply (fupd_wp frame (wpE (defs (F := F)) (Variants.lift 𝒱₀) (c : Thread nD τ) none) Set.univ _ _)
  imod (Pipeline.cellsInit_alloc cfgs (dats m) EP cellOf_inj 0 c) $$ [Hst Hg] with ⟨%κ, -, Hinit⟩
  · isplitl [Hst]; · iexact Hst
    iexact Hg
  imodintro
  iapply (run_region m c κ) $$ [HO Hinit Ht Hb Hid Hsc]
  · isplitl [HO Hinit Ht]
    · iapply (enter m c κ)
      isplitl [HO]; · iexact HO
      isplitl [Hinit]; · iexact Hinit
      iexact Ht
    isplitr; · iapply hpref; iempintro
    isplitl [Hb]; · iexact Hb
    isplitl [Hid]; · iexact Hid
    iexact Hsc
  iintro ⟨Hpost, Hf, Hss, Hsc⟩
  rw [wp_ret]
  imodintro
  isplitr [Hpost]
  · isplitl [Hf]; · iexact Hf
    iapply (show iprop(scopedBufs (c : Thread nD τ) ∗ scopedSems0 (c : Thread nD τ) ∗ opIdle (c : Thread nD τ)) ⊢ (boundary (c : Thread nD τ) : sProp 𝕄) from BI.Entails.refl _)
    isplitl [Hsc]; · iexact Hsc
    isplitl [Hss]; · iexact Hss
    iexact Hop
  iapply (leave m c); iexact Hpost

/-! ## The end of the run -/

/-- At the end device `c`'s arguments are as launched and its results are what `gathered` says. -/
def Ends (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3))
  ∧ (s.mem ((c : Thread nD τ).loc main_v1_0) = gathered m .win 0 c ∧ s.mem ((c : Thread nD τ).loc main_v1_1) = gathered m .wout 0 c
    ∧ s.mem ((c : Thread nD τ).loc main_v1_2) = gathered m .wglu 0 c ∧ s.mem ((c : Thread nD τ).loc main_v1_3) = gathered m .conv 0 c)

/-- Reading one array off the state. -/
theorem read_array (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr; · ipureintro; exact Buf.eq_of_forall_mem_univ h
  iexact HSI

theorem fin_reads (c : Dev nD) (s' : Phys nD τ sig (Elt F)) :
    iprop(fin m c ∗ SI s') ⊢ (|={Set.univ}=> iprop(⌜Ends m c s'.mem⌝ ∗ SI s') : sProp 𝕄) := by
  unfold fin
  rw [← all_arrs, ← all_arrs]
  simp only [arrs, all, argPts, outNew]
  iintro ⟨⟨⟨Ha0, Ha1, Ha2, Ha3, -⟩, Ho0, Ho1, Ho2, Ho3, -⟩, HSI⟩
  ihave H := (read_array _ _ s') $$ [Ha0 HSI]
  · isplitl [Ha0] <;> iassumption
  icases H with ⟨%h0, HSI⟩
  ihave H := (read_array _ _ s') $$ [Ha1 HSI]
  · isplitl [Ha1] <;> iassumption
  icases H with ⟨%h1, HSI⟩
  ihave H := (read_array _ _ s') $$ [Ha2 HSI]
  · isplitl [Ha2] <;> iassumption
  icases H with ⟨%h2, HSI⟩
  ihave H := (read_array _ _ s') $$ [Ha3 HSI]
  · isplitl [Ha3] <;> iassumption
  icases H with ⟨%h3, HSI⟩
  ihave H := (read_array _ _ s') $$ [Ho0 HSI]
  · isplitl [Ho0] <;> iassumption
  icases H with ⟨%k0, HSI⟩
  ihave H := (read_array _ _ s') $$ [Ho1 HSI]
  · isplitl [Ho1] <;> iassumption
  icases H with ⟨%k1, HSI⟩
  ihave H := (read_array _ _ s') $$ [Ho2 HSI]
  · isplitl [Ho2] <;> iassumption
  icases H with ⟨%k2, HSI⟩
  ihave H := (read_array _ _ s') $$ [Ho3 HSI]
  · isplitl [Ho3] <;> iassumption
  icases H with ⟨%k3, HSI⟩
  imodintro
  isplitr
  · ipureintro
    exact ⟨⟨h0, h1, h2, h3⟩, k0, k1, k2, k3⟩
  iexact HSI

/-- Every execution ends, with the arguments as launched, the results gathered, and every semaphore at zero. -/
theorem run_main (ρ : Dev nD → PrngReg) :
    θ_run (defs (F := F)) (onTc (τ := τ) (main (F := F))) ⟨m, fun _ => 0, ρ⟩ fun r => (∀ c, Ends m c r.2) ∧ r.2.sem = fun _ => 0 :=
  Dealt.θ_run_dealt (𝒱 := Variants.lift 𝒱₀) (Ix := Unit) (Name := ℕ) (U := UU) (Lvl := ℕ) m ρ main (fun c => owed c sends) (fun _ => ∅) (fun _ _ => 0) (fun _ _ => rfl) u₀
    (start m) (fin m) (launch_init m ρ _ _) (run_device m) (Ends m) (fin_reads m)
    fun s h hs => ⟨h, sem_eq_zero_of_scoped (by decide) hs⟩

end Cert.Gathering

end
-- ==== Proof.GatherValue.lean ====
/-
The gather's value: the stacks every device ends with are the reference's reshapes and transposes of the whole arrays.
-/
module

public import proofs.«01_k».proof.Proof.GatherRun
public import proofs.«01_k».proof.Defs
public import proofs.«01_k».proof.Proof.Gen.Gather
public import proofs.«01_k».proof.Proof.Gen.GatherReference
public import proofs.«01_k».proof.Proof.Gen.GatherReferenceIdeal.Run
public import Idealize.ShloMosaic.Lib.Pipeline.Value

@[expose] public section

noncomputable section

namespace Cert.Gathering

open Cert.GatherIdeal Cert.GatherIdeal.Gen
open Idealize.ShloMosaic Idealize.ShloMosaic.TcCoe Idealize.ShloMosaic.ValueIdx
open Idealize.SL Idealize.SL.Sem

variable {F : FTy → Type} [FloatOps F]

section Whole

variable {α : Type} {A B : ℕ}

/-- Rows cut in eight blocks, stacked, are the rows grouped by block. -/
theorem rows_stacked (hT : Layout.Tiles ⟨2, ![A, B]⟩ ⟨2, ![8 * A, B]⟩ 0 8) (hc : (⟨2, ![8 * A, B]⟩ : Shape).ShapeCasts ⟨3, ![8, A, B]⟩)
    (v : (⟨2, ![8 * A, B]⟩ : Shape).Idx → α) (j : Fin 8) (a : Fin A) (b : Fin B) :
    Layout.block ⟨2, ![A, B]⟩ ⟨2, ![8 * A, B]⟩ 0 8 j v hT (ix2 a b) = shapeCast ⟨3, ![8, A, B]⟩ v hc (ix3 j a b) := by
  refine (shapeCast_apply v hc (ix3 j a b) (hT.idx j (ix2 a b)) ?_).symm
  rw [Shape.rowMajor_val_two, Shape.rowMajor_val_three]
  simp only [Layout.Tiles.idx_val]
  show (j.val * A + a.val) * B + b.val = (j.val * A + a.val) * B + b.val
  rfl

/-- Columns cut in eight blocks, stacked, are the columns grouped by block with the block brought to the front. -/
theorem cols_stacked (hT : Layout.Tiles ⟨2, ![A, B]⟩ ⟨2, ![A, 8 * B]⟩ 1 8) (hc : (⟨2, ![A, 8 * B]⟩ : Shape).ShapeCasts ⟨3, ![A, 8, B]⟩)
    (ht : (⟨3, ![A, 8, B]⟩ : Shape).Transposes [1, 0, 2] ⟨3, ![8, A, B]⟩)
    (v : (⟨2, ![A, 8 * B]⟩ : Shape).Idx → α) (j : Fin 8) (a : Fin A) (b : Fin B) :
    Layout.block ⟨2, ![A, B]⟩ ⟨2, ![A, 8 * B]⟩ 1 8 j v hT (ix2 a b)
      = transpose ⟨3, ![8, A, B]⟩ [1, 0, 2] (shapeCast ⟨3, ![A, 8, B]⟩ v hc) ht (ix3 j a b) := by
  rw [transpose_apply _ _ ht (ix3 j a b) (ix3 a j b) (fun x => by fin_cases x <;> rfl)]
  refine (shapeCast_apply v hc (ix3 a j b) (hT.idx j (ix2 a b)) ?_).symm
  rw [Shape.rowMajor_val_two, Shape.rowMajor_val_three]
  simp only [Layout.Tiles.idx_val]
  show a.val * (8 * B) + (j.val * B + b.val) = (a.val * 8 + j.val) * B + b.val
  ring

end Whole

variable (m : (ℓ : Loc nD τ sig) → Buf (Elt F) ℓ)
variable (m' : (ℓ : Loc Cert.GatherReferenceIdeal.nD Cert.GatherReferenceIdeal.τ Cert.GatherReferenceIdeal.sig) → Buf (Elt F) ℓ)

/-- The thread of the reference's one device. -/
abbrev host : Thread Cert.GatherReferenceIdeal.nD Cert.GatherReferenceIdeal.τ := ((0 : Dev Cert.GatherReferenceIdeal.nD) : Thread Cert.GatherReferenceIdeal.nD Cert.GatherReferenceIdeal.τ)

/-- Each device's arguments are its blocks of the whole arrays. -/
def Cut : Prop := ∀ c : Dev nD,
  m ((c : Thread nD τ).loc main_arg0) = Layout.block ⟨2, ![2048, 768]⟩ ⟨2, ![2048, 6144]⟩ 1 8 c (m' (host.loc Cert.GatherReferenceIdeal.main_arg0))
    ∧ m ((c : Thread nD τ).loc main_arg1) = Layout.block ⟨2, ![256, 2048]⟩ ⟨2, ![2048, 2048]⟩ 0 8 c (m' (host.loc Cert.GatherReferenceIdeal.main_arg1))
    ∧ m ((c : Thread nD τ).loc main_arg2) = Layout.block ⟨2, ![128, 1024]⟩ ⟨2, ![1024, 1024]⟩ 0 8 c (m' (host.loc Cert.GatherReferenceIdeal.main_arg2))
    ∧ m ((c : Thread nD τ).loc main_arg3) = Layout.block ⟨2, ![8, 128]⟩ ⟨2, ![8, 1024]⟩ 1 8 c (m' (host.loc Cert.GatherReferenceIdeal.main_arg3))

/-- The reference's results. -/
abbrev whole0 : Buf (Elt F) (host.loc Cert.GatherReferenceIdeal.main_v1) :=
  transpose Cert.GatherReferenceIdeal.S8x2048x768 [1, 0, 2] (shapeCast _ (m' (host.loc Cert.GatherReferenceIdeal.main_arg0)) Cert.GatherReferenceIdeal.Gen.shapeCasts_S2048x6144_S2048x8x768)
    Cert.GatherReferenceIdeal.Gen.transposes_S2048x8x768_S8x2048x768_1_0_2
abbrev whole1 : Buf (Elt F) (host.loc Cert.GatherReferenceIdeal.main_v2) :=
  shapeCast _ (m' (host.loc Cert.GatherReferenceIdeal.main_arg1)) Cert.GatherReferenceIdeal.Gen.shapeCasts_S2048x2048_S8x256x2048
abbrev whole2 : Buf (Elt F) (host.loc Cert.GatherReferenceIdeal.main_v3) :=
  shapeCast _ (m' (host.loc Cert.GatherReferenceIdeal.main_arg2)) Cert.GatherReferenceIdeal.Gen.shapeCasts_S1024x1024_S8x128x1024
abbrev whole3 : Buf (Elt F) (host.loc Cert.GatherReferenceIdeal.main_v5) :=
  transpose Cert.GatherReferenceIdeal.S8x8x128 [1, 0, 2] (shapeCast _ (m' (host.loc Cert.GatherReferenceIdeal.main_arg3)) Cert.GatherReferenceIdeal.Gen.shapeCasts_S8x1024_S8x8x128)
    Cert.GatherReferenceIdeal.Gen.transposes_S8x8x128_S8x8x128_1_0_2

section
variable {m m'} (h : Cut m m') (c : Dev nD)
include h

theorem win_value : gathered m .win 0 c = whole0 m' := by
  funext x
  obtain ⟨j, a, b, rfl⟩ : ∃ (j : Fin 8) (a : Fin 2048) (b : Fin 768), x = ix3 j a b := ⟨x 0, x 1, x 2, eq_ix3 x⟩
  show m ((Dev.tc (j : Dev nD) : Thread nD τ).loc main_arg0) (ix2 a b) = _
  rw [(h j).1]
  exact cols_stacked (A := 2048) (B := 768) (by decide) _ _ _ j a b

theorem wout_value : gathered m .wout 0 c = whole1 m' := by
  funext x
  obtain ⟨j, a, b, rfl⟩ : ∃ (j : Fin 8) (a : Fin 256) (b : Fin 2048), x = ix3 j a b := ⟨x 0, x 1, x 2, eq_ix3 x⟩
  show m ((Dev.tc (j : Dev nD) : Thread nD τ).loc main_arg1) (ix2 a b) = _
  rw [(h j).2.1]
  exact rows_stacked (A := 256) (B := 2048) (by decide) _ _ j a b

theorem wglu_value : gathered m .wglu 0 c = whole2 m' := by
  funext x
  obtain ⟨j, a, b, rfl⟩ : ∃ (j : Fin 8) (a : Fin 128) (b : Fin 1024), x = ix3 j a b := ⟨x 0, x 1, x 2, eq_ix3 x⟩
  show m ((Dev.tc (j : Dev nD) : Thread nD τ).loc main_arg2) (ix2 a b) = _
  rw [(h j).2.2.1]
  exact rows_stacked (A := 128) (B := 1024) (by decide) _ _ j a b

theorem conv_value : gathered m .conv 0 c = whole3 m' := by
  funext x
  obtain ⟨j, a, b, rfl⟩ : ∃ (j : Fin 8) (a : Fin 8) (b : Fin 128), x = ix3 j a b := ⟨x 0, x 1, x 2, eq_ix3 x⟩
  show m ((Dev.tc (j : Dev nD) : Thread nD τ).loc main_arg3) (ix2 a b) = _
  rw [(h j).2.2.2]
  exact cols_stacked (A := 8) (B := 128) (by decide) _ _ _ j a b

end

/-- From arguments that are the blocks of whole arrays, every device ends with what the reference makes of the whole arrays. -/
theorem run_value (h : Cut m m') (ρ : Dev nD → PrngReg) (ρ' : Dev Cert.GatherReferenceIdeal.nD → PrngReg) :
    θ_run (defs (F := F)) (onTc (τ := τ) (main (F := F))) ⟨m, fun _ => 0, ρ⟩ (fun r => ∀ c : Dev nD,
        r.2.mem ((c : Thread nD τ).loc main_v1_0) = whole0 m'
        ∧ r.2.mem ((c : Thread nD τ).loc main_v1_1) = whole1 m'
        ∧ r.2.mem ((c : Thread nD τ).loc main_v1_2) = whole2 m'
        ∧ r.2.mem ((c : Thread nD τ).loc main_v1_3) = whole3 m'
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
    ∧ θ_run (Cert.GatherReferenceIdeal.defs (F := F)) (onTc (τ := Cert.GatherReferenceIdeal.τ) (Cert.GatherReferenceIdeal.main (F := F))) ⟨m', fun _ => 0, ρ'⟩ (fun r =>
        r.2.mem (host.loc Cert.GatherReferenceIdeal.main_v1) = whole0 m' ∧ r.2.mem (host.loc Cert.GatherReferenceIdeal.main_v2) = whole1 m'
        ∧ r.2.mem (host.loc Cert.GatherReferenceIdeal.main_v3) = whole2 m' ∧ r.2.mem (host.loc Cert.GatherReferenceIdeal.main_v5) = whole3 m'
        ∧ r.2.mem (host.loc Cert.GatherReferenceIdeal.main_arg0) = m' (host.loc Cert.GatherReferenceIdeal.main_arg0)
        ∧ r.2.mem (host.loc Cert.GatherReferenceIdeal.main_arg1) = m' (host.loc Cert.GatherReferenceIdeal.main_arg1)
        ∧ r.2.mem (host.loc Cert.GatherReferenceIdeal.main_arg2) = m' (host.loc Cert.GatherReferenceIdeal.main_arg2)
        ∧ r.2.mem (host.loc Cert.GatherReferenceIdeal.main_arg3) = m' (host.loc Cert.GatherReferenceIdeal.main_arg3)) :=
  ⟨(θ_run defs _ _).mono (fun r hr c => by
      obtain ⟨⟨a0, a1, a2, a3⟩, o0, o1, o2, o3⟩ := hr.1 c
      exact ⟨o0.trans (win_value h c), o1.trans (wout_value h c), o2.trans (wglu_value h c), o3.trans (conv_value h c), a0, a1, a2, a3⟩) (run_main m ρ),
    (θ_run Cert.GatherReferenceIdeal.defs _ _).mono (fun r hr => hr 0) (Cert.GatherReferenceIdeal.Value.run m' ρ')⟩

end Cert.Gathering

end
-- ==== Proof.Update.lean ====
/-
The update of a parameter from eight received slots, at any block shape: the slots summed in order, then one step of
AdamW element by element. A kernel's block computation and a reference's array expressions are both read as the
functions below.
-/
module

public import Idealize.ShloMosaic.Lib.Pipeline.Value
public import Idealize.ShloMosaic.Lib.Pointwise.Reduce
public import Idealize.ShloMosaic.Lib.IdealHost

@[expose] public section

noncomputable section

namespace Cert.Update

open Idealize.ShloMosaic

variable {F : FTy → Type} [FloatOps F] {R C : ℕ}

/-- The shape of one slot, and of the eight slots stacked. -/
abbrev One (R C : ℕ) : Shape := ⟨2, ![R, C]⟩
abbrev Eight (R C : ℕ) : Shape := ⟨3, ![8, R, C]⟩
/-- A slot as it is loaded, with its leading axis of one. -/
abbrev Lead (R C : ℕ) : Shape := ⟨3, ![1, R, C]⟩

/-- Element `y` of slot `j`. -/
def slot (j : Fin 8) (y : (One R C).Idx) : (Eight R C).Idx :=
  fun a => match a with | ⟨0, _⟩ => j | ⟨1, _⟩ => y 0 | ⟨2, _⟩ => y 1

/-- The eight slots summed, from slot 0 up. -/
def total (r : Vec F (Eight R C) .f32) : Vec F (One R C) .f32 := fun y =>
  FloatOps.addf (FloatOps.addf (FloatOps.addf (FloatOps.addf (FloatOps.addf (FloatOps.addf (FloatOps.addf
    (r (slot 0 y)) (r (slot 1 y))) (r (slot 2 y))) (r (slot 3 y))) (r (slot 4 y))) (r (slot 5 y))) (r (slot 6 y)))
    (r (slot 7 y))

/-- The decayed first moment: nine tenths of the old one and one tenth of the gradient. -/
def moment (m g : F .f32) : F .f32 :=
  FloatOps.addf (FloatOps.mulf (Scalar.ofBits .f32 0x3F666666#32) m) (FloatOps.mulf (Scalar.ofBits .f32 0x3DCCCCCD#32) g)

/-- The decayed second moment, of the squared gradient. -/
def variance (v g : F .f32) : F .f32 :=
  FloatOps.addf (FloatOps.mulf (Scalar.ofBits .f32 0x3F7FBE77#32) v)
    (FloatOps.mulf (Scalar.ofBits .f32 0x3A83126F#32) (FloatOps.mulf g g))

/-- The step: the debiased moments' quotient and the decayed weight, scaled by the negated learning rate. -/
def delta (w m v g : F .f32) : F .f32 :=
  FloatOps.mulf (Scalar.ofBits .f32 0xBA83126F#32)
    (FloatOps.addf
      (FloatOps.divf (FloatOps.divf (moment m g) (Scalar.ofBits .f32 0x3F26BD02#32))
        (FloatOps.addf (FloatOps.sqrt (FloatOps.divf (variance v g) (Scalar.ofBits .f32 0x3C231ACC#32)))
          (Scalar.ofBits .f32 0x322BCC77#32)))
      (FloatOps.mulf (Scalar.ofBits .f32 0x3C23D70A#32) w))

/-- Slot `j`, loaded out of the stack and cast to its own shape, is the stack at slot `j`. -/
theorem loaded (x : Vec F (Eight R C) .f32) (j : Fin 8)
    (h : ∀ a, ![j.val, 0, 0] a + (Lead R C).size a ≤ (Eight R C).size a) (hc : (Lead R C).ShapeCasts (One R C))
    (y : (One R C).Idx) :
    shapeCast (One R C) (View.ld x (Rect.unit (s := Eight R C) ![j.val, 0, 0] (Lead R C).size h)) hc y = x (slot j y) := by
  refine (shapeCast_apply _ hc y
    (fun a => match a with | ⟨0, _⟩ => (⟨0, Nat.one_pos⟩ : Fin 1) | ⟨1, _⟩ => y 0 | ⟨2, _⟩ => y 1) ?_).trans ?_
  · rw [Shape.rowMajor_val_three, Shape.rowMajor_val_two]
    show (0 * R + (y 0).val) * C + (y 1).val = (y 0).val * C + (y 1).val
    rw [Nat.zero_mul, Nat.zero_add]
  · refine congrArg x (funext fun a => Fin.ext ?_)
    match a with
    | ⟨0, _⟩ => show j.val + 1 * 0 = j.val; omega
    | ⟨1, _⟩ => show 0 + 1 * (y 0).val = (y 0).val; omega
    | ⟨2, _⟩ => show 0 + 1 * (y 1).val = (y 1).val; omega

/-- A slot lies inside the stack. -/
theorem inside (j : Fin 8) (a : Fin 3) : ![j.val, 0, 0] a + (Lead R C).size a ≤ (Eight R C).size a := by
  have := j.isLt
  match a with
  | ⟨0, _⟩ => show j.val + 1 ≤ 8; omega
  | ⟨1, _⟩ => show 0 + R ≤ R; omega
  | ⟨2, _⟩ => show 0 + C ≤ C; omega

/-- The eight slots loaded, cast and added one after the other are their total. -/
theorem added (x : Vec F (Eight R C) .f32) (hc : (Lead R C).ShapeCasts (One R C)) :
    (let p := fun j : Fin 8 => shapeCast (One R C) (View.ld x (Rect.unit (s := Eight R C) ![j.val, 0, 0] (Lead R C).size (inside j))) hc
     addf (addf (addf (addf (addf (addf (addf (p 0) (p 1)) (p 2)) (p 3)) (p 4)) (p 5)) (p 6)) (p 7)) = total x := by
  funext y
  have l := fun j => loaded x j (inside j) hc y
  exact congrArg₂ _ (congrArg₂ _ (congrArg₂ _ (congrArg₂ _ (congrArg₂ _ (congrArg₂ _ (congrArg₂ _
    (l 0) (l 1)) (l 2)) (l 3)) (l 4)) (l 5)) (l 6)) (l 7)

/-- Totals agree where the slots do. -/
theorem total_congr {R' C' : ℕ} {r : Vec F (Eight R C) .f32} {r' : Vec F (Eight R' C') .f32} {y : (One R C).Idx}
    {y' : (One R' C').Idx} (h : ∀ j, r (slot j y) = r' (slot j y')) : total r y = total r' y' :=
  congrArg₂ _ (congrArg₂ _ (congrArg₂ _ (congrArg₂ _ (congrArg₂ _ (congrArg₂ _ (congrArg₂ _
    (h 0) (h 1)) (h 2)) (h 3)) (h 4)) (h 5)) (h 6)) (h 7)

/-- Over the extended reals the host's sum along the leading axis, from zero, is the total. -/
theorem summed {u : Shape} (r : Vec Ideal (Eight R C) .f32) (h : (Eight R C).ReducesTo [0] (One R C)) (hu : 0 < u.numel) :
    Host.reduceAdd (F := Ideal) (φ := .f32) r (constant u .f32 0x00000000#32) h hu = total r := by
  funext y
  rw [Host.reduceAdd_apply, Ideal.hostReduceAdd_def, Ideal.hostReduceAdd_r3_a0, Fin.sum_univ_eight]
  refine (congrArg (· + _) (Ideal.ofBits_zero_f32 : Ideal.ofBits .f32 0x00000000#32 = 0)).trans ((zero_add _).trans ?_)
  have l : ∀ (k : Fin 8) (z : (Eight R C).Idx), z 0 = k → (z 1).val = (y 0).val → (z 2).val = (y 1).val → r z = r (slot k y) :=
    fun k z h0 h1 h2 => congrArg r (funext fun a => match a with
      | ⟨0, _⟩ => h0 | ⟨1, _⟩ => Fin.ext h1 | ⟨2, _⟩ => Fin.ext h2)
  exact congrArg₂ (· + ·) (congrArg₂ (· + ·) (congrArg₂ (· + ·) (congrArg₂ (· + ·) (congrArg₂ (· + ·) (congrArg₂ (· + ·)
    (congrArg₂ (· + ·) (l 0 _ rfl rfl rfl) (l 1 _ rfl rfl rfl)) (l 2 _ rfl rfl rfl)) (l 3 _ rfl rfl rfl))
    (l 4 _ rfl rfl rfl)) (l 5 _ rfl rfl rfl)) (l 6 _ rfl rfl rfl)) (l 7 _ rfl rfl rfl)

/-- The offsets of a load or store through a whole block. -/
theorem origin : (![0, 0] : Fin 2 → ℕ) = fun _ => 0 := funext fun a => by fin_cases a <;> rfl

/-- Row `y 0` of block `t`, in blocks of `B` rows of an array. -/
def at_ {B n : ℕ} (hn : n * B = R) (t : Fin n) (y : (One B C).Idx) : (One R C).Idx :=
  fun a => match a with
    | ⟨0, _⟩ => ⟨t.val * B + (y 0).val, by
        have h0 : (y 0).val < B := (y 0).isLt
        have ht := Nat.mul_le_mul_right B (Nat.succ_le_of_lt t.isLt)
        rw [hn, Nat.succ_mul] at ht; exact lt_of_lt_of_le (Nat.add_lt_add_left h0 _) ht⟩
    | ⟨1, _⟩ => y 1

/-- An element is in that row when its coordinates are. -/
theorem eq_at {B n : ℕ} {hn : n * B = R} {t : Fin n} {y : (One B C).Idx} {z : (One R C).Idx} {o₀ o₁ : ℕ}
    (e : o₀ = t.val ∧ o₁ = 0) (h0 : (z 0).val = o₀ * B + 1 * (y 0).val) (h1 : (z 1).val = o₁ * C + 1 * (y 1).val) :
    z = at_ hn t y := by
  obtain ⟨rfl, rfl⟩ := e
  exact funext fun a => match a with
    | ⟨0, _⟩ => Fin.ext (h0.trans (by rw [Nat.one_mul]; rfl))
    | ⟨1, _⟩ => Fin.ext (h1.trans (by rw [Nat.one_mul, Nat.zero_mul, Nat.zero_add]; rfl))

/-- And an element of the stack is in that row of its slot. -/
theorem eq_slot_at {B n : ℕ} {hn : n * B = R} {t : Fin n} {j : Fin 8} {y : (One B C).Idx} {z : (Eight R C).Idx} {o₀ o₁ o₂ : ℕ}
    (e : o₀ = 0 ∧ o₁ = t.val ∧ o₂ = 0) (h0 : (z 0).val = o₀ * 8 + 1 * j.val)
    (h1 : (z 1).val = o₁ * B + 1 * (y 0).val) (h2 : (z 2).val = o₂ * C + 1 * (y 1).val) :
    z = slot j (at_ hn t y) := by
  obtain ⟨rfl, rfl, rfl⟩ := e
  exact funext fun a => match a with
    | ⟨0, _⟩ => Fin.ext (h0.trans (by rw [Nat.one_mul, Nat.zero_mul, Nat.zero_add]; rfl))
    | ⟨1, _⟩ => Fin.ext (h1.trans (by rw [Nat.one_mul]; rfl))
    | ⟨2, _⟩ => Fin.ext (h2.trans (by rw [Nat.one_mul, Nat.zero_mul, Nat.zero_add]; rfl))

/-- Every element is in some block. -/
theorem exists_at {B n : ℕ} (hn : n * B = R) (i : (One R C).Idx) : ∃ (t : Fin n) (y : (One B C).Idx), at_ hn t y = i := by
  have hi : (i 0).val < R := (i 0).isLt
  have hB : 0 < B := Nat.pos_of_ne_zero fun h => by subst h; rw [Nat.mul_zero] at hn; omega
  refine ⟨⟨(i 0).val / B, (Nat.div_lt_iff_lt_mul hB).mpr (hn ▸ hi)⟩,
    fun a => match a with | ⟨0, _⟩ => (⟨(i 0).val % B, Nat.mod_lt _ hB⟩ : Fin B) | ⟨1, _⟩ => i 1, ?_⟩
  exact funext fun a => match a with
    | ⟨0, _⟩ => Fin.ext (Nat.div_add_mod' (i 0).val B)
    | ⟨1, _⟩ => rfl

end Cert.Update

end
-- ==== Proof.UpdateIn.lean ====
/-
The update of the input projection: the kernel's four results are the gradient, the step and the two moments of the
whole arrays, and so are the reference's.
-/
module

public import proofs.«01_k».proof.Defs
public import proofs.«01_k».proof.Proof.Update
public import proofs.«01_k».proof.Proof.Gen.UpdateInIdeal.Value
public import proofs.«01_k».proof.Proof.Gen.UpdateInReferenceIdeal.Run

@[expose] public section

noncomputable section

namespace Cert.Update.In

open Cert.UpdateInIdeal Cert.UpdateInIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The rows fall into eight blocks of 256. -/
theorem rows : 8 * 256 = 2048 := rfl

/-! ## One block -/

section Block

variable (x : Vec F S8x256x768 .f32) (w μ v : Vec F S256x768 .f32)

theorem loads_eq : k0_pay4 (View.ld x r0_0) (View.ld x r0_1) (View.ld x r0_2) (View.ld x r0_3) (View.ld x r0_4)
    (View.ld x r0_5) (View.ld x r0_6) (View.ld x r0_7) = total x :=
  added x shapeCasts_S1x256x768_S256x768

theorem block_grad : out0_4 x w μ v = total x := by
  unfold_out out0_4
  rw [View.canon_unit_zero origin, loads_eq]

theorem block_delta : out0_5 x w μ v = fun y => delta (w y) (μ y) (v y) (total x y) := by
  unfold_out out0_5
  rw [View.canon_unit_zero origin, View.ld_unit_zero origin, View.ld_unit_zero origin, View.ld_unit_zero origin]
  rw [loads_eq]
  rfl

theorem block_moment : out0_6 x w μ v = fun y => moment (μ y) (total x y) := by
  unfold_out out0_6
  rw [View.canon_unit_zero origin, View.ld_unit_zero origin]
  rw [loads_eq]
  rfl

theorem block_variance : out0_7 x w μ v = fun y => variance (v y) (total x y) := by
  unfold_out out0_7
  rw [View.canon_unit_zero origin, View.ld_unit_zero origin]
  rw [loads_eq]
  rfl

end Block

/-! ## Where a block lies -/

theorem idx_recv : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_rest : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Element `y` of point `t`'s blocks, in the whole arrays. -/
abbrev spot (t : Fin cfg0.N) (y : S256x768.Idx) : S2048x768.Idx := at_ (n := 8) rows (t.cast N_0) y

section Reads

variable (c : Dev nD) (t : Fin cfg0.N) (y : S256x768.Idx)

theorem read_recv : total (iblk m c 0 t) y = total (m ((c : Thread nD τ).loc main_arg0)) (spot t y) :=
  total_congr fun j => congrArg (m ((c : Thread nD τ).loc main_arg0))
    (eq_slot_at (z := ((cfg0.win 0).blk t).view.emb (slot j y)) (idx_recv t) rfl rfl rfl)

theorem read_weight : iblk m c 1 t y = m ((c : Thread nD τ).loc main_arg1) (spot t y) :=
  congrArg (m ((c : Thread nD τ).loc main_arg1)) (eq_at (z := ((cfg0.win 1).blk t).view.emb y) (idx_rest t).1 rfl rfl)

theorem read_moment : iblk m c 2 t y = m ((c : Thread nD τ).loc main_arg2) (spot t y) :=
  congrArg (m ((c : Thread nD τ).loc main_arg2)) (eq_at (z := ((cfg0.win 2).blk t).view.emb y) (idx_rest t).2.1 rfl rfl)

theorem read_variance : iblk m c 3 t y = m ((c : Thread nD τ).loc main_arg3) (spot t y) :=
  congrArg (m ((c : Thread nD τ).loc main_arg3)) (eq_at (z := ((cfg0.win 3).blk t).view.emb y) (idx_rest t).2.2.1 rfl rfl)

theorem emb_grad : ((cfg0.win 4).blk t).view.emb y = spot t y := eq_at (idx_rest t).2.2.2.1 rfl rfl
theorem emb_delta : ((cfg0.win 5).blk t).view.emb y = spot t y := eq_at (idx_rest t).2.2.2.2.1 rfl rfl
theorem emb_moment : ((cfg0.win 6).blk t).view.emb y = spot t y := eq_at (idx_rest t).2.2.2.2.2.1 rfl rfl
theorem emb_variance : ((cfg0.win 7).blk t).view.emb y = spot t y := eq_at (idx_rest t).2.2.2.2.2.2 rfl rfl

end Reads

/-! ## The arrays -/

section Arrays

variable (c : Dev nD)

/-- The gradient, the step and the two moments of a device's whole arguments. -/
abbrev grads : Vec F S2048x768 .f32 := total (m ((c : Thread nD τ).loc main_arg0))
abbrev deltas : Vec F S2048x768 .f32 := fun i => delta (m ((c : Thread nD τ).loc main_arg1) i)
  (m ((c : Thread nD τ).loc main_arg2) i) (m ((c : Thread nD τ).loc main_arg3) i) (grads m c i)
abbrev moments : Vec F S2048x768 .f32 := fun i => moment (m ((c : Thread nD τ).loc main_arg2) i) (grads m c i)
abbrev variances : Vec F S2048x768 .f32 := fun i => variance (m ((c : Thread nD τ).loc main_arg3) i) (grads m c i)

theorem final_grad : (dats m 0 c).arrAt 4 cfg0.N = grads m c := by
  refine (dats m 0 c).arrAt_eq_of_cover 4 (grads m c) (fun t _ => ?_) fun i => ?_
  · show (cfg0.win 4).cut (grid0.coords t) ((dats m 0 c).after 4 t) = _
    rw [after0_4, block_grad]
    funext y
    show total (iblk m c 0 t) y = grads m c (((cfg0.win 4).blk t).view.emb y)
    rw [emb_grad, read_recv]
  · obtain ⟨t, y, rfl⟩ := exists_at (n := 8) (B := 256) rows i
    have h := ((cfg0.win 4).blk (t.cast N_0.symm)).view.emb_mem_set y
    rw [emb_grad] at h
    exact ⟨t.cast N_0.symm, flush0_4 _, h⟩

theorem final_delta : (dats m 0 c).arrAt 5 cfg0.N = deltas m c := by
  refine (dats m 0 c).arrAt_eq_of_cover 5 (deltas m c) (fun t _ => ?_) fun i => ?_
  · show (cfg0.win 5).cut (grid0.coords t) ((dats m 0 c).after 5 t) = _
    rw [after0_5, block_delta]
    funext y
    show delta (iblk m c 1 t y) (iblk m c 2 t y) (iblk m c 3 t y) (total (iblk m c 0 t) y) = deltas m c (((cfg0.win 5).blk t).view.emb y)
    rw [emb_delta, read_recv, read_weight, read_moment, read_variance]
  · obtain ⟨t, y, rfl⟩ := exists_at (n := 8) (B := 256) rows i
    have h := ((cfg0.win 5).blk (t.cast N_0.symm)).view.emb_mem_set y
    rw [emb_delta] at h
    exact ⟨t.cast N_0.symm, flush0_5 _, h⟩

theorem final_moment : (dats m 0 c).arrAt 6 cfg0.N = moments m c := by
  refine (dats m 0 c).arrAt_eq_of_cover 6 (moments m c) (fun t _ => ?_) fun i => ?_
  · show (cfg0.win 6).cut (grid0.coords t) ((dats m 0 c).after 6 t) = _
    rw [after0_6, block_moment]
    funext y
    show moment (iblk m c 2 t y) (total (iblk m c 0 t) y) = moments m c (((cfg0.win 6).blk t).view.emb y)
    rw [emb_moment, read_recv, read_moment]
  · obtain ⟨t, y, rfl⟩ := exists_at (n := 8) (B := 256) rows i
    have h := ((cfg0.win 6).blk (t.cast N_0.symm)).view.emb_mem_set y
    rw [emb_moment] at h
    exact ⟨t.cast N_0.symm, flush0_6 _, h⟩

theorem final_variance : (dats m 0 c).arrAt 7 cfg0.N = variances m c := by
  refine (dats m 0 c).arrAt_eq_of_cover 7 (variances m c) (fun t _ => ?_) fun i => ?_
  · show (cfg0.win 7).cut (grid0.coords t) ((dats m 0 c).after 7 t) = _
    rw [after0_7, block_variance]
    funext y
    show variance (iblk m c 3 t y) (total (iblk m c 0 t) y) = variances m c (((cfg0.win 7).blk t).view.emb y)
    rw [emb_variance, read_recv, read_variance]
  · obtain ⟨t, y, rfl⟩ := exists_at (n := 8) (B := 256) rows i
    have h := ((cfg0.win 7).blk (t.cast N_0.symm)).view.emb_mem_set y
    rw [emb_variance] at h
    exact ⟨t.cast N_0.symm, flush0_7 _, h⟩

end Arrays

/-- The kernel leaves the four arrays and its arguments as they were. -/
theorem run_kernel : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1) = deltas m c
      ∧ r.2.mem ((c : Thread nD τ).loc main_v0_2) = moments m c
      ∧ r.2.mem ((c : Thread nD τ).loc main_v0_3) = variances m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_grad m c), (h c).2.1.trans (final_delta m c),
      (h c).2.2.1.trans (final_moment m c), (h c).2.2.2.1.trans (final_variance m c), (h c).2.2.2.2⟩)
    (Value.run_blocks m ρ)

end Cert.Update.In

namespace Cert.Update.In

open Cert.UpdateInReferenceIdeal Cert.UpdateInReferenceIdeal.Gen
open Idealize.ShloMosaic Idealize.ShloMosaic.TcCoe Idealize.SL.Sem

/-- Over the extended reals the reference leaves the same four functions of its own arguments. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = total (m ((c : Thread nD τ).loc main_arg0))
      ∧ r.2.mem ((c : Thread nD τ).loc main_v24) = (fun i => delta (m ((c : Thread nD τ).loc main_arg1) i)
          (m ((c : Thread nD τ).loc main_arg2) i) (m ((c : Thread nD τ).loc main_arg3) i) (total (m ((c : Thread nD τ).loc main_arg0)) i))
      ∧ r.2.mem ((c : Thread nD τ).loc main_v5) = (fun i => moment (m ((c : Thread nD τ).loc main_arg2) i)
          (total (m ((c : Thread nD τ).loc main_arg0)) i))
      ∧ r.2.mem ((c : Thread nD τ).loc main_v11) = (fun i => variance (m ((c : Thread nD τ).loc main_arg3) i)
          (total (m ((c : Thread nD τ).loc main_arg0)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  have e := summed (m ((c : Thread nD τ).loc main_arg0)) reducesTo_S8x2048x768_S2048x768_d0 h_S_
  have hc := h c
  rw [e] at hc
  exact hc

end Cert.Update.In

namespace Cert.Update.In

open Idealize.ShloMosaic Idealize.ShloMosaic.TcCoe Idealize.SL.Sem

/-- From equal arguments the two leave the same. -/
theorem value : Cert.algebraic_UpdateInIdeal_UpdateInReferenceIdeal := fun m ρ m' ρ' _ h =>
  ⟨grads m, deltas m, moments m, variances m, run_kernel m ρ,
    (θ_run _ _ _).mono (fun r hr c => by
      obtain ⟨e₀, e₁, e₂, e₃⟩ := h c
      exact ⟨(hr c).1.trans (by rw [e₀]), (hr c).2.1.trans (by rw [e₀, e₁, e₂, e₃]; rfl), (hr c).2.2.1.trans (by rw [e₀, e₂]; rfl),
        (hr c).2.2.2.1.trans (by rw [e₀, e₃]; rfl), (hr c).2.2.2.2⟩) (run_reference m' ρ')⟩

end Cert.Update.In

end
-- ==== Proof.UpdateOut.lean ====
/-
The update of the output projection: the kernel's four results are the gradient, the step and the two moments of the
whole arrays, and so are the reference's.
-/
module

public import proofs.«01_k».proof.Defs
public import proofs.«01_k».proof.Proof.Update
public import proofs.«01_k».proof.Proof.Gen.UpdateOutIdeal.Value
public import proofs.«01_k».proof.Proof.Gen.UpdateOutReferenceIdeal.Run

@[expose] public section

noncomputable section

namespace Cert.Update.Out

open Cert.UpdateOutIdeal Cert.UpdateOutIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The rows fall into two blocks of 128. -/
theorem rows : 2 * 128 = 256 := rfl

/-! ## One block -/

section Block

variable (x : Vec F S8x128x2048 .f32) (w μ v : Vec F S128x2048 .f32)

theorem loads_eq : k0_pay4 (View.ld x r0_0) (View.ld x r0_1) (View.ld x r0_2) (View.ld x r0_3) (View.ld x r0_4)
    (View.ld x r0_5) (View.ld x r0_6) (View.ld x r0_7) = total x :=
  added x shapeCasts_S1x128x2048_S128x2048

theorem block_grad : out0_4 x w μ v = total x := by
  unfold_out out0_4
  rw [View.canon_unit_zero origin, loads_eq]

theorem block_delta : out0_5 x w μ v = fun y => delta (w y) (μ y) (v y) (total x y) := by
  unfold_out out0_5
  rw [View.canon_unit_zero origin, View.ld_unit_zero origin, View.ld_unit_zero origin, View.ld_unit_zero origin]
  rw [loads_eq]
  rfl

theorem block_moment : out0_6 x w μ v = fun y => moment (μ y) (total x y) := by
  unfold_out out0_6
  rw [View.canon_unit_zero origin, View.ld_unit_zero origin]
  rw [loads_eq]
  rfl

theorem block_variance : out0_7 x w μ v = fun y => variance (v y) (total x y) := by
  unfold_out out0_7
  rw [View.canon_unit_zero origin, View.ld_unit_zero origin]
  rw [loads_eq]
  rfl

end Block

/-! ## Where a block lies -/

theorem idx_recv : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_rest : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Element `y` of point `t`'s blocks, in the whole arrays. -/
abbrev spot (t : Fin cfg0.N) (y : S128x2048.Idx) : S256x2048.Idx := at_ (n := 2) rows (t.cast N_0) y

section Reads

variable (c : Dev nD) (t : Fin cfg0.N) (y : S128x2048.Idx)

theorem read_recv : total (iblk m c 0 t) y = total (m ((c : Thread nD τ).loc main_arg0)) (spot t y) :=
  total_congr fun j => congrArg (m ((c : Thread nD τ).loc main_arg0))
    (eq_slot_at (z := ((cfg0.win 0).blk t).view.emb (slot j y)) (idx_recv t) rfl rfl rfl)

theorem read_weight : iblk m c 1 t y = m ((c : Thread nD τ).loc main_arg1) (spot t y) :=
  congrArg (m ((c : Thread nD τ).loc main_arg1)) (eq_at (z := ((cfg0.win 1).blk t).view.emb y) (idx_rest t).1 rfl rfl)

theorem read_moment : iblk m c 2 t y = m ((c : Thread nD τ).loc main_arg2) (spot t y) :=
  congrArg (m ((c : Thread nD τ).loc main_arg2)) (eq_at (z := ((cfg0.win 2).blk t).view.emb y) (idx_rest t).2.1 rfl rfl)

theorem read_variance : iblk m c 3 t y = m ((c : Thread nD τ).loc main_arg3) (spot t y) :=
  congrArg (m ((c : Thread nD τ).loc main_arg3)) (eq_at (z := ((cfg0.win 3).blk t).view.emb y) (idx_rest t).2.2.1 rfl rfl)

theorem emb_grad : ((cfg0.win 4).blk t).view.emb y = spot t y := eq_at (idx_rest t).2.2.2.1 rfl rfl
theorem emb_delta : ((cfg0.win 5).blk t).view.emb y = spot t y := eq_at (idx_rest t).2.2.2.2.1 rfl rfl
theorem emb_moment : ((cfg0.win 6).blk t).view.emb y = spot t y := eq_at (idx_rest t).2.2.2.2.2.1 rfl rfl
theorem emb_variance : ((cfg0.win 7).blk t).view.emb y = spot t y := eq_at (idx_rest t).2.2.2.2.2.2 rfl rfl

end Reads

/-! ## The arrays -/

section Arrays

variable (c : Dev nD)

/-- The gradient, the step and the two moments of a device's whole arguments. -/
abbrev grads : Vec F S256x2048 .f32 := total (m ((c : Thread nD τ).loc main_arg0))
abbrev deltas : Vec F S256x2048 .f32 := fun i => delta (m ((c : Thread nD τ).loc main_arg1) i)
  (m ((c : Thread nD τ).loc main_arg2) i) (m ((c : Thread nD τ).loc main_arg3) i) (grads m c i)
abbrev moments : Vec F S256x2048 .f32 := fun i => moment (m ((c : Thread nD τ).loc main_arg2) i) (grads m c i)
abbrev variances : Vec F S256x2048 .f32 := fun i => variance (m ((c : Thread nD τ).loc main_arg3) i) (grads m c i)

theorem final_grad : (dats m 0 c).arrAt 4 cfg0.N = grads m c := by
  refine (dats m 0 c).arrAt_eq_of_cover 4 (grads m c) (fun t _ => ?_) fun i => ?_
  · show (cfg0.win 4).cut (grid0.coords t) ((dats m 0 c).after 4 t) = _
    rw [after0_4, block_grad]
    funext y
    show total (iblk m c 0 t) y = grads m c (((cfg0.win 4).blk t).view.emb y)
    rw [emb_grad, read_recv]
  · obtain ⟨t, y, rfl⟩ := exists_at (n := 2) (B := 128) rows i
    have h := ((cfg0.win 4).blk (t.cast N_0.symm)).view.emb_mem_set y
    rw [emb_grad] at h
    exact ⟨t.cast N_0.symm, flush0_4 _, h⟩

theorem final_delta : (dats m 0 c).arrAt 5 cfg0.N = deltas m c := by
  refine (dats m 0 c).arrAt_eq_of_cover 5 (deltas m c) (fun t _ => ?_) fun i => ?_
  · show (cfg0.win 5).cut (grid0.coords t) ((dats m 0 c).after 5 t) = _
    rw [after0_5, block_delta]
    funext y
    show delta (iblk m c 1 t y) (iblk m c 2 t y) (iblk m c 3 t y) (total (iblk m c 0 t) y) = deltas m c (((cfg0.win 5).blk t).view.emb y)
    rw [emb_delta, read_recv, read_weight, read_moment, read_variance]
  · obtain ⟨t, y, rfl⟩ := exists_at (n := 2) (B := 128) rows i
    have h := ((cfg0.win 5).blk (t.cast N_0.symm)).view.emb_mem_set y
    rw [emb_delta] at h
    exact ⟨t.cast N_0.symm, flush0_5 _, h⟩

theorem final_moment : (dats m 0 c).arrAt 6 cfg0.N = moments m c := by
  refine (dats m 0 c).arrAt_eq_of_cover 6 (moments m c) (fun t _ => ?_) fun i => ?_
  · show (cfg0.win 6).cut (grid0.coords t) ((dats m 0 c).after 6 t) = _
    rw [after0_6, block_moment]
    funext y
    show moment (iblk m c 2 t y) (total (iblk m c 0 t) y) = moments m c (((cfg0.win 6).blk t).view.emb y)
    rw [emb_moment, read_recv, read_moment]
  · obtain ⟨t, y, rfl⟩ := exists_at (n := 2) (B := 128) rows i
    have h := ((cfg0.win 6).blk (t.cast N_0.symm)).view.emb_mem_set y
    rw [emb_moment] at h
    exact ⟨t.cast N_0.symm, flush0_6 _, h⟩

theorem final_variance : (dats m 0 c).arrAt 7 cfg0.N = variances m c := by
  refine (dats m 0 c).arrAt_eq_of_cover 7 (variances m c) (fun t _ => ?_) fun i => ?_
  · show (cfg0.win 7).cut (grid0.coords t) ((dats m 0 c).after 7 t) = _
    rw [after0_7, block_variance]
    funext y
    show variance (iblk m c 3 t y) (total (iblk m c 0 t) y) = variances m c (((cfg0.win 7).blk t).view.emb y)
    rw [emb_variance, read_recv, read_variance]
  · obtain ⟨t, y, rfl⟩ := exists_at (n := 2) (B := 128) rows i
    have h := ((cfg0.win 7).blk (t.cast N_0.symm)).view.emb_mem_set y
    rw [emb_variance] at h
    exact ⟨t.cast N_0.symm, flush0_7 _, h⟩

end Arrays

/-- The kernel leaves the four arrays and its arguments as they were. -/
theorem run_kernel : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1) = deltas m c
      ∧ r.2.mem ((c : Thread nD τ).loc main_v0_2) = moments m c
      ∧ r.2.mem ((c : Thread nD τ).loc main_v0_3) = variances m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_grad m c), (h c).2.1.trans (final_delta m c),
      (h c).2.2.1.trans (final_moment m c), (h c).2.2.2.1.trans (final_variance m c), (h c).2.2.2.2⟩)
    (Value.run_blocks m ρ)

end Cert.Update.Out

namespace Cert.Update.Out

open Cert.UpdateOutReferenceIdeal Cert.UpdateOutReferenceIdeal.Gen
open Idealize.ShloMosaic Idealize.ShloMosaic.TcCoe Idealize.SL.Sem

/-- Over the extended reals the reference leaves the same four functions of its own arguments. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = total (m ((c : Thread nD τ).loc main_arg0))
      ∧ r.2.mem ((c : Thread nD τ).loc main_v24) = (fun i => delta (m ((c : Thread nD τ).loc main_arg1) i)
          (m ((c : Thread nD τ).loc main_arg2) i) (m ((c : Thread nD τ).loc main_arg3) i) (total (m ((c : Thread nD τ).loc main_arg0)) i))
      ∧ r.2.mem ((c : Thread nD τ).loc main_v5) = (fun i => moment (m ((c : Thread nD τ).loc main_arg2) i)
          (total (m ((c : Thread nD τ).loc main_arg0)) i))
      ∧ r.2.mem ((c : Thread nD τ).loc main_v11) = (fun i => variance (m ((c : Thread nD τ).loc main_arg3) i)
          (total (m ((c : Thread nD τ).loc main_arg0)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  have e := summed (m ((c : Thread nD τ).loc main_arg0)) reducesTo_S8x256x2048_S256x2048_d0 h_S_
  have hc := h c
  rw [e] at hc
  exact hc

end Cert.Update.Out

namespace Cert.Update.Out

open Idealize.ShloMosaic Idealize.ShloMosaic.TcCoe Idealize.SL.Sem

/-- From equal arguments the two leave the same. -/
theorem value : Cert.algebraic_UpdateOutIdeal_UpdateOutReferenceIdeal := fun m ρ m' ρ' _ h =>
  ⟨grads m, deltas m, moments m, variances m, run_kernel m ρ,
    (θ_run _ _ _).mono (fun r hr c => by
      obtain ⟨e₀, e₁, e₂, e₃⟩ := h c
      exact ⟨(hr c).1.trans (by rw [e₀]), (hr c).2.1.trans (by rw [e₀, e₁, e₂, e₃]; rfl), (hr c).2.2.1.trans (by rw [e₀, e₂]; rfl),
        (hr c).2.2.2.1.trans (by rw [e₀, e₃]; rfl), (hr c).2.2.2.2⟩) (run_reference m' ρ')⟩

end Cert.Update.Out

end
-- ==== Proof.UpdateGlu.lean ====
/-
The update of the gate: the kernel's four results are the gradient, the step and the two moments of the
whole arrays, and so are the reference's.
-/
module

public import proofs.«01_k».proof.Defs
public import proofs.«01_k».proof.Proof.Update
public import proofs.«01_k».proof.Proof.Gen.UpdateGluIdeal.Value
public import proofs.«01_k».proof.Proof.Gen.UpdateGluReferenceIdeal.Run

@[expose] public section

noncomputable section

namespace Cert.Update.Glu

open Cert.UpdateGluIdeal Cert.UpdateGluIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The one block -/

section Block

variable (x : Vec F S8x128x1024 .f32) (w μ v : Vec F S128x1024 .f32)

theorem loads_eq : k0_pay4 (View.ld x r0_0) (View.ld x r0_1) (View.ld x r0_2) (View.ld x r0_3) (View.ld x r0_4)
    (View.ld x r0_5) (View.ld x r0_6) (View.ld x r0_7) = total x :=
  added x shapeCasts_S1x128x1024_S128x1024

theorem block_grad : out0_4 x w μ v = total x := by
  unfold_out out0_4
  rw [View.canon_unit_zero origin, loads_eq]

theorem block_delta : out0_5 x w μ v = fun y => delta (w y) (μ y) (v y) (total x y) := by
  unfold_out out0_5
  rw [View.canon_unit_zero origin, View.ld_unit_zero origin, View.ld_unit_zero origin, View.ld_unit_zero origin]
  rw [loads_eq]
  rfl

theorem block_moment : out0_6 x w μ v = fun y => moment (μ y) (total x y) := by
  unfold_out out0_6
  rw [View.canon_unit_zero origin, View.ld_unit_zero origin]
  rw [loads_eq]
  rfl

theorem block_variance : out0_7 x w μ v = fun y => variance (v y) (total x y) := by
  unfold_out out0_7
  rw [View.canon_unit_zero origin, View.ld_unit_zero origin]
  rw [loads_eq]
  rfl

end Block

/-! ## The arrays -/

section Arrays

variable (c : Dev nD)

/-- The gradient, the step and the two moments of a device's whole arguments. -/
abbrev grads : Vec F S128x1024 .f32 := total (m ((c : Thread nD τ).loc main_arg0))
abbrev deltas : Vec F S128x1024 .f32 := fun i => delta (m ((c : Thread nD τ).loc main_arg1) i)
  (m ((c : Thread nD τ).loc main_arg2) i) (m ((c : Thread nD τ).loc main_arg3) i) (grads m c i)
abbrev moments : Vec F S128x1024 .f32 := fun i => moment (m ((c : Thread nD τ).loc main_arg2) i) (grads m c i)
abbrev variances : Vec F S128x1024 .f32 := fun i => variance (m ((c : Thread nD τ).loc main_arg3) i) (grads m c i)

end Arrays

/-- The kernel leaves the four arrays and its arguments as they were. -/
theorem run_kernel : θ_run defs (onTc (τ := τ) (main (F := F))) ⟨m, fun _ => 0, ρ⟩ fun r => ∀ c : Dev nD,
      r.2.mem ((c : Thread nD τ).loc main_v0_0) = grads m c
      ∧ r.2.mem ((c : Thread nD τ).loc main_v0_1) = deltas m c
      ∧ r.2.mem ((c : Thread nD τ).loc main_v0_2) = moments m c
      ∧ r.2.mem ((c : Thread nD τ).loc main_v0_3) = variances m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
      have e := fun x w μ v => (Value.out4_eq x w μ v).symm.trans (block_grad (F := F) x w μ v)
      have e' := fun x w μ v => (Value.out5_eq x w μ v).symm.trans (block_delta (F := F) x w μ v)
      have e'' := fun x w μ v => (Value.out6_eq x w μ v).symm.trans (block_moment (F := F) x w μ v)
      have e''' := fun x w μ v => (Value.out7_eq x w μ v).symm.trans (block_variance (F := F) x w μ v)
      exact ⟨(h c).1.trans (e _ _ _ _), (h c).2.1.trans (e' _ _ _ _), (h c).2.2.1.trans (e'' _ _ _ _),
        (h c).2.2.2.1.trans (e''' _ _ _ _), (h c).2.2.2.2⟩)
    (Value.run m ρ)

end Cert.Update.Glu

namespace Cert.Update.Glu

open Cert.UpdateGluReferenceIdeal Cert.UpdateGluReferenceIdeal.Gen
open Idealize.ShloMosaic Idealize.ShloMosaic.TcCoe Idealize.SL.Sem

/-- Over the extended reals the reference leaves the same four functions of its own arguments. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = total (m ((c : Thread nD τ).loc main_arg0))
      ∧ r.2.mem ((c : Thread nD τ).loc main_v24) = (fun i => delta (m ((c : Thread nD τ).loc main_arg1) i)
          (m ((c : Thread nD τ).loc main_arg2) i) (m ((c : Thread nD τ).loc main_arg3) i) (total (m ((c : Thread nD τ).loc main_arg0)) i))
      ∧ r.2.mem ((c : Thread nD τ).loc main_v5) = (fun i => moment (m ((c : Thread nD τ).loc main_arg2) i)
          (total (m ((c : Thread nD τ).loc main_arg0)) i))
      ∧ r.2.mem ((c : Thread nD τ).loc main_v11) = (fun i => variance (m ((c : Thread nD τ).loc main_arg3) i)
          (total (m ((c : Thread nD τ).loc main_arg0)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  have e := summed (m ((c : Thread nD τ).loc main_arg0)) reducesTo_S8x128x1024_S128x1024_d0 h_S_
  have hc := h c
  rw [e] at hc
  exact hc

end Cert.Update.Glu

namespace Cert.Update.Glu

open Idealize.ShloMosaic Idealize.ShloMosaic.TcCoe Idealize.SL.Sem

/-- From equal arguments the two leave the same. -/
theorem value : Cert.algebraic_UpdateGluIdeal_UpdateGluReferenceIdeal := fun m ρ m' ρ' _ h =>
  ⟨grads m, deltas m, moments m, variances m, run_kernel m ρ,
    (θ_run _ _ _).mono (fun r hr c => by
      obtain ⟨e₀, e₁, e₂, e₃⟩ := h c
      exact ⟨(hr c).1.trans (by rw [e₀]), (hr c).2.1.trans (by rw [e₀, e₁, e₂, e₃]; rfl), (hr c).2.2.1.trans (by rw [e₀, e₂]; rfl),
        (hr c).2.2.2.1.trans (by rw [e₀, e₃]; rfl), (hr c).2.2.2.2⟩) (run_reference m' ρ')⟩

end Cert.Update.Glu

end
-- ==== Proof.Sum.lean ====
/-
The sum of the packed slots: the kernel's result is the total of its argument, and so is the reference's.
-/
module

public import proofs.«01_k».proof.Defs
public import proofs.«01_k».proof.Proof.Update
public import proofs.«01_k».proof.Proof.Gen.SumIdeal.Value
public import proofs.«01_k».proof.Proof.Gen.SumReferenceIdeal.Run

@[expose] public section

noncomputable section

namespace Cert.Update.Pack

open Idealize.ShloMosaic Idealize.ShloMosaic.TcCoe Idealize.SL.Sem

/-- The kernel leaves the total of its argument, at any values. -/
theorem run_kernel {F : FTy → Type} [FloatOps F] (m : (ℓ : Loc SumIdeal.nD SumIdeal.τ SumIdeal.sig) → Buf (Elt F) ℓ)
    (ρ : Dev SumIdeal.nD → PrngReg) :
    θ_run SumIdeal.defs (onTc (τ := SumIdeal.τ) (SumIdeal.main (F := F))) ⟨m, fun _ => 0, ρ⟩ fun r => ∀ c : Dev SumIdeal.nD,
      r.2.mem ((c : Thread SumIdeal.nD SumIdeal.τ).loc SumIdeal.main_v0)
        = total (m ((c : Thread SumIdeal.nD SumIdeal.τ).loc SumIdeal.main_arg0))
      ∧ r.2.mem ((c : Thread SumIdeal.nD SumIdeal.τ).loc SumIdeal.main_arg0)
        = m ((c : Thread SumIdeal.nD SumIdeal.τ).loc SumIdeal.main_arg0) :=
  (θ_run SumIdeal.defs _ _).mono
    (fun r h c => ⟨(h c).1.trans (added _ SumIdeal.Gen.shapeCasts_S1x2192x128_S2192x128), (h c).2⟩)
    (SumIdeal.Value.run m ρ)

/-- The reference leaves it over the extended reals. -/
theorem run_reference (m : (ℓ : Loc SumReferenceIdeal.nD SumReferenceIdeal.τ SumReferenceIdeal.sig) → Buf (Elt Ideal) ℓ)
    (ρ : Dev SumReferenceIdeal.nD → PrngReg) :
    θ_run SumReferenceIdeal.defs (onTc (τ := SumReferenceIdeal.τ) (SumReferenceIdeal.main (F := Ideal))) ⟨m, fun _ => 0, ρ⟩
      fun r => ∀ c : Dev SumReferenceIdeal.nD,
      r.2.mem ((c : Thread SumReferenceIdeal.nD SumReferenceIdeal.τ).loc SumReferenceIdeal.main_v0)
        = total (m ((c : Thread SumReferenceIdeal.nD SumReferenceIdeal.τ).loc SumReferenceIdeal.main_arg0))
      ∧ r.2.mem ((c : Thread SumReferenceIdeal.nD SumReferenceIdeal.τ).loc SumReferenceIdeal.main_arg0)
        = m ((c : Thread SumReferenceIdeal.nD SumReferenceIdeal.τ).loc SumReferenceIdeal.main_arg0) :=
  (θ_run SumReferenceIdeal.defs _ _).mono
    (fun r h c => ⟨(h c).1.trans (summed _ SumReferenceIdeal.Gen.reducesTo_S8x2192x128_S2192x128_d0 SumReferenceIdeal.Gen.h_S_), (h c).2⟩)
    (SumReferenceIdeal.Value.run m ρ)

/-- From equal arguments the two leave the same. -/
theorem value : Cert.algebraic_SumIdeal_SumReferenceIdeal := fun m ρ m' ρ' _ h =>
  ⟨fun c => total (m ((c : Thread SumIdeal.nD SumIdeal.τ).loc SumIdeal.main_arg0)), run_kernel m ρ,
    (θ_run _ _ _).mono (fun r hr c => ⟨(hr c).1.trans (by rw [h c]), (hr c).2⟩) (run_reference m' ρ')⟩

end Cert.Update.Pack

end
-- ==== Proof.Loss.lean ====
/-
The loss: every device's result is the sum of the eight devices' parts, and so is the reference's.

The program takes one number out of its argument (`hostOps0`) and adds it up over the mesh by one host all-reduce (`ar0`). Its
run goes through `Pipeline.θ_run_regions_kit_sems` with the two segments `Gen.main_segs` lists; the all-reduce's is the generated
`Sites.seg0`.
-/
module

public import proofs.«01_k».proof.Defs
public import proofs.«01_k».proof.Proof.Gen.Loss
public import proofs.«01_k».proof.Proof.Gen.LossIdeal
public import proofs.«01_k».proof.Proof.Gen.LossIdeal.Launch
public import proofs.«01_k».proof.Proof.Gen.LossReferenceIdeal
public import proofs.«01_k».proof.Proof.Gen.LossReferenceIdeal.Run
public import Idealize.ShloMosaic.Lib.Pipeline.Regions
public import Idealize.ShloMosaic.Lib.Pipeline.CollectiveSegs
public import Idealize.ShloMosaic.Lib.Pipeline.Kit
public import Idealize.ShloMosaic.Lib.Pipeline.Value
public import Idealize.ShloMosaic.Lib.Pointwise.Reduce
public import Idealize.ShloMosaic.Lib.IdealHost
public import Idealize.ShloMosaic.Lib.Tactic

@[expose] public section

noncomputable section

namespace Cert.LossSum

open Cert.LossIdeal Cert.LossIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Run

variable {F : FTy → Type} [FloatOps F]

/-- The pipeline library's algebra (no kernel uses it) and the all-reduce's. -/
abbrev UU : Type := UR sig nD τ × Sites.UC

local notation "𝕄" => MT nD τ sig ℕ (Elt F) ℕ UU ℕ

abbrev EC : Emb Sites.UC (MT nD τ sig ℕ (Elt F) ℕ UU ℕ) := embR

variable (m : (ℓ : Loc nD τ sig) → Buf (Elt F) ℓ) (ρ : Dev nD → PrngReg)

/-- A device's buffers at launch, -/
abbrev V₀ (c : Dev nD) : Valuation τ sig (Elt F) := fun b => m ((c : Dev nD), b)
/-- when the all-reduce starts, -/
abbrev V₁ (c : Dev nD) : Valuation τ sig (Elt F) := StableHlo.after (hostOps0 (F := F)) (V₀ m c)
/-- and at the end. -/
abbrev V₂ (c : Dev nD) : Valuation τ sig (Elt F) := (ar0 (F := F)).after₀ (V₁ m) c

/-- The record that the all-reduce's cells are under their invariants: it is copied, and the counters are read by it at the end. -/
abbrev invs : sProp 𝕄 := iprop(∃ κ, (AllReduce.Dat.once (ar0 (F := F)) (V₁ m)).cellInvs (EC (F := F)) κ)

abbrev adm : (p : Fin 0) → (pcfgs (F := F) p).Adm := fun p => p.elim0
abbrev dats : (p : Fin 0) → (c : Dev nD) → Pipeline.Dat τ (Elt F) ℕ ℕ UU ℕ (Pipeline.pin (pcfgs (F := F)) adm p) c := fun p => p.elim0

local notation "ℍ" => Pipeline.HostSeg (Ix := ℕ) (Name := ℕ) (U := UU) (Lvl := ℕ) (pcfgs (F := F)) defs₀ Variants.none Sites.L Sites.lv

theorem ops_sub : ∀ op ∈ (hostOps0 : List (HloOp τ sig (Elt F))), op.bufs ⊆ Pipeline.ucRefs τ sig := fun op h =>
  Pipeline.sub_ucRefs op (List.forall_iff_forall_mem.mp hostOps0_sub op h)
theorem ops_fresh : ∀ op ∈ (hostOps0 : List (HloOp τ sig (Elt F))), op.fresh = ∅ := fun op h => by
  rcases List.mem_cons.mp h with rfl | h
  · rfl
  · obtain rfl := List.mem_singleton.mp h; rfl

/-- The number taken out: the device's unscoped buffers held, the all-reduce's launch state riding. -/
def segA : ℍ := Pipeline.HostSeg.ofOps _ _ _ _ _ (Pipeline.ucRefs τ sig) (hostOps0 (F := F)) ops_sub ops_fresh (V₀ m)
  fun c => iprop(Sites.Es EC (V₁ m) 0 c ∗ invs m)
/-- The all-reduce, by the generated segment. -/
def segB : ℍ := Sites.seg0 EC Variants.none (V₁ m) (Sites.Rest0 (V₁ m) fun _ => invs m)

def segs : List (Pipeline.Seg (pcfgs (F := F)) adm dats 0 defs₀ Variants.none Sites.L Sites.lv) := [.host (segA m), .host (segB m)]

theorem main_eq (c : Dev nD) : main (F := F) c = Pipeline.Seg.run (segs m) :=
  main_segs adm dats 0 Variants.none Sites.L Sites.lv (segA m) (segB m) rfl rfl c

abbrev T₀ (c : Dev nD) : sProp 𝕄 :=
  iprop(StableHlo.held (c : Thread nD τ) (Pipeline.ucRefs τ sig) (V₀ m c) ∗ (Sites.Es EC (V₁ m) 0 c ∗ invs m))
abbrev Tₙ (c : Dev nD) : sProp 𝕄 :=
  iprop(StableHlo.held (c : Thread nD τ) (Pipeline.ucRefs τ sig) (V₂ m c) ∗ (invs m ∗ Sites.Ghost0 EC c))

theorem last (c : Dev nD) : (segB m).post c ⊢ iprop(Tₙ m c ∗ ∃ W, owes (c : Thread nD τ) (0 : CellTallies nD τ sig ℕ) W) := by
  refine (Sites.post0 EC Variants.none (V₁ m) (fun _ => invs m) c).trans ?_
  iintro ⟨Hh, HE, Hg, Hi⟩
  isplitr [HE]
  · isplitl [Hh]; · iexact Hh
    isplitl [Hi] <;> iassumption
  iapply (Sites.hE_last EC (V₁ m) c); iexact HE

/-- What the launch deals becomes the first thread state on every device. -/
theorem init :
    iprop((bigSep Finset.univ fun c : Dev nD => iprop(unscopedBufs c (fun b => m ((c.tc : Thread nD τ).loc b)) ∗ unscopedSems0 c
          ∗ owes (c : Thread nD τ) (Sites.O0 (F := F) c) ∅ ∗ Pipeline.launchCred (Sites.O0 (F := F)) c ∗ prngReg c (ρ c) ∗ Sites.G EC (V₁ m) c)) ∗ levAts Sites.L Sites.lv)
      ⊢ (|={Set.univ}=> bigSep Finset.univ (T₀ m) : sProp 𝕄) := by
  have h2 (c : Dev nD) : iprop(unscopedBufs c (fun b => m ((c.tc : Thread nD τ).loc b)) ∗ Sites.Es EC (V₁ m) 0 c) ⊢ (T₀ m c : sProp 𝕄) := by
    rw [show (unscopedBufs c (fun b => m ((c.tc : Thread nD τ).loc b)) : sProp 𝕄)
      = StableHlo.held (c : Thread nD τ) (Pipeline.ucRefs τ sig) (V₀ m c) from Pipeline.unscopedBufs_held c (V₀ m c)]
    unfold T₀
    rw [Sites.Es_0]
    iintro ⟨Hh, HO, Hp, Hr⟩
    ihave #Hi := (show Sites.rides0 EC (V₁ m) c ⊢ invs m from by unfold Sites.rides0 AllReduce.Dat.rides; iintro ⟨Hi, -⟩; iexact Hi) $$ Hr
    isplitl [Hh]; · iexact Hh
    isplitr [Hi]
    · isplitl [HO]; · iexact HO
      isplitl [Hp] <;> iassumption
    iexact Hi
  iintro ⟨H, Hl⟩
  ihave H' := (show _ ⊢ iprop((bigSep Finset.univ fun c : Dev nD => unscopedBufs c (fun b => m ((c.tc : Thread nD τ).loc b)))
        ∗ bigSep Finset.univ fun c : Dev nD => iprop(unscopedSems0 c
          ∗ owes (c : Thread nD τ) (Sites.O0 (F := F) c) ∅ ∗ Pipeline.launchCred (Sites.O0 (F := F)) c ∗ prngReg c (ρ c) ∗ Sites.G EC (V₁ m) c))
      from by rw [← bigSep_sep']) $$ H
  icases H' with ⟨Hb, Hs⟩
  imod (Sites.hE0 EC (V₁ m) ρ) $$ [Hs Hl] with HE
  · isplitl [Hs] <;> iassumption
  imodintro
  iapply (show iprop((bigSep Finset.univ fun c : Dev nD => unscopedBufs c (fun b => m ((c.tc : Thread nD τ).loc b)))
        ∗ bigSep Finset.univ (Sites.Es EC (V₁ m) 0)) ⊢ bigSep Finset.univ (T₀ m) from by rw [← bigSep_sep']; exact bigSep_mono fun c _ => h2 c)
  isplitl [Hb] <;> iassumption

set_option backward.isDefEq.respectTransparency.types false in
/-- At any float values, from any memory with zero counters, every weakly fair execution on the eight devices ends, each device's
    buffers hold `V₂` and every counter is zero. -/
theorem run : θ_run defs (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm dats 0 cellOf_inj embL defs₀ Variants.none Sites.L Sites.lv m ρ main (segs m)
    (fun c Q => by rw [main_eq m c])
    (by simp only [segs, Pipeline.Seg.pipes_host, Pipeline.Seg.pipes_nil]; exact List.nodup_nil)
    (O₀ := Sites.O0 (F := F)) (hL := Sites.hL) (G := Sites.G EC (V₁ m))
    (u₀ := (initOf (Pipeline.cells (Pipeline.pin (pcfgs (F := F)) adm) cellOf_inj) (Pipeline.launchToks (Pipeline.pin (pcfgs (F := F)) adm) cellOf_inj),
      Sites.uC (U := UU) (V₁ m)))
    (hu₀ := by
      iintro Hu
      ihave H := (ownU_pair _ _) $$ Hu
      icases H with ⟨HP, HX⟩
      imodintro
      isplitl [HP]; · iexact HP
      rw [Sites.bigSep_G]; iexact HX)
    (T₀ := T₀ m) (Tₙ := Tₙ m)
    (hch := ⟨fun _ => .rfl, fun c => Sites.pre0 EC Variants.none (V₁ m) (fun _ => invs m) c, last m⟩)
    (hinit := init m ρ)
    (QY := fun c s => (∀ b ∈ Pipeline.ucRefs τ sig, s.mem (c, b) = V₂ m c b)
      ∧ s.sem ((ar0 (F := F)).barrierCell c) = 0 ∧ s.sem ((ar0 (F := F)).recvCell c) = 0 ∧ s.sem ((ar0 (F := F)).sendCell c) = 0)
    (hfin := fun c s' => by
      refine Laws.pure_elim _ ((sep_mono_left sep_elim_left).trans (sep_comm.1.trans (SI_pointsTo_bufs_agree (qs := fun _ => fullShare) (Pipeline.ucRefs τ sig)))) fun h => ?_
      iintro ⟨⟨-, He⟩, HSI⟩
      imod ((AllReduce.Dat.once (ar0 (F := F)) (V₁ m)).ghostAfter_read EC c (k := 0) le_rfl s') $$ [He HSI] with ⟨%hz, HSI⟩
      · isplitl [He] <;> iassumption
      imodintro
      isplitr; · ipureintro; exact ⟨h, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- A device's part of the loss: the first number of its block. -/
def part (c : Dev nD) : F .f32 := (m ((c : Thread nD τ).loc main_arg0) : (⟨2, ![1, 128]⟩ : Shape).Idx → F .f32) (ix2 0 0)

/-- It is what the all-reduce sends. -/
theorem operand_eq (c : Dev nD) (i : S_.Idx) : (V₁ m c main_v2 : S_.Idx → F .f32) i = part m c := by
  have h : V₁ m c main_v2 = shapeCast S_ (extractStridedSlice S1x1 ![0, 0] (m ((c : Thread nD τ).loc main_arg0)) slices_S1x128_S1x1_0_0) shapeCasts_S1x1_S_ := by
    unfold V₁ hostOps0 V₀; after_results <;> rfl
  rw [h]
  refine congrArg (m ((c : Thread nD τ).loc main_arg0) : (⟨2, ![1, 128]⟩ : Shape).Idx → F .f32) (funext fun a => Fin.ext ?_)
  match a with
  | ⟨0, _⟩ => exact (Nat.zero_add _).trans (Nat.lt_one_iff.mp (Fin.isLt (n := 1) _))
  | ⟨1, _⟩ => exact (Nat.zero_add _).trans (Nat.lt_one_iff.mp (Fin.isLt (n := 1) _))

/-- The group is the mesh in order. -/
theorem peer_eq (d : Dev nD) (j : Fin 8) : (ar0 (F := F)).peer d j = j := by fin_cases d <;> fin_cases j <;> rfl

/-- Every device's result is the parts folded in order, -/
theorem result_eq (c : Dev nD) : (V₂ m c main_v3 : S_.Idx → F .f32)
    = fun _ => ((List.finRange 8).drop 1).foldl (fun a j => Collective.reduce .add a (part m j)) (part m 0) := by
  have e : (fun j : Fin 8 => V₁ m ((ar0 (F := F)).peer c j) main_v2) = fun j => (fun _ => part m j : S_.Idx → F .f32) := funext fun j => by
    rw [peer_eq]; exact funext fun i => operand_eq m j i
  refine ((ar0 (F := F)).after₀_result (V₁ m) c).trans ?_
  refine (congrArg (fun v => (ar0 (F := F)).toResult ((ar0 (F := F)).foldGroup v)) e).trans ?_
  rfl

/-- and its argument is as it was. -/
theorem arg_eq (c : Dev nD) : V₂ m c main_arg0 = m ((c : Thread nD τ).loc main_arg0) := by
  have off : ∀ j : Fin 8, (main_arg0 : Ref sig .tc) ≠ ar0_stage j := by decide
  refine ((ar0 (F := F)).after₀_off_siteRefs (V₁ m) c fun hb => ?_).trans ?_
  · rcases (ar0 (F := F)).mem_siteRefs.mp hb with h | h | ⟨j, h⟩
    · exact (show (main_arg0 : Ref sig .tc) ≠ main_v3 by decide) (Proc.devRef_injective _ h)
    · exact (show (main_arg0 : Ref sig .tc) ≠ main_v2 by decide) (Proc.devRef_injective _ h)
    · exact off j (Proc.devRef_injective _ h)
  unfold V₁ hostOps0 V₀; after_results <;> rfl

/-- The run at the two buffers that matter. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_v3)
        = (fun _ => ((List.finRange 8).drop 1).foldl (fun a j => Collective.reduce .add a (part m j)) (part m 0) : S_.Idx → F .f32))
      ∧ r.2.sem = fun _ => 0) :=
  (θ_run defs _ _).mono (fun r h => ⟨fun c => ⟨(h.1 c main_arg0 (by decide)).trans (arg_eq m c), (h.1 c main_v3 (by decide)).trans (result_eq m c)⟩, h.2⟩)
    (run m ρ)

end Run

/-! ## Over the extended reals -/

/-- The sum of a table's first column. -/
def columnSum (v : (⟨2, ![8, 128]⟩ : Shape).Idx → EReal) : EReal := ∑ k : Fin 8, v (ix2 k 0)

/-- The parts folded in order are their sum. -/
theorem folded (p : Fin 8 → Ideal .f32) :
    ((List.finRange 8).drop 1).foldl (fun a j => Collective.reduce (F := Ideal) (φ := .f32) .add a (p j)) (p 0) = (∑ k : Fin 8, (p k : EReal) : EReal) := by
  rw [Fin.sum_univ_eight]; rfl

/-- The reference leaves the first column's sum. -/
theorem summed (v : (⟨2, ![8, 128]⟩ : Shape).Idx → EReal) :
    Host.reduceAdd (F := Ideal) (φ := .f32) (shapeCast LossReferenceIdeal.S8 (extractStridedSlice LossReferenceIdeal.S8x1 ![0, 0] v LossReferenceIdeal.Gen.slices_S8x128_S8x1_0_0)
        LossReferenceIdeal.Gen.shapeCasts_S8x1_S8) (constant LossReferenceIdeal.S_ .f32 0x00000000#32) LossReferenceIdeal.Gen.reducesTo_S8_S_d0
        LossReferenceIdeal.Gen.h_S_
      = fun _ => columnSum v := by
  funext y
  rw [Host.reduceAdd_apply, Ideal.hostReduceAdd_def, Ideal.hostReduceAdd_r1_a0]
  refine (congrArg (· + _) (Ideal.ofBits_zero_f32 : Ideal.ofBits .f32 0x00000000#32 = 0)).trans ((zero_add _).trans ?_)
  refine Finset.sum_congr rfl fun k _ => ?_
  rw [shapeCast_apply _ _ (ix1 k) (ix2 k 0) (by rw [Shape.rowMajor_val_two, Shape.rowMajor_val_one]; show k.val * 1 + 0 = k.val; omega)]
  exact congrArg v (funext fun a => match a with
    | ⟨0, _⟩ => Fin.ext (Nat.zero_add _) | ⟨1, _⟩ => Fin.ext rfl)

/-- From the table cut by rows over the mesh the program leaves on every device what the reference leaves. -/
theorem value : Cert.algebraic_LossIdeal_LossReferenceIdeal := fun m ρ m' ρ' _ h =>
  ⟨fun _ => columnSum (m' (((0 : Dev LossReferenceIdeal.nD).tc : Thread LossReferenceIdeal.nD LossReferenceIdeal.τ).loc LossReferenceIdeal.main_arg0)),
    (θ_run _ _ _).mono (fun r hr c => ⟨(hr.1 c).2.trans (funext fun _ => (folded (part m)).trans (Finset.sum_congr rfl fun k _ => by
      unfold part; rw [h k]
      exact congrArg (m' (((0 : Dev LossReferenceIdeal.nD).tc : Thread LossReferenceIdeal.nD LossReferenceIdeal.τ).loc LossReferenceIdeal.main_arg0))
        (funext fun a => Fin.ext (by fin_cases a <;> first | rfl | (rw [Layout.Tiles.idx_val]; simp))))), (hr.1 c).1⟩)
      (run_main (F := Ideal) m ρ),
    (θ_run _ _ _).mono (fun r hr => ⟨(hr 0).1.trans (summed _), (hr 0).2⟩) (LossReferenceIdeal.Value.run (F := Ideal) m' ρ')⟩

end Cert.LossSum

end
-- ==== Proof.Back.lean ====
/-
The backward pass through the input projection and the normalization: the kernel's two results are the gradient of the
block's input and that of the normalization's gain, of the whole arrays, and so are the reference's.
The kernel goes through the rows in eight blocks of 512 and, for each, through the columns of the projection in eight
blocks of 768; it collects the product of a block of rows in a buffer it keeps from point to point.
-/
module

public import proofs.«01_k».proof.Defs
public import proofs.«01_k».proof.Proof.Update
public import proofs.«01_k».proof.Proof.Gen.BackIdeal.Value
public import proofs.«01_k».proof.Proof.Gen.BackReferenceIdeal.Run
public import Idealize.ShloMosaic.Lib.Pointwise

@[expose] public section

noncomputable section

namespace Cert.Backward

open Idealize.ShloMosaic Idealize.ShloMosaic.TcCoe Idealize.SL.Sem

/-! ## One row -/

/-- The number of columns, and what is added to the mean square. -/
abbrev width : EReal := Ideal.ofBits .f32 0x45000000#32
abbrev eps : EReal := Ideal.ofBits .f32 0x358637BD#32

abbrev Row := Fin 2048 → EReal

/-- One over the root mean square of a row, the row so scaled, and the gradient of the row `x` where `h` is that of the
    scaled row times `g` and `y` what comes past the block. -/
def inv (x : Row) : EReal := Ideal.rsqrt (Ideal.div (∑ e, x e * x e) width + eps)
def unit (x : Row) (d : Fin 2048) : EReal := x d * inv x
def grad (h g x y : Row) (d : Fin 2048) : EReal :=
  inv x * (h d * g d - unit x d * Ideal.div (∑ e, h e * g e * unit x e) width) + y d

/-! ## The whole arrays -/

/-- Row `r` of block `b` of rows, column `j` of block `k` of columns, and block `k` itself. -/
def row (b : ℕ) (r : Fin 512) : Fin 4096 := ⟨b % 8 * 512 + r.val, by have := r.isLt; omega⟩
def col (k : ℕ) (j : Fin 768) : Fin 6144 := ⟨k % 8 * 768 + j.val, by have := j.isLt; omega⟩
def tile (k : ℕ) : Fin 8 := ⟨k % 8, by omega⟩

section Arrays

open Cert.BackIdeal

variable (p : Vec Ideal S4096x6144 .bf16) (w : Vec Ideal S8x2048x768 .bf16) (x y : Vec Ideal S4096x2048 .f32) (g : Vec Ideal S1x2048 .f32)

/-- What block `k` of columns adds to the product at row `t`. -/
def term (t : Fin 4096) (d : Fin 2048) (k : ℕ) : EReal := ∑ j : Fin 768, p (ix2 t (col k j)) * w (ix3 (tile k) d j)

/-- The product of the gradient of the projection and the weights transposed. -/
def prod (t : Fin 4096) (d : Fin 2048) : EReal := ∑ k ∈ Finset.range 8, term p w t d k

/-- What block `b` of rows adds to the gradient of the gain. -/
def share (d : Fin 2048) (b : ℕ) : EReal := ∑ r : Fin 512, prod p w (row b r) d * unit (fun e => x (ix2 (row b r) e)) d

/-- The two results. -/
def input : Vec Ideal S4096x2048 .f32 := fun i =>
  grad (prod p w (i 0)) (fun e => g (ix2 0 e)) (fun e => x (ix2 (i 0) e)) (fun e => y (ix2 (i 0) e)) (i 1)
def gain : Vec Ideal S1x2048 .f32 := fun i => ∑ b ∈ Finset.range 8, share p w x (i 1) b

end Arrays

/-! ## What the kernel stores, at an index -/

section Stores

open Cert.BackIdeal Cert.BackIdeal.Gen

theorem pay1_apply (r : Fin 512) (d : Fin 2048) : k0_pay1 (F := Ideal) (ix2 r d) = 0 := by
  pointwise [k0_pay1]

theorem pay2_apply (d : Fin 2048) : k0_pay2 (F := Ideal) (ix2 0 d) = 0 := by
  pointwise [k0_pay2]

theorem pay3_apply (a : Vec Ideal S512x2048 .f32) (p : Vec Ideal S512x768 .bf16) (w : Vec Ideal S1x2048x768 .bf16)
    (r : Fin 512) (d : Fin 2048) :
    k0_pay3 a p w (ix2 r d) = a (ix2 r d) + ∑ j : Fin 768, p (ix2 r j) * w (ix3 0 d j) := by
  pointwise [k0_pay3]

theorem pay6_apply (x a : Vec Ideal S512x2048 .f32) (s : Vec Ideal S1x2048 .f32) (d : Fin 2048) :
    k0_pay6 x a s (ix2 0 d) = s (ix2 0 d) + ∑ r : Fin 512, a (ix2 r d) * unit (fun e => x (ix2 r e)) d := by
  pointwise [k0_pay6, k0_pay5, k0_pay4, unit, inv]

theorem pay7_apply (x a : Vec Ideal S512x2048 .f32) (g : Vec Ideal S1x2048 .f32) (y : Vec Ideal S512x2048 .f32)
    (r : Fin 512) (d : Fin 2048) :
    k0_pay7 x a g y (ix2 r d)
      = grad (fun e => a (ix2 r e)) (fun e => g (ix2 0 e)) (fun e => x (ix2 r e)) (fun e => y (ix2 r e)) d := by
  pointwise [k0_pay7, k0_pay5, k0_pay4, grad, unit, inv]

end Stores

/-! ## One point -/

section Point

open Cert.BackIdeal Cert.BackIdeal.Gen Cert.Update

variable {F : FTy → Type} [FloatOps F]

theorem origin3 : (![0, 0, 0] : Fin 3 → ℕ) = fun _ => 0 := funext fun a => by fin_cases a <;> rfl

variable (c : Dev nD) (i : grid0.Coords)
  (a2 : Memref sig .tc .vmem S512x768 .bf16) (h2 : a2.IsWhole) (a3 : Memref sig .tc .vmem S1x2048x768 .bf16) (h3 : a3.IsWhole)
  (a4 : Memref sig .tc .vmem S512x2048 .f32) (h4 : a4.IsWhole) (a5 : Memref sig .tc .vmem S512x2048 .f32) (h5 : a5.IsWhole)
  (a6 : Memref sig .tc .vmem S1x2048 .f32) (h6 : a6.IsWhole) (a7 : Memref sig .tc .vmem S512x2048 .f32) (h7 : a7.IsWhole)
  (a8 : Memref sig .tc .vmem S1x2048 .f32) (h8 : a8.IsWhole) (a9 : Memref sig .tc .vmem S512x2048 .f32) (h9 : a9.IsWhole)
  (p : Vec F S512x768 .bf16) (w : Vec F S1x2048x768 .bf16) (x y : Vec F S512x2048 .f32) (g : Vec F S1x2048 .f32)
  (a : Vec F S512x2048 .f32) (s : Vec F S1x2048 .f32)

theorem start_A (c0 : cond0_0 i) (c1 : cond0_1 i) (c2 : ¬cond0_2 i) :
    sout0_A_0 c i a2 h2 a3 h3 a4 h4 a5 h5 a6 h6 a7 h7 a8 h8 a9 h9 c0 c1 c2 p w x y g = k0_pay3 k0_pay1 p w := by
  unfold sout0_A_0
  rw [View.read_writes_eq_canon _ _ _ (scover0_A_0 c i a2 h2 a3 h3 a4 h4 a5 h5 a6 h6 a7 h7 a8 h8 a9 h9 c0 c1 c2 p w x y g)]
  unfold kernelRun0_A
  dsimp only
  sl_unfold_words
  rw [View.canon_cons_unit_zero (S := S512x2048) origin, View.readCov_unit_zero (S := S512x2048) _ origin]
  simp only [View.readAt_eq_ld, h2.read_unread, h3.read_unread, h4.read_unread, h5.read_unread, h6.read_unread, h8.read_unread, h9.read_unread, View.ld_unit_zero (S := S512x2048) origin, View.ld_unit_zero (S := S512x768) origin, View.ld_unit_zero (S := S1x2048) origin, View.ld_unit_zero (S := S1x2048x768) origin3]

theorem zero_A (c0 : cond0_0 i) (c1 : cond0_1 i) (c2 : ¬cond0_2 i) :
    out0_A_6 c i a2 h2 a3 h3 a4 h4 a5 h5 a6 h6 a7 h7 a8 h8 a9 h9 c0 c1 c2 p w x y g = k0_pay2 := by
  unfold out0_A_6
  rw [View.read_writes_eq_canon _ _ _ (cover0_A_6 c i a2 h2 a3 h3 a4 h4 a5 h5 a6 h6 a7 h7 a8 h8 a9 h9 c0 c1 c2 p w x y g)]
  unfold kernelRun0_A
  dsimp only
  sl_unfold_words
  rw [View.canon_unit_zero origin]

theorem start_D (c0 : cond0_0 i) (c1 : ¬cond0_1 i) (c2 : ¬cond0_2 i) :
    sout0_D_0 c i a2 h2 a3 h3 a4 h4 a5 h5 a6 h6 a7 h7 a8 h8 a9 h9 c0 c1 c2 p w x y g = k0_pay3 k0_pay1 p w := by
  unfold sout0_D_0
  rw [View.read_writes_eq_canon _ _ _ (scover0_D_0 c i a2 h2 a3 h3 a4 h4 a5 h5 a6 h6 a7 h7 a8 h8 a9 h9 c0 c1 c2 p w x y g)]
  unfold kernelRun0_D
  dsimp only
  sl_unfold_words
  rw [View.canon_cons_unit_zero (S := S512x2048) origin, View.readCov_unit_zero (S := S512x2048) _ origin]
  simp only [View.readAt_eq_ld, h2.read_unread, h3.read_unread, h4.read_unread, h5.read_unread, h6.read_unread, h8.read_unread, h9.read_unread, View.ld_unit_zero (S := S512x2048) origin, View.ld_unit_zero (S := S512x768) origin, View.ld_unit_zero (S := S1x2048) origin, View.ld_unit_zero (S := S1x2048x768) origin3]

theorem next_B (c0 : ¬cond0_0 i) (c1 : ¬cond0_1 i) (c2 : ¬cond0_2 i) :
    sout0_B_0 c i a2 h2 a3 h3 a4 h4 a5 h5 a6 h6 a7 h7 a8 h8 a9 h9 c0 c1 c2 p w x y g a = k0_pay3 a p w := by
  unfold sout0_B_0
  rw [View.read_writes_eq_canon _ _ _ (scover0_B_0 c i a2 h2 a3 h3 a4 h4 a5 h5 a6 h6 a7 h7 a8 h8 a9 h9 c0 c1 c2 p w x y g a)]
  unfold kernelRun0_B
  dsimp only
  sl_unfold_words
  rw [View.canon_unit_zero origin]
  simp only [View.readAt_eq_ld, h2.read_unread, h3.read_unread, h4.read_unread, h5.read_unread, h6.read_unread, h8.read_unread, h9.read_unread, View.ld_unit_zero (S := S512x2048) origin, View.ld_unit_zero (S := S512x768) origin, View.ld_unit_zero (S := S1x2048) origin, View.ld_unit_zero (S := S1x2048x768) origin3]

theorem next_C (c0 : ¬cond0_0 i) (c1 : ¬cond0_1 i) (c2 : cond0_2 i) :
    sout0_C_0 c i a2 h2 a3 h3 a4 h4 a5 h5 a6 h6 a7 h7 a8 h8 a9 h9 c0 c1 c2 p w x y g s a = k0_pay3 a p w := by
  unfold sout0_C_0
  rw [View.read_writes_eq_canon _ _ _ (scover0_C_0 c i a2 h2 a3 h3 a4 h4 a5 h5 a6 h6 a7 h7 a8 h8 a9 h9 c0 c1 c2 p w x y g s a)]
  unfold kernelRun0_C
  dsimp only
  sl_unfold_words
  rw [View.canon_unit_zero origin]
  simp only [View.readAt_eq_ld, h2.read_unread, h3.read_unread, h4.read_unread, h5.read_unread, h6.read_unread, h8.read_unread, h9.read_unread, View.ld_unit_zero (S := S512x2048) origin, View.ld_unit_zero (S := S512x768) origin, View.ld_unit_zero (S := S1x2048) origin, View.ld_unit_zero (S := S1x2048x768) origin3]

theorem input_C (c0 : ¬cond0_0 i) (c1 : ¬cond0_1 i) (c2 : cond0_2 i) :
    out0_C_5 c i a2 h2 a3 h3 a4 h4 a5 h5 a6 h6 a7 h7 a8 h8 a9 h9 c0 c1 c2 p w x y g s a = k0_pay7 x (k0_pay3 a p w) g y := by
  unfold out0_C_5
  rw [View.read_writes_eq_canon _ _ _ (cover0_C_5 c i a2 h2 a3 h3 a4 h4 a5 h5 a6 h6 a7 h7 a8 h8 a9 h9 c0 c1 c2 p w x y g s a)]
  unfold kernelRun0_C
  dsimp only
  sl_unfold_words
  rw [View.canon_unit_zero origin, View.readCov_unit_zero (S := S512x2048) _ origin]
  simp only [View.readAt_eq_ld, h2.read_unread, h3.read_unread, h4.read_unread, h5.read_unread, h6.read_unread, h8.read_unread, h9.read_unread, View.ld_unit_zero (S := S512x2048) origin, View.ld_unit_zero (S := S512x768) origin, View.ld_unit_zero (S := S1x2048) origin, View.ld_unit_zero (S := S1x2048x768) origin3]

theorem gain_C (c0 : ¬cond0_0 i) (c1 : ¬cond0_1 i) (c2 : cond0_2 i) :
    out0_C_6 c i a2 h2 a3 h3 a4 h4 a5 h5 a6 h6 a7 h7 a8 h8 a9 h9 c0 c1 c2 p w x y g s a = k0_pay6 x (k0_pay3 a p w) s := by
  unfold out0_C_6
  rw [View.read_writes_eq_canon _ _ _ (cover0_C_6 c i a2 h2 a3 h3 a4 h4 a5 h5 a6 h6 a7 h7 a8 h8 a9 h9 c0 c1 c2 p w x y g s a)]
  unfold kernelRun0_C
  dsimp only
  sl_unfold_words
  rw [View.canon_unit_zero origin, View.readCov_unit_zero (S := S512x2048) _ origin]
  simp only [View.readAt_eq_ld, h2.read_unread, h3.read_unread, h4.read_unread, h5.read_unread, h6.read_unread, h8.read_unread, h9.read_unread, View.ld_unit_zero (S := S512x2048) origin, View.ld_unit_zero (S := S512x768) origin, View.ld_unit_zero (S := S1x2048) origin, View.ld_unit_zero (S := S1x2048x768) origin3]

end Point

/-! ## The blocks of a point -/

section Run

open Cert.BackIdeal Cert.BackIdeal.Gen
open Idealize.ShloMosaic.Pipeline (Dat)

variable (m : (ℓ : Loc nD τ sig) → Buf (Elt Ideal) ℓ) (ρ : Dev nD → PrngReg) (c : Dev nD)

theorem idx : ∀ t : Fin cfg0.N,
    (win0_0.index t (0 : Fin 2) = t.val / 8 ∧ win0_0.index t (1 : Fin 2) = t.val % 8)
    ∧ (win0_1.index t (0 : Fin 3) = t.val % 8 ∧ win0_1.index t (1 : Fin 3) = 0 ∧ win0_1.index t (2 : Fin 3) = 0)
    ∧ (win0_2.index t (0 : Fin 2) = t.val / 8 ∧ win0_2.index t (1 : Fin 2) = 0)
    ∧ (win0_3.index t (0 : Fin 2) = t.val / 8 ∧ win0_3.index t (1 : Fin 2) = 0)
    ∧ (win0_4.index t (0 : Fin 2) = 0 ∧ win0_4.index t (1 : Fin 2) = 0) :=
  (by decide +kernel : ∀ t : Fin grid0.N, _)

/-- The arguments of a device. -/
abbrev argP : Vec Ideal S4096x6144 .bf16 := m ((c : Thread nD τ).loc main_arg0)
abbrev argW : Vec Ideal S8x2048x768 .bf16 := m ((c : Thread nD τ).loc main_arg1)
abbrev argX : Vec Ideal S4096x2048 .f32 := m ((c : Thread nD τ).loc main_arg2)
abbrev argY : Vec Ideal S4096x2048 .f32 := m ((c : Thread nD τ).loc main_arg3)
abbrev argG : Vec Ideal S1x2048 .f32 := m ((c : Thread nD τ).loc main_arg4)

section Blocks

variable (t : Fin cfg0.N) (r : Fin 512) (d : Fin 2048) (j : Fin 768)

theorem points : t.val < 64 := lt_of_lt_of_eq t.isLt N_0

theorem block_p : (iblk m c 0 t : Vec Ideal S512x768 .bf16) (ix2 r j) = argP m c (ix2 (row (t.val / 8) r) (col t.val j)) := by
  have ht := points t
  obtain ⟨⟨e0, e1⟩, -⟩ := idx t
  refine congrArg (argP m c) (a₁ := ((cfg0.win 0).blk t).view.emb (ix2 r j)) ?_
  funext a; apply Fin.ext
  match a with
  | ⟨0, _⟩ => show win0_0.index t (0 : Fin 2) * 512 + 1 * r.val = t.val / 8 % 8 * 512 + r.val; rw [e0]; omega
  | ⟨1, _⟩ => show win0_0.index t (1 : Fin 2) * 768 + 1 * j.val = t.val % 8 * 768 + j.val; rw [e1]; omega

theorem block_w : (iblk m c 1 t : Vec Ideal S1x2048x768 .bf16) (ix3 0 d j) = argW m c (ix3 (tile t.val) d j) := by
  obtain ⟨-, ⟨e0, e1, e2⟩, -⟩ := idx t
  refine congrArg (argW m c) (a₁ := ((cfg0.win 1).blk t).view.emb (ix3 0 d j)) ?_
  funext a; apply Fin.ext
  match a with
  | ⟨0, _⟩ => show win0_1.index t (0 : Fin 3) * 1 + 1 * 0 = t.val % 8; rw [e0]; omega
  | ⟨1, _⟩ => show win0_1.index t (1 : Fin 3) * 2048 + 1 * d.val = d.val; rw [e1]; omega
  | ⟨2, _⟩ => show win0_1.index t (2 : Fin 3) * 768 + 1 * j.val = j.val; rw [e2]; omega

theorem block_x : (iblk m c 2 t : Vec Ideal S512x2048 .f32) (ix2 r d) = argX m c (ix2 (row (t.val / 8) r) d) := by
  have ht := points t
  obtain ⟨-, -, ⟨e0, e1⟩, -⟩ := idx t
  refine congrArg (argX m c) (a₁ := ((cfg0.win 2).blk t).view.emb (ix2 r d)) ?_
  funext a; apply Fin.ext
  match a with
  | ⟨0, _⟩ => show win0_2.index t (0 : Fin 2) * 512 + 1 * r.val = t.val / 8 % 8 * 512 + r.val; rw [e0]; omega
  | ⟨1, _⟩ => show win0_2.index t (1 : Fin 2) * 2048 + 1 * d.val = d.val; rw [e1]; omega

theorem block_y : (iblk m c 3 t : Vec Ideal S512x2048 .f32) (ix2 r d) = argY m c (ix2 (row (t.val / 8) r) d) := by
  have ht := points t
  obtain ⟨-, -, -, ⟨e0, e1⟩, -⟩ := idx t
  refine congrArg (argY m c) (a₁ := ((cfg0.win 3).blk t).view.emb (ix2 r d)) ?_
  funext a; apply Fin.ext
  match a with
  | ⟨0, _⟩ => show win0_3.index t (0 : Fin 2) * 512 + 1 * r.val = t.val / 8 % 8 * 512 + r.val; rw [e0]; omega
  | ⟨1, _⟩ => show win0_3.index t (1 : Fin 2) * 2048 + 1 * d.val = d.val; rw [e1]; omega

theorem block_g : (iblk m c 4 t : Vec Ideal S1x2048 .f32) (ix2 0 d) = argG m c (ix2 0 d) := by
  obtain ⟨-, -, -, -, ⟨e0, e1⟩⟩ := idx t
  refine congrArg (argG m c) (a₁ := ((cfg0.win 4).blk t).view.emb (ix2 0 d)) ?_
  funext a; apply Fin.ext
  match a with
  | ⟨0, _⟩ => show win0_4.index t (0 : Fin 2) * 1 + 1 * 0 = 0; rw [e0]
  | ⟨1, _⟩ => show win0_4.index t (1 : Fin 2) * 2048 + 1 * d.val = d.val; rw [e1]; omega

/-- What a point adds to the buffer it keeps. -/
theorem add_term (a : Vec Ideal S512x2048 .f32) :
    k0_pay3 a (iblk m c 0 t) (iblk m c 1 t) (ix2 r d)
      = a (ix2 r d) + term (argP m c) (argW m c) (row (t.val / 8) r) d t.val := by
  rw [pay3_apply]
  unfold term
  refine congrArg (a (ix2 r d) + ·) (Finset.sum_congr rfl fun j _ => ?_)
  rw [block_p, block_w]

end Blocks

/-! ## From point to point -/

/-- A block of columns counts modulo eight. -/
theorem term_mod (p : Vec Ideal S4096x6144 .bf16) (w : Vec Ideal S8x2048x768 .bf16) (t : Fin 4096) (d : Fin 2048) (k : ℕ) :
    term p w t d (k % 8) = term p w t d k := by
  unfold term col tile
  simp only [Nat.mod_mod]

theorem row_mod (b : ℕ) (r : Fin 512) : row (b % 8) r = row b r := by
  unfold row
  simp only [Nat.mod_mod]

/-- Before point `n` of a block of rows: the blocks of columns so far. -/
abbrev partial_ (b k : ℕ) (r : Fin 512) (d : Fin 2048) : EReal :=
  ∑ k' ∈ Finset.range k, term (argP m c) (argW m c) (row b r) d k'

/-- The buffer after a point: the first blocks of columns, and the point's. -/
theorem kept (n : ℕ) (hn : n < cfg0.N) (r : Fin 512) (d : Fin 2048) :
    (outsAt0 m c n hn).2.2 (ix2 r d) = partial_ m c (n / 8) (n % 8 + 1) r d := by
  induction n with
  | zero =>
    have e := outsAt0_A m c ⟨0, hn⟩ rfl rfl (by show ¬0 % 8 = 7; omega)
    rw [show outsAt0 m c 0 hn = _ from e]
    dsimp only
    rw [start_A, add_term, pay1_apply, zero_add]
    exact (Finset.sum_range_one _).symm
  | succ n ih =>
    have ht : n + 1 < 64 := lt_of_lt_of_eq hn N_0
    have ih := ih (Nat.lt_of_succ_lt hn)
    by_cases h0 : (n + 1) % 8 = 0
    · have e := outsAt0_D m c ⟨n + 1, hn⟩ h0 (by show ¬(n + 1) % 64 = 0; omega) (by show ¬(n + 1) % 8 = 7; omega)
      rw [show outsAt0 m c (n + 1) hn = _ from e]
      dsimp only
      rw [start_D, add_term, pay1_apply, zero_add]
      unfold partial_
      rw [h0, zero_add, Finset.sum_range_one]
      show term _ _ _ d (n + 1) = _
      rw [← term_mod, h0]
    · have step : ∀ v : EReal, v = partial_ m c (n / 8) (n % 8 + 1) r d →
          v + term (argP m c) (argW m c) (row ((n + 1) / 8) r) d (n + 1) = partial_ m c ((n + 1) / 8) ((n + 1) % 8 + 1) r d := by
        intro v hv
        unfold partial_ at *
        rw [hv, show (n + 1) / 8 = n / 8 by omega, show (n + 1) % 8 = n % 8 + 1 by omega,
          ← term_mod _ _ _ _ (n + 1), show (n + 1) % 8 = n % 8 + 1 by omega]
        exact (Finset.sum_range_succ _ _).symm
      by_cases h2 : (n + 1) % 8 = 7
      · have e := outsAt0_C m c ⟨n + 1, hn⟩ h0 (by show ¬(n + 1) % 64 = 0; omega) h2
        rw [show outsAt0 m c (n + 1) hn = _ from e]
        dsimp only
        rw [next_C, add_term]
        exact step _ ih
      · have e := outsAt0_B m c ⟨n + 1, hn⟩ h0 (by show ¬(n + 1) % 64 = 0; omega) h2
        rw [show outsAt0 m c (n + 1) hn = _ from e]
        dsimp only
        rw [next_B, add_term]
        exact step _ ih

/-- At the last point of a block of rows it is their product. -/
theorem kept_last (t : Fin cfg0.N) (h2 : t.val % 8 = 7) (r : Fin 512) (d : Fin 2048) :
    (outsAt0 m c t.val t.isLt).2.2 (ix2 r d) = prod (argP m c) (argW m c) (row (t.val / 8) r) d := by
  rw [kept, h2]
  rfl

/-- There the kernel stores the gradient of the block's input. -/
theorem stored (t : Fin cfg0.N) (h2 : t.val % 8 = 7) (r : Fin 512) (d : Fin 2048) :
    (outsAt0 m c t.val t.isLt).1 (ix2 r d)
      = input (argP m c) (argW m c) (argX m c) (argY m c) (argG m c) (ix2 (row (t.val / 8) r) d) := by
  have k := kept_last m c t h2 r
  have ht := points t
  have h0 : ¬t.val % 8 = 0 := by omega
  have h1 : ¬t.val % 64 = 0 := by omega
  rw [outsAt0_C m c t h0 h1 h2] at k ⊢
  dsimp only at k ⊢
  simp only [next_C] at k
  rw [input_C, pay7_apply]
  simp only [k, block_x, block_y, block_g]
  rfl

/-- After a point the second result's buffer holds the shares of the blocks of rows done. -/
theorem gathered (n : ℕ) (hn : n < cfg0.N) (d : Fin 2048) :
    (outsAt0 m c n hn).2.1 (ix2 0 d) = ∑ b ∈ Finset.range ((n + 1) / 8), share (argP m c) (argW m c) (argX m c) d b := by
  induction n with
  | zero =>
    have e := outsAt0_A m c ⟨0, hn⟩ rfl rfl (by show ¬0 % 8 = 7; omega)
    rw [show outsAt0 m c 0 hn = _ from e]
    dsimp only
    rw [zero_A, pay2_apply]
    rfl
  | succ n ih =>
    have ht : n + 1 < 64 := lt_of_lt_of_eq hn N_0
    have ih := ih (Nat.lt_of_succ_lt hn)
    by_cases h0 : (n + 1) % 8 = 0
    · have e := outsAt0_D m c ⟨n + 1, hn⟩ h0 (by show ¬(n + 1) % 64 = 0; omega) (by show ¬(n + 1) % 8 = 7; omega)
      rw [show outsAt0 m c (n + 1) hn = _ from e]
      dsimp only
      unfold out0_D_6
      rw [show (n + 1 + 1) / 8 = (n + 1) / 8 by omega]
      exact ih
    · by_cases h2 : (n + 1) % 8 = 7
      · have k := kept_last m c ⟨n + 1, hn⟩ h2
        have e := outsAt0_C m c ⟨n + 1, hn⟩ h0 (by show ¬(n + 1) % 64 = 0; omega) h2
        rw [show outsAt0 m c (n + 1) hn = _ from e] at k ⊢
        dsimp only at k ⊢
        simp only [next_C] at k
        rw [gain_C, pay6_apply]
        simp only [k, block_x]
        rw [show (n + 1 + 1) / 8 = (n + 1) / 8 + 1 by omega, Finset.sum_range_succ]
        exact congrArg (· + _) ih
      · have e := outsAt0_B m c ⟨n + 1, hn⟩ h0 (by show ¬(n + 1) % 64 = 0; omega) h2
        rw [show outsAt0 m c (n + 1) hn = _ from e]
        dsimp only
        unfold out0_B_6
        rw [show (n + 1 + 1) / 8 = (n + 1) / 8 by omega]
        exact ih

/-! ## The kernel's two arrays -/

theorem final_input : (dats m 0 c).arrAt 5 cfg0.N = input (argP m c) (argW m c) (argX m c) (argY m c) (argG m c) := by
  rw [BackIdeal.Value.final5]
  funext i
  have hi0 : (i 0).val < 4096 := (i 0).isLt
  have hi1 : (i 1).val < 2048 := (i 1).isLt
  have hp : BackIdeal.Value.pt5Of i = 8 * ((i 0).val / 512) + 7 := by
    show 8 * (1 * ((i 0).val / 512 - 0) + 1 * ((i 1).val / 2048 - 0)) + 7 = _
    omega
  have hlt : BackIdeal.Value.pt5Of i < cfg0.N := by rw [hp]; exact lt_of_lt_of_eq (by omega) N_0.symm
  have hl : BackIdeal.Value.loc5Of i = ix2 (⟨(i 0).val % 512, by omega⟩ : Fin 512) (i 1) := by
    funext a; apply Fin.ext
    match a with
    | ⟨0, _⟩ => rfl
    | ⟨1, _⟩ => show (i 1).val % 2048 = (i 1).val; omega
  unfold BackIdeal.Value.G5
  rw [dif_pos hlt, ← BackIdeal.Value.outsAt0_sweep m c _ hlt, hl]
  refine (stored m c ⟨BackIdeal.Value.pt5Of i, hlt⟩ (by show BackIdeal.Value.pt5Of i % 8 = 7; rw [hp]; omega) _ _).trans ?_
  refine congrArg (input (argP m c) (argW m c) (argX m c) (argY m c) (argG m c)) ?_
  funext a; apply Fin.ext
  match a with
  | ⟨0, _⟩ =>
    show BackIdeal.Value.pt5Of i / 8 % 8 * 512 + (i 0).val % 512 = (i 0).val
    rw [hp]; omega
  | ⟨1, _⟩ => rfl

theorem final_gain : (dats m 0 c).arrAt 6 cfg0.N = gain (argP m c) (argW m c) (argX m c) := by
  have hlt : 63 < cfg0.N := lt_of_lt_of_eq (by decide) N_0.symm
  rw [BackIdeal.Value.final6, BackIdeal.Value.G6_last, ← BackIdeal.Value.outsAt0_sweep m c 63 hlt]
  funext i
  have hi0 : (i 0).val < 1 := (i 0).isLt
  have hi : i = ix2 0 (i 1) := by
    funext a; apply Fin.ext
    match a with
    | ⟨0, _⟩ => show (i 0).val = 0; omega
    | ⟨1, _⟩ => rfl
  rw [hi]
  exact gathered m c 63 hlt (i 1)

theorem run_kernel :
    θ_run BackIdeal.defs (onTc (τ := BackIdeal.τ) (BackIdeal.main (F := Ideal))) ⟨m, fun _ => 0, ρ⟩ fun r => ∀ c : Dev BackIdeal.nD,
      r.2.mem ((c : Thread nD τ).loc main_v0_0) = input (argP m c) (argW m c) (argX m c) (argY m c) (argG m c)
      ∧ r.2.mem ((c : Thread nD τ).loc main_v0_1) = gain (argP m c) (argW m c) (argX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run BackIdeal.defs _ _).mono
    (fun r h c => ⟨(h c).1.trans (final_input m c), (h c).2.1.trans (final_gain m c), (h c).2.2⟩)
    (BackIdeal.Value.run_blocks m ρ)

end Run

/-! ## The reference -/

section Reference

open Cert.BackReferenceIdeal Cert.BackReferenceIdeal.Gen

/-- The product over all columns at once is that by blocks. -/
theorem whole_product (p : Vec Ideal S4096x6144 .bf16) (w : Vec Ideal S8x2048x768 .bf16) (t : Fin 4096) (d : Fin 2048) :
    ∑ n : Fin 6144, p (ix2 t n) * w (ix3 (⟨n.val / 768, by have := n.isLt; omega⟩ : Fin 8) d (⟨n.val % 768, by omega⟩ : Fin 768))
      = prod p w t d := by
  rw [Fin.sum_univ_tiles 8 768 rfl]
  unfold prod
  rw [Finset.sum_range]
  refine Finset.sum_congr rfl fun k _ => Finset.sum_congr rfl fun j _ => ?_
  have hk := k.isLt
  have hj := j.isLt
  refine congrArg₂ (· * ·) (congrArg p ?_) (congrArg w ?_)
  · unfold col
    congr 1
    apply Fin.ext
    show k.val * 768 + j.val = k.val % 8 * 768 + j.val
    omega
  · unfold tile
    congr 1 <;> apply Fin.ext
    · show (k.val * 768 + j.val) / 768 = k.val % 8
      omega
    · show (k.val * 768 + j.val) % 768 = j.val
      omega

section Terms

variable (p : FVec Ideal S4096x6144 .bf16) (w : FVec Ideal S8x2048x768 .bf16) (x y : FVec Ideal S4096x2048 .f32)
  (g : FVec Ideal S1x2048 .f32)

/-- What the reference composes: the product, one over the root mean square of the rows, the rows so scaled, the mean of
    each row, and the two results. -/
def allProd : FVec Ideal S4096x2048 .f32 :=
  Host.dotGeneral dot_S4096x6144_S2048x6144_S4096x2048_1_1_0_0_n_n none p
    (shapeCast S2048x6144 (transpose S2048x8x768 [1, 0, 2] w transposes_S8x2048x768_S2048x8x768_1_0_2) shapeCasts_S2048x8x768_S2048x6144)
abbrev mean (z : FVec Ideal S4096x2048 .f32) : FVec Ideal S4096x1 .f32 :=
  Host.divf (broadcastInDim S4096x1 ![0] bcast_S4096_S4096x1_0
      (Host.reduceAdd z (constant S_ .f32 0x00000000#32) reducesTo_S4096x2048_S4096_d1 h_S_))
    (broadcastInDim S4096x1 ![] bcast_S_S4096x1 (constant S_ .f32 0x45000000#32))
abbrev allInv : FVec Ideal S4096x1 .f32 :=
  Host.rsqrt (addf (mean (mulf x x)) (broadcastInDim S4096x1 ![] bcast_S_S4096x1 (constant S_ .f32 0x358637BD#32)))
abbrev wide (z : FVec Ideal S4096x1 .f32) : FVec Ideal S4096x2048 .f32 :=
  broadcastInDim S4096x2048 ![0, 1] bcast_S4096x1_S4096x2048_0_1 z
abbrev allUnit : FVec Ideal S4096x2048 .f32 := mulf x (wide (allInv x))
abbrev scaled : FVec Ideal S4096x2048 .f32 :=
  mulf (allProd p w) (broadcastInDim S4096x2048 ![0, 1] bcast_S1x2048_S4096x2048_0_1 g)
abbrev allInput : FVec Ideal S4096x2048 .f32 :=
  addf y (mulf (wide (allInv x)) (subf (scaled p w g) (mulf (allUnit x) (wide (mean (mulf (scaled p w g) (allUnit x)))))))
abbrev allGain : FVec Ideal S1x2048 .f32 :=
  broadcastInDim S1x2048 ![1] bcast_S2048_S1x2048_1
    (Host.reduceAdd (mulf (allProd p w) (allUnit x)) (constant S_ .f32 0x00000000#32) reducesTo_S4096x2048_S2048_d0 h_S_)

theorem allProd_apply (t : Fin 4096) (d : Fin 2048) : allProd p w (ix2 t d) = prod p w t d := by
  refine Eq.trans ?_ (whole_product p w t d)
  unfold allProd
  pointwise

theorem input_reference : allInput p w x y g = input p w x y g := by
  funext i
  idx_vars i
  pointwise [allProd_apply]
  unfold input grad unit inv
  rw [add_comm]
  rfl

theorem gain_reference : allGain p w x = gain p w x := by
  funext i
  idx_vars i
  pointwise [allProd_apply]
  rw [Fin.sum_univ_tiles 8 512 rfl]
  unfold gain share unit inv
  rw [Finset.sum_range]
  refine Finset.sum_congr rfl fun b _ => Finset.sum_congr rfl fun r _ => ?_
  have hb := b.isLt
  have e : row b.val r = ⟨b.val * 512 + r.val, by have := r.isLt; omega⟩ := by
    apply Fin.ext
    show b.val % 8 * 512 + r.val = b.val * 512 + r.val
    omega
  rw [e]
  rfl

end Terms

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25)
        = input (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_v28)
        = gain (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans (input_reference _ _ _ _ _), (h c).2.1.trans (gain_reference _ _ _), (h c).2.2⟩)
    (BackReferenceIdeal.Value.run m ρ)

end Reference

/-- From equal arguments the two leave the same. -/
theorem value : Cert.algebraic_BackIdeal_BackReferenceIdeal := fun m ρ m' ρ' _ h =>
  ⟨fun c => input (argP m c) (argW m c) (argX m c) (argY m c) (argG m c), fun c => gain (argP m c) (argW m c) (argX m c),
    run_kernel m ρ,
    (θ_run _ _ _).mono (fun r hr c => by
      obtain ⟨e₀, e₁, e₂, e₃, e₄⟩ := h c
      exact ⟨(hr c).1.trans (by rw [e₀, e₁, e₂, e₃, e₄]), (hr c).2.1.trans (by rw [e₀, e₁, e₂]), (hr c).2.2⟩)
      (run_reference m' ρ')⟩

end Cert.Backward

end
-- ==== Proof.Weights.lean ====
/-
The gradients of the large weights, one device's part: the rows of two arrays cut into eight blocks of 512, and a sum over
the rows taken block by block.
-/
module

public import Idealize.ShloMosaic.Lib.Pipeline.Value
public import Idealize.ShloMosaic.Lib.IdealHost
public import Idealize.ShloMosaic.Lib.Pointwise.Sums

@[expose] public section

noncomputable section

namespace Cert.Weights

open Idealize.ShloMosaic

/-- Row `r` of block `k`; blocks count modulo eight. -/
def line (k : ℕ) (r : Fin 512) : Fin 4096 := ⟨k % 8 * 512 + r.val, by have := r.isLt; omega⟩

theorem line_add (b k : ℕ) (r : Fin 512) : line (8 * b + k) r = line k r := by
  apply Fin.ext
  show (8 * b + k) % 8 * 512 + r.val = k % 8 * 512 + r.val
  omega

/-- A sum over all rows, block by block. -/
theorem sum_lines (f : Fin 4096 → EReal) : ∑ k ∈ Finset.range 8, ∑ r, f (line k r) = ∑ t, f t := by
  rw [Fin.sum_univ_tiles 8 512 rfl, Finset.sum_range]
  refine Finset.sum_congr rfl fun k _ => Finset.sum_congr rfl fun r _ => congrArg f ?_
  have hk := k.isLt
  apply Fin.ext
  show k.val % 8 * 512 + r.val = k.val * 512 + r.val
  omega

end Cert.Weights

end
-- ==== Proof.WeightIn.lean ====
/-
One device's part of the gradient of w_in: the kernel's result is, in its eight blocks of columns, the product of the
first argument transposed and the second, and so is the reference's.
-/
module

public import proofs.«01_k».proof.Defs
public import proofs.«01_k».proof.Proof.Weights
public import proofs.«01_k».proof.Proof.Gen.WeightInIdeal.Value
public import proofs.«01_k».proof.Proof.Gen.WeightInReferenceIdeal.Run
public import Idealize.ShloMosaic.Lib.Pointwise

@[expose] public section

noncomputable section

namespace Cert.Weights.In

open Idealize.ShloMosaic Idealize.ShloMosaic.TcCoe Idealize.SL.Sem

section Kernel

open Cert.WeightInIdeal Cert.WeightInIdeal.Gen

/-- Entry (`d`, `e`) of the product. -/
def entry (a : Vec Ideal S4096x2048 .bf16) (b : Vec Ideal S4096x6144 .bf16) (d : Fin 2048) (e : Fin 6144) : EReal :=
  ∑ t : Fin 4096, a (ix2 t d) * b (ix2 t e)

/-- The product in blocks of columns. -/
def product (a : Vec Ideal S4096x2048 .bf16) (b : Vec Ideal S4096x6144 .bf16) : Vec Ideal S8x2048x768 .f32 := fun i =>
  entry a b (i 1) ⟨(i 0).val * 768 + (i 2).val, by
    have h0 : (i 0).val < 8 := (i 0).isLt
    have h2 : (i 2).val < 768 := (i 2).isLt
    omega⟩

/-- Of the first argument's columns, and of the second's, those that point `n` takes. -/
def left (n : ℕ) (x : Fin 512) : Fin 2048 := ⟨n / 64 % 4 * 512 + x.val, by have := x.isLt; omega⟩
def right (n : ℕ) (y : Fin 768) : Fin 6144 := ⟨n / 8 % 8 * 768 + y.val, by have := y.isLt; omega⟩

theorem zero_apply (x : Fin 512) (y : Fin 768) : k0_pay1 (F := Ideal) (ix3 0 x y) = 0 := by
  pointwise [k0_pay1]

theorem add_apply (o : Vec Ideal S1x512x768 .f32) (a : Vec Ideal S512x512 .bf16) (b : Vec Ideal S512x768 .bf16)
    (x : Fin 512) (y : Fin 768) :
    k0_pay2 o a b (ix3 0 x y) = o (ix3 0 x y) + ∑ r : Fin 512, a (ix2 r x) * b (ix2 r y) := by
  pointwise [k0_pay2]

variable (m : (ℓ : Loc nD τ sig) → Buf (Elt Ideal) ℓ) (ρ : Dev nD → PrngReg) (c : Dev nD)

abbrev argA : Vec Ideal S4096x2048 .bf16 := m ((c : Thread nD τ).loc main_arg0)
abbrev argB : Vec Ideal S4096x6144 .bf16 := m ((c : Thread nD τ).loc main_arg1)

theorem idx : ∀ t : Fin cfg0.N,
    (win0_0.index t (0 : Fin 2) = t.val % 8 ∧ win0_0.index t (1 : Fin 2) = t.val / 64 % 4)
    ∧ (win0_1.index t (0 : Fin 2) = t.val % 8 ∧ win0_1.index t (1 : Fin 2) = t.val / 8 % 8) :=
  (by decide +kernel : ∀ t : Fin grid0.N, _)

section Blocks

variable (t : Fin cfg0.N) (r : Fin 512)

theorem block_a (x : Fin 512) : (iblk m c 0 t : Vec Ideal S512x512 .bf16) (ix2 r x) = argA m c (ix2 (line t.val r) (left t.val x)) := by
  obtain ⟨⟨e0, e1⟩, -⟩ := idx t
  refine congrArg (argA m c) (a₁ := ((cfg0.win 0).blk t).view.emb (ix2 r x)) ?_
  funext a; apply Fin.ext
  match a with
  | ⟨0, _⟩ => show win0_0.index t (0 : Fin 2) * 512 + 1 * r.val = t.val % 8 * 512 + r.val; rw [e0]; omega
  | ⟨1, _⟩ => show win0_0.index t (1 : Fin 2) * 512 + 1 * x.val = t.val / 64 % 4 * 512 + x.val; rw [e1]; omega

theorem block_b (y : Fin 768) : (iblk m c 1 t : Vec Ideal S512x768 .bf16) (ix2 r y) = argB m c (ix2 (line t.val r) (right t.val y)) := by
  obtain ⟨-, ⟨e0, e1⟩⟩ := idx t
  refine congrArg (argB m c) (a₁ := ((cfg0.win 1).blk t).view.emb (ix2 r y)) ?_
  funext a; apply Fin.ext
  match a with
  | ⟨0, _⟩ => show win0_1.index t (0 : Fin 2) * 512 + 1 * r.val = t.val % 8 * 512 + r.val; rw [e0]; omega
  | ⟨1, _⟩ => show win0_1.index t (1 : Fin 2) * 768 + 1 * y.val = t.val / 8 % 8 * 768 + y.val; rw [e1]; omega

end Blocks

/-- What point `n` adds at an index of its block. -/
def addend (n : ℕ) (i : S1x512x768.Idx) : EReal :=
  ∑ r : Fin 512, argA m c (ix2 (line n r) (left n (i 1))) * argB m c (ix2 (line n r) (right n (i 2)))

theorem lead (i : S1x512x768.Idx) : ∃ (x : Fin 512) (y : Fin 768), i = ix3 0 x y := by
  have h : (i 0).val < 1 := (i 0).isLt
  refine ⟨i 1, i 2, ?_⟩
  funext a; apply Fin.ext
  match a with
  | ⟨0, _⟩ => show (i 0).val = 0; omega
  | ⟨1, _⟩ => rfl
  | ⟨2, _⟩ => rfl

theorem step_apply (n : ℕ) (h : n < cfg0.N) (o : Vec Ideal S1x512x768 .f32) (i : S1x512x768.Idx) :
    WeightInIdeal.Value.step2 m c n h o i = o i + addend m c n i := by
  obtain ⟨x, y, rfl⟩ := lead i
  refine (add_apply _ _ _ x y).trans (congrArg (o (ix3 0 x y) + ·) (Finset.sum_congr rfl fun r _ => ?_))
  rw [block_a, block_b]
  rfl

theorem reset_apply (n : ℕ) (h : n < cfg0.N) (i : S1x512x768.Idx) :
    WeightInIdeal.Value.reset2 m c n h i = 0 + addend m c n i := by
  refine (step_apply m c n h (k0_pay1 (F := Ideal)) i).trans ?_
  obtain ⟨x, y, rfl⟩ := lead i
  rw [zero_apply]

/-- A whole run of eight points. -/
theorem fold_apply (b : ℕ) (h : 8 * b + 7 < cfg0.N) (i : S1x512x768.Idx) :
    Pipeline.accAt (WeightInIdeal.Value.reset2 m c) (WeightInIdeal.Value.step2 m c) (8 * b) 7 h i
      = ∑ k ∈ Finset.range 8, addend m c (8 * b + k) i :=
  (Pipeline.accAt_add_apply (ι := S1x512x768.Idx) (β := EReal) _ _ (fun _ => 0) (addend m c) (8 * b) 7
    (fun h i => reset_apply m c _ h i) (fun n h o i _ _ => step_apply m c n h o i) 7 (le_refl 7) h i).trans (zero_add _)

/-- The kernel's array: at an index the eight points of its run add up the whole sum. -/
theorem final : WeightInIdeal.Value.G2 m c = product (argA m c) (argB m c) := by
  funext i
  have h0 : (i 0).val < 8 := (i 0).isLt
  have h1 : (i 1).val < 2048 := (i 1).isLt
  have h2 : (i 2).val < 768 := (i 2).isLt
  have hrun : WeightInIdeal.Value.run2Of i = (i 0).val + 8 * ((i 1).val / 512) := by
    show 1 * ((i 0).val / 1 - 0) + 8 * ((i 1).val / 512 - 0) + 32 * ((i 2).val / 768 - 0) = _
    omega
  have hlt : 8 * WeightInIdeal.Value.run2Of i + 7 < cfg0.N := by rw [hrun]; exact lt_of_lt_of_eq (by omega) N_0.symm
  unfold WeightInIdeal.Value.G2
  rw [dif_pos hlt]
  refine (fold_apply m c _ hlt _).trans ?_
  unfold product entry
  refine Eq.trans ?_ (sum_lines _)
  refine Finset.sum_congr rfl fun k hk => ?_
  have hk := Finset.mem_range.1 hk
  unfold addend
  refine Finset.sum_congr rfl fun r _ => ?_
  rw [line_add]
  refine congrArg₂ (· * ·) (congrArg (argA m c) (congrArg (ix2 (line k r)) ?_)) (congrArg (argB m c) (congrArg (ix2 (line k r)) ?_))
  · apply Fin.ext
    show (8 * WeightInIdeal.Value.run2Of i + k) / 64 % 4 * 512 + (i 1).val % 512 = (i 1).val
    rw [hrun]; omega
  · apply Fin.ext
    show (8 * WeightInIdeal.Value.run2Of i + k) / 8 % 8 * 768 + (i 2).val % 768 = (i 0).val * 768 + (i 2).val
    rw [hrun]; omega

theorem run_kernel :
    θ_run WeightInIdeal.defs (onTc (τ := WeightInIdeal.τ) (WeightInIdeal.main (F := Ideal))) ⟨m, fun _ => 0, ρ⟩
      fun r => ∀ c : Dev WeightInIdeal.nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run WeightInIdeal.defs _ _).mono (fun r h c => ⟨(h c).1.trans (final m c), (h c).2⟩) (WeightInIdeal.Value.run m ρ)

end Kernel

section Reference

open Cert.WeightInReferenceIdeal Cert.WeightInReferenceIdeal.Gen

theorem reference (a : FVec Ideal S4096x2048 .bf16) (b : FVec Ideal S4096x6144 .bf16) :
    transpose S8x2048x768 [1, 0, 2] (shapeCast S2048x8x768 (Host.dotGeneral dot_S4096x2048_S4096x6144_S2048x6144_0_0_1_1_n_n none a b)
      shapeCasts_S2048x6144_S2048x8x768) transposes_S2048x8x768_S8x2048x768_1_0_2 = product a b := by
  funext i
  idx_vars i
  pointwise
  rfl

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (reference _ _), (h c).2⟩) (WeightInReferenceIdeal.Value.run m ρ)

end Reference

/-- From equal arguments the two leave the same. -/
theorem value : Cert.algebraic_WeightInIdeal_WeightInReferenceIdeal := fun m ρ m' ρ' _ h =>
  ⟨fun c => product (argA m c) (argB m c), run_kernel m ρ,
    (θ_run _ _ _).mono (fun r hr c => by
      obtain ⟨e₀, e₁⟩ := h c
      exact ⟨(hr c).1.trans (by rw [e₀, e₁]), (hr c).2⟩)
      (run_reference m' ρ')⟩

end Cert.Weights.In

end
-- ==== Proof.WeightOut.lean ====
/-
One device's part of the gradient of w_out: the kernel's result is, in its eight blocks of rows, the product of the
first argument transposed and the second, and so is the reference's.
-/
module

public import proofs.«01_k».proof.Defs
public import proofs.«01_k».proof.Proof.Weights
public import proofs.«01_k».proof.Proof.Gen.WeightOutIdeal.Value
public import proofs.«01_k».proof.Proof.Gen.WeightOutReferenceIdeal.Run
public import Idealize.ShloMosaic.Lib.Pointwise

@[expose] public section

noncomputable section

namespace Cert.Weights.Out

open Idealize.ShloMosaic Idealize.ShloMosaic.TcCoe Idealize.SL.Sem

section Kernel

open Cert.WeightOutIdeal Cert.WeightOutIdeal.Gen

/-- Entry (`d`, `e`) of the product. -/
def entry (a : Vec Ideal S4096x2048 .bf16) (b : Vec Ideal S4096x2048 .bf16) (d : Fin 2048) (e : Fin 2048) : EReal :=
  ∑ t : Fin 4096, a (ix2 t d) * b (ix2 t e)

/-- The product in blocks of rows. -/
def product (a : Vec Ideal S4096x2048 .bf16) (b : Vec Ideal S4096x2048 .bf16) : Vec Ideal S8x256x2048 .f32 := fun i =>
  entry a b ⟨(i 0).val * 256 + (i 1).val, by
    have h0 : (i 0).val < 8 := (i 0).isLt
    have h1 : (i 1).val < 256 := (i 1).isLt
    omega⟩ (i 2)

/-- Of the first argument's columns, and of the second's, those that point `n` takes. -/
def left (n : ℕ) (x : Fin 256) : Fin 2048 := ⟨n / 8 % 8 * 256 + x.val, by have := x.isLt; omega⟩
def right (n : ℕ) (y : Fin 2048) : Fin 2048 := ⟨0 * 2048 + y.val, by have := y.isLt; omega⟩

theorem zero_apply (x : Fin 256) (y : Fin 2048) : k0_pay1 (F := Ideal) (ix3 0 x y) = 0 := by
  pointwise [k0_pay1]

theorem add_apply (o : Vec Ideal S1x256x2048 .f32) (a : Vec Ideal S512x256 .bf16) (b : Vec Ideal S512x2048 .bf16)
    (x : Fin 256) (y : Fin 2048) :
    k0_pay2 o a b (ix3 0 x y) = o (ix3 0 x y) + ∑ r : Fin 512, a (ix2 r x) * b (ix2 r y) := by
  pointwise [k0_pay2]

variable (m : (ℓ : Loc nD τ sig) → Buf (Elt Ideal) ℓ) (ρ : Dev nD → PrngReg) (c : Dev nD)

abbrev argA : Vec Ideal S4096x2048 .bf16 := m ((c : Thread nD τ).loc main_arg0)
abbrev argB : Vec Ideal S4096x2048 .bf16 := m ((c : Thread nD τ).loc main_arg1)

theorem idx : ∀ t : Fin cfg0.N,
    (win0_0.index t (0 : Fin 2) = t.val % 8 ∧ win0_0.index t (1 : Fin 2) = t.val / 8 % 8)
    ∧ (win0_1.index t (0 : Fin 2) = t.val % 8 ∧ win0_1.index t (1 : Fin 2) = 0) :=
  (by decide +kernel : ∀ t : Fin grid0.N, _)

section Blocks

variable (t : Fin cfg0.N) (r : Fin 512)

theorem block_a (x : Fin 256) : (iblk m c 0 t : Vec Ideal S512x256 .bf16) (ix2 r x) = argA m c (ix2 (line t.val r) (left t.val x)) := by
  obtain ⟨⟨e0, e1⟩, -⟩ := idx t
  refine congrArg (argA m c) (a₁ := ((cfg0.win 0).blk t).view.emb (ix2 r x)) ?_
  funext a; apply Fin.ext
  match a with
  | ⟨0, _⟩ => show win0_0.index t (0 : Fin 2) * 512 + 1 * r.val = t.val % 8 * 512 + r.val; rw [e0]; omega
  | ⟨1, _⟩ => show win0_0.index t (1 : Fin 2) * 256 + 1 * x.val = t.val / 8 % 8 * 256 + x.val; rw [e1]; omega

theorem block_b (y : Fin 2048) : (iblk m c 1 t : Vec Ideal S512x2048 .bf16) (ix2 r y) = argB m c (ix2 (line t.val r) (right t.val y)) := by
  obtain ⟨-, ⟨e0, e1⟩⟩ := idx t
  refine congrArg (argB m c) (a₁ := ((cfg0.win 1).blk t).view.emb (ix2 r y)) ?_
  funext a; apply Fin.ext
  match a with
  | ⟨0, _⟩ => show win0_1.index t (0 : Fin 2) * 512 + 1 * r.val = t.val % 8 * 512 + r.val; rw [e0]; omega
  | ⟨1, _⟩ => show win0_1.index t (1 : Fin 2) * 2048 + 1 * y.val = 0 * 2048 + y.val; rw [e1]; omega

end Blocks

/-- What point `n` adds at an index of its block. -/
def addend (n : ℕ) (i : S1x256x2048.Idx) : EReal :=
  ∑ r : Fin 512, argA m c (ix2 (line n r) (left n (i 1))) * argB m c (ix2 (line n r) (right n (i 2)))

theorem lead (i : S1x256x2048.Idx) : ∃ (x : Fin 256) (y : Fin 2048), i = ix3 0 x y := by
  have h : (i 0).val < 1 := (i 0).isLt
  refine ⟨i 1, i 2, ?_⟩
  funext a; apply Fin.ext
  match a with
  | ⟨0, _⟩ => show (i 0).val = 0; omega
  | ⟨1, _⟩ => rfl
  | ⟨2, _⟩ => rfl

theorem step_apply (n : ℕ) (h : n < cfg0.N) (o : Vec Ideal S1x256x2048 .f32) (i : S1x256x2048.Idx) :
    WeightOutIdeal.Value.step2 m c n h o i = o i + addend m c n i := by
  obtain ⟨x, y, rfl⟩ := lead i
  refine (add_apply _ _ _ x y).trans (congrArg (o (ix3 0 x y) + ·) (Finset.sum_congr rfl fun r _ => ?_))
  rw [block_a, block_b]
  rfl

theorem reset_apply (n : ℕ) (h : n < cfg0.N) (i : S1x256x2048.Idx) :
    WeightOutIdeal.Value.reset2 m c n h i = 0 + addend m c n i := by
  refine (step_apply m c n h (k0_pay1 (F := Ideal)) i).trans ?_
  obtain ⟨x, y, rfl⟩ := lead i
  rw [zero_apply]

/-- A whole run of eight points. -/
theorem fold_apply (b : ℕ) (h : 8 * b + 7 < cfg0.N) (i : S1x256x2048.Idx) :
    Pipeline.accAt (WeightOutIdeal.Value.reset2 m c) (WeightOutIdeal.Value.step2 m c) (8 * b) 7 h i
      = ∑ k ∈ Finset.range 8, addend m c (8 * b + k) i :=
  (Pipeline.accAt_add_apply (ι := S1x256x2048.Idx) (β := EReal) _ _ (fun _ => 0) (addend m c) (8 * b) 7
    (fun h i => reset_apply m c _ h i) (fun n h o i _ _ => step_apply m c n h o i) 7 (le_refl 7) h i).trans (zero_add _)

/-- The kernel's array: at an index the eight points of its run add up the whole sum. -/
theorem final : WeightOutIdeal.Value.G2 m c = product (argA m c) (argB m c) := by
  funext i
  have h0 : (i 0).val < 8 := (i 0).isLt
  have h1 : (i 1).val < 256 := (i 1).isLt
  have h2 : (i 2).val < 2048 := (i 2).isLt
  have hrun : WeightOutIdeal.Value.run2Of i = (i 0).val := by
    show 1 * ((i 0).val / 1 - 0) + 1 * ((i 1).val / 256 - 0) + 1 * ((i 2).val / 2048 - 0) = _
    omega
  have hlt : 8 * WeightOutIdeal.Value.run2Of i + 7 < cfg0.N := by rw [hrun]; exact lt_of_lt_of_eq (by omega) N_0.symm
  unfold WeightOutIdeal.Value.G2
  rw [dif_pos hlt]
  refine (fold_apply m c _ hlt _).trans ?_
  unfold product entry
  refine Eq.trans ?_ (sum_lines _)
  refine Finset.sum_congr rfl fun k hk => ?_
  have hk := Finset.mem_range.1 hk
  unfold addend
  refine Finset.sum_congr rfl fun r _ => ?_
  rw [line_add]
  refine congrArg₂ (· * ·) (congrArg (argA m c) (congrArg (ix2 (line k r)) ?_)) (congrArg (argB m c) (congrArg (ix2 (line k r)) ?_))
  · apply Fin.ext
    show (8 * WeightOutIdeal.Value.run2Of i + k) / 8 % 8 * 256 + (i 1).val % 256 = (i 0).val * 256 + (i 1).val
    rw [hrun]; omega
  · apply Fin.ext
    show 0 * 2048 + (i 2).val % 2048 = (i 2).val
    omega

theorem run_kernel :
    θ_run WeightOutIdeal.defs (onTc (τ := WeightOutIdeal.τ) (WeightOutIdeal.main (F := Ideal))) ⟨m, fun _ => 0, ρ⟩
      fun r => ∀ c : Dev WeightOutIdeal.nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run WeightOutIdeal.defs _ _).mono (fun r h c => ⟨(h c).1.trans (final m c), (h c).2⟩) (WeightOutIdeal.Value.run m ρ)

end Kernel

section Reference

open Cert.WeightOutReferenceIdeal Cert.WeightOutReferenceIdeal.Gen

theorem reference (a : FVec Ideal S4096x2048 .bf16) (b : FVec Ideal S4096x2048 .bf16) :
    shapeCast S8x256x2048 (Host.dotGeneral dot_S4096x2048_S4096x2048_S2048x2048_0_0_1_1_n_n none a b) shapeCasts_S2048x2048_S8x256x2048 = product a b := by
  funext i
  idx_vars i
  pointwise
  rfl

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (reference _ _), (h c).2⟩) (WeightOutReferenceIdeal.Value.run m ρ)

end Reference

/-- From equal arguments the two leave the same. -/
theorem value : Cert.algebraic_WeightOutIdeal_WeightOutReferenceIdeal := fun m ρ m' ρ' _ h =>
  ⟨fun c => product (argA m c) (argB m c), run_kernel m ρ,
    (θ_run _ _ _).mono (fun r hr c => by
      obtain ⟨e₀, e₁⟩ := h c
      exact ⟨(hr c).1.trans (by rw [e₀, e₁]), (hr c).2⟩)
      (run_reference m' ρ')⟩

end Cert.Weights.Out

end
-- ==== Proof.WeightGlu.lean ====
/-
One device's part of the gradient of w_glu: the kernel's result is, in its eight blocks of rows, the product of the
first argument transposed and the second, and so is the reference's.
-/
module

public import proofs.«01_k».proof.Defs
public import proofs.«01_k».proof.Proof.Weights
public import proofs.«01_k».proof.Proof.Gen.WeightGluIdeal.Value
public import proofs.«01_k».proof.Proof.Gen.WeightGluReferenceIdeal.Run
public import Idealize.ShloMosaic.Lib.Pointwise

@[expose] public section

noncomputable section

namespace Cert.Weights.Glu

open Idealize.ShloMosaic Idealize.ShloMosaic.TcCoe Idealize.SL.Sem

section Kernel

open Cert.WeightGluIdeal Cert.WeightGluIdeal.Gen

/-- Entry (`d`, `e`) of the product. -/
def entry (a : Vec Ideal S4096x1024 .bf16) (b : Vec Ideal S4096x1024 .bf16) (d : Fin 1024) (e : Fin 1024) : EReal :=
  ∑ t : Fin 4096, a (ix2 t d) * b (ix2 t e)

/-- The product in blocks of rows. -/
def product (a : Vec Ideal S4096x1024 .bf16) (b : Vec Ideal S4096x1024 .bf16) : Vec Ideal S8x128x1024 .f32 := fun i =>
  entry a b ⟨(i 0).val * 128 + (i 1).val, by
    have h0 : (i 0).val < 8 := (i 0).isLt
    have h1 : (i 1).val < 128 := (i 1).isLt
    omega⟩ (i 2)

/-- Of the first argument's columns, and of the second's, those that point `n` takes. -/
def left (n : ℕ) (x : Fin 128) : Fin 1024 := ⟨n / 8 % 8 * 128 + x.val, by have := x.isLt; omega⟩
def right (n : ℕ) (y : Fin 1024) : Fin 1024 := ⟨0 * 1024 + y.val, by have := y.isLt; omega⟩

theorem zero_apply (x : Fin 128) (y : Fin 1024) : k0_pay1 (F := Ideal) (ix3 0 x y) = 0 := by
  pointwise [k0_pay1]

theorem add_apply (o : Vec Ideal S1x128x1024 .f32) (a : Vec Ideal S512x128 .bf16) (b : Vec Ideal S512x1024 .bf16)
    (x : Fin 128) (y : Fin 1024) :
    k0_pay2 o a b (ix3 0 x y) = o (ix3 0 x y) + ∑ r : Fin 512, a (ix2 r x) * b (ix2 r y) := by
  pointwise [k0_pay2]

variable (m : (ℓ : Loc nD τ sig) → Buf (Elt Ideal) ℓ) (ρ : Dev nD → PrngReg) (c : Dev nD)

abbrev argA : Vec Ideal S4096x1024 .bf16 := m ((c : Thread nD τ).loc main_arg0)
abbrev argB : Vec Ideal S4096x1024 .bf16 := m ((c : Thread nD τ).loc main_arg1)

theorem idx : ∀ t : Fin cfg0.N,
    (win0_0.index t (0 : Fin 2) = t.val % 8 ∧ win0_0.index t (1 : Fin 2) = t.val / 8 % 8)
    ∧ (win0_1.index t (0 : Fin 2) = t.val % 8 ∧ win0_1.index t (1 : Fin 2) = 0) :=
  (by decide +kernel : ∀ t : Fin grid0.N, _)

section Blocks

variable (t : Fin cfg0.N) (r : Fin 512)

theorem block_a (x : Fin 128) : (iblk m c 0 t : Vec Ideal S512x128 .bf16) (ix2 r x) = argA m c (ix2 (line t.val r) (left t.val x)) := by
  obtain ⟨⟨e0, e1⟩, -⟩ := idx t
  refine congrArg (argA m c) (a₁ := ((cfg0.win 0).blk t).view.emb (ix2 r x)) ?_
  funext a; apply Fin.ext
  match a with
  | ⟨0, _⟩ => show win0_0.index t (0 : Fin 2) * 512 + 1 * r.val = t.val % 8 * 512 + r.val; rw [e0]; omega
  | ⟨1, _⟩ => show win0_0.index t (1 : Fin 2) * 128 + 1 * x.val = t.val / 8 % 8 * 128 + x.val; rw [e1]; omega

theorem block_b (y : Fin 1024) : (iblk m c 1 t : Vec Ideal S512x1024 .bf16) (ix2 r y) = argB m c (ix2 (line t.val r) (right t.val y)) := by
  obtain ⟨-, ⟨e0, e1⟩⟩ := idx t
  refine congrArg (argB m c) (a₁ := ((cfg0.win 1).blk t).view.emb (ix2 r y)) ?_
  funext a; apply Fin.ext
  match a with
  | ⟨0, _⟩ => show win0_1.index t (0 : Fin 2) * 512 + 1 * r.val = t.val % 8 * 512 + r.val; rw [e0]; omega
  | ⟨1, _⟩ => show win0_1.index t (1 : Fin 2) * 1024 + 1 * y.val = 0 * 1024 + y.val; rw [e1]; omega

end Blocks

/-- What point `n` adds at an index of its block. -/
def addend (n : ℕ) (i : S1x128x1024.Idx) : EReal :=
  ∑ r : Fin 512, argA m c (ix2 (line n r) (left n (i 1))) * argB m c (ix2 (line n r) (right n (i 2)))

theorem lead (i : S1x128x1024.Idx) : ∃ (x : Fin 128) (y : Fin 1024), i = ix3 0 x y := by
  have h : (i 0).val < 1 := (i 0).isLt
  refine ⟨i 1, i 2, ?_⟩
  funext a; apply Fin.ext
  match a with
  | ⟨0, _⟩ => show (i 0).val = 0; omega
  | ⟨1, _⟩ => rfl
  | ⟨2, _⟩ => rfl

theorem step_apply (n : ℕ) (h : n < cfg0.N) (o : Vec Ideal S1x128x1024 .f32) (i : S1x128x1024.Idx) :
    WeightGluIdeal.Value.step2 m c n h o i = o i + addend m c n i := by
  obtain ⟨x, y, rfl⟩ := lead i
  refine (add_apply _ _ _ x y).trans (congrArg (o (ix3 0 x y) + ·) (Finset.sum_congr rfl fun r _ => ?_))
  rw [block_a, block_b]
  rfl

theorem reset_apply (n : ℕ) (h : n < cfg0.N) (i : S1x128x1024.Idx) :
    WeightGluIdeal.Value.reset2 m c n h i = 0 + addend m c n i := by
  refine (step_apply m c n h (k0_pay1 (F := Ideal)) i).trans ?_
  obtain ⟨x, y, rfl⟩ := lead i
  rw [zero_apply]

/-- A whole run of eight points. -/
theorem fold_apply (b : ℕ) (h : 8 * b + 7 < cfg0.N) (i : S1x128x1024.Idx) :
    Pipeline.accAt (WeightGluIdeal.Value.reset2 m c) (WeightGluIdeal.Value.step2 m c) (8 * b) 7 h i
      = ∑ k ∈ Finset.range 8, addend m c (8 * b + k) i :=
  (Pipeline.accAt_add_apply (ι := S1x128x1024.Idx) (β := EReal) _ _ (fun _ => 0) (addend m c) (8 * b) 7
    (fun h i => reset_apply m c _ h i) (fun n h o i _ _ => step_apply m c n h o i) 7 (le_refl 7) h i).trans (zero_add _)

/-- The kernel's array: at an index the eight points of its run add up the whole sum. -/
theorem final : WeightGluIdeal.Value.G2 m c = product (argA m c) (argB m c) := by
  funext i
  have h0 : (i 0).val < 8 := (i 0).isLt
  have h1 : (i 1).val < 128 := (i 1).isLt
  have h2 : (i 2).val < 1024 := (i 2).isLt
  have hrun : WeightGluIdeal.Value.run2Of i = (i 0).val := by
    show 1 * ((i 0).val / 1 - 0) + 1 * ((i 1).val / 128 - 0) + 1 * ((i 2).val / 1024 - 0) = _
    omega
  have hlt : 8 * WeightGluIdeal.Value.run2Of i + 7 < cfg0.N := by rw [hrun]; exact lt_of_lt_of_eq (by omega) N_0.symm
  unfold WeightGluIdeal.Value.G2
  rw [dif_pos hlt]
  refine (fold_apply m c _ hlt _).trans ?_
  unfold product entry
  refine Eq.trans ?_ (sum_lines _)
  refine Finset.sum_congr rfl fun k hk => ?_
  have hk := Finset.mem_range.1 hk
  unfold addend
  refine Finset.sum_congr rfl fun r _ => ?_
  rw [line_add]
  refine congrArg₂ (· * ·) (congrArg (argA m c) (congrArg (ix2 (line k r)) ?_)) (congrArg (argB m c) (congrArg (ix2 (line k r)) ?_))
  · apply Fin.ext
    show (8 * WeightGluIdeal.Value.run2Of i + k) / 8 % 8 * 128 + (i 1).val % 128 = (i 0).val * 128 + (i 1).val
    rw [hrun]; omega
  · apply Fin.ext
    show 0 * 1024 + (i 2).val % 1024 = (i 2).val
    omega

theorem run_kernel :
    θ_run WeightGluIdeal.defs (onTc (τ := WeightGluIdeal.τ) (WeightGluIdeal.main (F := Ideal))) ⟨m, fun _ => 0, ρ⟩
      fun r => ∀ c : Dev WeightGluIdeal.nD,
      r.2.mem ((c : Thread nD τ).loc main_v0) = product (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run WeightGluIdeal.defs _ _).mono (fun r h c => ⟨(h c).1.trans (final m c), (h c).2⟩) (WeightGluIdeal.Value.run m ρ)

end Kernel

section Reference

open Cert.WeightGluReferenceIdeal Cert.WeightGluReferenceIdeal.Gen

theorem reference (a : FVec Ideal S4096x1024 .bf16) (b : FVec Ideal S4096x1024 .bf16) :
    shapeCast S8x128x1024 (Host.dotGeneral dot_S4096x1024_S4096x1024_S1024x1024_0_0_1_1_n_n none a b) shapeCasts_S1024x1024_S8x128x1024 = product a b := by
  funext i
  idx_vars i
  pointwise
  rfl

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (reference _ _), (h c).2⟩) (WeightGluReferenceIdeal.Value.run m ρ)

end Reference

/-- From equal arguments the two leave the same. -/
theorem value : Cert.algebraic_WeightGluIdeal_WeightGluReferenceIdeal := fun m ρ m' ρ' _ h =>
  ⟨fun c => product (argA m c) (argB m c), run_kernel m ρ,
    (θ_run _ _ _).mono (fun r hr c => by
      obtain ⟨e₀, e₁⟩ := h c
      exact ⟨(hr c).1.trans (by rw [e₀, e₁]), (hr c).2⟩)
      (run_reference m' ρ')⟩

end Cert.Weights.Glu

end
-- ==== Proof.Prep.lean ====
/-
The zero-order hold: the kernel forms the held eigenvalues, the quotients and the held input matrices entry by entry
over whole arrays, in its own axis order, and the reference in the order of states before inputs.
-/
module

public import proofs.«01_k».proof.Defs
public import proofs.«01_k».proof.Proof.Gen.PrepIdeal.Value
public import proofs.«01_k».proof.Proof.Gen.PrepReferenceIdeal.Run
public import Idealize.ShloMosaic.Lib.Pointwise

@[expose] public section

set_option maxRecDepth 16384

noncomputable section

namespace Cert.Hold

open Cert.PrepReferenceIdeal Cert.PrepReferenceIdeal.Gen
open Idealize.ShloMosaic Idealize.ShloMosaic.TcCoe Idealize.SL.Sem

section Terms

variable (lr li : FVec Ideal S64x1x64 .f32) (d : FVec Ideal S64x1x1 .f32) (br bi : FVec Ideal S64x16x64 .f32)

/-! ## What the reference composes -/

abbrev flat (a : FVec Ideal S64x1x64 .f32) : FVec Ideal S64x64 .f32 := shapeCast _ a shapeCasts_S64x1x64_S64x64
abbrev step : FVec Ideal S64x64 .f32 :=
  broadcastInDim S64x64 ![0, 1] bcast_S64x1_S64x64_0_1 (Host.exp (shapeCast _ d shapeCasts_S64x1x1_S64x1))
abbrev heldRe : FVec Ideal S64x64 .f32 := mulf (Host.exp (mulf (flat lr) (step d))) (Host.cos (mulf (flat li) (step d)))
abbrev heldIm : FVec Ideal S64x64 .f32 := mulf (Host.exp (mulf (flat lr) (step d))) (Host.sin (mulf (flat li) (step d)))
abbrev less : FVec Ideal S64x64 .f32 :=
  subf (heldRe lr li d) (broadcastInDim S64x64 ![] bcast_S_S64x64 (constant S_ .f32 0x3F800000#32))
abbrev norm : FVec Ideal S64x64 .f32 := addf (mulf (flat lr) (flat lr)) (mulf (flat li) (flat li))
abbrev quotRe : FVec Ideal S64x64 .f32 :=
  Host.divf (addf (mulf (less lr li d) (flat lr)) (mulf (heldIm lr li d) (flat li))) (norm lr li)
abbrev quotIm : FVec Ideal S64x64 .f32 :=
  Host.divf (subf (mulf (heldIm lr li d) (flat lr)) (mulf (less lr li d) (flat li))) (norm lr li)
abbrev lifted (a : FVec Ideal S64x64 .f32) : FVec Ideal S64x1x64 .f32 := broadcastInDim S64x1x64 ![0, 2] bcast_S64x64_S64x1x64_0_2 a
abbrev spread (a : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 a)
abbrev swapped (a : FVec Ideal S64x16x64 .f32) : FVec Ideal S64x64x16 .f32 :=
  transpose S64x64x16 [0, 2, 1] a transposes_S64x16x64_S64x64x16_0_2_1
abbrev back (a : FVec Ideal S64x64x16 .f32) : FVec Ideal S64x16x64 .f32 :=
  transpose S64x16x64 [0, 2, 1] a transposes_S64x64x16_S64x16x64_0_2_1

/-! ## Each is the kernel's array -/

theorem held_re : lifted (heldRe lr li d) = PrepIdeal.Value.G5 (F := Ideal) lr li d br bi := by
  funext i
  idx_vars i
  obtain rfl : i1 = 0 := Subsingleton.elim _ _
  pointwise! [PrepIdeal.Gen.k0_pay5, PrepIdeal.Gen.k0_pay4, PrepIdeal.Gen.k0_pay3]

theorem held_im : lifted (heldIm lr li d) = PrepIdeal.Value.G6 (F := Ideal) lr li d br bi := by
  funext i
  idx_vars i
  obtain rfl : i1 = 0 := Subsingleton.elim _ _
  pointwise! [PrepIdeal.Gen.k0_pay6, PrepIdeal.Gen.k0_pay4, PrepIdeal.Gen.k0_pay3]

theorem loaded_re : PrepIdeal.Value.G7 (F := Ideal) lr li d br bi = PrepIdeal.Gen.k0_pay9 (F := Ideal) lr li d := by
  unfold PrepIdeal.Value.G7 PrepIdeal.Gen.k0_pay11
  rw [View.ld_unit_zero PrepIdeal.Value.hz0, View.ld_unit_zero PrepIdeal.Value.hz0, View.ld_unit_zero PrepIdeal.Value.hz0]

theorem loaded_im : PrepIdeal.Value.G8 (F := Ideal) lr li d br bi = PrepIdeal.Gen.k0_pay10 (F := Ideal) lr li d := by
  unfold PrepIdeal.Value.G8 PrepIdeal.Gen.k0_pay12
  rw [View.ld_unit_zero PrepIdeal.Value.hz0, View.ld_unit_zero PrepIdeal.Value.hz0, View.ld_unit_zero PrepIdeal.Value.hz0]

theorem quot_re : lifted (quotRe lr li d) = PrepIdeal.Gen.k0_pay9 (F := Ideal) lr li d := by
  funext i
  idx_vars i
  obtain rfl : i1 = 0 := Subsingleton.elim _ _
  pointwise! [PrepIdeal.Gen.k0_pay9, PrepIdeal.Gen.k0_pay8, PrepIdeal.Gen.k0_pay7, PrepIdeal.Gen.k0_pay6, PrepIdeal.Gen.k0_pay5,
    PrepIdeal.Gen.k0_pay4, PrepIdeal.Gen.k0_pay3]

theorem quot_im : lifted (quotIm lr li d) = PrepIdeal.Gen.k0_pay10 (F := Ideal) lr li d := by
  funext i
  idx_vars i
  obtain rfl : i1 = 0 := Subsingleton.elim _ _
  pointwise! [PrepIdeal.Gen.k0_pay10, PrepIdeal.Gen.k0_pay8, PrepIdeal.Gen.k0_pay7, PrepIdeal.Gen.k0_pay6, PrepIdeal.Gen.k0_pay5,
    PrepIdeal.Gen.k0_pay4, PrepIdeal.Gen.k0_pay3]

/-- The held input matrices of any two quotients. -/
theorem matrix_re (q r : FVec Ideal S64x64 .f32) :
    back (subf (mulf (spread q) (swapped br)) (mulf (spread r) (swapped bi)))
      = PrepIdeal.Gen.k0_pay1 (lifted q) (lifted r) br bi := by
  funext i
  idx_vars i
  pointwise! [PrepIdeal.Gen.k0_pay1]

theorem matrix_im (q r : FVec Ideal S64x64 .f32) :
    back (addf (mulf (spread q) (swapped bi)) (mulf (spread r) (swapped br)))
      = PrepIdeal.Gen.k0_pay2 (lifted q) (lifted r) br bi := by
  funext i
  idx_vars i
  pointwise! [PrepIdeal.Gen.k0_pay2]

end Terms

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v44) = PrepIdeal.Value.G5 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v45) = PrepIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v46) = PrepIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v47) = PrepIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v48) = PrepIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v49) = PrepIdeal.Value.G10 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans (held_re _ _ _ _ _), (h c).2.1.trans (held_im _ _ _ _ _),
      (h c).2.2.1.trans ((quot_re _ _ _).trans (loaded_re _ _ _ _ _).symm),
      (h c).2.2.2.1.trans ((quot_im _ _ _).trans (loaded_im _ _ _ _ _).symm),
      (h c).2.2.2.2.1.trans ((matrix_re _ _ _ _).trans (congrArg₂ (fun q r => PrepIdeal.Gen.k0_pay1 q r _ _)
        ((quot_re _ _ _).trans (loaded_re _ _ _ _ _).symm) ((quot_im _ _ _).trans (loaded_im _ _ _ _ _).symm))),
      (h c).2.2.2.2.2.1.trans ((matrix_im _ _ _ _).trans (congrArg₂ (fun q r => PrepIdeal.Gen.k0_pay2 q r _ _)
        ((quot_re _ _ _).trans (loaded_re _ _ _ _ _).symm) ((quot_im _ _ _).trans (loaded_im _ _ _ _ _).symm))),
      (h c).2.2.2.2.2.2⟩)
    (PrepReferenceIdeal.Value.run m ρ)

/-- From equal arguments the two leave the same. -/
theorem value : Cert.algebraic_PrepIdeal_PrepReferenceIdeal := fun m ρ m' ρ' _ h =>
  ⟨_, _, _, _, _, _, PrepIdeal.Value.run m ρ,
    (θ_run _ _ _).mono (fun r hr c => by
      obtain ⟨e₀, e₁, e₂, e₃, e₄⟩ := h c
      obtain ⟨h₀, h₁, h₂, h₃, h₄, h₅, rest⟩ := hr c
      exact ⟨h₀.trans (by rw [e₀, e₁, e₂, e₃, e₄]), h₁.trans (by rw [e₀, e₁, e₂, e₃, e₄]), h₂.trans (by rw [e₀, e₁, e₂, e₃, e₄]),
        h₃.trans (by rw [e₀, e₁, e₂, e₃, e₄]), h₄.trans (by rw [e₀, e₁, e₂, e₃, e₄]), h₅.trans (by rw [e₀, e₁, e₂, e₃, e₄]), rest⟩)
      (run_reference m' ρ')⟩

end Cert.Hold

end
-- ==== Proof.Shift.lean ====
/-
Rows of the sequence: the arrays hold time `512 k + t` in row `8 t + k`. A column shifted by some steps of time, with zeros
shifted in, and how a shift by one reads in the order of rows.
-/
module

public import Idealize.ShloMosaic.Lib.Pointwise

@[expose] public section

noncomputable section

namespace Cert.Shift

/-- The time a row holds, and the row that holds a time. -/
def time (p : Fin 4096) : Fin 4096 := ⟨p.val % 8 * 512 + p.val / 8, by have := p.isLt; omega⟩
def row (s : Fin 4096) : Fin 4096 := ⟨s.val % 512 * 8 + s.val / 512, by have := s.isLt; omega⟩

theorem time_row (s : Fin 4096) : time (row s) = s := by
  have := s.isLt
  apply Fin.ext
  show (s.val % 512 * 8 + s.val / 512) % 8 * 512 + (s.val % 512 * 8 + s.val / 512) / 8 = s.val
  omega

theorem row_time (p : Fin 4096) : row (time p) = p := by
  have := p.isLt
  apply Fin.ext
  show (p.val % 8 * 512 + p.val / 8) % 512 * 8 + (p.val % 8 * 512 + p.val / 8) / 512 = p.val
  omega

/-- Rows and times correspond. -/
def order : Fin 4096 ≃ Fin 4096 := ⟨time, row, row_time, time_row⟩

/-- A column some steps of time earlier, or later; zero beyond either end. -/
def past (k : ℕ) (f : Fin 4096 → EReal) (p : Fin 4096) : EReal :=
  if k ≤ (time p).val then f (row ⟨(time p).val - k, by have := (time p).isLt; omega⟩) else 0
def ahead (k : ℕ) (f : Fin 4096 → EReal) (p : Fin 4096) : EReal :=
  if h : (time p).val + k < 4096 then f (row ⟨(time p).val + k, h⟩) else 0

/-- One step more. -/
theorem past_past (k : ℕ) (f : Fin 4096 → EReal) (p : Fin 4096) : past 1 (past k f) p = past (k + 1) f p := by
  unfold past
  simp only [time_row]
  by_cases h : k + 1 ≤ (time p).val
  · rw [if_pos (by omega), if_pos (by omega), if_pos h]
    exact congrArg (fun s => f (row s)) (Fin.ext (by show (time p).val - 1 - k = (time p).val - (k + 1); omega))
  · rw [if_neg h]
    split_ifs <;> first | rfl | omega

theorem ahead_ahead (k : ℕ) (f : Fin 4096 → EReal) (p : Fin 4096) : ahead 1 (ahead k f) p = ahead (k + 1) f p := by
  unfold ahead
  simp only [time_row]
  by_cases h : (time p).val + (k + 1) < 4096
  · rw [dif_pos (by omega), dif_pos (by omega), dif_pos h]
    exact congrArg (fun s => f (row s)) (Fin.ext (by show (time p).val + 1 + k = (time p).val + (k + 1); omega))
  · rw [dif_neg h]
    split_ifs <;> first | rfl | omega

/-- One step earlier, by rows: eight rows back, and from the first eight rows to the last eight, one row back. -/
theorem past_rows (f : Fin 4096 → EReal) (p : Fin 4096) :
    past 1 f p = if h : p.val < 8 then (if p.val = 0 then 0 else f ⟨4088 + (p.val + 7) % 8, by omega⟩)
      else f ⟨p.val - 8, by have := p.isLt; omega⟩ := by
  have hp := p.isLt
  have ht : (time p).val = p.val % 8 * 512 + p.val / 8 := rfl
  unfold past
  by_cases h : p.val < 8
  · rw [dif_pos h]
    by_cases h0 : p.val = 0
    · rw [if_pos h0, if_neg (by omega)]
    · rw [if_neg h0, if_pos (by omega)]
      refine congrArg f (Fin.ext ?_)
      show ((time p).val - 1) % 512 * 8 + ((time p).val - 1) / 512 = 4088 + (p.val + 7) % 8
      have e : (time p).val = p.val * 512 := by omega
      have e₁ : ((time p).val - 1) / 512 = p.val - 1 := by omega
      have e₂ : (p.val + 7) % 8 = p.val - 1 := by omega
      omega
  · rw [dif_neg h, if_pos (by omega)]
    refine congrArg f (Fin.ext ?_)
    show ((time p).val - 1) % 512 * 8 + ((time p).val - 1) / 512 = p.val - 8
    omega

/-- One step later: eight rows on, and from the last eight rows to the first eight, one row on. -/
theorem ahead_rows (f : Fin 4096 → EReal) (p : Fin 4096) :
    ahead 1 f p = if h : p.val < 4088 then f ⟨p.val + 8, by omega⟩
      else (if p.val - 4088 = 7 then 0 else f ⟨(p.val - 4088 + 1) % 8, by omega⟩) := by
  have hp := p.isLt
  have ht : (time p).val = p.val % 8 * 512 + p.val / 8 := rfl
  unfold ahead
  by_cases h : p.val < 4088
  · rw [dif_pos h, dif_pos (by omega)]
    refine congrArg f (Fin.ext ?_)
    show ((time p).val + 1) % 512 * 8 + ((time p).val + 1) / 512 = p.val + 8
    omega
  · rw [dif_neg h]
    by_cases h0 : p.val - 4088 = 7
    · rw [if_pos h0, dif_neg (by omega)]
    · rw [if_neg h0, dif_pos (by omega)]
      refine congrArg f (Fin.ext ?_)
      show ((time p).val + 1) % 512 * 8 + ((time p).val + 1) / 512 = (p.val - 4088 + 1) % 8
      have e₀ : p.val / 8 = 511 := by omega
      have e : (time p).val = (p.val - 4088) * 512 + 511 := by omega
      have e₁ : ((time p).val + 1) / 512 = p.val - 4088 + 1 := by omega
      have e₂ : (p.val - 4088 + 1) % 8 = p.val - 4088 + 1 := by omega
      omega

/-- A sum over the rows is the sum over the times. -/
theorem sum_order (f : Fin 4096 → EReal) : ∑ p, f p = ∑ s, f (row s) := (Equiv.sum_comp order.symm f).symm

end Cert.Shift

end
-- ==== Proof.Conv.lean ====
/-
The gated short convolution: each point of the kernel forms 128 columns, whose rows it shifts by whole arrays, and the
reference pads the columns in the order of time.
-/
module

public import proofs.«01_k».proof.Defs
public import proofs.«01_k».proof.Proof.Shift
public import proofs.«01_k».proof.Proof.Gen.ConvIdeal.Value
public import proofs.«01_k».proof.Proof.Gen.ConvReferenceIdeal.Run
public import Idealize.ShloMosaic.Lib.Pipeline.Value
public import Idealize.ShloMosaic.Lib.Pointwise

@[expose] public section

set_option maxRecDepth 16384

noncomputable section

namespace Cert.ShortConv

open Idealize.ShloMosaic Idealize.ShloMosaic.TcCoe Idealize.SL.Sem
open Cert.Shift

/-! ## One column -/

/-- The convolution of a column over its time and the two before, and the gate on it. -/
def mix (w₀ w₁ w₂ b : EReal) (h : Fin 4096 → EReal) (p : Fin 4096) : EReal :=
  b + w₀ * past 2 h p + w₁ * past 1 h p + w₂ * h p
def silu (z : EReal) : EReal := z * Ideal.logistic z
def gated (g z o : EReal) : EReal := g * o * silu z

/-- The four quarters of the projection's columns. -/
abbrev col (q : Fin 4) (j : Fin 1024) : Fin 6144 := ⟨q.val * 1024 + j.val, by have := q.isLt; have := j.isLt; omega⟩

section Whole

variable (x : FVec Ideal (⟨2, ![4096, 6144]⟩ : Shape) .f32) (w : FVec Ideal (⟨2, ![8, 1024]⟩ : Shape) .f32)
  (b : FVec Ideal (⟨2, ![1, 1024]⟩ : Shape) .f32)

/-- The column convolved, its convolution, and the result. -/
def product (j : Fin 1024) (p : Fin 4096) : EReal := x (ix2 p (col 1 j)) * x (ix2 p (col 2 j))
def mixed (p : Fin 4096) (j : Fin 1024) : EReal :=
  mix (w (ix2 0 j)) (w (ix2 1 j)) (w (ix2 2 j)) (b (ix2 0 j)) (product x j) p
def result : FVec Ideal (⟨2, ![4096, 1024]⟩ : Shape) .f32 := fun i =>
  gated (x (ix2 (i 0) (col 0 (i 1)))) (x (ix2 (i 0) (col 3 (i 1)))) (mixed x w b (i 0) (i 1))

end Whole

/-! ## The kernel -/

section Kernel

open Cert.ConvIdeal Cert.ConvIdeal.Gen
open Idealize.ShloMosaic.Pipeline (Dat)

/-- The shift by one step, as the kernel forms it. -/
def prev (a : FVec Ideal S4096x128 .f32) : FVec Ideal S4096x128 .f32 :=
  concatenate S4096x128 0
    [⟨S8x128, select (cmpi .eq (iota .tc S8x128 32 [0] iota_S8x128_d0_w32) (broadcast S8x128 0#32))
        (broadcast S8x128 (Scalar.ofBits .f32 0x00000000#32))
        (dynamicRotate 0 1#32 none (extractStridedSlice S8x128 ![4088, 0] a slices_S4096x128_o4088_0_S8x128) rotates_S8x128_d0)⟩,
      ⟨S4088x128, extractStridedSlice S4088x128 ![0, 0] a slices_S4096x128_o0_0_S4088x128⟩]
    concatenates_S8x128_S4088x128_S4096x128_d0

/-- Which of the first eight rows is the first. -/
theorem first_row (n : ℕ) (hn : n < 8) (x y : EReal) :
    Scalar.select (IntOp.cmpi .eq (BitVec.ofNat 32 n) 0#32) x y = if n = 0 then x else y := by
  interval_cases n <;> rfl

theorem prev_apply (a : FVec Ideal S4096x128 .f32) (p : Fin 4096) (l : Fin 128) :
    prev a (ix2 p l) = past 1 (fun q => a (ix2 q l)) p := by
  rw [past_rows]
  pointwise [prev]
  by_cases h : p.val < 8
  · rw [dif_pos h, dif_pos h]
    exact first_row p.val h _ _
  · rw [dif_neg h, dif_neg h]

theorem prev_prev (a : FVec Ideal S4096x128 .f32) (p : Fin 4096) (l : Fin 128) :
    prev (prev a) (ix2 p l) = past 2 (fun q => a (ix2 q l)) p := by
  rw [prev_apply, ← past_past 1]
  exact congrArg (fun f => past 1 f p) (funext fun q => prev_apply a q l)

theorem mixed_block (u v : FVec Ideal S4096x128 .f32) (b w₀ w₁ w₂ : FVec Ideal S1x128 .f32) (p : Fin 4096) (l : Fin 128) :
    k0_pay2 (F := Ideal) u v b w₀ w₁ w₂ (ix2 p l)
      = mix (w₀ (ix2 0 l)) (w₁ (ix2 0 l)) (w₂ (ix2 0 l)) (b (ix2 0 l)) (fun q => u (ix2 q l) * v (ix2 q l)) p := by
  show (addf (addf (addf (broadcastTo S4096x128 b broadcasts_S1x128_S4096x128)
      (mulf (broadcastTo S4096x128 w₀ broadcasts_S1x128_S4096x128) (prev (prev (mulf u v)))))
      (mulf (broadcastTo S4096x128 w₁ broadcasts_S1x128_S4096x128) (prev (mulf u v))))
      (mulf (broadcastTo S4096x128 w₂ broadcasts_S1x128_S4096x128) (mulf u v))) (ix2 p l) = _
  have e := past_past 1 (fun q => u (ix2 q l) * v (ix2 q l)) p
  pointwise [prev_apply]
  unfold mix
  rw [← e]

theorem gated_block (o z g : FVec Ideal S4096x128 .f32) (p : Fin 4096) (l : Fin 128) :
    k0_pay1 (F := Ideal) o z g (ix2 p l) = gated (g (ix2 p l)) (z (ix2 p l)) (o (ix2 p l)) := by
  pointwise [k0_pay1]
  unfold gated silu Ideal.logistic
  rw [sub_eq_add_neg, zero_add]

theorem origin : (![0, 0] : Fin 2 → ℕ) = fun _ => 0 := funext fun a => by fin_cases a <;> rfl

/-- What a point leaves in its block. -/
theorem block (g u v z : Vec Ideal S4096x128 .f32) (w : Vec Ideal S8x128 .f32) (b : Vec Ideal S1x128 .f32) (p : Fin 4096) (l : Fin 128) :
    out0_6 g u v z w b (ix2 p l) = gated (g (ix2 p l)) (z (ix2 p l)) (mix (w (ix2 0 l)) (w (ix2 1 l)) (w (ix2 2 l)) (b (ix2 0 l))
      (fun q => u (ix2 q l) * v (ix2 q l)) p) := by
  unfold out0_6
  rw [View.canon_unit_zero origin, View.ld_unit_zero origin, View.ld_unit_zero origin, View.ld_unit_zero origin,
    View.ld_unit_zero origin, View.ld_unit_zero origin]
  refine (gated_block _ _ _ _ _).trans (congrArg (gated _ _) ((mixed_block _ _ _ _ _ _ _ _).trans ?_))
  pointwise

/-! ### Where a block lies -/

variable (m : (ℓ : Loc nD τ sig) → Buf (Elt Ideal) ℓ) (ρ : Dev nD → PrngReg)

theorem idx_facts : ∀ t : Fin cfg0.N,
    (win0_0.index t (0 : Fin 2) = 0 ∧ win0_0.index t (1 : Fin 2) = 0 * 8 + t.val)
    ∧ (win0_1.index t (0 : Fin 2) = 0 ∧ win0_1.index t (1 : Fin 2) = 1 * 8 + t.val)
    ∧ (win0_2.index t (0 : Fin 2) = 0 ∧ win0_2.index t (1 : Fin 2) = 2 * 8 + t.val)
    ∧ (win0_3.index t (0 : Fin 2) = 0 ∧ win0_3.index t (1 : Fin 2) = 3 * 8 + t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)

/-- Column `l` of point `t`, in the whole arrays. -/
abbrev lane (t : Fin cfg0.N) (l : Fin 128) : Fin 1024 := ⟨t.val * 128 + l.val, by have : t.val < 8 := (t.cast N_0).isLt; have := l.isLt; omega⟩

/-- An element is the one of row `p` and column `j` when its coordinates are. -/
theorem eq_of_coords {n k : ℕ} {z : (⟨2, ![n, k]⟩ : Shape).Idx} {p : Fin n} {j : Fin k} (h0 : (z 0).val = p.val) (h1 : (z 1).val = j.val) :
    z = ix2 p j :=
  funext fun a => match a with
    | ⟨0, _⟩ => Fin.ext h0
    | ⟨1, _⟩ => Fin.ext h1

section Reads

variable (c : Dev nD) (t : Fin cfg0.N) (p : Fin 4096) (l : Fin 128)

theorem read0 : iblk m c 0 t (ix2 p l) = m ((c : Thread nD τ).loc main_arg0) (ix2 p (col 0 (lane t l))) :=
  congrArg (m ((c : Thread nD τ).loc main_arg0)) (eq_of_coords (n := 4096) (k := 6144)
    (by show win0_0.index t (0 : Fin 2) * 4096 + 1 * p.val = p.val; have := (idx_facts t).1; omega)
    (by show win0_0.index t (1 : Fin 2) * 128 + 1 * l.val = 0 * 1024 + (t.val * 128 + l.val); have := (idx_facts t).1; omega))

theorem read1 : iblk m c 1 t (ix2 p l) = m ((c : Thread nD τ).loc main_arg0) (ix2 p (col 1 (lane t l))) :=
  congrArg (m ((c : Thread nD τ).loc main_arg0)) (eq_of_coords (n := 4096) (k := 6144)
    (by show win0_1.index t (0 : Fin 2) * 4096 + 1 * p.val = p.val; have := (idx_facts t).2.1; omega)
    (by show win0_1.index t (1 : Fin 2) * 128 + 1 * l.val = 1 * 1024 + (t.val * 128 + l.val); have := (idx_facts t).2.1; omega))

theorem read2 : iblk m c 2 t (ix2 p l) = m ((c : Thread nD τ).loc main_arg0) (ix2 p (col 2 (lane t l))) :=
  congrArg (m ((c : Thread nD τ).loc main_arg0)) (eq_of_coords (n := 4096) (k := 6144)
    (by show win0_2.index t (0 : Fin 2) * 4096 + 1 * p.val = p.val; have := (idx_facts t).2.2.1; omega)
    (by show win0_2.index t (1 : Fin 2) * 128 + 1 * l.val = 2 * 1024 + (t.val * 128 + l.val); have := (idx_facts t).2.2.1; omega))

theorem read3 : iblk m c 3 t (ix2 p l) = m ((c : Thread nD τ).loc main_arg0) (ix2 p (col 3 (lane t l))) :=
  congrArg (m ((c : Thread nD τ).loc main_arg0)) (eq_of_coords (n := 4096) (k := 6144)
    (by show win0_3.index t (0 : Fin 2) * 4096 + 1 * p.val = p.val; have := (idx_facts t).2.2.2.1; omega)
    (by show win0_3.index t (1 : Fin 2) * 128 + 1 * l.val = 3 * 1024 + (t.val * 128 + l.val); have := (idx_facts t).2.2.2.1; omega))

theorem read4 (k : Fin 8) : iblk m c 4 t (ix2 k l) = m ((c : Thread nD τ).loc main_arg1) (ix2 k (lane t l)) :=
  congrArg (m ((c : Thread nD τ).loc main_arg1)) (eq_of_coords (n := 8) (k := 1024)
    (by show win0_4.index t (0 : Fin 2) * 8 + 1 * k.val = k.val; have := (idx_facts t).2.2.2.2.1; omega)
    (by show win0_4.index t (1 : Fin 2) * 128 + 1 * l.val = t.val * 128 + l.val; have := (idx_facts t).2.2.2.2.1; omega))

theorem read5 (k : Fin 1) : iblk m c 5 t (ix2 k l) = m ((c : Thread nD τ).loc main_arg2) (ix2 k (lane t l)) :=
  congrArg (m ((c : Thread nD τ).loc main_arg2)) (eq_of_coords (n := 1) (k := 1024)
    (by show win0_5.index t (0 : Fin 2) * 1 + 1 * k.val = k.val; have := (idx_facts t).2.2.2.2.2.1; omega)
    (by show win0_5.index t (1 : Fin 2) * 128 + 1 * l.val = t.val * 128 + l.val; have := (idx_facts t).2.2.2.2.2.1; omega))

theorem emb6 : ((cfg0.win 6).blk t).view.emb (ix2 p l) = ix2 p (lane t l) :=
  eq_of_coords (n := 4096) (k := 1024)
    (by show win0_6.index t (0 : Fin 2) * 4096 + 1 * p.val = p.val; have := (idx_facts t).2.2.2.2.2.2; omega)
    (by show win0_6.index t (1 : Fin 2) * 128 + 1 * l.val = t.val * 128 + l.val; have := (idx_facts t).2.2.2.2.2.2; omega)

end Reads

/-! ### The array -/

abbrev all (c : Dev nD) : FVec Ideal S4096x1024 .f32 :=
  result (m ((c : Thread nD τ).loc main_arg0)) (m ((c : Thread nD τ).loc main_arg1)) (m ((c : Thread nD τ).loc main_arg2))

theorem final (c : Dev nD) : (dats m 0 c).arrAt 6 cfg0.N = all m c := by
  refine (dats m 0 c).arrAt_eq_of_cover 6 (all m c) (fun t _ => ?_) fun i => ?_
  · show (cfg0.win 6).cut (grid0.coords t) ((dats m 0 c).after 6 t) = _
    rw [after0_6]
    funext y
    obtain ⟨p, l, rfl⟩ : ∃ (p : Fin 4096) (l : Fin 128), y = ix2 p l := ⟨y 0, y 1, eq_ix2 y⟩
    show out0_6 (iblk m c 0 t) (iblk m c 1 t) (iblk m c 2 t) (iblk m c 3 t) (iblk m c 4 t) (iblk m c 5 t) (ix2 p l)
      = all m c (((cfg0.win 6).blk t).view.emb (ix2 p l))
    refine ((block _ _ _ _ _ _ p l).trans ?_).trans (congrArg (all m c) (emb6 t p l)).symm
    rw [read0, read3, read4, read4, read4, read5]
    refine congrArg (fun h => gated _ _ (mix _ _ _ _ h p)) (funext fun q => ?_)
    exact congrArg₂ (· * ·) (read1 m c t q l) (read2 m c t q l)
  · obtain ⟨p, j, rfl⟩ : ∃ (p : Fin 4096) (j : Fin 1024), i = ix2 p j := ⟨i 0, i 1, eq_ix2 i⟩
    have hj := j.isLt
    let t : Fin cfg0.N := (⟨j.val / 128, by omega⟩ : Fin 8).cast N_0.symm
    let l : Fin 128 := ⟨j.val % 128, by omega⟩
    have e : lane t l = j := Fin.ext (by show j.val / 128 * 128 + j.val % 128 = j.val; omega)
    refine ⟨t, flush0_6 t, ?_⟩
    have h := ((cfg0.win 6).blk t).view.emb_mem_set (ix2 p l)
    rwa [emb6, e] at h

theorem run_kernel : θ_run defs (onTc (τ := τ) (main (F := Ideal))) ⟨m, fun _ => 0, ρ⟩ fun r => ∀ c : Dev nD,
      r.2.mem ((c : Thread nD τ).loc main_v0) = all m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (ConvIdeal.Value.run_blocks m ρ)

end Kernel

/-! ## The reference -/

section Reference

open Cert.ConvReferenceIdeal Cert.ConvReferenceIdeal.Gen

/-- Rows into the order of time, and back. -/
def timed (x : FVec Ideal S4096x6144 .f32) : FVec Ideal S4096x6144 .f32 :=
  shapeCast _ (transpose S8x512x6144 [1, 0, 2] (shapeCast _ x shapeCasts_S4096x6144_S512x8x6144) transposes_S512x8x6144_S8x512x6144_1_0_2)
    shapeCasts_S8x512x6144_S4096x6144
def ordered (y : FVec Ideal S4096x1024 .f32) : FVec Ideal S4096x1024 .f32 :=
  shapeCast _ (transpose S512x8x1024 [1, 0, 2] (shapeCast _ y shapeCasts_S4096x1024_S8x512x1024) transposes_S8x512x1024_S512x8x1024_1_0_2)
    shapeCasts_S512x8x1024_S4096x1024

theorem timed_apply (x : FVec Ideal S4096x6144 .f32) (s : Fin 4096) (n : Fin 6144) : timed x (ix2 s n) = x (ix2 (row s) n) := by
  pointwise [timed]
  rfl

theorem ordered_apply (y : FVec Ideal S4096x1024 .f32) (p : Fin 4096) (j : Fin 1024) : ordered y (ix2 p j) = y (ix2 (time p) j) := by
  pointwise [ordered]
  rfl

section Terms

variable (x : FVec Ideal S4096x6144 .f32) (w : FVec Ideal S8x1024 .f32) (b : FVec Ideal S1x1024 .f32)

/-- What the reference composes, in the order of time: the quarters, the column padded, its convolution, the gate. -/
abbrev first : FVec Ideal S4096x4096 .f32 := extractStridedSlice S4096x4096 ![0, 0] (timed x) slices_S4096x6144_S4096x4096_0_0
abbrev quarter0 : FVec Ideal S4096x1024 .f32 := extractStridedSlice S4096x1024 ![0, 0] (first x) slices_S4096x4096_S4096x1024_0_0
abbrev quarter1 : FVec Ideal S4096x1024 .f32 := extractStridedSlice S4096x1024 ![0, 1024] (first x) slices_S4096x4096_S4096x1024_0_1024
abbrev quarter2 : FVec Ideal S4096x1024 .f32 := extractStridedSlice S4096x1024 ![0, 2048] (first x) slices_S4096x4096_S4096x1024_0_2048
abbrev quarter3 : FVec Ideal S4096x1024 .f32 := extractStridedSlice S4096x1024 ![0, 3072] (first x) slices_S4096x4096_S4096x1024_0_3072

/-- The columns with two rows of zeros before them. -/
def padded (h : FVec Ideal S4096x1024 .f32) : FVec Ideal S4098x1024 .f32 :=
  pad S4098x1024 ![2, 0] ![0, 0] ![0, 0] h (sitofp .f32 (constantI S_ 32 0#32)) pads_S4096x1024_S4098x1024_200_000 h_S_

abbrev line (u : FVec Ideal S1x1024 .f32) : FVec Ideal S4096x1024 .f32 :=
  broadcastInDim S4096x1024 ![0, 1] bcast_S1x1024_S4096x1024_0_1
    (broadcastInDim S1x1024 ![1] bcast_S1024_S1x1024_1 (shapeCast _ u shapeCasts_S1x1024_S1024))

def convolved (h : FVec Ideal S4096x1024 .f32) : FVec Ideal S4096x1024 .f32 :=
  addf (addf (addf (broadcastInDim S4096x1024 ![0, 1] bcast_S1x1024_S4096x1024_0_1 b)
    (mulf (line (extractStridedSlice S1x1024 ![0, 0] w slices_S8x1024_S1x1024_0_0))
      (extractStridedSlice S4096x1024 ![0, 0] (padded h) slices_S4098x1024_S4096x1024_0_0)))
    (mulf (line (extractStridedSlice S1x1024 ![1, 0] w slices_S8x1024_S1x1024_1_0))
      (extractStridedSlice S4096x1024 ![1, 0] (padded h) slices_S4098x1024_S4096x1024_1_0)))
    (mulf (line (extractStridedSlice S1x1024 ![2, 0] w slices_S8x1024_S1x1024_2_0))
      (extractStridedSlice S4096x1024 ![2, 0] (padded h) slices_S4098x1024_S4096x1024_2_0))

abbrev ones : FVec Ideal S4096x1024 .f32 := broadcastInDim S4096x1024 ![] bcast_S_S4096x1024 (constant S_ .f32 0x3F800000#32)
abbrev composed : FVec Ideal S4096x1024 .f32 :=
  ordered (mulf (mulf (quarter0 x) (convolved w b (mulf (quarter1 x) (quarter2 x))))
    (mulf (quarter3 x) (Host.divf ones (addf ones (Host.exp (Host.negf (quarter3 x)))))))

theorem zero_word : (FloatOps.sitofp FTy.f32 0#32 : Ideal FTy.f32) = (0 : EReal) := by
  show (((0#32 : BitVec 32).toInt : ℝ) : EReal) = 0
  simp

/-- The padded column at a time, two rows on: the column some steps earlier. -/
theorem padded_apply (h : FVec Ideal S4096x1024 .f32) (f : Fin 4096 → EReal) (j : Fin 1024) (hf : ∀ s, h (ix2 s j) = f (row s))
    (p : Fin 4096) (k : ℕ) (hk : k ≤ 2) (n : Fin 4098) (hn : n.val = 2 - k + (time p).val) : padded h (ix2 n j) = past k f p := by
  have ht := (time p).isLt
  unfold past
  pointwise [padded]
  by_cases hc : k ≤ (time p).val
  · rw [dif_pos (by omega), if_pos hc]
    refine (congrArg (fun s => h (ix2 s j)) (Fin.ext ?_)).trans (hf ⟨(time p).val - k, by omega⟩)
    show n.val - 2 = (time p).val - k
    omega
  · rw [dif_neg (by omega), if_neg hc]
    exact zero_word

theorem past_zero (f : Fin 4096 → EReal) (p : Fin 4096) : past 0 f p = f p :=
  (if_pos (Nat.zero_le _)).trans (congrArg f (row_time p))

theorem convolved_apply (h : FVec Ideal S4096x1024 .f32) (f : Fin 4096 → EReal) (j : Fin 1024) (hf : ∀ s, h (ix2 s j) = f (row s))
    (p : Fin 4096) : convolved w b h (ix2 (time p) j) = mix (w (ix2 0 j)) (w (ix2 1 j)) (w (ix2 2 j)) (b (ix2 0 j)) f p := by
  have ht := (time p).isLt
  have e₀ := padded_apply h f j hf p 2 le_rfl ⟨(time p).val, by omega⟩ (by show (time p).val = 2 - 2 + (time p).val; omega)
  have e₁ := padded_apply h f j hf p 1 (by omega) ⟨1 + (time p).val, by omega⟩ rfl
  have e₂ := padded_apply h f j hf p 0 (by omega) ⟨2 + (time p).val, by omega⟩ rfl
  rw [past_zero] at e₂
  pointwise [convolved]
  rw [e₀, e₁, e₂]
  rfl

theorem composed_eq : composed x w b = result x w b := by
  funext i
  idx_vars i
  have e := convolved_apply w b (mulf (quarter1 x) (quarter2 x)) (product x i1) i1
    (fun s => by pointwise [timed_apply]; rfl) i0
  refine (ordered_apply _ _ _).trans ?_
  have c : (⟨i1.val, by have := i1.isLt; omega⟩ : Fin 6144) = col 0 i1 :=
    Fin.ext (by show i1.val = 0 * 1024 + i1.val; omega)
  pointwise [timed_apply, row_time]
  rw [e, c]
  rfl

end Terms

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v43)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (composed_eq _ _ _), (h c).2⟩) (ConvReferenceIdeal.Value.run m ρ)

end Reference

/-- From equal arguments the two leave the same. -/
theorem value : Cert.algebraic_ConvIdeal_ConvReferenceIdeal := fun m ρ m' ρ' _ h =>
  ⟨fun c => all m c, run_kernel m ρ,
    (θ_run _ _ _).mono (fun r hr c => by
      obtain ⟨e₀, e₁, e₂⟩ := h c
      exact ⟨(hr c).1.trans (by rw [e₀, e₁, e₂]), (hr c).2⟩)
      (run_reference m' ρ')⟩

end Cert.ShortConv

end
-- ==== Proof.ConvBack.lean ====
/-
The gated short convolution backward: from the cotangent of the gated column, the cotangents of its four quarters, of the
bias, and of the three weights.
-/
module

public import proofs.«01_k».proof.Defs
public import proofs.«01_k».proof.Proof.Conv
public import proofs.«01_k».proof.Proof.Gen.ConvBackIdeal.Value
public import proofs.«01_k».proof.Proof.Gen.ConvBackReferenceIdeal.Run
public import Idealize.ShloMosaic.Lib.Pipeline.Value
public import Idealize.ShloMosaic.Lib.Pointwise

@[expose] public section

set_option maxRecDepth 16384

noncomputable section

namespace Cert.ShortConvBack

open Idealize.ShloMosaic Idealize.ShloMosaic.TcCoe Idealize.SL.Sem
open Cert.Shift
open Cert.ShortConv (mix silu col product mixed)

/-! ## One column -/

/-- The cotangent of the convolution, from that of the gated column. -/
def turn (g z y : EReal) : EReal := y * silu z * g
/-- The derivative of `silu`. -/
def slope (z : EReal) : EReal := Ideal.logistic z * (1 + z * (1 - Ideal.logistic z))
/-- The convolution's adjoint: each time's cotangent goes to that time and the two before. -/
def spread (w₀ w₁ w₂ : EReal) (d : Fin 4096 → EReal) (p : Fin 4096) : EReal :=
  w₂ * d p + w₁ * ahead 1 d p + w₀ * ahead 2 d p
/-- The weights' cotangents: the column at each distance against the convolution's cotangent; five rows hold none. -/
def taps (d h : Fin 4096 → EReal) (k : Fin 8) : EReal :=
  if k.val < 1 then ∑ p, d p * past 2 h p else if k.val < 2 then ∑ p, d p * past 1 h p
    else if k.val < 3 then ∑ p, d p * h p else 0

section Whole

variable (x : FVec Ideal (⟨2, ![4096, 6144]⟩ : Shape) .f32) (y : FVec Ideal (⟨2, ![4096, 1024]⟩ : Shape) .f32)
  (w : FVec Ideal (⟨2, ![8, 1024]⟩ : Shape) .f32) (b : FVec Ideal (⟨2, ![1, 1024]⟩ : Shape) .f32)

def back (j : Fin 1024) (p : Fin 4096) : EReal := turn (x (ix2 p (col 0 j))) (x (ix2 p (col 3 j))) (y (ix2 p j))
def spreadAt (p : Fin 4096) (j : Fin 1024) : EReal := spread (w (ix2 0 j)) (w (ix2 1 j)) (w (ix2 2 j)) (back x y j) p

/-- The six results. -/
def dGate : FVec Ideal (⟨2, ![4096, 1024]⟩ : Shape) .bf16 := fun i =>
  y (ix2 (i 0) (i 1)) * silu (x (ix2 (i 0) (col 3 (i 1)))) * mixed x w b (i 0) (i 1)
def dLeft : FVec Ideal (⟨2, ![4096, 1024]⟩ : Shape) .bf16 := fun i => spreadAt x y w (i 0) (i 1) * x (ix2 (i 0) (col 2 (i 1)))
def dRight : FVec Ideal (⟨2, ![4096, 1024]⟩ : Shape) .bf16 := fun i => spreadAt x y w (i 0) (i 1) * x (ix2 (i 0) (col 1 (i 1)))
def dSilu : FVec Ideal (⟨2, ![4096, 1024]⟩ : Shape) .bf16 := fun i =>
  y (ix2 (i 0) (i 1)) * x (ix2 (i 0) (col 0 (i 1))) * mixed x w b (i 0) (i 1) * slope (x (ix2 (i 0) (col 3 (i 1))))
def dBias : FVec Ideal (⟨2, ![1, 1024]⟩ : Shape) .f32 := fun i => ∑ p, back x y (i 1) p
def dTaps : FVec Ideal (⟨2, ![8, 1024]⟩ : Shape) .f32 := fun i => taps (back x y (i 1)) (product x (i 1)) (i 0)

end Whole

/-! ## The kernel -/

section Kernel

open Cert.ConvBackIdeal Cert.ConvBackIdeal.Gen
open Cert.ShortConv (prev prev_apply prev_prev origin eq_of_coords)
open Idealize.ShloMosaic.Pipeline (Dat)

/-- The shift by one step the other way, as the kernel forms it: the last eight rows, and the whole. -/
def tail (a : FVec Ideal S4096x128 .f32) : FVec Ideal S8x128 .f32 :=
  select (cmpi .eq (iota .tc S8x128 32 [0] iota_S8x128_d0_w32) (broadcast S8x128 7#32))
    (broadcast S8x128 (Scalar.ofBits .f32 0x00000000#32))
    (dynamicRotate 0 7#32 none (extractStridedSlice S8x128 ![0, 0] a slices_S4096x128_o0_0_S8x128) rotates_S8x128_d0)
def next (a : FVec Ideal S4096x128 .f32) : FVec Ideal S4096x128 .f32 :=
  concatenate S4096x128 0
    [⟨S4088x128, extractStridedSlice S4088x128 ![8, 0] a slices_S4096x128_o8_0_S4088x128⟩, ⟨S8x128, tail a⟩]
    concatenates_S4088x128_S8x128_S4096x128_d0

/-- Which of the last eight rows is the last. -/
theorem last_row (n : ℕ) (hn : n < 8) (x y : EReal) :
    Scalar.select (IntOp.cmpi .eq (BitVec.ofNat 32 n) 7#32) x y = if n = 7 then x else y := by
  interval_cases n <;> rfl

theorem tail_apply (a : FVec Ideal S4096x128 .f32) (k : Fin 8) (l : Fin 128) :
    tail a (ix2 k l) = if k.val = 7 then 0 else a (ix2 ⟨(k.val + 1) % 8, by omega⟩ l) := by
  pointwise [tail]
  exact last_row k.val k.isLt _ _

theorem next_apply (a : FVec Ideal S4096x128 .f32) (p : Fin 4096) (l : Fin 128) :
    next a (ix2 p l) = ahead 1 (fun q => a (ix2 q l)) p := by
  have hp := p.isLt
  refine Eq.trans ?_ (ahead_rows (fun q => a (ix2 q l)) p).symm
  pointwise [next]
  by_cases h : p.val < 4088
  · rw [dif_pos h, dif_pos h]
    exact congrArg (fun q => a (ix2 q l)) (Fin.ext (by show 8 + p.val = p.val + 8; omega))
  · rw [dif_neg h, dif_neg h]
    exact tail_apply a ⟨p.val - 4088, by omega⟩ l

theorem next_next (a : FVec Ideal S4096x128 .f32) (p : Fin 4096) (l : Fin 128) :
    next (next a) (ix2 p l) = ahead 2 (fun q => a (ix2 q l)) p := by
  rw [next_apply, ← ahead_ahead 1]
  exact congrArg (fun f => ahead 1 f p) (funext fun q => next_apply a q l)

theorem turn_block (g z y : FVec Ideal S4096x128 .f32) (p : Fin 4096) (l : Fin 128) :
    k0_pay12 (F := Ideal) g z y (ix2 p l) = turn (g (ix2 p l)) (z (ix2 p l)) (y (ix2 p l)) := by
  pointwise [k0_pay12, k0_pay11, k0_pay10]
  unfold turn silu Ideal.logistic
  rw [sub_eq_add_neg, zero_add]

theorem mixed_block (u v : FVec Ideal S4096x128 .f32) (b w₀ w₁ w₂ : FVec Ideal S1x128 .f32) (p : Fin 4096) (l : Fin 128) :
    k0_pay9 (F := Ideal) u v w₀ w₁ w₂ b (ix2 p l)
      = mix (w₀ (ix2 0 l)) (w₁ (ix2 0 l)) (w₂ (ix2 0 l)) (b (ix2 0 l)) (fun q => u (ix2 q l) * v (ix2 q l)) p :=
  Cert.ShortConv.mixed_block u v b w₀ w₁ w₂ p l

theorem spread_block (g z y : FVec Ideal S4096x128 .f32) (w₀ w₁ w₂ : FVec Ideal S1x128 .f32) (p : Fin 4096) (l : Fin 128) :
    k0_pay1 (F := Ideal) w₀ w₁ w₂ (k0_pay12 g z y) (k0_pay15 g z y) (k0_pay16 g z y) (ix2 p l)
      = spread (w₀ (ix2 0 l)) (w₁ (ix2 0 l)) (w₂ (ix2 0 l)) (fun q => turn (g (ix2 q l)) (z (ix2 q l)) (y (ix2 q l))) p := by
  show (addf (addf
      (mulf (broadcastTo S4096x128 w₂ broadcasts_S1x128_S4096x128) (k0_pay12 g z y))
      (mulf (broadcastTo S4096x128 w₁ broadcasts_S1x128_S4096x128) (next (k0_pay12 g z y))))
      (mulf (broadcastTo S4096x128 w₀ broadcasts_S1x128_S4096x128) (next (next (k0_pay12 g z y))))) (ix2 p l) = _
  have e : (fun q => k0_pay12 (F := Ideal) g z y (ix2 q l)) = fun q => turn (g (ix2 q l)) (z (ix2 q l)) (y (ix2 q l)) :=
    funext fun q => turn_block g z y q l
  have e₁ := next_apply (k0_pay12 (F := Ideal) g z y) p l
  have e₂ := next_next (k0_pay12 (F := Ideal) g z y) p l
  have e₀ := turn_block g z y p l
  rw [e] at e₁ e₂
  generalize k0_pay12 (F := Ideal) g z y = d at e₀ e₁ e₂ ⊢
  generalize next d = d₁ at e₁ e₂ ⊢
  generalize next d₁ = d₂ at e₂ ⊢
  pointwise
  rw [e₀, e₁, e₂]
  rfl

/-! ### What a point leaves in its blocks -/

section Block

variable (g u v z y : Vec Ideal S4096x128 .f32) (w : Vec Ideal S8x128 .f32) (b : Vec Ideal S1x128 .f32) (p : Fin 4096) (l : Fin 128)

/-- A column of the blocks. -/
abbrev backCol : Fin 4096 → EReal := fun q => turn (g (ix2 q l)) (z (ix2 q l)) (y (ix2 q l))
abbrev productCol : Fin 4096 → EReal := fun q => u (ix2 q l) * v (ix2 q l)

/-- The three rows of weights, as read. -/
theorem weight0 : View.ld w r0_1 (ix2 0 l) = w (ix2 0 l) := by pointwise
theorem weight1 : View.ld w r0_2 (ix2 0 l) = w (ix2 1 l) := by pointwise
theorem weight2 : View.ld w r0_3 (ix2 0 l) = w (ix2 2 l) := by pointwise

theorem mixed_out : k0_pay17 g u v z y w b (ix2 p l)
    = mix (w (ix2 0 l)) (w (ix2 1 l)) (w (ix2 2 l)) (b (ix2 0 l)) (productCol u v l) p := by
  unfold k0_pay17
  rw [View.ld_unit_zero origin, View.ld_unit_zero origin, View.ld_unit_zero origin, mixed_block, weight0, weight1, weight2]

theorem turn_out : k0_pay18 g u v z y w b (ix2 p l) = turn (g (ix2 p l)) (z (ix2 p l)) (y (ix2 p l)) := by
  unfold k0_pay18
  rw [View.ld_unit_zero origin, View.ld_unit_zero origin, View.ld_unit_zero origin, turn_block]

theorem spread_out : k0_pay1 (View.ld w r0_1) (View.ld w r0_2) (View.ld w r0_3) (k0_pay18 g u v z y w b) (k0_pay19 g u v z y w b)
      (k0_pay20 g u v z y w b) (ix2 p l)
    = spread (w (ix2 0 l)) (w (ix2 1 l)) (w (ix2 2 l)) (backCol g z y l) p := by
  unfold k0_pay18 k0_pay19 k0_pay20
  rw [View.ld_unit_zero origin, View.ld_unit_zero origin, View.ld_unit_zero origin, spread_block, weight0, weight1, weight2]

theorem gate_block : out0_7 g u v z y w b (ix2 p l) = y (ix2 p l) * silu (z (ix2 p l))
    * mix (w (ix2 0 l)) (w (ix2 1 l)) (w (ix2 2 l)) (b (ix2 0 l)) (productCol u v l) p := by
  have e := mixed_out g u v z y w b p l
  unfold out0_7
  rw [View.canon_unit_zero origin, View.ld_unit_zero origin, View.ld_unit_zero origin]
  generalize k0_pay17 g u v z y w b = o at e ⊢
  pointwise [k0_pay13, k0_pay11, k0_pay10]
  rw [e]
  unfold silu Ideal.logistic
  rw [sub_eq_add_neg, zero_add]

theorem silu_block : out0_10 g u v z y w b (ix2 p l) = y (ix2 p l) * g (ix2 p l)
    * mix (w (ix2 0 l)) (w (ix2 1 l)) (w (ix2 2 l)) (b (ix2 0 l)) (productCol u v l) p * slope (z (ix2 p l)) := by
  have e := mixed_out g u v z y w b p l
  unfold out0_10
  rw [View.canon_unit_zero origin, View.ld_unit_zero origin, View.ld_unit_zero origin, View.ld_unit_zero origin]
  generalize k0_pay17 g u v z y w b = o at e ⊢
  pointwise [k0_pay14, k0_pay10]
  rw [e]
  unfold slope Ideal.logistic
  rw [show (0 : EReal) - z (ix2 p l) = -z (ix2 p l) by rw [sub_eq_add_neg, zero_add]]

theorem left_block : out0_8 g u v z y w b (ix2 p l)
    = spread (w (ix2 0 l)) (w (ix2 1 l)) (w (ix2 2 l)) (backCol g z y l) p * v (ix2 p l) := by
  unfold out0_8
  rw [View.canon_unit_zero origin, View.ld_unit_zero (X := v) origin]
  exact congrArg (· * v (ix2 p l)) (spread_out g u v z y w b p l)

theorem right_block : out0_9 g u v z y w b (ix2 p l)
    = spread (w (ix2 0 l)) (w (ix2 1 l)) (w (ix2 2 l)) (backCol g z y l) p * u (ix2 p l) := by
  unfold out0_9
  rw [View.canon_unit_zero origin, View.ld_unit_zero (X := u) origin]
  exact congrArg (· * u (ix2 p l)) (spread_out g u v z y w b p l)

theorem bias_block (k : Fin 1) : out0_11 g u v z y w b (ix2 k l) = ∑ q, backCol g z y l q := by
  have e := fun q => turn_out g u v z y w b q l
  unfold out0_11
  rw [View.canon_unit_zero origin]
  generalize k0_pay18 g u v z y w b = d at e ⊢
  pointwise [k0_pay4]
  exact Finset.sum_congr rfl fun q _ => e q

theorem taps_block (k : Fin 8) : out0_12 g u v z y w b (ix2 k l) = taps (backCol g z y l) (productCol u v l) k := by
  have e := fun q => turn_out g u v z y w b q l
  have e₁ : ∀ q, prev (mulf u v) (ix2 q l) = past 1 (productCol u v l) q := fun q => prev_apply (mulf u v) q l
  have e₂ : ∀ q, prev (prev (mulf u v)) (ix2 q l) = past 2 (productCol u v l) q := fun q => prev_prev (mulf u v) q l
  unfold out0_12
  rw [View.canon_unit_zero origin, View.ld_unit_zero origin, View.ld_unit_zero origin]
  show k0_pay5 (F := Ideal) (mulf u v) (prev (mulf u v)) (prev (prev (mulf u v))) _ _ = _
  generalize k0_pay18 g u v z y w b = d at e ⊢
  generalize prev (mulf u v) = a at e₁ e₂ ⊢
  generalize prev a = a' at e₂ ⊢
  pointwise [k0_pay5]
  simp only [e, e₁, e₂]
  unfold taps
  split_ifs <;> first | rfl | omega

end Block

/-! ### Where a block lies -/

variable (m : (ℓ : Loc nD τ sig) → Buf (Elt Ideal) ℓ) (ρ : Dev nD → PrngReg)

theorem idx_facts : ∀ t : Fin cfg0.N,
    (win0_0.index t (0 : Fin 2) = 0 ∧ win0_0.index t (1 : Fin 2) = 0 * 8 + t.val)
    ∧ (win0_1.index t (0 : Fin 2) = 0 ∧ win0_1.index t (1 : Fin 2) = 1 * 8 + t.val)
    ∧ (win0_2.index t (0 : Fin 2) = 0 ∧ win0_2.index t (1 : Fin 2) = 2 * 8 + t.val)
    ∧ (win0_3.index t (0 : Fin 2) = 0 ∧ win0_3.index t (1 : Fin 2) = 3 * 8 + t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = t.val)
    ∧ (win0_8.index t (0 : Fin 2) = 0 ∧ win0_8.index t (1 : Fin 2) = t.val)
    ∧ (win0_9.index t (0 : Fin 2) = 0 ∧ win0_9.index t (1 : Fin 2) = t.val)
    ∧ (win0_10.index t (0 : Fin 2) = 0 ∧ win0_10.index t (1 : Fin 2) = t.val)
    ∧ (win0_11.index t (0 : Fin 2) = 0 ∧ win0_11.index t (1 : Fin 2) = t.val)
    ∧ (win0_12.index t (0 : Fin 2) = 0 ∧ win0_12.index t (1 : Fin 2) = t.val) :=
  (by decide +kernel : ∀ t : Fin grid0.N, _)

/-- Column `l` of point `t`, in the whole arrays. -/
abbrev lane (t : Fin cfg0.N) (l : Fin 128) : Fin 1024 := ⟨t.val * 128 + l.val, by have : t.val < 8 := (t.cast N_0).isLt; have := l.isLt; omega⟩

section Reads

variable (c : Dev nD) (t : Fin cfg0.N) (p : Fin 4096) (l : Fin 128)

theorem read0 : iblk m c 0 t (ix2 p l) = m ((c : Thread nD τ).loc main_arg0) (ix2 p (col 0 (lane t l))) :=
  congrArg (m ((c : Thread nD τ).loc main_arg0)) (eq_of_coords (n := 4096) (k := 6144)
    (by show win0_0.index t (0 : Fin 2) * 4096 + 1 * p.val = p.val; have := (idx_facts t).1; omega)
    (by show win0_0.index t (1 : Fin 2) * 128 + 1 * l.val = 0 * 1024 + (t.val * 128 + l.val); have := (idx_facts t).1; omega))

theorem read1 : iblk m c 1 t (ix2 p l) = m ((c : Thread nD τ).loc main_arg0) (ix2 p (col 1 (lane t l))) :=
  congrArg (m ((c : Thread nD τ).loc main_arg0)) (eq_of_coords (n := 4096) (k := 6144)
    (by show win0_1.index t (0 : Fin 2) * 4096 + 1 * p.val = p.val; have := (idx_facts t).2.1; omega)
    (by show win0_1.index t (1 : Fin 2) * 128 + 1 * l.val = 1 * 1024 + (t.val * 128 + l.val); have := (idx_facts t).2.1; omega))

theorem read2 : iblk m c 2 t (ix2 p l) = m ((c : Thread nD τ).loc main_arg0) (ix2 p (col 2 (lane t l))) :=
  congrArg (m ((c : Thread nD τ).loc main_arg0)) (eq_of_coords (n := 4096) (k := 6144)
    (by show win0_2.index t (0 : Fin 2) * 4096 + 1 * p.val = p.val; have := (idx_facts t).2.2.1; omega)
    (by show win0_2.index t (1 : Fin 2) * 128 + 1 * l.val = 2 * 1024 + (t.val * 128 + l.val); have := (idx_facts t).2.2.1; omega))

theorem read3 : iblk m c 3 t (ix2 p l) = m ((c : Thread nD τ).loc main_arg0) (ix2 p (col 3 (lane t l))) :=
  congrArg (m ((c : Thread nD τ).loc main_arg0)) (eq_of_coords (n := 4096) (k := 6144)
    (by show win0_3.index t (0 : Fin 2) * 4096 + 1 * p.val = p.val; have := (idx_facts t).2.2.2.1; omega)
    (by show win0_3.index t (1 : Fin 2) * 128 + 1 * l.val = 3 * 1024 + (t.val * 128 + l.val); have := (idx_facts t).2.2.2.1; omega))

theorem read4 : iblk m c 4 t (ix2 p l) = m ((c : Thread nD τ).loc main_arg1) (ix2 p (lane t l)) :=
  congrArg (m ((c : Thread nD τ).loc main_arg1)) (eq_of_coords (n := 4096) (k := 1024)
    (by show win0_4.index t (0 : Fin 2) * 4096 + 1 * p.val = p.val; have := (idx_facts t).2.2.2.2.1; omega)
    (by show win0_4.index t (1 : Fin 2) * 128 + 1 * l.val = t.val * 128 + l.val; have := (idx_facts t).2.2.2.2.1; omega))

theorem read5 (k : Fin 8) : iblk m c 5 t (ix2 k l) = m ((c : Thread nD τ).loc main_arg2) (ix2 k (lane t l)) :=
  congrArg (m ((c : Thread nD τ).loc main_arg2)) (eq_of_coords (n := 8) (k := 1024)
    (by show win0_5.index t (0 : Fin 2) * 8 + 1 * k.val = k.val; have := (idx_facts t).2.2.2.2.2.1; omega)
    (by show win0_5.index t (1 : Fin 2) * 128 + 1 * l.val = t.val * 128 + l.val; have := (idx_facts t).2.2.2.2.2.1; omega))

theorem read6 (k : Fin 1) : iblk m c 6 t (ix2 k l) = m ((c : Thread nD τ).loc main_arg3) (ix2 k (lane t l)) :=
  congrArg (m ((c : Thread nD τ).loc main_arg3)) (eq_of_coords (n := 1) (k := 1024)
    (by show win0_6.index t (0 : Fin 2) * 1 + 1 * k.val = k.val; have := (idx_facts t).2.2.2.2.2.2.1; omega)
    (by show win0_6.index t (1 : Fin 2) * 128 + 1 * l.val = t.val * 128 + l.val; have := (idx_facts t).2.2.2.2.2.2.1; omega))

theorem emb7 : ((cfg0.win 7).blk t).view.emb (ix2 p l) = ix2 p (lane t l) :=
  eq_of_coords (n := 4096) (k := 1024)
    (by show win0_7.index t (0 : Fin 2) * 4096 + 1 * p.val = p.val; have := (idx_facts t).2.2.2.2.2.2.2.1; omega)
    (by show win0_7.index t (1 : Fin 2) * 128 + 1 * l.val = t.val * 128 + l.val; have := (idx_facts t).2.2.2.2.2.2.2.1; omega)

theorem emb8 : ((cfg0.win 8).blk t).view.emb (ix2 p l) = ix2 p (lane t l) :=
  eq_of_coords (n := 4096) (k := 1024)
    (by show win0_8.index t (0 : Fin 2) * 4096 + 1 * p.val = p.val; have := (idx_facts t).2.2.2.2.2.2.2.2.1; omega)
    (by show win0_8.index t (1 : Fin 2) * 128 + 1 * l.val = t.val * 128 + l.val; have := (idx_facts t).2.2.2.2.2.2.2.2.1; omega)

theorem emb9 : ((cfg0.win 9).blk t).view.emb (ix2 p l) = ix2 p (lane t l) :=
  eq_of_coords (n := 4096) (k := 1024)
    (by show win0_9.index t (0 : Fin 2) * 4096 + 1 * p.val = p.val; have := (idx_facts t).2.2.2.2.2.2.2.2.2.1; omega)
    (by show win0_9.index t (1 : Fin 2) * 128 + 1 * l.val = t.val * 128 + l.val; have := (idx_facts t).2.2.2.2.2.2.2.2.2.1; omega)

theorem emb10 : ((cfg0.win 10).blk t).view.emb (ix2 p l) = ix2 p (lane t l) :=
  eq_of_coords (n := 4096) (k := 1024)
    (by show win0_10.index t (0 : Fin 2) * 4096 + 1 * p.val = p.val; have := (idx_facts t).2.2.2.2.2.2.2.2.2.2.1; omega)
    (by show win0_10.index t (1 : Fin 2) * 128 + 1 * l.val = t.val * 128 + l.val; have := (idx_facts t).2.2.2.2.2.2.2.2.2.2.1; omega)

theorem emb11 (k : Fin 1) : ((cfg0.win 11).blk t).view.emb (ix2 k l) = ix2 k (lane t l) :=
  eq_of_coords (n := 1) (k := 1024)
    (by show win0_11.index t (0 : Fin 2) * 1 + 1 * k.val = k.val; have := (idx_facts t).2.2.2.2.2.2.2.2.2.2.2.1; omega)
    (by show win0_11.index t (1 : Fin 2) * 128 + 1 * l.val = t.val * 128 + l.val; have := (idx_facts t).2.2.2.2.2.2.2.2.2.2.2.1; omega)

theorem emb12 (k : Fin 8) : ((cfg0.win 12).blk t).view.emb (ix2 k l) = ix2 k (lane t l) :=
  eq_of_coords (n := 8) (k := 1024)
    (by show win0_12.index t (0 : Fin 2) * 8 + 1 * k.val = k.val; have := (idx_facts t).2.2.2.2.2.2.2.2.2.2.2.2; omega)
    (by show win0_12.index t (1 : Fin 2) * 128 + 1 * l.val = t.val * 128 + l.val; have := (idx_facts t).2.2.2.2.2.2.2.2.2.2.2.2; omega)

end Reads

/-! ### The arrays -/

section Arrays

variable (c : Dev nD) (t : Fin cfg0.N) (p : Fin 4096) (l : Fin 128)

theorem backCol_read : backCol (iblk m c 0 t) (iblk m c 3 t) (iblk m c 4 t) l
    = back (m ((c : Thread nD τ).loc main_arg0)) (m ((c : Thread nD τ).loc main_arg1)) (lane t l) :=
  funext fun q => by
    show turn (iblk m c 0 t (ix2 q l)) (iblk m c 3 t (ix2 q l)) (iblk m c 4 t (ix2 q l)) = _
    rw [read0, read3, read4]
    rfl

theorem productCol_read : productCol (iblk m c 1 t) (iblk m c 2 t) l = product (m ((c : Thread nD τ).loc main_arg0)) (lane t l) :=
  funext fun q => congrArg₂ (· * ·) (read1 m c t q l) (read2 m c t q l)

theorem mixed_read : mix (iblk m c 5 t (ix2 (0 : Fin 8) l)) (iblk m c 5 t (ix2 (1 : Fin 8) l)) (iblk m c 5 t (ix2 (2 : Fin 8) l))
      (iblk m c 6 t (ix2 (0 : Fin 1) l)) (productCol (iblk m c 1 t) (iblk m c 2 t) l) p
    = mixed (m ((c : Thread nD τ).loc main_arg0)) (m ((c : Thread nD τ).loc main_arg2)) (m ((c : Thread nD τ).loc main_arg3)) p (lane t l) := by
  rw [productCol_read, read5, read5, read5, read6]
  rfl

theorem spread_read : spread (iblk m c 5 t (ix2 (0 : Fin 8) l)) (iblk m c 5 t (ix2 (1 : Fin 8) l)) (iblk m c 5 t (ix2 (2 : Fin 8) l))
      (backCol (iblk m c 0 t) (iblk m c 3 t) (iblk m c 4 t) l) p
    = spreadAt (m ((c : Thread nD τ).loc main_arg0)) (m ((c : Thread nD τ).loc main_arg1)) (m ((c : Thread nD τ).loc main_arg2)) p (lane t l) := by
  rw [backCol_read, read5, read5, read5]
  rfl

end Arrays

/-- The point whose block has column `j`. -/
abbrev point (j : Fin 1024) : Fin cfg0.N := (⟨j.val / 128, by have := j.isLt; omega⟩ : Fin 8).cast N_0.symm

theorem point_lane (j : Fin 1024) : lane (point j) ⟨j.val % 128, by omega⟩ = j :=
  Fin.ext (by show j.val / 128 * 128 + j.val % 128 = j.val; omega)

abbrev all7 (c : Dev nD) : FVec Ideal S4096x1024 .bf16 :=
  dGate (m ((c : Thread nD τ).loc main_arg0)) (m ((c : Thread nD τ).loc main_arg1)) (m ((c : Thread nD τ).loc main_arg2)) (m ((c : Thread nD τ).loc main_arg3))

theorem final7 (c : Dev nD) : (dats m 0 c).arrAt 7 cfg0.N = all7 m c := by
  refine (dats m 0 c).arrAt_eq_of_cover 7 (all7 m c) (fun t _ => ?_) fun i => ?_
  · show (cfg0.win 7).cut (grid0.coords t) ((dats m 0 c).after 7 t) = _
    rw [after0_7]
    funext y
    obtain ⟨p, l, rfl⟩ : ∃ (p : Fin 4096) (l : Fin 128), y = ix2 p l := ⟨y 0, y 1, eq_ix2 y⟩
    show out0_7 (iblk m c 0 t) (iblk m c 1 t) (iblk m c 2 t) (iblk m c 3 t) (iblk m c 4 t) (iblk m c 5 t) (iblk m c 6 t) (ix2 p l)
      = all7 m c (((cfg0.win 7).blk t).view.emb (ix2 p l))
    refine ((gate_block _ _ _ _ _ _ _ p l).trans ?_).trans (congrArg (all7 m c) (emb7 t p l)).symm
    rw [mixed_read, read4, read3]
    rfl
  · obtain ⟨p, j, rfl⟩ : ∃ (p : Fin 4096) (j : Fin 1024), i = ix2 p j := ⟨i 0, i 1, eq_ix2 i⟩
    refine ⟨point j, flush0_7 (point j), ?_⟩
    have h := ((cfg0.win 7).blk (point j)).view.emb_mem_set (ix2 p (⟨j.val % 128, by omega⟩ : Fin 128))
    rwa [emb7, point_lane] at h

abbrev all8 (c : Dev nD) : FVec Ideal S4096x1024 .bf16 :=
  dLeft (m ((c : Thread nD τ).loc main_arg0)) (m ((c : Thread nD τ).loc main_arg1)) (m ((c : Thread nD τ).loc main_arg2))

theorem final8 (c : Dev nD) : (dats m 0 c).arrAt 8 cfg0.N = all8 m c := by
  refine (dats m 0 c).arrAt_eq_of_cover 8 (all8 m c) (fun t _ => ?_) fun i => ?_
  · show (cfg0.win 8).cut (grid0.coords t) ((dats m 0 c).after 8 t) = _
    rw [after0_8]
    funext y
    obtain ⟨p, l, rfl⟩ : ∃ (p : Fin 4096) (l : Fin 128), y = ix2 p l := ⟨y 0, y 1, eq_ix2 y⟩
    show out0_8 (iblk m c 0 t) (iblk m c 1 t) (iblk m c 2 t) (iblk m c 3 t) (iblk m c 4 t) (iblk m c 5 t) (iblk m c 6 t) (ix2 p l)
      = all8 m c (((cfg0.win 8).blk t).view.emb (ix2 p l))
    refine ((left_block _ _ _ _ _ _ _ p l).trans ?_).trans (congrArg (all8 m c) (emb8 t p l)).symm
    rw [spread_read, read2]
    rfl
  · obtain ⟨p, j, rfl⟩ : ∃ (p : Fin 4096) (j : Fin 1024), i = ix2 p j := ⟨i 0, i 1, eq_ix2 i⟩
    refine ⟨point j, flush0_8 (point j), ?_⟩
    have h := ((cfg0.win 8).blk (point j)).view.emb_mem_set (ix2 p (⟨j.val % 128, by omega⟩ : Fin 128))
    rwa [emb8, point_lane] at h

abbrev all9 (c : Dev nD) : FVec Ideal S4096x1024 .bf16 :=
  dRight (m ((c : Thread nD τ).loc main_arg0)) (m ((c : Thread nD τ).loc main_arg1)) (m ((c : Thread nD τ).loc main_arg2))

theorem final9 (c : Dev nD) : (dats m 0 c).arrAt 9 cfg0.N = all9 m c := by
  refine (dats m 0 c).arrAt_eq_of_cover 9 (all9 m c) (fun t _ => ?_) fun i => ?_
  · show (cfg0.win 9).cut (grid0.coords t) ((dats m 0 c).after 9 t) = _
    rw [after0_9]
    funext y
    obtain ⟨p, l, rfl⟩ : ∃ (p : Fin 4096) (l : Fin 128), y = ix2 p l := ⟨y 0, y 1, eq_ix2 y⟩
    show out0_9 (iblk m c 0 t) (iblk m c 1 t) (iblk m c 2 t) (iblk m c 3 t) (iblk m c 4 t) (iblk m c 5 t) (iblk m c 6 t) (ix2 p l)
      = all9 m c (((cfg0.win 9).blk t).view.emb (ix2 p l))
    refine ((right_block _ _ _ _ _ _ _ p l).trans ?_).trans (congrArg (all9 m c) (emb9 t p l)).symm
    rw [spread_read, read1]
    rfl
  · obtain ⟨p, j, rfl⟩ : ∃ (p : Fin 4096) (j : Fin 1024), i = ix2 p j := ⟨i 0, i 1, eq_ix2 i⟩
    refine ⟨point j, flush0_9 (point j), ?_⟩
    have h := ((cfg0.win 9).blk (point j)).view.emb_mem_set (ix2 p (⟨j.val % 128, by omega⟩ : Fin 128))
    rwa [emb9, point_lane] at h

abbrev all10 (c : Dev nD) : FVec Ideal S4096x1024 .bf16 :=
  dSilu (m ((c : Thread nD τ).loc main_arg0)) (m ((c : Thread nD τ).loc main_arg1)) (m ((c : Thread nD τ).loc main_arg2)) (m ((c : Thread nD τ).loc main_arg3))

theorem final10 (c : Dev nD) : (dats m 0 c).arrAt 10 cfg0.N = all10 m c := by
  refine (dats m 0 c).arrAt_eq_of_cover 10 (all10 m c) (fun t _ => ?_) fun i => ?_
  · show (cfg0.win 10).cut (grid0.coords t) ((dats m 0 c).after 10 t) = _
    rw [after0_10]
    funext y
    obtain ⟨p, l, rfl⟩ : ∃ (p : Fin 4096) (l : Fin 128), y = ix2 p l := ⟨y 0, y 1, eq_ix2 y⟩
    show out0_10 (iblk m c 0 t) (iblk m c 1 t) (iblk m c 2 t) (iblk m c 3 t) (iblk m c 4 t) (iblk m c 5 t) (iblk m c 6 t) (ix2 p l)
      = all10 m c (((cfg0.win 10).blk t).view.emb (ix2 p l))
    refine ((silu_block _ _ _ _ _ _ _ p l).trans ?_).trans (congrArg (all10 m c) (emb10 t p l)).symm
    rw [mixed_read, read4, read0, read3]
    rfl
  · obtain ⟨p, j, rfl⟩ : ∃ (p : Fin 4096) (j : Fin 1024), i = ix2 p j := ⟨i 0, i 1, eq_ix2 i⟩
    refine ⟨point j, flush0_10 (point j), ?_⟩
    have h := ((cfg0.win 10).blk (point j)).view.emb_mem_set (ix2 p (⟨j.val % 128, by omega⟩ : Fin 128))
    rwa [emb10, point_lane] at h

abbrev all11 (c : Dev nD) : FVec Ideal S1x1024 .f32 :=
  dBias (m ((c : Thread nD τ).loc main_arg0)) (m ((c : Thread nD τ).loc main_arg1))

theorem final11 (c : Dev nD) : (dats m 0 c).arrAt 11 cfg0.N = all11 m c := by
  refine (dats m 0 c).arrAt_eq_of_cover 11 (all11 m c) (fun t _ => ?_) fun i => ?_
  · show (cfg0.win 11).cut (grid0.coords t) ((dats m 0 c).after 11 t) = _
    rw [after0_11]
    funext y
    obtain ⟨p, l, rfl⟩ : ∃ (p : Fin 1) (l : Fin 128), y = ix2 p l := ⟨y 0, y 1, eq_ix2 y⟩
    show out0_11 (iblk m c 0 t) (iblk m c 1 t) (iblk m c 2 t) (iblk m c 3 t) (iblk m c 4 t) (iblk m c 5 t) (iblk m c 6 t) (ix2 p l)
      = all11 m c (((cfg0.win 11).blk t).view.emb (ix2 p l))
    refine ((bias_block _ _ _ _ _ _ _ l p).trans ?_).trans (congrArg (all11 m c) (emb11 t l p)).symm
    rw [backCol_read]
    rfl
  · obtain ⟨p, j, rfl⟩ : ∃ (p : Fin 1) (j : Fin 1024), i = ix2 p j := ⟨i 0, i 1, eq_ix2 i⟩
    refine ⟨point j, flush0_11 (point j), ?_⟩
    have h := ((cfg0.win 11).blk (point j)).view.emb_mem_set (ix2 p (⟨j.val % 128, by omega⟩ : Fin 128))
    rwa [emb11, point_lane] at h

abbrev all12 (c : Dev nD) : FVec Ideal S8x1024 .f32 :=
  dTaps (m ((c : Thread nD τ).loc main_arg0)) (m ((c : Thread nD τ).loc main_arg1))

theorem final12 (c : Dev nD) : (dats m 0 c).arrAt 12 cfg0.N = all12 m c := by
  refine (dats m 0 c).arrAt_eq_of_cover 12 (all12 m c) (fun t _ => ?_) fun i => ?_
  · show (cfg0.win 12).cut (grid0.coords t) ((dats m 0 c).after 12 t) = _
    rw [after0_12]
    funext y
    obtain ⟨p, l, rfl⟩ : ∃ (p : Fin 8) (l : Fin 128), y = ix2 p l := ⟨y 0, y 1, eq_ix2 y⟩
    show out0_12 (iblk m c 0 t) (iblk m c 1 t) (iblk m c 2 t) (iblk m c 3 t) (iblk m c 4 t) (iblk m c 5 t) (iblk m c 6 t) (ix2 p l)
      = all12 m c (((cfg0.win 12).blk t).view.emb (ix2 p l))
    refine ((taps_block _ _ _ _ _ _ _ l p).trans ?_).trans (congrArg (all12 m c) (emb12 t l p)).symm
    rw [backCol_read, productCol_read]
    rfl
  · obtain ⟨p, j, rfl⟩ : ∃ (p : Fin 8) (j : Fin 1024), i = ix2 p j := ⟨i 0, i 1, eq_ix2 i⟩
    refine ⟨point j, flush0_12 (point j), ?_⟩
    have h := ((cfg0.win 12).blk (point j)).view.emb_mem_set (ix2 p (⟨j.val % 128, by omega⟩ : Fin 128))
    rwa [emb12, point_lane] at h

theorem run_kernel : θ_run defs (onTc (τ := τ) (main (F := Ideal))) ⟨m, fun _ => 0, ρ⟩ fun r => ∀ c : Dev nD,
      r.2.mem ((c : Thread nD τ).loc main_v0_0) = all7 m c
      ∧ r.2.mem ((c : Thread nD τ).loc main_v0_1) = all8 m c
      ∧ r.2.mem ((c : Thread nD τ).loc main_v0_2) = all9 m c
      ∧ r.2.mem ((c : Thread nD τ).loc main_v0_3) = all10 m c
      ∧ r.2.mem ((c : Thread nD τ).loc main_v0_4) = all11 m c
      ∧ r.2.mem ((c : Thread nD τ).loc main_v0_5) = all12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h₀, h₁, h₂, h₃, h₄, h₅, h⟩ := h c
    exact ⟨h₀.trans (final7 m c), h₁.trans (final8 m c), h₂.trans (final9 m c), h₃.trans (final10 m c), h₄.trans (final11 m c),
      h₅.trans (final12 m c), h⟩) (ConvBackIdeal.Value.run_blocks m ρ)

end Kernel

/-! ## The reference -/

section Reference

open Cert.ConvBackReferenceIdeal Cert.ConvBackReferenceIdeal.Gen
open Cert.ShortConv (timed_apply ordered ordered_apply quarter0 quarter1 quarter2 quarter3 padded padded_apply past_zero line
  convolved convolved_apply ones zero_word)

/-- The cotangent's rows into the order of time. -/
def timedOne (y : FVec Ideal S4096x1024 .f32) : FVec Ideal S4096x1024 .f32 :=
  shapeCast _ (transpose S8x512x1024 [1, 0, 2] (shapeCast _ y shapeCasts_S4096x1024_S512x8x1024) transposes_S512x8x1024_S8x512x1024_1_0_2)
    shapeCasts_S8x512x1024_S4096x1024

theorem timedOne_apply (y : FVec Ideal S4096x1024 .f32) (s : Fin 4096) (j : Fin 1024) : timedOne y (ix2 s j) = y (ix2 (row s) j) := by
  pointwise [timedOne]
  rfl

/-- The columns with two rows of zeros after them. -/
def paddedAfter (d : FVec Ideal S4096x1024 .f32) : FVec Ideal S4098x1024 .f32 :=
  pad S4098x1024 ![0, 0] ![2, 0] ![0, 0] d (sitofp .f32 (constantI S_ 32 0#32)) pads_S4096x1024_S4098x1024_020_000 h_S_

/-- The padded column at a time and some rows on: the column as many steps later. -/
theorem paddedAfter_apply (d : FVec Ideal S4096x1024 .f32) (f : Fin 4096 → EReal) (j : Fin 1024) (hf : ∀ s, d (ix2 s j) = f (row s))
    (p : Fin 4096) (k : ℕ) (hk : k ≤ 2) (n : Fin 4098) (hn : n.val = k + (time p).val) : paddedAfter d (ix2 n j) = ahead k f p := by
  have ht := (time p).isLt
  unfold ahead
  pointwise [paddedAfter]
  by_cases hc : (time p).val + k < 4096
  · rw [dif_pos (by omega), dif_pos hc]
    refine (congrArg (fun s => d (ix2 s j)) (Fin.ext ?_)).trans (hf ⟨(time p).val + k, hc⟩)
    show n.val = (time p).val + k
    omega
  · rw [dif_neg (by omega), dif_neg hc]
    exact zero_word

theorem ahead_zero (f : Fin 4096 → EReal) (p : Fin 4096) : ahead 0 f p = f p :=
  (dif_pos (time p).isLt).trans (congrArg f (row_time p))

section Terms

variable (x : FVec Ideal S4096x6144 .f32) (y : FVec Ideal S4096x1024 .f32) (w : FVec Ideal S8x1024 .f32) (b : FVec Ideal S1x1024 .f32)

/-- What the reference composes, in the order of time. -/
abbrev sigmoid : FVec Ideal S4096x1024 .f32 := Host.divf ones (addf ones (Host.exp (Host.negf (quarter3 x))))
abbrev lifted : FVec Ideal S4096x1024 .f32 := mulf (timedOne y) (mulf (quarter3 x) (sigmoid x))
def turned : FVec Ideal S4096x1024 .f32 := mulf (lifted x y) (quarter0 x)
abbrev convolvedAll : FVec Ideal S4096x1024 .f32 := convolved w b (mulf (quarter1 x) (quarter2 x))

def spreadAll (d : FVec Ideal S4096x1024 .f32) : FVec Ideal S4096x1024 .f32 :=
  addf (addf (addf (broadcastInDim S4096x1024 ![] bcast_S_S4096x1024 (constant S_ .f32 0x00000000#32))
    (mulf (line (extractStridedSlice S1x1024 ![0, 0] w slices_S8x1024_S1x1024_0_0))
      (extractStridedSlice S4096x1024 ![2, 0] (paddedAfter d) slices_S4098x1024_S4096x1024_2_0)))
    (mulf (line (extractStridedSlice S1x1024 ![1, 0] w slices_S8x1024_S1x1024_1_0))
      (extractStridedSlice S4096x1024 ![1, 0] (paddedAfter d) slices_S4098x1024_S4096x1024_1_0)))
    (mulf (line (extractStridedSlice S1x1024 ![2, 0] w slices_S8x1024_S1x1024_2_0))
      (extractStridedSlice S4096x1024 ![0, 0] (paddedAfter d) slices_S4098x1024_S4096x1024_0_0))

theorem spreadAll_apply (d : FVec Ideal S4096x1024 .f32) (f : Fin 4096 → EReal) (j : Fin 1024) (hf : ∀ s, d (ix2 s j) = f (row s))
    (p : Fin 4096) : spreadAll w d (ix2 (time p) j) = spread (w (ix2 0 j)) (w (ix2 1 j)) (w (ix2 2 j)) f p := by
  have ht := (time p).isLt
  have e₂ := paddedAfter_apply d f j hf p 2 le_rfl ⟨2 + (time p).val, by omega⟩ rfl
  have e₁ := paddedAfter_apply d f j hf p 1 (by omega) ⟨1 + (time p).val, by omega⟩ rfl
  have e₀ := paddedAfter_apply d f j hf p 0 (by omega) ⟨(time p).val, by omega⟩ (by show (time p).val = 0 + (time p).val; omega)
  rw [ahead_zero] at e₀
  pointwise [spreadAll]
  rw [e₀, e₁, e₂]
  unfold spread
  abel

theorem col_zero (j : Fin 1024) (h : j.val < 6144) : (⟨j.val, h⟩ : Fin 6144) = col 0 j :=
  Fin.ext (by show j.val = 0 * 1024 + j.val; omega)

theorem turned_apply (s : Fin 4096) (j : Fin 1024) : turned x y (ix2 s j) = back x y j (row s) := by
  pointwise [turned, timed_apply, timedOne_apply]
  rw [col_zero]
  rfl

theorem product_apply (s : Fin 4096) (j : Fin 1024) : mulf (quarter1 x) (quarter2 x) (ix2 s j) = product x j (row s) := by
  pointwise [timed_apply]
  rfl

theorem gate_eq : truncf .bf16 (ordered (mulf (lifted x y) (convolvedAll x w b))) bitsLt_bf16_f32 = dGate x y w b := by
  funext i
  idx_vars i
  have e : convolvedAll x w b (ix2 (time i0) i1) = mixed x w b i0 i1 := convolved_apply w b _ (product x i1) i1 (fun s => product_apply x s i1) i0
  pointwise [ordered_apply, timed_apply, timedOne_apply, row_time]
  rw [e]
  rfl

theorem silu_eq : truncf .bf16 (ordered (mulf (mulf (mulf (timedOne y) (quarter0 x)) (convolvedAll x w b))
      (mulf (sigmoid x) (addf ones (mulf (quarter3 x) (subf ones (sigmoid x))))))) bitsLt_bf16_f32 = dSilu x y w b := by
  funext i
  idx_vars i
  have e : convolvedAll x w b (ix2 (time i0) i1) = mixed x w b i0 i1 := convolved_apply w b _ (product x i1) i1 (fun s => product_apply x s i1) i0
  pointwise [ordered_apply, timed_apply, timedOne_apply, row_time]
  rw [e, col_zero]
  rfl

theorem left_eq : truncf .bf16 (ordered (mulf (spreadAll w (turned x y)) (quarter2 x))) bitsLt_bf16_f32 = dLeft x y w := by
  funext i
  idx_vars i
  have e := spreadAll_apply w _ (back x y i1) i1 (fun s => turned_apply x y s i1) i0
  pointwise [ordered_apply, timed_apply, row_time]
  rw [e]
  rfl

theorem right_eq : truncf .bf16 (ordered (mulf (spreadAll w (turned x y)) (quarter1 x))) bitsLt_bf16_f32 = dRight x y w := by
  funext i
  idx_vars i
  have e := spreadAll_apply w _ (back x y i1) i1 (fun s => turned_apply x y s i1) i0
  pointwise [ordered_apply, timed_apply, row_time]
  rw [e]
  rfl

/-- A sum over the times, as one row. -/
abbrev summed (d : FVec Ideal S4096x1024 .f32) : FVec Ideal S1x1024 .f32 :=
  broadcastInDim S1x1024 ![1] bcast_S1024_S1x1024_1
    (Host.reduceAdd d (constant S_ .f32 0x00000000#32) reducesTo_S4096x1024_S1024_d0 h_S_)

theorem summed_apply (d : FVec Ideal S4096x1024 .f32) (f : Fin 4096 → EReal) (k : Fin 1) (j : Fin 1024)
    (hf : ∀ s, d (ix2 s j) = f (row s)) : summed d (ix2 k j) = ∑ p, f p := by
  rw [sum_order]
  pointwise
  exact Finset.sum_congr rfl fun s _ => hf s

theorem bias_eq : summed (turned x y) = dBias x y := by
  funext i
  idx_vars i
  exact summed_apply _ _ _ _ fun s => turned_apply x y s i1

/-- The convolution's cotangent against the column at a distance. -/
theorem tap_apply (k : ℕ) (hk : k ≤ 2) (e : FVec Ideal S4096x1024 .f32) (j : Fin 1024)
    (he : ∀ s : Fin 4096, e (ix2 s j) = padded (mulf (quarter1 x) (quarter2 x)) (ix2 ⟨2 - k + s.val, by have := s.isLt; omega⟩ j)) (i : Fin 1) :
    summed (mulf (turned x y) e) (ix2 i j) = ∑ p, back x y j p * past k (product x j) p :=
  summed_apply _ (fun p => back x y j p * past k (product x j) p) i j fun s =>
    congrArg₂ (· * ·) (turned_apply x y s j) ((he s).trans
      (padded_apply _ (product x j) j (fun s => product_apply x s j) (row s) k hk _ (by rw [time_row])))

theorem taps_eq : pad S8x1024 ![0, 0] ![5, 0] ![0, 0] (concatenate S3x1024 0
      [⟨S1x1024, summed (mulf (turned x y) (extractStridedSlice S4096x1024 ![0, 0] (padded (mulf (quarter1 x) (quarter2 x))) slices_S4098x1024_S4096x1024_0_0))⟩,
        ⟨S1x1024, summed (mulf (turned x y) (extractStridedSlice S4096x1024 ![1, 0] (padded (mulf (quarter1 x) (quarter2 x))) slices_S4098x1024_S4096x1024_1_0))⟩,
        ⟨S1x1024, summed (mulf (turned x y) (extractStridedSlice S4096x1024 ![2, 0] (padded (mulf (quarter1 x) (quarter2 x))) slices_S4098x1024_S4096x1024_2_0))⟩]
      concatenates_S1x1024_S1x1024_S1x1024_S3x1024_d0) (sitofp .f32 (constantI S_ 32 0#32)) pads_S3x1024_S8x1024_050_000 h_S_
    = dTaps x y := by
  funext i
  idx_vars i
  have e₂ := tap_apply x y 2 le_rfl (extractStridedSlice S4096x1024 ![0, 0] (padded (mulf (quarter1 x) (quarter2 x))) slices_S4098x1024_S4096x1024_0_0) i1
    (fun s => by pointwise)
  have e₁ := tap_apply x y 1 (by omega) (extractStridedSlice S4096x1024 ![1, 0] (padded (mulf (quarter1 x) (quarter2 x))) slices_S4098x1024_S4096x1024_1_0) i1
    (fun s => by pointwise)
  have e₀ := tap_apply x y 0 (by omega) (extractStridedSlice S4096x1024 ![2, 0] (padded (mulf (quarter1 x) (quarter2 x))) slices_S4098x1024_S4096x1024_2_0) i1
    (fun s => by pointwise)
  simp only [past_zero] at e₀
  generalize summed (mulf (turned x y) (extractStridedSlice S4096x1024 ![0, 0] (padded (mulf (quarter1 x) (quarter2 x))) slices_S4098x1024_S4096x1024_0_0)) = s₂ at e₂ ⊢
  generalize summed (mulf (turned x y) (extractStridedSlice S4096x1024 ![1, 0] (padded (mulf (quarter1 x) (quarter2 x))) slices_S4098x1024_S4096x1024_1_0)) = s₁ at e₁ ⊢
  generalize summed (mulf (turned x y) (extractStridedSlice S4096x1024 ![2, 0] (padded (mulf (quarter1 x) (quarter2 x))) slices_S4098x1024_S4096x1024_2_0)) = s₀ at e₀ ⊢
  pointwise
  simp only [e₀, e₁, e₂]
  show _ = taps (back x y i1) (product x i1) i0
  unfold taps
  split_ifs <;> first | rfl | exact zero_word | omega

end Terms

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v94) = dGate (m ((c : Thread nD τ).loc main_arg0)) (m ((c : Thread nD τ).loc main_arg1)) (m ((c : Thread nD τ).loc main_arg2)) (m ((c : Thread nD τ).loc main_arg3))
      ∧ r.2.mem ((c : Thread nD τ).loc main_v99) = dLeft (m ((c : Thread nD τ).loc main_arg0)) (m ((c : Thread nD τ).loc main_arg1)) (m ((c : Thread nD τ).loc main_arg2))
      ∧ r.2.mem ((c : Thread nD τ).loc main_v104) = dRight (m ((c : Thread nD τ).loc main_arg0)) (m ((c : Thread nD τ).loc main_arg1)) (m ((c : Thread nD τ).loc main_arg2))
      ∧ r.2.mem ((c : Thread nD τ).loc main_v108) = dSilu (m ((c : Thread nD τ).loc main_arg0)) (m ((c : Thread nD τ).loc main_arg1)) (m ((c : Thread nD τ).loc main_arg2)) (m ((c : Thread nD τ).loc main_arg3))
      ∧ r.2.mem ((c : Thread nD τ).loc main_v110) = dBias (m ((c : Thread nD τ).loc main_arg0)) (m ((c : Thread nD τ).loc main_arg1))
      ∧ r.2.mem ((c : Thread nD τ).loc main_v111) = dTaps (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h₀, h₁, h₂, h₃, h₄, h₅, h⟩ := h c
    exact ⟨h₀.trans (gate_eq _ _ _ _), h₁.trans (left_eq _ _ _), h₂.trans (right_eq _ _ _), h₃.trans (silu_eq _ _ _ _),
      h₄.trans (bias_eq _ _), h₅.trans (taps_eq _ _), h⟩) (ConvBackReferenceIdeal.Value.run m ρ)

end Reference

/-- From equal arguments the two leave the same. -/
theorem value : Cert.algebraic_ConvBackIdeal_ConvBackReferenceIdeal := fun m ρ m' ρ' _ h =>
  ⟨fun c => all7 m c, fun c => all8 m c, fun c => all9 m c, fun c => all10 m c, fun c => all11 m c, fun c => all12 m c, run_kernel m ρ,
    (θ_run _ _ _).mono (fun r hr c => by
      obtain ⟨e₀, e₁, e₂, e₃⟩ := h c
      obtain ⟨h₀, h₁, h₂, h₃, h₄, h₅, h'⟩ := hr c
      exact ⟨h₀.trans (by rw [e₀, e₁, e₂, e₃]), h₁.trans (by rw [e₀, e₁, e₂]), h₂.trans (by rw [e₀, e₁, e₂]),
        h₃.trans (by rw [e₀, e₁, e₂, e₃]), h₄.trans (by rw [e₀, e₁]), h₅.trans (by rw [e₀, e₁]), h'⟩)
      (run_reference m' ρ')⟩

end Cert.ShortConvBack

end
-- ==== Proof.lean ====
module

public import proofs.«01_k».proof.Defs
public import proofs.«01_k».proof.Proof.Value
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.GatherValue
public import proofs.«01_k».proof.Proof.Gen.Gather
public import proofs.«01_k».proof.Proof.Gen.GatherIdeal
public import proofs.«01_k».proof.Proof.Gen.GatherReference
public import proofs.«01_k».proof.Proof.Gen.GatherReferenceIdeal
public import proofs.«01_k».proof.Proof.Gen.GatherReferenceIdeal.Run
public import proofs.«01_k».proof.Proof.UpdateIn
public import proofs.«01_k».proof.Proof.UpdateOut
public import proofs.«01_k».proof.Proof.UpdateGlu
public import proofs.«01_k».proof.Proof.Sum
public import proofs.«01_k».proof.Proof.Loss
public import proofs.«01_k».proof.Proof.Gen.UpdateIn
public import proofs.«01_k».proof.Proof.Gen.UpdateIn.Skeleton
public import proofs.«01_k».proof.Proof.Gen.UpdateIn.Launch
public import proofs.«01_k».proof.Proof.Gen.UpdateIn.Points
public import proofs.«01_k».proof.Proof.Gen.UpdateIn.Frame
public import proofs.«01_k».proof.Proof.Gen.UpdateInIdeal
public import proofs.«01_k».proof.Proof.Gen.UpdateInIdeal.Skeleton
public import proofs.«01_k».proof.Proof.Gen.UpdateInIdeal.Launch
public import proofs.«01_k».proof.Proof.Gen.UpdateInIdeal.Points
public import proofs.«01_k».proof.Proof.Gen.UpdateInIdeal.Frame
public import proofs.«01_k».proof.Proof.Gen.UpdateInIdeal.Value
public import proofs.«01_k».proof.Proof.Gen.UpdateInReferenceIdeal
public import proofs.«01_k».proof.Proof.Gen.UpdateInReferenceIdeal.Run
public import proofs.«01_k».proof.Proof.Gen.UpdateOut
public import proofs.«01_k».proof.Proof.Gen.UpdateOut.Skeleton
public import proofs.«01_k».proof.Proof.Gen.UpdateOut.Launch
public import proofs.«01_k».proof.Proof.Gen.UpdateOut.Points
public import proofs.«01_k».proof.Proof.Gen.UpdateOut.Frame
public import proofs.«01_k».proof.Proof.Gen.UpdateOutIdeal
public import proofs.«01_k».proof.Proof.Gen.UpdateOutIdeal.Skeleton
public import proofs.«01_k».proof.Proof.Gen.UpdateOutIdeal.Launch
public import proofs.«01_k».proof.Proof.Gen.UpdateOutIdeal.Points
public import proofs.«01_k».proof.Proof.Gen.UpdateOutIdeal.Frame
public import proofs.«01_k».proof.Proof.Gen.UpdateOutIdeal.Value
public import proofs.«01_k».proof.Proof.Gen.UpdateOutReferenceIdeal
public import proofs.«01_k».proof.Proof.Gen.UpdateOutReferenceIdeal.Run
public import proofs.«01_k».proof.Proof.Gen.UpdateGlu
public import proofs.«01_k».proof.Proof.Gen.UpdateGlu.Skeleton
public import proofs.«01_k».proof.Proof.Gen.UpdateGlu.Launch
public import proofs.«01_k».proof.Proof.Gen.UpdateGlu.Points
public import proofs.«01_k».proof.Proof.Gen.UpdateGlu.Frame
public import proofs.«01_k».proof.Proof.Gen.UpdateGluIdeal
public import proofs.«01_k».proof.Proof.Gen.UpdateGluIdeal.Skeleton
public import proofs.«01_k».proof.Proof.Gen.UpdateGluIdeal.Launch
public import proofs.«01_k».proof.Proof.Gen.UpdateGluIdeal.Points
public import proofs.«01_k».proof.Proof.Gen.UpdateGluIdeal.Frame
public import proofs.«01_k».proof.Proof.Gen.UpdateGluIdeal.Value
public import proofs.«01_k».proof.Proof.Gen.UpdateGluReferenceIdeal
public import proofs.«01_k».proof.Proof.Gen.UpdateGluReferenceIdeal.Run
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumIdeal.Frame
public import proofs.«01_k».proof.Proof.Gen.SumIdeal.Value
public import proofs.«01_k».proof.Proof.Gen.SumReferenceIdeal
public import proofs.«01_k».proof.Proof.Gen.SumReferenceIdeal.Run
public import proofs.«01_k».proof.Proof.Gen.Loss
public import proofs.«01_k».proof.Proof.Gen.LossIdeal
public import proofs.«01_k».proof.Proof.Gen.LossIdeal.Launch
public import proofs.«01_k».proof.Proof.Gen.LossReferenceIdeal
public import proofs.«01_k».proof.Proof.Gen.LossReferenceIdeal.Run
public import proofs.«01_k».proof.Proof.Back
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackIdeal.Value
public import proofs.«01_k».proof.Proof.Gen.BackReferenceIdeal
public import proofs.«01_k».proof.Proof.Gen.BackReferenceIdeal.Run
public import proofs.«01_k».proof.Proof.WeightIn
public import proofs.«01_k».proof.Proof.Gen.WeightIn
public import proofs.«01_k».proof.Proof.Gen.WeightIn.Skeleton
public import proofs.«01_k».proof.Proof.Gen.WeightIn.Launch
public import proofs.«01_k».proof.Proof.Gen.WeightIn.Points
public import proofs.«01_k».proof.Proof.Gen.WeightIn.Frame
public import proofs.«01_k».proof.Proof.Gen.WeightInIdeal
public import proofs.«01_k».proof.Proof.Gen.WeightInIdeal.Skeleton
public import proofs.«01_k».proof.Proof.Gen.WeightInIdeal.Launch
public import proofs.«01_k».proof.Proof.Gen.WeightInIdeal.Points
public import proofs.«01_k».proof.Proof.Gen.WeightInIdeal.Frame
public import proofs.«01_k».proof.Proof.Gen.WeightInIdeal.Value
public import proofs.«01_k».proof.Proof.Gen.WeightInReferenceIdeal
public import proofs.«01_k».proof.Proof.Gen.WeightInReferenceIdeal.Run
public import proofs.«01_k».proof.Proof.WeightOut
public import proofs.«01_k».proof.Proof.Gen.WeightOut
public import proofs.«01_k».proof.Proof.Gen.WeightOut.Skeleton
public import proofs.«01_k».proof.Proof.Gen.WeightOut.Launch
public import proofs.«01_k».proof.Proof.Gen.WeightOut.Points
public import proofs.«01_k».proof.Proof.Gen.WeightOut.Frame
public import proofs.«01_k».proof.Proof.Gen.WeightOutIdeal
public import proofs.«01_k».proof.Proof.Gen.WeightOutIdeal.Skeleton
public import proofs.«01_k».proof.Proof.Gen.WeightOutIdeal.Launch
public import proofs.«01_k».proof.Proof.Gen.WeightOutIdeal.Points
public import proofs.«01_k».proof.Proof.Gen.WeightOutIdeal.Frame
public import proofs.«01_k».proof.Proof.Gen.WeightOutIdeal.Value
public import proofs.«01_k».proof.Proof.Gen.WeightOutReferenceIdeal
public import proofs.«01_k».proof.Proof.Gen.WeightOutReferenceIdeal.Run
public import proofs.«01_k».proof.Proof.WeightGlu
public import proofs.«01_k».proof.Proof.Gen.WeightGlu
public import proofs.«01_k».proof.Proof.Gen.WeightGlu.Skeleton
public import proofs.«01_k».proof.Proof.Gen.WeightGlu.Launch
public import proofs.«01_k».proof.Proof.Gen.WeightGlu.Points
public import proofs.«01_k».proof.Proof.Gen.WeightGlu.Frame
public import proofs.«01_k».proof.Proof.Gen.WeightGluIdeal
public import proofs.«01_k».proof.Proof.Gen.WeightGluIdeal.Skeleton
public import proofs.«01_k».proof.Proof.Gen.WeightGluIdeal.Launch
public import proofs.«01_k».proof.Proof.Gen.WeightGluIdeal.Points
public import proofs.«01_k».proof.Proof.Gen.WeightGluIdeal.Frame
public import proofs.«01_k».proof.Proof.Gen.WeightGluIdeal.Value
public import proofs.«01_k».proof.Proof.Gen.WeightGluReferenceIdeal
public import proofs.«01_k».proof.Proof.Gen.WeightGluReferenceIdeal.Run
public import proofs.«01_k».proof.Proof.Prep
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Conv
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.ConvBack
public import proofs.«01_k».proof.Proof.Gen.ConvBack
public import proofs.«01_k».proof.Proof.Gen.ConvBack.Skeleton
public import proofs.«01_k».proof.Proof.Gen.ConvBack.Launch
public import proofs.«01_k».proof.Proof.Gen.ConvBack.Points
public import proofs.«01_k».proof.Proof.Gen.ConvBack.Frame
public import proofs.«01_k».proof.Proof.Gen.ConvBackIdeal
public import proofs.«01_k».proof.Proof.Gen.ConvBackIdeal.Skeleton
public import proofs.«01_k».proof.Proof.Gen.ConvBackIdeal.Launch
public import proofs.«01_k».proof.Proof.Gen.ConvBackIdeal.Points
public import proofs.«01_k».proof.Proof.Gen.ConvBackIdeal.Frame
public import proofs.«01_k».proof.Proof.Gen.ConvBackIdeal.Value
public import proofs.«01_k».proof.Proof.Gen.ConvBackReferenceIdeal
public import proofs.«01_k».proof.Proof.Gen.ConvBackReferenceIdeal.Run
public import Idealize.ShloMosaic.Lib.Quiescent

@[expose] public section

noncomputable section

namespace Cert.Proof

open Idealize.ShloMosaic Idealize.SL.Sem

/-- The kernel over the extended reals runs, leaves its arguments as they were and every counter at zero. -/
theorem frame_kernelIdeal : Cert.quiescent_KernelIdeal := fun m ρ _ =>
  (θ_run Cert.KernelIdeal.defs _ _).mono (fun _ h => ⟨fun c => (h.1 c).1, h.2⟩) (Cert.Exchange.run_main (F := Ideal) m ρ)

/-- So does the kernel over bit-exact floats, whose text is the same. -/
theorem frame_kernel : Cert.quiescent_Kernel := fun m ρ _ =>
  (θ_run Cert.KernelIdeal.defs _ _).mono (fun _ h => ⟨fun c => (h.1 c).1, h.2⟩) (Cert.Exchange.run_main (F := Bits) m ρ)

/-- The reference runs and leaves its arguments as they were; it has no counter that could end away from zero. -/
theorem frame_referenceIdeal : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- So does the reference over bit-exact floats. -/
theorem frame_reference : Cert.quiescent_Reference := fun m ρ _ =>
  (θ_run Cert.ReferenceIdeal.defs _ _).mono
    (fun r h => ⟨fun c => (h c).2.2.2.2, sem_eq_zero_of_no_sems (by decide) r.2⟩)
    (Cert.ReferenceIdeal.Value.run (F := Bits) m ρ)

/-- Over the extended reals every device ends with its part of the reference's results. -/
theorem algebraic : Cert.algebraic_KernelIdeal_ReferenceIdeal := fun m ρ m' ρ' _ h =>
  ⟨_, _, _, _, Cert.Exchange.run_value (F := Ideal) m m' h ρ ρ'⟩

/-- And so it does bit for bit. -/
theorem bitexact : Cert.bitexact_Kernel_Reference := fun m ρ m' ρ' _ h =>
  ⟨_, _, _, _, Cert.Exchange.run_value (F := Bits) m m' h ρ ρ'⟩

/-- The gather at both instances, and its references, run and leave arguments and counters as they were. -/
theorem frame_gatherIdeal : Cert.quiescent_GatherIdeal := fun m ρ _ =>
  (θ_run Cert.GatherIdeal.defs _ _).mono (fun _ h => ⟨fun c => (h.1 c).1, h.2⟩) (Cert.Gathering.run_main (F := Ideal) m ρ)

theorem frame_gather : Cert.quiescent_Gather := fun m ρ _ =>
  (θ_run Cert.GatherIdeal.defs _ _).mono (fun _ h => ⟨fun c => (h.1 c).1, h.2⟩) (Cert.Gathering.run_main (F := Bits) m ρ)

theorem frame_gatherReferenceIdeal : Cert.quiescent_GatherReferenceIdeal := fun m ρ _ =>
  (θ_run Cert.GatherReferenceIdeal.defs _ _).mono
    (fun r h => ⟨fun c => (h c).2.2.2.2, sem_eq_zero_of_no_sems (by decide) r.2⟩)
    (Cert.GatherReferenceIdeal.Value.run (F := Ideal) m ρ)

theorem frame_gatherReference : Cert.quiescent_GatherReference := fun m ρ _ =>
  (θ_run Cert.GatherReferenceIdeal.defs _ _).mono
    (fun r h => ⟨fun c => (h c).2.2.2.2, sem_eq_zero_of_no_sems (by decide) r.2⟩)
    (Cert.GatherReferenceIdeal.Value.run (F := Bits) m ρ)

/-- Over the extended reals every device ends with the reference's stacks of the weights. -/
theorem gather_algebraic : Cert.algebraic_GatherIdeal_GatherReferenceIdeal := fun m ρ m' ρ' _ h =>
  ⟨_, _, _, _, Cert.Gathering.run_value (F := Ideal) m m' h ρ ρ'⟩

/-- And so it does bit for bit. -/
theorem gather_bitexact : Cert.bitexact_Gather_GatherReference := fun m ρ m' ρ' _ h =>
  ⟨_, _, _, _, Cert.Gathering.run_value (F := Bits) m m' h ρ ρ'⟩

/-- The update of the input projection: the kernel at both instances, and its reference, run and leave arguments and counters as they were. -/
theorem frame_updateIn : Cert.quiescent_UpdateIn := fun m ρ _ => Cert.UpdateIn.Gen.frame m ρ

theorem frame_updateInIdeal : Cert.quiescent_UpdateInIdeal := fun m ρ _ => Cert.UpdateInIdeal.Gen.frame (F := Ideal) m ρ

theorem frame_updateInReferenceIdeal : Cert.quiescent_UpdateInReferenceIdeal := fun m ρ _ =>
  (θ_run Cert.UpdateInReferenceIdeal.defs _ _).mono (fun r h => ⟨fun c => (h c).2.2.2.2, sem_eq_zero_of_no_sems (by decide) r.2⟩)
    (Cert.UpdateInReferenceIdeal.Value.run m ρ)

/-- The update of the output projection: the kernel at both instances, and its reference, run and leave arguments and counters as they were. -/
theorem frame_updateOut : Cert.quiescent_UpdateOut := fun m ρ _ => Cert.UpdateOut.Gen.frame m ρ

theorem frame_updateOutIdeal : Cert.quiescent_UpdateOutIdeal := fun m ρ _ => Cert.UpdateOutIdeal.Gen.frame (F := Ideal) m ρ

theorem frame_updateOutReferenceIdeal : Cert.quiescent_UpdateOutReferenceIdeal := fun m ρ _ =>
  (θ_run Cert.UpdateOutReferenceIdeal.defs _ _).mono (fun r h => ⟨fun c => (h c).2.2.2.2, sem_eq_zero_of_no_sems (by decide) r.2⟩)
    (Cert.UpdateOutReferenceIdeal.Value.run m ρ)

/-- The update of the gate: the kernel at both instances, and its reference, run and leave arguments and counters as they were. -/
theorem frame_updateGlu : Cert.quiescent_UpdateGlu := fun m ρ _ => Cert.UpdateGlu.Gen.frame m ρ

theorem frame_updateGluIdeal : Cert.quiescent_UpdateGluIdeal := fun m ρ _ => Cert.UpdateGluIdeal.Gen.frame (F := Ideal) m ρ

theorem frame_updateGluReferenceIdeal : Cert.quiescent_UpdateGluReferenceIdeal := fun m ρ _ =>
  (θ_run Cert.UpdateGluReferenceIdeal.defs _ _).mono (fun r h => ⟨fun c => (h c).2.2.2.2, sem_eq_zero_of_no_sems (by decide) r.2⟩)
    (Cert.UpdateGluReferenceIdeal.Value.run m ρ)

/-- The sum of the packed slots: the kernel at both instances, and its reference, run and leave arguments and counters as they were. -/
theorem frame_sum : Cert.quiescent_Sum := fun m ρ _ => Cert.Sum.Gen.frame m ρ

theorem frame_sumIdeal : Cert.quiescent_SumIdeal := fun m ρ _ => Cert.SumIdeal.Gen.frame (F := Ideal) m ρ

theorem frame_sumReferenceIdeal : Cert.quiescent_SumReferenceIdeal := fun m ρ _ =>
  (θ_run Cert.SumReferenceIdeal.defs _ _).mono (fun r h => ⟨fun c => (h c).2, sem_eq_zero_of_no_sems (by decide) r.2⟩)
    (Cert.SumReferenceIdeal.Value.run m ρ)

/-- The backward pass through the input projection: the kernel at both instances, and its reference, run and leave arguments and counters as they were. -/
theorem frame_back : Cert.quiescent_Back := fun m ρ _ => Cert.Back.Gen.frame m ρ

theorem frame_backIdeal : Cert.quiescent_BackIdeal := fun m ρ _ => Cert.BackIdeal.Gen.frame (F := Ideal) m ρ

theorem frame_backReferenceIdeal : Cert.quiescent_BackReferenceIdeal := fun m ρ _ =>
  (θ_run Cert.BackReferenceIdeal.defs _ _).mono (fun r h => ⟨fun c => (h c).2.2, sem_eq_zero_of_no_sems (by decide) r.2⟩)
    (Cert.BackReferenceIdeal.Value.run m ρ)

/-- One device's part of the gradient of w_in: the kernel at both instances, and its reference, run and leave arguments and counters as they were. -/
theorem frame_weightIn : Cert.quiescent_WeightIn := fun m ρ _ => Cert.WeightIn.Gen.frame m ρ

theorem frame_weightInIdeal : Cert.quiescent_WeightInIdeal := fun m ρ _ => Cert.WeightInIdeal.Gen.frame (F := Ideal) m ρ

theorem frame_weightInReferenceIdeal : Cert.quiescent_WeightInReferenceIdeal := fun m ρ _ =>
  (θ_run Cert.WeightInReferenceIdeal.defs _ _).mono (fun r h => ⟨fun c => (h c).2, sem_eq_zero_of_no_sems (by decide) r.2⟩)
    (Cert.WeightInReferenceIdeal.Value.run m ρ)

/-- One device's part of the gradient of w_out: the kernel at both instances, and its reference, run and leave arguments and counters as they were. -/
theorem frame_weightOut : Cert.quiescent_WeightOut := fun m ρ _ => Cert.WeightOut.Gen.frame m ρ

theorem frame_weightOutIdeal : Cert.quiescent_WeightOutIdeal := fun m ρ _ => Cert.WeightOutIdeal.Gen.frame (F := Ideal) m ρ

theorem frame_weightOutReferenceIdeal : Cert.quiescent_WeightOutReferenceIdeal := fun m ρ _ =>
  (θ_run Cert.WeightOutReferenceIdeal.defs _ _).mono (fun r h => ⟨fun c => (h c).2, sem_eq_zero_of_no_sems (by decide) r.2⟩)
    (Cert.WeightOutReferenceIdeal.Value.run m ρ)

/-- One device's part of the gradient of w_glu: the kernel at both instances, and its reference, run and leave arguments and counters as they were. -/
theorem frame_weightGlu : Cert.quiescent_WeightGlu := fun m ρ _ => Cert.WeightGlu.Gen.frame m ρ

theorem frame_weightGluIdeal : Cert.quiescent_WeightGluIdeal := fun m ρ _ => Cert.WeightGluIdeal.Gen.frame (F := Ideal) m ρ

theorem frame_weightGluReferenceIdeal : Cert.quiescent_WeightGluReferenceIdeal := fun m ρ _ =>
  (θ_run Cert.WeightGluReferenceIdeal.defs _ _).mono (fun r h => ⟨fun c => (h c).2, sem_eq_zero_of_no_sems (by decide) r.2⟩)
    (Cert.WeightGluReferenceIdeal.Value.run m ρ)

/-- The zero-order hold of the S5 branch: the kernel at both instances, and its reference, run and leave arguments and counters as they were. -/
theorem frame_prep : Cert.quiescent_Prep := fun m ρ _ => Cert.Prep.Gen.frame m ρ

theorem frame_prepIdeal : Cert.quiescent_PrepIdeal := fun m ρ _ => Cert.PrepIdeal.Gen.frame (F := Ideal) m ρ

theorem frame_prepReferenceIdeal : Cert.quiescent_PrepReferenceIdeal := fun m ρ _ =>
  (θ_run Cert.PrepReferenceIdeal.defs _ _).mono (fun r h => ⟨fun c => (h c).2.2.2.2.2.2, sem_eq_zero_of_no_sems (by decide) r.2⟩)
    (Cert.PrepReferenceIdeal.Value.run m ρ)

/-- The gated short convolution: the kernel at both instances, and its reference, run and leave arguments and counters as they were. -/
theorem frame_conv : Cert.quiescent_Conv := fun m ρ _ => Cert.Conv.Gen.frame m ρ

theorem frame_convIdeal : Cert.quiescent_ConvIdeal := fun m ρ _ => Cert.ConvIdeal.Gen.frame (F := Ideal) m ρ

theorem frame_convReferenceIdeal : Cert.quiescent_ConvReferenceIdeal := fun m ρ _ =>
  (θ_run Cert.ConvReferenceIdeal.defs _ _).mono (fun r h => ⟨fun c => (h c).2, sem_eq_zero_of_no_sems (by decide) r.2⟩)
    (Cert.ConvReferenceIdeal.Value.run m ρ)

/-- The gated short convolution backward: the kernel at both instances, and its reference, run and leave arguments and counters as they were. -/
theorem frame_convBack : Cert.quiescent_ConvBack := fun m ρ _ => Cert.ConvBack.Gen.frame m ρ

theorem frame_convBackIdeal : Cert.quiescent_ConvBackIdeal := fun m ρ _ => Cert.ConvBackIdeal.Gen.frame (F := Ideal) m ρ

theorem frame_convBackReferenceIdeal : Cert.quiescent_ConvBackReferenceIdeal := fun m ρ _ =>
  (θ_run Cert.ConvBackReferenceIdeal.defs _ _).mono (fun r h => ⟨fun c => (h c).2.2.2.2.2.2, sem_eq_zero_of_no_sems (by decide) r.2⟩)
    (Cert.ConvBackReferenceIdeal.Value.run m ρ)

theorem frame_lossIdeal : Cert.quiescent_LossIdeal := fun m ρ _ =>
  (θ_run Cert.LossIdeal.defs _ _).mono (fun _ h => ⟨fun c => (h.1 c).1, h.2⟩) (Cert.LossSum.run_main (F := Ideal) m ρ)

theorem frame_loss : Cert.quiescent_Loss := fun m ρ _ =>
  (θ_run Cert.LossIdeal.defs _ _).mono (fun _ h => ⟨fun c => (h.1 c).1, h.2⟩) (Cert.LossSum.run_main (F := Bits) m ρ)

theorem frame_lossReferenceIdeal : Cert.quiescent_LossReferenceIdeal := fun m ρ _ =>
  (θ_run Cert.LossReferenceIdeal.defs _ _).mono (fun r h => ⟨fun c => (h c).2, sem_eq_zero_of_no_sems (by decide) r.2⟩)
    (Cert.LossReferenceIdeal.Value.run m ρ)

theorem claim : Cert.Claim :=
  ⟨Cert.Kernel.Gen.facts, Cert.KernelIdeal.Gen.facts, Cert.ReferenceIdeal.Gen.facts, Cert.Reference.Gen.facts,
    Cert.Gather.Gen.facts, Cert.GatherIdeal.Gen.facts, Cert.GatherReferenceIdeal.Gen.facts, Cert.GatherReference.Gen.facts,
    Cert.UpdateIn.Gen.facts, Cert.UpdateInIdeal.Gen.facts, Cert.UpdateInReferenceIdeal.Gen.facts,
    Cert.UpdateOut.Gen.facts, Cert.UpdateOutIdeal.Gen.facts, Cert.UpdateOutReferenceIdeal.Gen.facts,
    Cert.UpdateGlu.Gen.facts, Cert.UpdateGluIdeal.Gen.facts, Cert.UpdateGluReferenceIdeal.Gen.facts,
    Cert.Sum.Gen.facts, Cert.SumIdeal.Gen.facts, Cert.SumReferenceIdeal.Gen.facts,
    Cert.Back.Gen.facts, Cert.BackIdeal.Gen.facts, Cert.BackReferenceIdeal.Gen.facts,
    Cert.WeightIn.Gen.facts, Cert.WeightInIdeal.Gen.facts, Cert.WeightInReferenceIdeal.Gen.facts,
    Cert.WeightOut.Gen.facts, Cert.WeightOutIdeal.Gen.facts, Cert.WeightOutReferenceIdeal.Gen.facts,
    Cert.WeightGlu.Gen.facts, Cert.WeightGluIdeal.Gen.facts, Cert.WeightGluReferenceIdeal.Gen.facts,
    Cert.Prep.Gen.facts, Cert.PrepIdeal.Gen.facts, Cert.PrepReferenceIdeal.Gen.facts,
    Cert.Conv.Gen.facts, Cert.ConvIdeal.Gen.facts, Cert.ConvReferenceIdeal.Gen.facts,
    Cert.ConvBack.Gen.facts, Cert.ConvBackIdeal.Gen.facts, Cert.ConvBackReferenceIdeal.Gen.facts,
    Cert.Loss.Gen.facts, Cert.LossIdeal.Gen.facts, Cert.LossReferenceIdeal.Gen.facts,
    frame_kernel, frame_kernelIdeal, frame_referenceIdeal, frame_reference,
    frame_gather, frame_gatherIdeal, frame_gatherReferenceIdeal, frame_gatherReference,
    frame_updateIn, frame_updateInIdeal, frame_updateInReferenceIdeal,
    frame_updateOut, frame_updateOutIdeal, frame_updateOutReferenceIdeal,
    frame_updateGlu, frame_updateGluIdeal, frame_updateGluReferenceIdeal,
    frame_sum, frame_sumIdeal, frame_sumReferenceIdeal,
    frame_back, frame_backIdeal, frame_backReferenceIdeal,
    frame_weightIn, frame_weightInIdeal, frame_weightInReferenceIdeal,
    frame_weightOut, frame_weightOutIdeal, frame_weightOutReferenceIdeal,
    frame_weightGlu, frame_weightGluIdeal, frame_weightGluReferenceIdeal,
    frame_prep, frame_prepIdeal, frame_prepReferenceIdeal,
    frame_conv, frame_convIdeal, frame_convReferenceIdeal,
    frame_convBack, frame_convBackIdeal, frame_convBackReferenceIdeal,
    frame_loss, frame_lossIdeal, frame_lossReferenceIdeal,
    trivial, algebraic, bitexact,
    trivial, gather_algebraic, gather_bitexact,
    trivial, Cert.Update.In.value, trivial, Cert.Update.Out.value, trivial, Cert.Update.Glu.value,
    trivial, Cert.Update.Pack.value,
    trivial, Cert.Backward.value,
    trivial, Cert.Weights.In.value, trivial, Cert.Weights.Out.value, trivial, Cert.Weights.Glu.value,
    trivial, Cert.Hold.value, trivial, Cert.ShortConv.value, trivial, Cert.ShortConvBack.value,
    trivial, Cert.LossSum.value⟩

end Cert.Proof

end
